-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2Ideal_finite_ffn2 [hPre_finite_ffn2 : Cert.Pre_finite_ffn2.Facts] (m : (ℓ : Loc Cert.Ffn2Ideal.nD Cert.Ffn2Ideal.τ Cert.Ffn2Ideal.sig) → Buf (Elt Ideal) ℓ) : Prop :=
  ∀ c : Dev Cert.Ffn2Ideal.nD,
    (Cert.Pre_finite_ffn2.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)) (m ((c.tc : Thread Cert.Ffn2Ideal.nD Cert.Ffn2Ideal.τ).loc Cert.Ffn2Ideal.main_arg6))) = (fun _ => 1#1)

def Pre_Ffn2ReferenceIdeal (m : (ℓ : Loc Cert.Ffn2ReferenceIdeal.nD Cert.Ffn2ReferenceIdeal.τ Cert.Ffn2ReferenceIdeal.sig) → Buf (Elt Ideal) ℓ) : Prop :=
  True

def Pre_Ffn2ReferenceIdeal_finite_ffn2 [hPre_finite_ffn2 : Cert.Pre_finite_ffn2.Facts] (m : (ℓ : Loc Cert.Ffn2ReferenceIdeal.nD Cert.Ffn2ReferenceIdeal.τ Cert.Ffn2ReferenceIdeal.sig) → Buf (Elt Ideal) ℓ) : Prop :=
  ∀ c : Dev Cert.Ffn2ReferenceIdeal.nD,
    (Cert.Pre_finite_ffn2.fn (F := Ideal) (m ((c.tc : Thread Cert.Ffn2ReferenceIdeal.nD Cert.Ffn2ReferenceIdeal.τ).loc Cert.Ffn2ReferenceIdeal.main_arg0)) (m ((c.tc : Thread Cert.Ffn2ReferenceIdeal.nD Cert.Ffn2ReferenceIdeal.τ).loc Cert.Ffn2ReferenceIdeal.main_arg1)) (m ((c.tc : Thread Cert.Ffn2ReferenceIdeal.nD Cert.Ffn2ReferenceIdeal.τ).loc Cert.Ffn2ReferenceIdeal.main_arg2)) (m ((c.tc : Thread Cert.Ffn2ReferenceIdeal.nD Cert.Ffn2ReferenceIdeal.τ).loc Cert.Ffn2ReferenceIdeal.main_arg3)) (m ((c.tc : Thread Cert.Ffn2ReferenceIdeal.nD Cert.Ffn2ReferenceIdeal.τ).loc Cert.Ffn2ReferenceIdeal.main_arg4)) (m ((c.tc : Thread Cert.Ffn2ReferenceIdeal.nD Cert.Ffn2ReferenceIdeal.τ).loc Cert.Ffn2ReferenceIdeal.main_arg5)) (m ((c.tc : Thread Cert.Ffn2ReferenceIdeal.nD Cert.Ffn2ReferenceIdeal.τ).loc Cert.Ffn2ReferenceIdeal.main_arg6))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_finite_ffn1 [hPre_finite_ffn1 : Cert.Pre_finite_ffn1.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_finite_ffn1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9)) (m ((c.tc : Thread Cert.Ffn1Ideal.nD Cert.Ffn1Ideal.τ).loc Cert.Ffn1Ideal.main_arg10))) = (fun _ => 1#1)

def Pre_Ffn1ReferenceIdeal (m : (ℓ : Loc Cert.Ffn1ReferenceIdeal.nD Cert.Ffn1ReferenceIdeal.τ Cert.Ffn1ReferenceIdeal.sig) → Buf (Elt Ideal) ℓ) : Prop :=
  True

def Pre_Ffn1ReferenceIdeal_finite_ffn1 [hPre_finite_ffn1 : Cert.Pre_finite_ffn1.Facts] (m : (ℓ : Loc Cert.Ffn1ReferenceIdeal.nD Cert.Ffn1ReferenceIdeal.τ Cert.Ffn1ReferenceIdeal.sig) → Buf (Elt Ideal) ℓ) : Prop :=
  ∀ c : Dev Cert.Ffn1ReferenceIdeal.nD,
    (Cert.Pre_finite_ffn1.fn (F := Ideal) (m ((c.tc : Thread Cert.Ffn1ReferenceIdeal.nD Cert.Ffn1ReferenceIdeal.τ).loc Cert.Ffn1ReferenceIdeal.main_arg0)) (m ((c.tc : Thread Cert.Ffn1ReferenceIdeal.nD Cert.Ffn1ReferenceIdeal.τ).loc Cert.Ffn1ReferenceIdeal.main_arg1)) (m ((c.tc : Thread Cert.Ffn1ReferenceIdeal.nD Cert.Ffn1ReferenceIdeal.τ).loc Cert.Ffn1ReferenceIdeal.main_arg2)) (m ((c.tc : Thread Cert.Ffn1ReferenceIdeal.nD Cert.Ffn1ReferenceIdeal.τ).loc Cert.Ffn1ReferenceIdeal.main_arg3)) (m ((c.tc : Thread Cert.Ffn1ReferenceIdeal.nD Cert.Ffn1ReferenceIdeal.τ).loc Cert.Ffn1ReferenceIdeal.main_arg4)) (m ((c.tc : Thread Cert.Ffn1ReferenceIdeal.nD Cert.Ffn1ReferenceIdeal.τ).loc Cert.Ffn1ReferenceIdeal.main_arg5)) (m ((c.tc : Thread Cert.Ffn1ReferenceIdeal.nD Cert.Ffn1ReferenceIdeal.τ).loc Cert.Ffn1ReferenceIdeal.main_arg6)) (m ((c.tc : Thread Cert.Ffn1ReferenceIdeal.nD Cert.Ffn1ReferenceIdeal.τ).loc Cert.Ffn1ReferenceIdeal.main_arg7)) (m ((c.tc : Thread Cert.Ffn1ReferenceIdeal.nD Cert.Ffn1ReferenceIdeal.τ).loc Cert.Ffn1ReferenceIdeal.main_arg8)) (m ((c.tc : Thread Cert.Ffn1ReferenceIdeal.nD Cert.Ffn1ReferenceIdeal.τ).loc Cert.Ffn1ReferenceIdeal.main_arg9)) (m ((c.tc : Thread Cert.Ffn1ReferenceIdeal.nD Cert.Ffn1ReferenceIdeal.τ).loc Cert.Ffn1ReferenceIdeal.main_arg10))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2Ideal_pre_finite_ffn2 [hFfn2Ideal : Cert.Ffn2Ideal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal_finite_ffn2 m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2ReferenceIdeal [hFfn2ReferenceIdeal : Cert.Ffn2ReferenceIdeal.Facts] : Prop :=
  ∀ (m : (ℓ : Loc Cert.Ffn2ReferenceIdeal.nD Cert.Ffn2ReferenceIdeal.τ Cert.Ffn2ReferenceIdeal.sig) → Buf (Elt Ideal) ℓ) (g : Dev Cert.Ffn2ReferenceIdeal.nD → PrngReg), Pre_Ffn2ReferenceIdeal m →
    θ_run (Cert.Ffn2ReferenceIdeal.defs (F := Ideal)) (onTc (τ := Cert.Ffn2ReferenceIdeal.τ) (Cert.Ffn2ReferenceIdeal.main (F := Ideal))) ⟨m, fun _ => 0, g⟩ (fun r => (∀ c : Dev Cert.Ffn2ReferenceIdeal.nD,
      r.2.mem ((c.tc : Thread Cert.Ffn2ReferenceIdeal.nD Cert.Ffn2ReferenceIdeal.τ).loc Cert.Ffn2ReferenceIdeal.main_arg0) = m ((c.tc : Thread Cert.Ffn2ReferenceIdeal.nD Cert.Ffn2ReferenceIdeal.τ).loc Cert.Ffn2ReferenceIdeal.main_arg0)
      ∧ r.2.mem ((c.tc : Thread Cert.Ffn2ReferenceIdeal.nD Cert.Ffn2ReferenceIdeal.τ).loc Cert.Ffn2ReferenceIdeal.main_arg1) = m ((c.tc : Thread Cert.Ffn2ReferenceIdeal.nD Cert.Ffn2ReferenceIdeal.τ).loc Cert.Ffn2ReferenceIdeal.main_arg1)
      ∧ r.2.mem ((c.tc : Thread Cert.Ffn2ReferenceIdeal.nD Cert.Ffn2ReferenceIdeal.τ).loc Cert.Ffn2ReferenceIdeal.main_arg2) = m ((c.tc : Thread Cert.Ffn2ReferenceIdeal.nD Cert.Ffn2ReferenceIdeal.τ).loc Cert.Ffn2ReferenceIdeal.main_arg2)
      ∧ r.2.mem ((c.tc : Thread Cert.Ffn2ReferenceIdeal.nD Cert.Ffn2ReferenceIdeal.τ).loc Cert.Ffn2ReferenceIdeal.main_arg3) = m ((c.tc : Thread Cert.Ffn2ReferenceIdeal.nD Cert.Ffn2ReferenceIdeal.τ).loc Cert.Ffn2ReferenceIdeal.main_arg3)
      ∧ r.2.mem ((c.tc : Thread Cert.Ffn2ReferenceIdeal.nD Cert.Ffn2ReferenceIdeal.τ).loc Cert.Ffn2ReferenceIdeal.main_arg4) = m ((c.tc : Thread Cert.Ffn2ReferenceIdeal.nD Cert.Ffn2ReferenceIdeal.τ).loc Cert.Ffn2ReferenceIdeal.main_arg4)
      ∧ r.2.mem ((c.tc : Thread Cert.Ffn2ReferenceIdeal.nD Cert.Ffn2ReferenceIdeal.τ).loc Cert.Ffn2ReferenceIdeal.main_arg5) = m ((c.tc : Thread Cert.Ffn2ReferenceIdeal.nD Cert.Ffn2ReferenceIdeal.τ).loc Cert.Ffn2ReferenceIdeal.main_arg5)
      ∧ r.2.mem ((c.tc : Thread Cert.Ffn2ReferenceIdeal.nD Cert.Ffn2ReferenceIdeal.τ).loc Cert.Ffn2ReferenceIdeal.main_arg6) = m ((c.tc : Thread Cert.Ffn2ReferenceIdeal.nD Cert.Ffn2ReferenceIdeal.τ).loc Cert.Ffn2ReferenceIdeal.main_arg6))
      ∧ r.2.sem = fun _ => 0)

def quiescent_Ffn2ReferenceIdeal_pre_finite_ffn2 [hFfn2ReferenceIdeal : Cert.Ffn2ReferenceIdeal.Facts] [hPre_finite_ffn2 : Cert.Pre_finite_ffn2.Facts] : Prop :=
  ∀ (m : (ℓ : Loc Cert.Ffn2ReferenceIdeal.nD Cert.Ffn2ReferenceIdeal.τ Cert.Ffn2ReferenceIdeal.sig) → Buf (Elt Ideal) ℓ) (g : Dev Cert.Ffn2ReferenceIdeal.nD → PrngReg), Pre_Ffn2ReferenceIdeal_finite_ffn2 m →
    θ_run (Cert.Ffn2ReferenceIdeal.defs (F := Ideal)) (onTc (τ := Cert.Ffn2ReferenceIdeal.τ) (Cert.Ffn2ReferenceIdeal.main (F := Ideal))) ⟨m, fun _ => 0, g⟩ (fun r => (∀ c : Dev Cert.Ffn2ReferenceIdeal.nD,
      r.2.mem ((c.tc : Thread Cert.Ffn2ReferenceIdeal.nD Cert.Ffn2ReferenceIdeal.τ).loc Cert.Ffn2ReferenceIdeal.main_arg0) = m ((c.tc : Thread Cert.Ffn2ReferenceIdeal.nD Cert.Ffn2ReferenceIdeal.τ).loc Cert.Ffn2ReferenceIdeal.main_arg0)
      ∧ r.2.mem ((c.tc : Thread Cert.Ffn2ReferenceIdeal.nD Cert.Ffn2ReferenceIdeal.τ).loc Cert.Ffn2ReferenceIdeal.main_arg1) = m ((c.tc : Thread Cert.Ffn2ReferenceIdeal.nD Cert.Ffn2ReferenceIdeal.τ).loc Cert.Ffn2ReferenceIdeal.main_arg1)
      ∧ r.2.mem ((c.tc : Thread Cert.Ffn2ReferenceIdeal.nD Cert.Ffn2ReferenceIdeal.τ).loc Cert.Ffn2ReferenceIdeal.main_arg2) = m ((c.tc : Thread Cert.Ffn2ReferenceIdeal.nD Cert.Ffn2ReferenceIdeal.τ).loc Cert.Ffn2ReferenceIdeal.main_arg2)
      ∧ r.2.mem ((c.tc : Thread Cert.Ffn2ReferenceIdeal.nD Cert.Ffn2ReferenceIdeal.τ).loc Cert.Ffn2ReferenceIdeal.main_arg3) = m ((c.tc : Thread Cert.Ffn2ReferenceIdeal.nD Cert.Ffn2ReferenceIdeal.τ).loc Cert.Ffn2ReferenceIdeal.main_arg3)
      ∧ r.2.mem ((c.tc : Thread Cert.Ffn2ReferenceIdeal.nD Cert.Ffn2ReferenceIdeal.τ).loc Cert.Ffn2ReferenceIdeal.main_arg4) = m ((c.tc : Thread Cert.Ffn2ReferenceIdeal.nD Cert.Ffn2ReferenceIdeal.τ).loc Cert.Ffn2ReferenceIdeal.main_arg4)
      ∧ r.2.mem ((c.tc : Thread Cert.Ffn2ReferenceIdeal.nD Cert.Ffn2ReferenceIdeal.τ).loc Cert.Ffn2ReferenceIdeal.main_arg5) = m ((c.tc : Thread Cert.Ffn2ReferenceIdeal.nD Cert.Ffn2ReferenceIdeal.τ).loc Cert.Ffn2ReferenceIdeal.main_arg5)
      ∧ r.2.mem ((c.tc : Thread Cert.Ffn2ReferenceIdeal.nD Cert.Ffn2ReferenceIdeal.τ).loc Cert.Ffn2ReferenceIdeal.main_arg6) = m ((c.tc : Thread Cert.Ffn2ReferenceIdeal.nD Cert.Ffn2ReferenceIdeal.τ).loc Cert.Ffn2ReferenceIdeal.main_arg6))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6)
      ∧ r.2.mem ((c.tc : Thread Cert.Ffn1.nD Cert.Ffn1.τ).loc Cert.Ffn1.main_arg7) = m ((c.tc : Thread Cert.Ffn1.nD Cert.Ffn1.τ).loc Cert.Ffn1.main_arg7)
      ∧ r.2.mem ((c.tc : Thread Cert.Ffn1.nD Cert.Ffn1.τ).loc Cert.Ffn1.main_arg8) = m ((c.tc : Thread Cert.Ffn1.nD Cert.Ffn1.τ).loc Cert.Ffn1.main_arg8)
      ∧ r.2.mem ((c.tc : Thread Cert.Ffn1.nD Cert.Ffn1.τ).loc Cert.Ffn1.main_arg9) = m ((c.tc : Thread Cert.Ffn1.nD Cert.Ffn1.τ).loc Cert.Ffn1.main_arg9)
      ∧ r.2.mem ((c.tc : Thread Cert.Ffn1.nD Cert.Ffn1.τ).loc Cert.Ffn1.main_arg10) = m ((c.tc : Thread Cert.Ffn1.nD Cert.Ffn1.τ).loc Cert.Ffn1.main_arg10))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
      ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9)
      ∧ r.2.mem ((c.tc : Thread Cert.Ffn1Ideal.nD Cert.Ffn1Ideal.τ).loc Cert.Ffn1Ideal.main_arg10) = m ((c.tc : Thread Cert.Ffn1Ideal.nD Cert.Ffn1Ideal.τ).loc Cert.Ffn1Ideal.main_arg10))
      ∧ r.2.sem = fun _ => 0)

def quiescent_Ffn1Ideal_pre_finite_ffn1 [hFfn1Ideal : Cert.Ffn1Ideal.Facts] [hPre_finite_ffn1 : Cert.Pre_finite_ffn1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_finite_ffn1 m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
      ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9)
      ∧ r.2.mem ((c.tc : Thread Cert.Ffn1Ideal.nD Cert.Ffn1Ideal.τ).loc Cert.Ffn1Ideal.main_arg10) = m ((c.tc : Thread Cert.Ffn1Ideal.nD Cert.Ffn1Ideal.τ).loc Cert.Ffn1Ideal.main_arg10))
      ∧ r.2.sem = fun _ => 0)

def quiescent_Ffn1ReferenceIdeal [hFfn1ReferenceIdeal : Cert.Ffn1ReferenceIdeal.Facts] : Prop :=
  ∀ (m : (ℓ : Loc Cert.Ffn1ReferenceIdeal.nD Cert.Ffn1ReferenceIdeal.τ Cert.Ffn1ReferenceIdeal.sig) → Buf (Elt Ideal) ℓ) (g : Dev Cert.Ffn1ReferenceIdeal.nD → PrngReg), Pre_Ffn1ReferenceIdeal m →
    θ_run (Cert.Ffn1ReferenceIdeal.defs (F := Ideal)) (onTc (τ := Cert.Ffn1ReferenceIdeal.τ) (Cert.Ffn1ReferenceIdeal.main (F := Ideal))) ⟨m, fun _ => 0, g⟩ (fun r => (∀ c : Dev Cert.Ffn1ReferenceIdeal.nD,
      r.2.mem ((c.tc : Thread Cert.Ffn1ReferenceIdeal.nD Cert.Ffn1ReferenceIdeal.τ).loc Cert.Ffn1ReferenceIdeal.main_arg0) = m ((c.tc : Thread Cert.Ffn1ReferenceIdeal.nD Cert.Ffn1ReferenceIdeal.τ).loc Cert.Ffn1ReferenceIdeal.main_arg0)
      ∧ r.2.mem ((c.tc : Thread Cert.Ffn1ReferenceIdeal.nD Cert.Ffn1ReferenceIdeal.τ).loc Cert.Ffn1ReferenceIdeal.main_arg1) = m ((c.tc : Thread Cert.Ffn1ReferenceIdeal.nD Cert.Ffn1ReferenceIdeal.τ).loc Cert.Ffn1ReferenceIdeal.main_arg1)
      ∧ r.2.mem ((c.tc : Thread Cert.Ffn1ReferenceIdeal.nD Cert.Ffn1ReferenceIdeal.τ).loc Cert.Ffn1ReferenceIdeal.main_arg2) = m ((c.tc : Thread Cert.Ffn1ReferenceIdeal.nD Cert.Ffn1ReferenceIdeal.τ).loc Cert.Ffn1ReferenceIdeal.main_arg2)
      ∧ r.2.mem ((c.tc : Thread Cert.Ffn1ReferenceIdeal.nD Cert.Ffn1ReferenceIdeal.τ).loc Cert.Ffn1ReferenceIdeal.main_arg3) = m ((c.tc : Thread Cert.Ffn1ReferenceIdeal.nD Cert.Ffn1ReferenceIdeal.τ).loc Cert.Ffn1ReferenceIdeal.main_arg3)
      ∧ r.2.mem ((c.tc : Thread Cert.Ffn1ReferenceIdeal.nD Cert.Ffn1ReferenceIdeal.τ).loc Cert.Ffn1ReferenceIdeal.main_arg4) = m ((c.tc : Thread Cert.Ffn1ReferenceIdeal.nD Cert.Ffn1ReferenceIdeal.τ).loc Cert.Ffn1ReferenceIdeal.main_arg4)
      ∧ r.2.mem ((c.tc : Thread Cert.Ffn1ReferenceIdeal.nD Cert.Ffn1ReferenceIdeal.τ).loc Cert.Ffn1ReferenceIdeal.main_arg5) = m ((c.tc : Thread Cert.Ffn1ReferenceIdeal.nD Cert.Ffn1ReferenceIdeal.τ).loc Cert.Ffn1ReferenceIdeal.main_arg5)
      ∧ r.2.mem ((c.tc : Thread Cert.Ffn1ReferenceIdeal.nD Cert.Ffn1ReferenceIdeal.τ).loc Cert.Ffn1ReferenceIdeal.main_arg6) = m ((c.tc : Thread Cert.Ffn1ReferenceIdeal.nD Cert.Ffn1ReferenceIdeal.τ).loc Cert.Ffn1ReferenceIdeal.main_arg6)
      ∧ r.2.mem ((c.tc : Thread Cert.Ffn1ReferenceIdeal.nD Cert.Ffn1ReferenceIdeal.τ).loc Cert.Ffn1ReferenceIdeal.main_arg7) = m ((c.tc : Thread Cert.Ffn1ReferenceIdeal.nD Cert.Ffn1ReferenceIdeal.τ).loc Cert.Ffn1ReferenceIdeal.main_arg7)
      ∧ r.2.mem ((c.tc : Thread Cert.Ffn1ReferenceIdeal.nD Cert.Ffn1ReferenceIdeal.τ).loc Cert.Ffn1ReferenceIdeal.main_arg8) = m ((c.tc : Thread Cert.Ffn1ReferenceIdeal.nD Cert.Ffn1ReferenceIdeal.τ).loc Cert.Ffn1ReferenceIdeal.main_arg8)
      ∧ r.2.mem ((c.tc : Thread Cert.Ffn1ReferenceIdeal.nD Cert.Ffn1ReferenceIdeal.τ).loc Cert.Ffn1ReferenceIdeal.main_arg9) = m ((c.tc : Thread Cert.Ffn1ReferenceIdeal.nD Cert.Ffn1ReferenceIdeal.τ).loc Cert.Ffn1ReferenceIdeal.main_arg9)
      ∧ r.2.mem ((c.tc : Thread Cert.Ffn1ReferenceIdeal.nD Cert.Ffn1ReferenceIdeal.τ).loc Cert.Ffn1ReferenceIdeal.main_arg10) = m ((c.tc : Thread Cert.Ffn1ReferenceIdeal.nD Cert.Ffn1ReferenceIdeal.τ).loc Cert.Ffn1ReferenceIdeal.main_arg10))
      ∧ r.2.sem = fun _ => 0)

def quiescent_Ffn1ReferenceIdeal_pre_finite_ffn1 [hFfn1ReferenceIdeal : Cert.Ffn1ReferenceIdeal.Facts] [hPre_finite_ffn1 : Cert.Pre_finite_ffn1.Facts] : Prop :=
  ∀ (m : (ℓ : Loc Cert.Ffn1ReferenceIdeal.nD Cert.Ffn1ReferenceIdeal.τ Cert.Ffn1ReferenceIdeal.sig) → Buf (Elt Ideal) ℓ) (g : Dev Cert.Ffn1ReferenceIdeal.nD → PrngReg), Pre_Ffn1ReferenceIdeal_finite_ffn1 m →
    θ_run (Cert.Ffn1ReferenceIdeal.defs (F := Ideal)) (onTc (τ := Cert.Ffn1ReferenceIdeal.τ) (Cert.Ffn1ReferenceIdeal.main (F := Ideal))) ⟨m, fun _ => 0, g⟩ (fun r => (∀ c : Dev Cert.Ffn1ReferenceIdeal.nD,
      r.2.mem ((c.tc : Thread Cert.Ffn1ReferenceIdeal.nD Cert.Ffn1ReferenceIdeal.τ).loc Cert.Ffn1ReferenceIdeal.main_arg0) = m ((c.tc : Thread Cert.Ffn1ReferenceIdeal.nD Cert.Ffn1ReferenceIdeal.τ).loc Cert.Ffn1ReferenceIdeal.main_arg0)
      ∧ r.2.mem ((c.tc : Thread Cert.Ffn1ReferenceIdeal.nD Cert.Ffn1ReferenceIdeal.τ).loc Cert.Ffn1ReferenceIdeal.main_arg1) = m ((c.tc : Thread Cert.Ffn1ReferenceIdeal.nD Cert.Ffn1ReferenceIdeal.τ).loc Cert.Ffn1ReferenceIdeal.main_arg1)
      ∧ r.2.mem ((c.tc : Thread Cert.Ffn1ReferenceIdeal.nD Cert.Ffn1ReferenceIdeal.τ).loc Cert.Ffn1ReferenceIdeal.main_arg2) = m ((c.tc : Thread Cert.Ffn1ReferenceIdeal.nD Cert.Ffn1ReferenceIdeal.τ).loc Cert.Ffn1ReferenceIdeal.main_arg2)
      ∧ r.2.mem ((c.tc : Thread Cert.Ffn1ReferenceIdeal.nD Cert.Ffn1ReferenceIdeal.τ).loc Cert.Ffn1ReferenceIdeal.main_arg3) = m ((c.tc : Thread Cert.Ffn1ReferenceIdeal.nD Cert.Ffn1ReferenceIdeal.τ).loc Cert.Ffn1ReferenceIdeal.main_arg3)
      ∧ r.2.mem ((c.tc : Thread Cert.Ffn1ReferenceIdeal.nD Cert.Ffn1ReferenceIdeal.τ).loc Cert.Ffn1ReferenceIdeal.main_arg4) = m ((c.tc : Thread Cert.Ffn1ReferenceIdeal.nD Cert.Ffn1ReferenceIdeal.τ).loc Cert.Ffn1ReferenceIdeal.main_arg4)
      ∧ r.2.mem ((c.tc : Thread Cert.Ffn1ReferenceIdeal.nD Cert.Ffn1ReferenceIdeal.τ).loc Cert.Ffn1ReferenceIdeal.main_arg5) = m ((c.tc : Thread Cert.Ffn1ReferenceIdeal.nD Cert.Ffn1ReferenceIdeal.τ).loc Cert.Ffn1ReferenceIdeal.main_arg5)
      ∧ r.2.mem ((c.tc : Thread Cert.Ffn1ReferenceIdeal.nD Cert.Ffn1ReferenceIdeal.τ).loc Cert.Ffn1ReferenceIdeal.main_arg6) = m ((c.tc : Thread Cert.Ffn1ReferenceIdeal.nD Cert.Ffn1ReferenceIdeal.τ).loc Cert.Ffn1ReferenceIdeal.main_arg6)
      ∧ r.2.mem ((c.tc : Thread Cert.Ffn1ReferenceIdeal.nD Cert.Ffn1ReferenceIdeal.τ).loc Cert.Ffn1ReferenceIdeal.main_arg7) = m ((c.tc : Thread Cert.Ffn1ReferenceIdeal.nD Cert.Ffn1ReferenceIdeal.τ).loc Cert.Ffn1ReferenceIdeal.main_arg7)
      ∧ r.2.mem ((c.tc : Thread Cert.Ffn1ReferenceIdeal.nD Cert.Ffn1ReferenceIdeal.τ).loc Cert.Ffn1ReferenceIdeal.main_arg8) = m ((c.tc : Thread Cert.Ffn1ReferenceIdeal.nD Cert.Ffn1ReferenceIdeal.τ).loc Cert.Ffn1ReferenceIdeal.main_arg8)
      ∧ r.2.mem ((c.tc : Thread Cert.Ffn1ReferenceIdeal.nD Cert.Ffn1ReferenceIdeal.τ).loc Cert.Ffn1ReferenceIdeal.main_arg9) = m ((c.tc : Thread Cert.Ffn1ReferenceIdeal.nD Cert.Ffn1ReferenceIdeal.τ).loc Cert.Ffn1ReferenceIdeal.main_arg9)
      ∧ r.2.mem ((c.tc : Thread Cert.Ffn1ReferenceIdeal.nD Cert.Ffn1ReferenceIdeal.τ).loc Cert.Ffn1ReferenceIdeal.main_arg10) = m ((c.tc : Thread Cert.Ffn1ReferenceIdeal.nD Cert.Ffn1ReferenceIdeal.τ).loc Cert.Ffn1ReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![16, 2048, 128]⟩ ⟨3, ![128, 2048, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![4, 2304, 128]⟩ ⟨3, ![32, 2304, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 2304, 128]⟩ ⟨3, ![32, 2304, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v78)) (v1 : Buf (Elt Ideal) (((0 : Dev Cert.ReferenceIdeal.nD).tc : Thread Cert.ReferenceIdeal.nD Cert.ReferenceIdeal.τ).loc Cert.ReferenceIdeal.main_v76)) (v2 : Buf (Elt Ideal) (((0 : Dev Cert.ReferenceIdeal.nD).tc : Thread Cert.ReferenceIdeal.nD Cert.ReferenceIdeal.τ).loc Cert.ReferenceIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![16, 2048, 128]⟩ ⟨3, ![128, 2048, 128]⟩ 0 8 c v0
          ∧ r.2.mem ((c.tc : Thread Cert.KernelIdeal.nD Cert.KernelIdeal.τ).loc Cert.KernelIdeal.main_v1_1) = Layout.block ⟨3, ![4, 2304, 128]⟩ ⟨3, ![32, 2304, 128]⟩ 0 8 c v1
          ∧ r.2.mem ((c.tc : Thread Cert.KernelIdeal.nD Cert.KernelIdeal.τ).loc Cert.KernelIdeal.main_v1_2) = Layout.block ⟨3, ![4, 2304, 128]⟩ ⟨3, ![32, 2304, 128]⟩ 0 8 c v2
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v78) = v0
          ∧ r.2.mem (((0 : Dev Cert.ReferenceIdeal.nD).tc : Thread Cert.ReferenceIdeal.nD Cert.ReferenceIdeal.τ).loc Cert.ReferenceIdeal.main_v76) = v1
          ∧ r.2.mem (((0 : Dev Cert.ReferenceIdeal.nD).tc : Thread Cert.ReferenceIdeal.nD Cert.ReferenceIdeal.τ).loc Cert.ReferenceIdeal.main_v74) = v2
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v20)) (v1 : (c : Dev Cert.MergeIdeal.nD) → Buf (Elt Ideal) ((c.tc : Thread Cert.MergeIdeal.nD Cert.MergeIdeal.τ).loc Cert.MergeIdeal.main_v19)) (v2 : (c : Dev Cert.MergeIdeal.nD) → Buf (Elt Ideal) ((c.tc : Thread Cert.MergeIdeal.nD Cert.MergeIdeal.τ).loc Cert.MergeIdeal.main_v21)) (v3 : (c : Dev Cert.MergeIdeal.nD) → Buf (Elt Ideal) ((c.tc : Thread Cert.MergeIdeal.nD Cert.MergeIdeal.τ).loc Cert.MergeIdeal.main_v24)) (v4 : (c : Dev Cert.MergeIdeal.nD) → Buf (Elt Ideal) ((c.tc : Thread Cert.MergeIdeal.nD Cert.MergeIdeal.τ).loc Cert.MergeIdeal.main_v25)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v20) = v0 c
          ∧ r.2.mem ((c.tc : Thread Cert.MergeIdeal.nD Cert.MergeIdeal.τ).loc Cert.MergeIdeal.main_v19) = v1 c
          ∧ r.2.mem ((c.tc : Thread Cert.MergeIdeal.nD Cert.MergeIdeal.τ).loc Cert.MergeIdeal.main_v21) = v2 c
          ∧ r.2.mem ((c.tc : Thread Cert.MergeIdeal.nD Cert.MergeIdeal.τ).loc Cert.MergeIdeal.main_v24) = v3 c
          ∧ r.2.mem ((c.tc : Thread Cert.MergeIdeal.nD Cert.MergeIdeal.τ).loc Cert.MergeIdeal.main_v25) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v35) = v0 c
          ∧ r.2.mem ((c.tc : Thread Cert.MergeReferenceIdeal.nD Cert.MergeReferenceIdeal.τ).loc Cert.MergeReferenceIdeal.main_v37) = v1 c
          ∧ r.2.mem ((c.tc : Thread Cert.MergeReferenceIdeal.nD Cert.MergeReferenceIdeal.τ).loc Cert.MergeReferenceIdeal.main_v34) = v2 c
          ∧ r.2.mem ((c.tc : Thread Cert.MergeReferenceIdeal.nD Cert.MergeReferenceIdeal.τ).loc Cert.MergeReferenceIdeal.main_v29) = v3 c
          ∧ r.2.mem ((c.tc : Thread Cert.MergeReferenceIdeal.nD Cert.MergeReferenceIdeal.τ).loc Cert.MergeReferenceIdeal.main_v24) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Ffn2_Ffn2Ideal : Prop :=
  True

def algebraic_Ffn2Ideal_Ffn2ReferenceIdeal_pre_finite_ffn2 [hFfn2Ideal : Cert.Ffn2Ideal.Facts] [hFfn2ReferenceIdeal : Cert.Ffn2ReferenceIdeal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2ReferenceIdeal.nD Cert.Ffn2ReferenceIdeal.τ Cert.Ffn2ReferenceIdeal.sig) → Buf (Elt Ideal) ℓ) (g' : Dev Cert.Ffn2ReferenceIdeal.nD → PrngReg), Pre_Ffn2Ideal_finite_ffn2 m →
    (∀ c : Dev Cert.Ffn2Ideal.nD,
      m' ((c.tc : Thread Cert.Ffn2ReferenceIdeal.nD Cert.Ffn2ReferenceIdeal.τ).loc Cert.Ffn2ReferenceIdeal.main_arg0) = m ((c.tc : Thread Cert.Ffn2Ideal.nD Cert.Ffn2Ideal.τ).loc Cert.Ffn2Ideal.main_arg0)
      ∧ m' ((c.tc : Thread Cert.Ffn2ReferenceIdeal.nD Cert.Ffn2ReferenceIdeal.τ).loc Cert.Ffn2ReferenceIdeal.main_arg1) = m ((c.tc : Thread Cert.Ffn2Ideal.nD Cert.Ffn2Ideal.τ).loc Cert.Ffn2Ideal.main_arg1)
      ∧ m' ((c.tc : Thread Cert.Ffn2ReferenceIdeal.nD Cert.Ffn2ReferenceIdeal.τ).loc Cert.Ffn2ReferenceIdeal.main_arg2) = m ((c.tc : Thread Cert.Ffn2Ideal.nD Cert.Ffn2Ideal.τ).loc Cert.Ffn2Ideal.main_arg2)
      ∧ m' ((c.tc : Thread Cert.Ffn2ReferenceIdeal.nD Cert.Ffn2ReferenceIdeal.τ).loc Cert.Ffn2ReferenceIdeal.main_arg3) = m ((c.tc : Thread Cert.Ffn2Ideal.nD Cert.Ffn2Ideal.τ).loc Cert.Ffn2Ideal.main_arg3)
      ∧ m' ((c.tc : Thread Cert.Ffn2ReferenceIdeal.nD Cert.Ffn2ReferenceIdeal.τ).loc Cert.Ffn2ReferenceIdeal.main_arg4) = m ((c.tc : Thread Cert.Ffn2Ideal.nD Cert.Ffn2Ideal.τ).loc Cert.Ffn2Ideal.main_arg4)
      ∧ m' ((c.tc : Thread Cert.Ffn2ReferenceIdeal.nD Cert.Ffn2ReferenceIdeal.τ).loc Cert.Ffn2ReferenceIdeal.main_arg5) = m ((c.tc : Thread Cert.Ffn2Ideal.nD Cert.Ffn2Ideal.τ).loc Cert.Ffn2Ideal.main_arg5)
      ∧ m' ((c.tc : Thread Cert.Ffn2ReferenceIdeal.nD Cert.Ffn2ReferenceIdeal.τ).loc Cert.Ffn2ReferenceIdeal.main_arg6) = m ((c.tc : Thread Cert.Ffn2Ideal.nD Cert.Ffn2Ideal.τ).loc Cert.Ffn2Ideal.main_arg6)) →
    ∃ (v0 : (c : Dev Cert.Ffn2Ideal.nD) → Buf (Elt Ideal) ((c.tc : Thread Cert.Ffn2Ideal.nD Cert.Ffn2Ideal.τ).loc Cert.Ffn2Ideal.main_v10_1)) (v1 : (c : Dev Cert.Ffn2Ideal.nD) → Buf (Elt Ideal) ((c.tc : Thread Cert.Ffn2Ideal.nD Cert.Ffn2Ideal.τ).loc Cert.Ffn2Ideal.main_v14)) (v2 : (c : Dev Cert.Ffn2Ideal.nD) → Buf (Elt Ideal) ((c.tc : Thread Cert.Ffn2Ideal.nD Cert.Ffn2Ideal.τ).loc Cert.Ffn2Ideal.main_v17)) (v3 : (c : Dev Cert.Ffn2Ideal.nD) → Buf (Elt Ideal) ((c.tc : Thread Cert.Ffn2Ideal.nD Cert.Ffn2Ideal.τ).loc Cert.Ffn2Ideal.main_v20)) (v4 : (c : Dev Cert.Ffn2Ideal.nD) → Buf (Elt Ideal) ((c.tc : Thread Cert.Ffn2Ideal.nD Cert.Ffn2Ideal.τ).loc Cert.Ffn2Ideal.main_v22)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v10_1) = v0 c
          ∧ r.2.mem ((c.tc : Thread Cert.Ffn2Ideal.nD Cert.Ffn2Ideal.τ).loc Cert.Ffn2Ideal.main_v14) = v1 c
          ∧ r.2.mem ((c.tc : Thread Cert.Ffn2Ideal.nD Cert.Ffn2Ideal.τ).loc Cert.Ffn2Ideal.main_v17) = v2 c
          ∧ r.2.mem ((c.tc : Thread Cert.Ffn2Ideal.nD Cert.Ffn2Ideal.τ).loc Cert.Ffn2Ideal.main_v20) = v3 c
          ∧ r.2.mem ((c.tc : Thread Cert.Ffn2Ideal.nD Cert.Ffn2Ideal.τ).loc Cert.Ffn2Ideal.main_v22) = v4 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ θ_run (Cert.Ffn2ReferenceIdeal.defs (F := Ideal)) (onTc (τ := Cert.Ffn2ReferenceIdeal.τ) (Cert.Ffn2ReferenceIdeal.main (F := Ideal))) ⟨m', fun _ => 0, g'⟩ (fun r => ∀ c : Dev Cert.Ffn2ReferenceIdeal.nD,
          r.2.mem ((c.tc : Thread Cert.Ffn2ReferenceIdeal.nD Cert.Ffn2ReferenceIdeal.τ).loc Cert.Ffn2ReferenceIdeal.main_v15) = v0 c
          ∧ r.2.mem ((c.tc : Thread Cert.Ffn2ReferenceIdeal.nD Cert.Ffn2ReferenceIdeal.τ).loc Cert.Ffn2ReferenceIdeal.main_v28) = v1 c
          ∧ r.2.mem ((c.tc : Thread Cert.Ffn2ReferenceIdeal.nD Cert.Ffn2ReferenceIdeal.τ).loc Cert.Ffn2ReferenceIdeal.main_v26) = v2 c
          ∧ r.2.mem ((c.tc : Thread Cert.Ffn2ReferenceIdeal.nD Cert.Ffn2ReferenceIdeal.τ).loc Cert.Ffn2ReferenceIdeal.main_v22) = v3 c
          ∧ r.2.mem ((c.tc : Thread Cert.Ffn2ReferenceIdeal.nD Cert.Ffn2ReferenceIdeal.τ).loc Cert.Ffn2ReferenceIdeal.main_v17) = v4 c
          ∧ r.2.mem ((c.tc : Thread Cert.Ffn2ReferenceIdeal.nD Cert.Ffn2ReferenceIdeal.τ).loc Cert.Ffn2ReferenceIdeal.main_arg0) = m' ((c.tc : Thread Cert.Ffn2ReferenceIdeal.nD Cert.Ffn2ReferenceIdeal.τ).loc Cert.Ffn2ReferenceIdeal.main_arg0)
          ∧ r.2.mem ((c.tc : Thread Cert.Ffn2ReferenceIdeal.nD Cert.Ffn2ReferenceIdeal.τ).loc Cert.Ffn2ReferenceIdeal.main_arg1) = m' ((c.tc : Thread Cert.Ffn2ReferenceIdeal.nD Cert.Ffn2ReferenceIdeal.τ).loc Cert.Ffn2ReferenceIdeal.main_arg1)
          ∧ r.2.mem ((c.tc : Thread Cert.Ffn2ReferenceIdeal.nD Cert.Ffn2ReferenceIdeal.τ).loc Cert.Ffn2ReferenceIdeal.main_arg2) = m' ((c.tc : Thread Cert.Ffn2ReferenceIdeal.nD Cert.Ffn2ReferenceIdeal.τ).loc Cert.Ffn2ReferenceIdeal.main_arg2)
          ∧ r.2.mem ((c.tc : Thread Cert.Ffn2ReferenceIdeal.nD Cert.Ffn2ReferenceIdeal.τ).loc Cert.Ffn2ReferenceIdeal.main_arg3) = m' ((c.tc : Thread Cert.Ffn2ReferenceIdeal.nD Cert.Ffn2ReferenceIdeal.τ).loc Cert.Ffn2ReferenceIdeal.main_arg3)
          ∧ r.2.mem ((c.tc : Thread Cert.Ffn2ReferenceIdeal.nD Cert.Ffn2ReferenceIdeal.τ).loc Cert.Ffn2ReferenceIdeal.main_arg4) = m' ((c.tc : Thread Cert.Ffn2ReferenceIdeal.nD Cert.Ffn2ReferenceIdeal.τ).loc Cert.Ffn2ReferenceIdeal.main_arg4)
          ∧ r.2.mem ((c.tc : Thread Cert.Ffn2ReferenceIdeal.nD Cert.Ffn2ReferenceIdeal.τ).loc Cert.Ffn2ReferenceIdeal.main_arg5) = m' ((c.tc : Thread Cert.Ffn2ReferenceIdeal.nD Cert.Ffn2ReferenceIdeal.τ).loc Cert.Ffn2ReferenceIdeal.main_arg5)
          ∧ r.2.mem ((c.tc : Thread Cert.Ffn2ReferenceIdeal.nD Cert.Ffn2ReferenceIdeal.τ).loc Cert.Ffn2ReferenceIdeal.main_arg6) = m' ((c.tc : Thread Cert.Ffn2ReferenceIdeal.nD Cert.Ffn2ReferenceIdeal.τ).loc Cert.Ffn2ReferenceIdeal.main_arg6))

def preserves_Ffn1_Ffn1Ideal : Prop :=
  True

def algebraic_Ffn1Ideal_Ffn1ReferenceIdeal_pre_finite_ffn1 [hFfn1Ideal : Cert.Ffn1Ideal.Facts] [hFfn1ReferenceIdeal : Cert.Ffn1ReferenceIdeal.Facts] [hPre_finite_ffn1 : Cert.Pre_finite_ffn1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1ReferenceIdeal.nD Cert.Ffn1ReferenceIdeal.τ Cert.Ffn1ReferenceIdeal.sig) → Buf (Elt Ideal) ℓ) (g' : Dev Cert.Ffn1ReferenceIdeal.nD → PrngReg), Pre_Ffn1Ideal_finite_ffn1 m →
    (∀ c : Dev Cert.Ffn1Ideal.nD,
      m' ((c.tc : Thread Cert.Ffn1ReferenceIdeal.nD Cert.Ffn1ReferenceIdeal.τ).loc Cert.Ffn1ReferenceIdeal.main_arg0) = m ((c.tc : Thread Cert.Ffn1Ideal.nD Cert.Ffn1Ideal.τ).loc Cert.Ffn1Ideal.main_arg0)
      ∧ m' ((c.tc : Thread Cert.Ffn1ReferenceIdeal.nD Cert.Ffn1ReferenceIdeal.τ).loc Cert.Ffn1ReferenceIdeal.main_arg1) = m ((c.tc : Thread Cert.Ffn1Ideal.nD Cert.Ffn1Ideal.τ).loc Cert.Ffn1Ideal.main_arg1)
      ∧ m' ((c.tc : Thread Cert.Ffn1ReferenceIdeal.nD Cert.Ffn1ReferenceIdeal.τ).loc Cert.Ffn1ReferenceIdeal.main_arg2) = m ((c.tc : Thread Cert.Ffn1Ideal.nD Cert.Ffn1Ideal.τ).loc Cert.Ffn1Ideal.main_arg2)
      ∧ m' ((c.tc : Thread Cert.Ffn1ReferenceIdeal.nD Cert.Ffn1ReferenceIdeal.τ).loc Cert.Ffn1ReferenceIdeal.main_arg3) = m ((c.tc : Thread Cert.Ffn1Ideal.nD Cert.Ffn1Ideal.τ).loc Cert.Ffn1Ideal.main_arg3)
      ∧ m' ((c.tc : Thread Cert.Ffn1ReferenceIdeal.nD Cert.Ffn1ReferenceIdeal.τ).loc Cert.Ffn1ReferenceIdeal.main_arg4) = m ((c.tc : Thread Cert.Ffn1Ideal.nD Cert.Ffn1Ideal.τ).loc Cert.Ffn1Ideal.main_arg4)
      ∧ m' ((c.tc : Thread Cert.Ffn1ReferenceIdeal.nD Cert.Ffn1ReferenceIdeal.τ).loc Cert.Ffn1ReferenceIdeal.main_arg5) = m ((c.tc : Thread Cert.Ffn1Ideal.nD Cert.Ffn1Ideal.τ).loc Cert.Ffn1Ideal.main_arg5)
      ∧ m' ((c.tc : Thread Cert.Ffn1ReferenceIdeal.nD Cert.Ffn1ReferenceIdeal.τ).loc Cert.Ffn1ReferenceIdeal.main_arg6) = m ((c.tc : Thread Cert.Ffn1Ideal.nD Cert.Ffn1Ideal.τ).loc Cert.Ffn1Ideal.main_arg6)
      ∧ m' ((c.tc : Thread Cert.Ffn1ReferenceIdeal.nD Cert.Ffn1ReferenceIdeal.τ).loc Cert.Ffn1ReferenceIdeal.main_arg7) = m ((c.tc : Thread Cert.Ffn1Ideal.nD Cert.Ffn1Ideal.τ).loc Cert.Ffn1Ideal.main_arg7)
      ∧ m' ((c.tc : Thread Cert.Ffn1ReferenceIdeal.nD Cert.Ffn1ReferenceIdeal.τ).loc Cert.Ffn1ReferenceIdeal.main_arg8) = m ((c.tc : Thread Cert.Ffn1Ideal.nD Cert.Ffn1Ideal.τ).loc Cert.Ffn1Ideal.main_arg8)
      ∧ m' ((c.tc : Thread Cert.Ffn1ReferenceIdeal.nD Cert.Ffn1ReferenceIdeal.τ).loc Cert.Ffn1ReferenceIdeal.main_arg9) = m ((c.tc : Thread Cert.Ffn1Ideal.nD Cert.Ffn1Ideal.τ).loc Cert.Ffn1Ideal.main_arg9)
      ∧ m' ((c.tc : Thread Cert.Ffn1ReferenceIdeal.nD Cert.Ffn1ReferenceIdeal.τ).loc Cert.Ffn1ReferenceIdeal.main_arg10) = m ((c.tc : Thread Cert.Ffn1Ideal.nD Cert.Ffn1Ideal.τ).loc Cert.Ffn1Ideal.main_arg10)) →
    ∃ (v0 : (c : Dev Cert.Ffn1Ideal.nD) → Buf (Elt Ideal) ((c.tc : Thread Cert.Ffn1Ideal.nD Cert.Ffn1Ideal.τ).loc Cert.Ffn1Ideal.main_v28)) (v1 : (c : Dev Cert.Ffn1Ideal.nD) → Buf (Elt Ideal) ((c.tc : Thread Cert.Ffn1Ideal.nD Cert.Ffn1Ideal.τ).loc Cert.Ffn1Ideal.main_v29)) (v2 : (c : Dev Cert.Ffn1Ideal.nD) → Buf (Elt Ideal) ((c.tc : Thread Cert.Ffn1Ideal.nD Cert.Ffn1Ideal.τ).loc Cert.Ffn1Ideal.main_v30)) (v3 : (c : Dev Cert.Ffn1Ideal.nD) → Buf (Elt Ideal) ((c.tc : Thread Cert.Ffn1Ideal.nD Cert.Ffn1Ideal.τ).loc Cert.Ffn1Ideal.main_v31)) (v4 : (c : Dev Cert.Ffn1Ideal.nD) → Buf (Elt Ideal) ((c.tc : Thread Cert.Ffn1Ideal.nD Cert.Ffn1Ideal.τ).loc Cert.Ffn1Ideal.main_v22)) (v5 : (c : Dev Cert.Ffn1Ideal.nD) → Buf (Elt Ideal) ((c.tc : Thread Cert.Ffn1Ideal.nD Cert.Ffn1Ideal.τ).loc Cert.Ffn1Ideal.main_v25)) (v6 : (c : Dev Cert.Ffn1Ideal.nD) → Buf (Elt Ideal) ((c.tc : Thread Cert.Ffn1Ideal.nD Cert.Ffn1Ideal.τ).loc Cert.Ffn1Ideal.main_v27)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v28) = v0 c
          ∧ r.2.mem ((c.tc : Thread Cert.Ffn1Ideal.nD Cert.Ffn1Ideal.τ).loc Cert.Ffn1Ideal.main_v29) = v1 c
          ∧ r.2.mem ((c.tc : Thread Cert.Ffn1Ideal.nD Cert.Ffn1Ideal.τ).loc Cert.Ffn1Ideal.main_v30) = v2 c
          ∧ r.2.mem ((c.tc : Thread Cert.Ffn1Ideal.nD Cert.Ffn1Ideal.τ).loc Cert.Ffn1Ideal.main_v31) = v3 c
          ∧ r.2.mem ((c.tc : Thread Cert.Ffn1Ideal.nD Cert.Ffn1Ideal.τ).loc Cert.Ffn1Ideal.main_v22) = v4 c
          ∧ r.2.mem ((c.tc : Thread Cert.Ffn1Ideal.nD Cert.Ffn1Ideal.τ).loc Cert.Ffn1Ideal.main_v25) = v5 c
          ∧ r.2.mem ((c.tc : Thread Cert.Ffn1Ideal.nD Cert.Ffn1Ideal.τ).loc Cert.Ffn1Ideal.main_v27) = v6 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
          ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
          ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
          ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9)
          ∧ r.2.mem ((c.tc : Thread Cert.Ffn1Ideal.nD Cert.Ffn1Ideal.τ).loc Cert.Ffn1Ideal.main_arg10) = m ((c.tc : Thread Cert.Ffn1Ideal.nD Cert.Ffn1Ideal.τ).loc Cert.Ffn1Ideal.main_arg10))
      ∧ θ_run (Cert.Ffn1ReferenceIdeal.defs (F := Ideal)) (onTc (τ := Cert.Ffn1ReferenceIdeal.τ) (Cert.Ffn1ReferenceIdeal.main (F := Ideal))) ⟨m', fun _ => 0, g'⟩ (fun r => ∀ c : Dev Cert.Ffn1ReferenceIdeal.nD,
          r.2.mem ((c.tc : Thread Cert.Ffn1ReferenceIdeal.nD Cert.Ffn1ReferenceIdeal.τ).loc Cert.Ffn1ReferenceIdeal.main_v22) = v0 c
          ∧ r.2.mem ((c.tc : Thread Cert.Ffn1ReferenceIdeal.nD Cert.Ffn1ReferenceIdeal.τ).loc Cert.Ffn1ReferenceIdeal.main_v28) = v1 c
          ∧ r.2.mem ((c.tc : Thread Cert.Ffn1ReferenceIdeal.nD Cert.Ffn1ReferenceIdeal.τ).loc Cert.Ffn1ReferenceIdeal.main_v57) = v2 c
          ∧ r.2.mem ((c.tc : Thread Cert.Ffn1ReferenceIdeal.nD Cert.Ffn1ReferenceIdeal.τ).loc Cert.Ffn1ReferenceIdeal.main_v41) = v3 c
          ∧ r.2.mem ((c.tc : Thread Cert.Ffn1ReferenceIdeal.nD Cert.Ffn1ReferenceIdeal.τ).loc Cert.Ffn1ReferenceIdeal.main_v55) = v4 c
          ∧ r.2.mem ((c.tc : Thread Cert.Ffn1ReferenceIdeal.nD Cert.Ffn1ReferenceIdeal.τ).loc Cert.Ffn1ReferenceIdeal.main_v50) = v5 c
          ∧ r.2.mem ((c.tc : Thread Cert.Ffn1ReferenceIdeal.nD Cert.Ffn1ReferenceIdeal.τ).loc Cert.Ffn1ReferenceIdeal.main_v44) = v6 c
          ∧ r.2.mem ((c.tc : Thread Cert.Ffn1ReferenceIdeal.nD Cert.Ffn1ReferenceIdeal.τ).loc Cert.Ffn1ReferenceIdeal.main_arg0) = m' ((c.tc : Thread Cert.Ffn1ReferenceIdeal.nD Cert.Ffn1ReferenceIdeal.τ).loc Cert.Ffn1ReferenceIdeal.main_arg0)
          ∧ r.2.mem ((c.tc : Thread Cert.Ffn1ReferenceIdeal.nD Cert.Ffn1ReferenceIdeal.τ).loc Cert.Ffn1ReferenceIdeal.main_arg1) = m' ((c.tc : Thread Cert.Ffn1ReferenceIdeal.nD Cert.Ffn1ReferenceIdeal.τ).loc Cert.Ffn1ReferenceIdeal.main_arg1)
          ∧ r.2.mem ((c.tc : Thread Cert.Ffn1ReferenceIdeal.nD Cert.Ffn1ReferenceIdeal.τ).loc Cert.Ffn1ReferenceIdeal.main_arg2) = m' ((c.tc : Thread Cert.Ffn1ReferenceIdeal.nD Cert.Ffn1ReferenceIdeal.τ).loc Cert.Ffn1ReferenceIdeal.main_arg2)
          ∧ r.2.mem ((c.tc : Thread Cert.Ffn1ReferenceIdeal.nD Cert.Ffn1ReferenceIdeal.τ).loc Cert.Ffn1ReferenceIdeal.main_arg3) = m' ((c.tc : Thread Cert.Ffn1ReferenceIdeal.nD Cert.Ffn1ReferenceIdeal.τ).loc Cert.Ffn1ReferenceIdeal.main_arg3)
          ∧ r.2.mem ((c.tc : Thread Cert.Ffn1ReferenceIdeal.nD Cert.Ffn1ReferenceIdeal.τ).loc Cert.Ffn1ReferenceIdeal.main_arg4) = m' ((c.tc : Thread Cert.Ffn1ReferenceIdeal.nD Cert.Ffn1ReferenceIdeal.τ).loc Cert.Ffn1ReferenceIdeal.main_arg4)
          ∧ r.2.mem ((c.tc : Thread Cert.Ffn1ReferenceIdeal.nD Cert.Ffn1ReferenceIdeal.τ).loc Cert.Ffn1ReferenceIdeal.main_arg5) = m' ((c.tc : Thread Cert.Ffn1ReferenceIdeal.nD Cert.Ffn1ReferenceIdeal.τ).loc Cert.Ffn1ReferenceIdeal.main_arg5)
          ∧ r.2.mem ((c.tc : Thread Cert.Ffn1ReferenceIdeal.nD Cert.Ffn1ReferenceIdeal.τ).loc Cert.Ffn1ReferenceIdeal.main_arg6) = m' ((c.tc : Thread Cert.Ffn1ReferenceIdeal.nD Cert.Ffn1ReferenceIdeal.τ).loc Cert.Ffn1ReferenceIdeal.main_arg6)
          ∧ r.2.mem ((c.tc : Thread Cert.Ffn1ReferenceIdeal.nD Cert.Ffn1ReferenceIdeal.τ).loc Cert.Ffn1ReferenceIdeal.main_arg7) = m' ((c.tc : Thread Cert.Ffn1ReferenceIdeal.nD Cert.Ffn1ReferenceIdeal.τ).loc Cert.Ffn1ReferenceIdeal.main_arg7)
          ∧ r.2.mem ((c.tc : Thread Cert.Ffn1ReferenceIdeal.nD Cert.Ffn1ReferenceIdeal.τ).loc Cert.Ffn1ReferenceIdeal.main_arg8) = m' ((c.tc : Thread Cert.Ffn1ReferenceIdeal.nD Cert.Ffn1ReferenceIdeal.τ).loc Cert.Ffn1ReferenceIdeal.main_arg8)
          ∧ r.2.mem ((c.tc : Thread Cert.Ffn1ReferenceIdeal.nD Cert.Ffn1ReferenceIdeal.τ).loc Cert.Ffn1ReferenceIdeal.main_arg9) = m' ((c.tc : Thread Cert.Ffn1ReferenceIdeal.nD Cert.Ffn1ReferenceIdeal.τ).loc Cert.Ffn1ReferenceIdeal.main_arg9)
          ∧ r.2.mem ((c.tc : Thread Cert.Ffn1ReferenceIdeal.nD Cert.Ffn1ReferenceIdeal.τ).loc Cert.Ffn1ReferenceIdeal.main_arg10) = m' ((c.tc : Thread Cert.Ffn1ReferenceIdeal.nD Cert.Ffn1ReferenceIdeal.τ).loc Cert.Ffn1ReferenceIdeal.main_arg10))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v16)) (v1 : (c : Dev Cert.InProjIdeal.nD) → Buf (Elt Ideal) ((c.tc : Thread Cert.InProjIdeal.nD Cert.InProjIdeal.τ).loc Cert.InProjIdeal.main_v19)) (v2 : (c : Dev Cert.InProjIdeal.nD) → Buf (Elt Ideal) ((c.tc : Thread Cert.InProjIdeal.nD Cert.InProjIdeal.τ).loc Cert.InProjIdeal.main_v21)) (v3 : (c : Dev Cert.InProjIdeal.nD) → Buf (Elt Ideal) ((c.tc : Thread Cert.InProjIdeal.nD Cert.InProjIdeal.τ).loc Cert.InProjIdeal.main_v22)) (v4 : (c : Dev Cert.InProjIdeal.nD) → Buf (Elt Ideal) ((c.tc : Thread Cert.InProjIdeal.nD Cert.InProjIdeal.τ).loc Cert.InProjIdeal.main_v23)) (v5 : (c : Dev Cert.InProjIdeal.nD) → Buf (Elt Ideal) ((c.tc : Thread Cert.InProjIdeal.nD Cert.InProjIdeal.τ).loc Cert.InProjIdeal.main_v26)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16) = v0 c
          ∧ r.2.mem ((c.tc : Thread Cert.InProjIdeal.nD Cert.InProjIdeal.τ).loc Cert.InProjIdeal.main_v19) = v1 c
          ∧ r.2.mem ((c.tc : Thread Cert.InProjIdeal.nD Cert.InProjIdeal.τ).loc Cert.InProjIdeal.main_v21) = v2 c
          ∧ r.2.mem ((c.tc : Thread Cert.InProjIdeal.nD Cert.InProjIdeal.τ).loc Cert.InProjIdeal.main_v22) = v3 c
          ∧ r.2.mem ((c.tc : Thread Cert.InProjIdeal.nD Cert.InProjIdeal.τ).loc Cert.InProjIdeal.main_v23) = v4 c
          ∧ r.2.mem ((c.tc : Thread Cert.InProjIdeal.nD Cert.InProjIdeal.τ).loc Cert.InProjIdeal.main_v26) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v8) = v0 c
          ∧ r.2.mem ((c.tc : Thread Cert.InProjReferenceIdeal.nD Cert.InProjReferenceIdeal.τ).loc Cert.InProjReferenceIdeal.main_v7) = v1 c
          ∧ r.2.mem ((c.tc : Thread Cert.InProjReferenceIdeal.nD Cert.InProjReferenceIdeal.τ).loc Cert.InProjReferenceIdeal.main_v9) = v2 c
          ∧ r.2.mem ((c.tc : Thread Cert.InProjReferenceIdeal.nD Cert.InProjReferenceIdeal.τ).loc Cert.InProjReferenceIdeal.main_v17) = v3 c
          ∧ r.2.mem ((c.tc : Thread Cert.InProjReferenceIdeal.nD Cert.InProjReferenceIdeal.τ).loc Cert.InProjReferenceIdeal.main_v12) = v4 c
          ∧ r.2.mem ((c.tc : Thread Cert.InProjReferenceIdeal.nD Cert.InProjReferenceIdeal.τ).loc Cert.InProjReferenceIdeal.main_v16) = v5 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)
      ∧ m' ((c.tc : Thread Cert.GluReferenceIdeal.nD Cert.GluReferenceIdeal.τ).loc Cert.GluReferenceIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v6)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v30) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_v6) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFfn2 : Cert.Ffn2.Facts) (hFfn2Ideal : Cert.Ffn2Ideal.Facts) (hFfn2ReferenceIdeal : Cert.Ffn2ReferenceIdeal.Facts) (hFfn1 : Cert.Ffn1.Facts) (hFfn1Ideal : Cert.Ffn1Ideal.Facts) (hFfn1ReferenceIdeal : Cert.Ffn1ReferenceIdeal.Facts) (hInProj : Cert.InProj.Facts) (hInProjIdeal : Cert.InProjIdeal.Facts) (hInProjReferenceIdeal : Cert.InProjReferenceIdeal.Facts) (hGlu : Cert.Glu.Facts) (hGluIdeal : Cert.GluIdeal.Facts) (hGluReferenceIdeal : Cert.GluReferenceIdeal.Facts) (hOutProj : Cert.OutProj.Facts) (hOutProjIdeal : Cert.OutProjIdeal.Facts) (hOutProjReferenceIdeal : Cert.OutProjReferenceIdeal.Facts) (hPre_finite_scores_KernelIdeal : Cert.Pre_finite_scores_KernelIdeal.Facts) (hPre_finite_scores_ReferenceIdeal : Cert.Pre_finite_scores_ReferenceIdeal.Facts) (hPre_finite_ffn2 : Cert.Pre_finite_ffn2.Facts) (hPre_finite_ffn1 : Cert.Pre_finite_ffn1.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ffn2 (hFfn2 := hFfn2)
    ∧ quiescent_Ffn2Ideal (hFfn2Ideal := hFfn2Ideal)
    ∧ quiescent_Ffn2Ideal_pre_finite_ffn2 (hFfn2Ideal := hFfn2Ideal) (hPre_finite_ffn2 := hPre_finite_ffn2)
    ∧ quiescent_Ffn2ReferenceIdeal (hFfn2ReferenceIdeal := hFfn2ReferenceIdeal)
    ∧ quiescent_Ffn2ReferenceIdeal_pre_finite_ffn2 (hFfn2ReferenceIdeal := hFfn2ReferenceIdeal) (hPre_finite_ffn2 := hPre_finite_ffn2)
    ∧ quiescent_Ffn1 (hFfn1 := hFfn1)
    ∧ quiescent_Ffn1Ideal (hFfn1Ideal := hFfn1Ideal)
    ∧ quiescent_Ffn1Ideal_pre_finite_ffn1 (hFfn1Ideal := hFfn1Ideal) (hPre_finite_ffn1 := hPre_finite_ffn1)
    ∧ quiescent_Ffn1ReferenceIdeal (hFfn1ReferenceIdeal := hFfn1ReferenceIdeal)
    ∧ quiescent_Ffn1ReferenceIdeal_pre_finite_ffn1 (hFfn1ReferenceIdeal := hFfn1ReferenceIdeal) (hPre_finite_ffn1 := hPre_finite_ffn1)
    ∧ quiescent_InProj (hInProj := hInProj)
    ∧ quiescent_InProjIdeal (hInProjIdeal := hInProjIdeal)
    ∧ quiescent_InProjReferenceIdeal (hInProjReferenceIdeal := hInProjReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
    ∧ preserves_Merge_MergeIdeal
    ∧ algebraic_MergeIdeal_MergeReferenceIdeal (hMergeIdeal := hMergeIdeal) (hMergeReferenceIdeal := hMergeReferenceIdeal)
    ∧ preserves_Ffn2_Ffn2Ideal
    ∧ algebraic_Ffn2Ideal_Ffn2ReferenceIdeal_pre_finite_ffn2 (hFfn2Ideal := hFfn2Ideal) (hFfn2ReferenceIdeal := hFfn2ReferenceIdeal) (hPre_finite_ffn2 := hPre_finite_ffn2)
    ∧ preserves_Ffn1_Ffn1Ideal
    ∧ algebraic_Ffn1Ideal_Ffn1ReferenceIdeal_pre_finite_ffn1 (hFfn1Ideal := hFfn1Ideal) (hFfn1ReferenceIdeal := hFfn1ReferenceIdeal) (hPre_finite_ffn1 := hPre_finite_ffn1)
    ∧ preserves_InProj_InProjIdeal
    ∧ algebraic_InProjIdeal_InProjReferenceIdeal (hInProjIdeal := hInProjIdeal) (hInProjReferenceIdeal := hInProjReferenceIdeal)
    ∧ preserves_Glu_GluIdeal
    ∧ algebraic_GluIdeal_GluReferenceIdeal (hGluIdeal := hGluIdeal) (hGluReferenceIdeal := hGluReferenceIdeal)
    ∧ preserves_OutProj_OutProjIdeal
    ∧ algebraic_OutProjIdeal_OutProjReferenceIdeal (hOutProjIdeal := hOutProjIdeal) (hOutProjReferenceIdeal := hOutProjReferenceIdeal)
-- ==== Pre_finite_ffn1.lean ====
abbrev S2048x2048 : Shape := ⟨2, ![2048, 2048]⟩
abbrev S256x2048 : Shape := ⟨2, ![256, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part2 {F : FTy → Type} [FloatOps F] (main_arg8 : FVec F S5632x2048 .bf16) (main_v30 : IVec S_ 1) (main_v31 : FVec F S2048x5632 .f32) (main_v33 : IVec S2048x5632 1) (main_cst_11 : FVec F S_ .f32) : IVec S_ 1 :=
  let main_v34 : FVec F S2048x5632 .f32 := broadcastInDim S2048x5632 ![] bcast_S_S2048x5632 main_cst_11
  let main_v35 : IVec S2048x5632 1 := cmpf .olt main_v31 main_v34
  let main_v36 : IVec S2048x5632 1 := andi main_v33 main_v35
  let main_c_12 : IVec S_ 1 := constantI S_ 1 1#1
  let main_v37 : IVec S_ 1 := (fun x v => Host.reduce IntOp.andi x v reducesTo_S2048x5632_S_d0_1 h_S_) main_v36 main_c_12
  let main_v38 : IVec S_ 1 := andi main_v30 main_v37
  let main_v39 : FVec F S5632x2048 .f32 := (extf .f32 · bitsLt_bf16_f32) main_arg8
  let main_cst_13 : FVec F S_ .f32 := constant S_ .f32 0xFF800000#32
  let main_v40 : FVec F S5632x2048 .f32 := broadcastInDim S5632x2048 ![] bcast_S_S5632x2048 main_cst_13
  let main_v41 : IVec S5632x2048 1 := cmpf .ogt main_v39 main_v40
  let main_cst_14 : FVec F S_ .f32 := constant S_ .f32 0x7F800000#32
  let main_v42 : FVec F S5632x2048 .f32 := broadcastInDim S5632x2048 ![] bcast_S_S5632x2048 main_cst_14
  let main_v43 : IVec S5632x2048 1 := cmpf .olt main_v39 main_v42
  let main_v44 : IVec S5632x2048 1 := andi main_v41 main_v43
  let main_c_15 : IVec S_ 1 := constantI S_ 1 1#1
  let main_v45 : IVec S_ 1 := (fun x v => Host.reduce IntOp.andi x v reducesTo_S5632x2048_S_d0_1 h_S_) main_v44 main_c_15
  let main_v46 : IVec S_ 1 := andi main_v38 main_v45
  main_v46

def fn_part1 {F : FTy → Type} [FloatOps F] (main_arg7 : FVec F S2048x5632 .bf16) (main_arg8 : FVec F S5632x2048 .bf16) (main_arg10 : FVec F S256x2048 .bf16) (main_v14 : IVec S_ 1) (main_v15 : FVec F S2048x2048 .f32) (main_v16 : FVec F S2048x2048 .f32) : IVec S_ 1 :=
  let main_v17 : IVec S2048x2048 1 := cmpf .ogt main_v15 main_v16
  let main_cst_5 : FVec F S_ .f32 := constant S_ .f32 0x7F800000#32
  let main_v18 : FVec F S2048x2048 .f32 := broadcastInDim S2048x2048 ![] bcast_S_S2048x2048 main_cst_5
  let main_v19 : IVec S2048x2048 1 := cmpf .olt main_v15 main_v18
  let main_v20 : IVec S2048x2048 1 := andi main_v17 main_v19
  let main_c_6 : IVec S_ 1 := constantI S_ 1 1#1
  let main_v21 : IVec S_ 1 := (fun x v => Host.reduce IntOp.andi x v reducesTo_S2048x2048_S_d0_1 h_S_) main_v20 main_c_6
  let main_v22 : IVec S_ 1 := andi main_v14 main_v21
  let main_v23 : FVec F S256x2048 .f32 := (extf .f32 · bitsLt_bf16_f32) main_arg10
  let main_cst_7 : FVec F S_ .f32 := constant S_ .f32 0xFF800000#32
  let main_v24 : FVec F S256x2048 .f32 := broadcastInDim S256x2048 ![] bcast_S_S256x2048 main_cst_7
  let main_v25 : IVec S256x2048 1 := cmpf .ogt main_v23 main_v24
  let main_cst_8 : FVec F S_ .f32 := constant S_ .f32 0x7F800000#32
  let main_v26 : FVec F S256x2048 .f32 := broadcastInDim S256x2048 ![] bcast_S_S256x2048 main_cst_8
  let main_v27 : IVec S256x2048 1 := cmpf .olt main_v23 main_v26
  let main_v28 : IVec S256x2048 1 := andi main_v25 main_v27
  let main_c_9 : IVec S_ 1 := constantI S_ 1 1#1
  let main_v29 : IVec S_ 1 := (fun x v => Host.reduce IntOp.andi x v reducesTo_S256x2048_S_d0_1 h_S_) main_v28 main_c_9
  let main_v30 : IVec S_ 1 := andi main_v22 main_v29
  let main_v31 : FVec F S2048x5632 .f32 := (extf .f32 · bitsLt_bf16_f32) main_arg7
  let main_cst_10 : FVec F S_ .f32 := constant S_ .f32 0xFF800000#32
  let main_v32 : FVec F S2048x5632 .f32 := broadcastInDim S2048x5632 ![] bcast_S_S2048x5632 main_cst_10
  let main_v33 : IVec S2048x5632 1 := cmpf .ogt main_v31 main_v32
  let main_cst_11 : FVec F S_ .f32 := constant S_ .f32 0x7F800000#32
  fn_part2 (F := F) main_arg8 main_v30 main_v31 main_v33 main_cst_11

def fn {F : FTy → Type} [FloatOps F] (main_arg0 : FVec F S2048x2048 .f32) (main_arg1 : FVec F S256x2048 .f32) (main_arg2 : FVec F S2048 .f32) (main_arg3 : FVec F S2048 .f32) (main_arg4 : FVec F S2048x2048 .bf16) (main_arg5 : FVec F S256x2048 .bf16) (main_arg6 : FVec F S2048x5632 .bf16) (main_arg7 : FVec F S2048x5632 .bf16) (main_arg8 : FVec F S5632x2048 .bf16) (main_arg9 : FVec F S2048x2048 .bf16) (main_arg10 : FVec F S256x2048 .bf16) : IVec S_ 1 :=
  let main_v0 : FVec F S2048x2048 .f32 := (extf .f32 · bitsLt_bf16_f32) main_arg4
  let main_cst : FVec F S_ .f32 := constant S_ .f32 0xFF800000#32
  let main_v1 : FVec F S2048x2048 .f32 := broadcastInDim S2048x2048 ![] bcast_S_S2048x2048 main_cst
  let main_v2 : IVec S2048x2048 1 := cmpf .ogt main_v0 main_v1
  let main_cst_0 : FVec F S_ .f32 := constant S_ .f32 0x7F800000#32
  let main_v3 : FVec F S2048x2048 .f32 := broadcastInDim S2048x2048 ![] bcast_S_S2048x2048 main_cst_0
  let main_v4 : IVec S2048x2048 1 := cmpf .olt main_v0 main_v3
  let main_v5 : IVec S2048x2048 1 := andi main_v2 main_v4
  let main_c : IVec S_ 1 := constantI S_ 1 1#1
  let main_v6 : IVec S_ 1 := (fun x v => Host.reduce IntOp.andi x v reducesTo_S2048x2048_S_d0_1 h_S_) main_v5 main_c
  let main_v7 : FVec F S256x2048 .f32 := (extf .f32 · bitsLt_bf16_f32) main_arg5
  let main_cst_1 : FVec F S_ .f32 := constant S_ .f32 0xFF800000#32
  let main_v8 : FVec F S256x2048 .f32 := broadcastInDim S256x2048 ![] bcast_S_S256x2048 main_cst_1
  let main_v9 : IVec S256x2048 1 := cmpf .ogt main_v7 main_v8
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v7 main_v10
  let main_v12 : IVec S256x2048 1 := andi main_v9 main_v11
  let main_c_3 : IVec S_ 1 := constantI S_ 1 1#1
  let main_v13 : IVec S_ 1 := (fun x v => Host.reduce IntOp.andi x v reducesTo_S256x2048_S_d0_1 h_S_) main_v12 main_c_3
  let main_v14 : IVec S_ 1 := andi main_v6 main_v13
  let main_v15 : FVec F S2048x2048 .f32 := (extf .f32 · bitsLt_bf16_f32) main_arg9
  let main_cst_4 : FVec F S_ .f32 := constant S_ .f32 0xFF800000#32
  let main_v16 : FVec F S2048x2048 .f32 := broadcastInDim S2048x2048 ![] bcast_S_S2048x2048 main_cst_4
  fn_part1 (F := F) main_arg7 main_arg8 main_arg10 main_v14 main_v15 main_v16
-- ==== Pre_finite_ffn2.lean ====
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg6 : FVec F S2048x2048 .bf16) (main_v14 : IVec S_ 1) (main_v15 : FVec F S5632x2048 .f32) (main_v16 : FVec F S5632x2048 .f32) : IVec S_ 1 :=
  let main_v17 : IVec S5632x2048 1 := cmpf .ogt main_v15 main_v16
  let main_cst_5 : FVec F S_ .f32 := constant S_ .f32 0x7F800000#32
  let main_v18 : FVec F S5632x2048 .f32 := broadcastInDim S5632x2048 ![] bcast_S_S5632x2048 main_cst_5
  let main_v19 : IVec S5632x2048 1 := cmpf .olt main_v15 main_v18
  let main_v20 : IVec S5632x2048 1 := andi main_v17 main_v19
  let main_c_6 : IVec S_ 1 := constantI S_ 1 1#1
  let main_v21 : IVec S_ 1 := (fun x v => Host.reduce IntOp.andi x v reducesTo_S5632x2048_S_d0_1 h_S_) main_v20 main_c_6
  let main_v22 : IVec S_ 1 := andi main_v14 main_v21
  let main_v23 : FVec F S2048x2048 .f32 := (extf .f32 · bitsLt_bf16_f32) main_arg6
  let main_cst_7 : FVec F S_ .f32 := constant S_ .f32 0xFF800000#32
  let main_v24 : FVec F S2048x2048 .f32 := broadcastInDim S2048x2048 ![] bcast_S_S2048x2048 main_cst_7
  let main_v25 : IVec S2048x2048 1 := cmpf .ogt main_v23 main_v24
  let main_cst_8 : FVec F S_ .f32 := constant S_ .f32 0x7F800000#32
  let main_v26 : FVec F S2048x2048 .f32 := broadcastInDim S2048x2048 ![] bcast_S_S2048x2048 main_cst_8
  let main_v27 : IVec S2048x2048 1 := cmpf .olt main_v23 main_v26
  let main_v28 : IVec S2048x2048 1 := andi main_v25 main_v27
  let main_c_9 : IVec S_ 1 := constantI S_ 1 1#1
  let main_v29 : IVec S_ 1 := (fun x v => Host.reduce IntOp.andi x v reducesTo_S2048x2048_S_d0_1 h_S_) main_v28 main_c_9
  let main_v30 : IVec S_ 1 := andi main_v22 main_v29
  main_v30

def fn {F : FTy → Type} [FloatOps F] (main_arg0 : FVec F S2048x2048 .f32) (main_arg1 : FVec F S2048 .f32) (main_arg2 : FVec F S2048x2048 .bf16) (main_arg3 : FVec F S2048x5632 .bf16) (main_arg4 : FVec F S2048x5632 .bf16) (main_arg5 : FVec F S5632x2048 .bf16) (main_arg6 : FVec F S2048x2048 .bf16) : IVec S_ 1 :=
  let main_v0 : FVec F S2048x2048 .f32 := (extf .f32 · bitsLt_bf16_f32) main_arg2
  let main_cst : FVec F S_ .f32 := constant S_ .f32 0xFF800000#32
  let main_v1 : FVec F S2048x2048 .f32 := broadcastInDim S2048x2048 ![] bcast_S_S2048x2048 main_cst
  let main_v2 : IVec S2048x2048 1 := cmpf .ogt main_v0 main_v1
  let main_cst_0 : FVec F S_ .f32 := constant S_ .f32 0x7F800000#32
  let main_v3 : FVec F S2048x2048 .f32 := broadcastInDim S2048x2048 ![] bcast_S_S2048x2048 main_cst_0
  let main_v4 : IVec S2048x2048 1 := cmpf .olt main_v0 main_v3
  let main_v5 : IVec S2048x2048 1 := andi main_v2 main_v4
  let main_c : IVec S_ 1 := constantI S_ 1 1#1
  let main_v6 : IVec S_ 1 := (fun x v => Host.reduce IntOp.andi x v reducesTo_S2048x2048_S_d0_1 h_S_) main_v5 main_c
  let main_v7 : FVec F S2048x5632 .f32 := (extf .f32 · bitsLt_bf16_f32) main_arg4
  let main_cst_1 : FVec F S_ .f32 := constant S_ .f32 0xFF800000#32
  let main_v8 : FVec F S2048x5632 .f32 := broadcastInDim S2048x5632 ![] bcast_S_S2048x5632 main_cst_1
  let main_v9 : IVec S2048x5632 1 := cmpf .ogt main_v7 main_v8
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v7 main_v10
  let main_v12 : IVec S2048x5632 1 := andi main_v9 main_v11
  let main_c_3 : IVec S_ 1 := constantI S_ 1 1#1
  let main_v13 : IVec S_ 1 := (fun x v => Host.reduce IntOp.andi x v reducesTo_S2048x5632_S_d0_1 h_S_) main_v12 main_c_3
  let main_v14 : IVec S_ 1 := andi main_v6 main_v13
  let main_v15 : FVec F S5632x2048 .f32 := (extf .f32 · bitsLt_bf16_f32) main_arg5
  let main_cst_4 : FVec F S_ .f32 := constant S_ .f32 0xFF800000#32
  let main_v16 : FVec F S5632x2048 .f32 := broadcastInDim S5632x2048 ![] bcast_S_S5632x2048 main_cst_4
  fn_part1 (F := F) main_arg6 main_v14 main_v15 main_v16
-- ==== Pre_finite_scores_KernelIdeal.lean ====
abbrev S16x2048x128 : Shape := ⟨3, ![16, 2048, 128]⟩
abbrev S4x2304x128 : Shape := ⟨3, ![4, 2304, 128]⟩
abbrev S2048x2048 : Shape := ⟨2, ![2048, 2048]⟩
abbrev S_ : Shape := ⟨0, ![]⟩

class Facts : Prop where
  bitsLt_bf16_f32 : FTy.bits .bf16 < FTy.bits .f32
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S4x2304x128 : S_.BroadcastsInDim S4x2304x128 (![] : Fin 0 → Fin S4x2304x128.rank)
  reducesTo_S4x2304x128_S_d0_1_2 : S4x2304x128.ReducesTo [0, 1, 2] S_

variable [Facts]

def fn {F : FTy → Type} [FloatOps F] (main_arg0 : FVec F S16x2048x128 .bf16) (main_arg1 : FVec F S4x2304x128 .bf16) (main_arg2 : FVec F S4x2304x128 .bf16) (main_arg3 : FVec F S2048x2048 .bf16) : IVec S_ 1 :=
  let main_v0 : FVec F S16x2048x128 .f32 := (extf .f32 · bitsLt_bf16_f32) main_arg0
  let main_cst : FVec F S_ .f32 := constant S_ .f32 0xFF800000#32
  let main_v1 : FVec F S16x2048x128 .f32 := broadcastInDim S16x2048x128 ![] bcast_S_S16x2048x128 main_cst
  let main_v2 : IVec S16x2048x128 1 := cmpf .ogt main_v0 main_v1
  let main_cst_0 : FVec F S_ .f32 := constant S_ .f32 0x7F800000#32
  let main_v3 : FVec F S16x2048x128 .f32 := broadcastInDim S16x2048x128 ![] bcast_S_S16x2048x128 main_cst_0
  let main_v4 : IVec S16x2048x128 1 := cmpf .olt main_v0 main_v3
  let main_v5 : IVec S16x2048x128 1 := andi main_v2 main_v4
  let main_c : IVec S_ 1 := constantI S_ 1 1#1
  let main_v6 : IVec S_ 1 := (fun x v => Host.reduce IntOp.andi x v reducesTo_S16x2048x128_S_d0_1_2 h_S_) main_v5 main_c
  let main_v7 : FVec F S4x2304x128 .f32 := (extf .f32 · bitsLt_bf16_f32) main_arg1
  let main_cst_1 : FVec F S_ .f32 := constant S_ .f32 0xFF800000#32
  let main_v8 : FVec F S4x2304x128 .f32 := broadcastInDim S4x2304x128 ![] bcast_S_S4x2304x128 main_cst_1
  let main_v9 : IVec S4x2304x128 1 := cmpf .ogt main_v7 main_v8
  let main_cst_2 : FVec F S_ .f32 := constant S_ .f32 0x7F800000#32
  let main_v10 : FVec F S4x2304x128 .f32 := broadcastInDim S4x2304x128 ![] bcast_S_S4x2304x128 main_cst_2
  let main_v11 : IVec S4x2304x128 1 := cmpf .olt main_v7 main_v10
  let main_v12 : IVec S4x2304x128 1 := andi main_v9 main_v11
  let main_c_3 : IVec S_ 1 := constantI S_ 1 1#1
  let main_v13 : IVec S_ 1 := (fun x v => Host.reduce IntOp.andi x v reducesTo_S4x2304x128_S_d0_1_2 h_S_) main_v12 main_c_3
  let main_v14 : IVec S_ 1 := andi main_v6 main_v13
  main_v14
-- ==== Pre_finite_scores_ReferenceIdeal.lean ====
abbrev S128x2048x128 : Shape := ⟨3, ![128, 2048, 128]⟩
abbrev S32x2304x128 : Shape := ⟨3, ![32, 2304, 128]⟩
abbrev S16384x2048 : Shape := ⟨2, ![16384, 2048]⟩
abbrev S_ : Shape := ⟨0, ![]⟩

class Facts : Prop where
  bitsLt_bf16_f32 : FTy.bits .bf16 < FTy.bits .f32
  bcast_S_S128x2048x128 : S_.BroadcastsInDim S128x2048x128 (![] : Fin 0 → Fin S128x2048x128.rank)
  reducesTo_S128x2048x128_S_d0_1_2 : S128x2048x128.ReducesTo [0, 1, 2] S_
  h_S_ : 0 < S_.numel
  bcast_S_S32x2304x128 : S_.BroadcastsInDim S32x2304x128 (![] : Fin 0 → Fin S32x2304x128.rank)
  reducesTo_S32x2304x128_S_d0_1_2 : S32x2304x128.ReducesTo [0, 1, 2] S_

variable [Facts]

def fn {F : FTy → Type} [FloatOps F] (main_arg0 : FVec F S128x2048x128 .bf16) (main_arg1 : FVec F S32x2304x128 .bf16) (main_arg2 : FVec F S32x2304x128 .bf16) (main_arg3 : FVec F S16384x2048 .bf16) : IVec S_ 1 :=
  let main_v0 : FVec F S128x2048x128 .f32 := (extf .f32 · bitsLt_bf16_f32) main_arg0
  let main_cst : FVec F S_ .f32 := constant S_ .f32 0xFF800000#32
  let main_v1 : FVec F S128x2048x128 .f32 := broadcastInDim S128x2048x128 ![] bcast_S_S128x2048x128 main_cst
  let main_v2 : IVec S128x2048x128 1 := cmpf .ogt main_v0 main_v1
  let main_cst_0 : FVec F S_ .f32 := constant S_ .f32 0x7F800000#32
  let main_v3 : FVec F S128x2048x128 .f32 := broadcastInDim S128x2048x128 ![] bcast_S_S128x2048x128 main_cst_0
  let main_v4 : IVec S128x2048x128 1 := cmpf .olt main_v0 main_v3
  let main_v5 : IVec S128x2048x128 1 := andi main_v2 main_v4
  let main_c : IVec S_ 1 := constantI S_ 1 1#1
  let main_v6 : IVec S_ 1 := (fun x v => Host.reduce IntOp.andi x v reducesTo_S128x2048x128_S_d0_1_2 h_S_) main_v5 main_c
  let main_v7 : FVec F S32x2304x128 .f32 := (extf .f32 · bitsLt_bf16_f32) main_arg1
  let main_cst_1 : FVec F S_ .f32 := constant S_ .f32 0xFF800000#32
  let main_v8 : FVec F S32x2304x128 .f32 := broadcastInDim S32x2304x128 ![] bcast_S_S32x2304x128 main_cst_1
  let main_v9 : IVec S32x2304x128 1 := cmpf .ogt main_v7 main_v8
  let main_cst_2 : FVec F S_ .f32 := constant S_ .f32 0x7F800000#32
  let main_v10 : FVec F S32x2304x128 .f32 := broadcastInDim S32x2304x128 ![] bcast_S_S32x2304x128 main_cst_2
  let main_v11 : IVec S32x2304x128 1 := cmpf .olt main_v7 main_v10
  let main_v12 : IVec S32x2304x128 1 := andi main_v9 main_v11
  let main_c_3 : IVec S_ 1 := constantI S_ 1 1#1
  let main_v13 : IVec S_ 1 := (fun x v => Host.reduce IntOp.andi x v reducesTo_S32x2304x128_S_d0_1_2 h_S_) main_v12 main_c_3
  let main_v14 : IVec S_ 1 := andi main_v6 main_v13
  main_v14
-- ==== Kernel.lean ====
abbrev S16x2048x128 : Shape := ⟨3, ![16, 2048, 128]⟩
abbrev S4x2304x128 : Shape := ⟨3, ![4, 2304, 128]⟩
abbrev S2048x2048 : Shape := ⟨2, ![2048, 2048]⟩
abbrev S4x256x128 : Shape := ⟨3, ![4, 256, 128]⟩
abbrev S1x2304x128 : Shape := ⟨3, ![1, 2304, 128]⟩
abbrev S256x512 : Shape := ⟨2, ![256, 512]⟩
abbrev S2304x128 : Shape := ⟨2, ![2304, 128]⟩
abbrev S1x256x128 : Shape := ⟨3, ![1, 256, 128]⟩
abbrev S256x128 : Shape := ⟨2, ![256, 128]⟩
abbrev S2304x256 : Shape := ⟨2, ![2304, 256]⟩
abbrev S256 : Shape := ⟨1, ![256]⟩
abbrev S1x256 : Shape := ⟨2, ![1, 256]⟩

abbrev nBuf : Space → Nat
  | .hbm => 7
  | .vmem => 14
  | .smem => 0
  | _ => 0

abbrev bufTy : (tb : Table) → Fin (tcTables nBuf tb) → BufTy
  | .hbm, ⟨0, _⟩ => ⟨S16x2048x128, .bf16⟩
  | .hbm, ⟨1, _⟩ => ⟨S4x2304x128, .bf16⟩
  | .hbm, ⟨2, _⟩ => ⟨S4x2304x128, .bf16⟩
  | .hbm, ⟨3, _⟩ => ⟨S2048x2048, .bf16⟩
  | .hbm, ⟨4, _⟩ => ⟨S16x2048x128, .f32⟩
  | .hbm, ⟨5, _⟩ => ⟨S4x2304x128, .f32⟩
  | .hbm, ⟨6, _⟩ => ⟨S4x2304x128, .f32⟩
  | .local _ .vmem, ⟨0, _⟩ => ⟨S4x256x128, .bf16⟩
  | .local _ .vmem, ⟨1, _⟩ => ⟨S4x256x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S256x512, .bf16⟩
  | .local _ .vmem, ⟨7, _⟩ => ⟨S256x512, .bf16⟩
  | .local _ .vmem, ⟨8, _⟩ => ⟨S4x256x128, .f32⟩
  | .local _ .vmem, ⟨9, _⟩ => ⟨S4x256x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S16x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 8
abbrev τ : Topo := Topo.v7x

variable {F : FTy → Type} [FloatOps F]

abbrev grid0 : Pipeline.Grid := ⟨3, ![4, 1, 8], ![false, false, false]⟩

def k0_cond1 (i : grid0.Coords) : BitVec 1 :=
  let arg1 : BitVec 32 := BitVec.ofNat 32 (i 1).val
  let c0_i32 : BitVec 32 := 0#32
  let v158 : BitVec 1 := Scalar.cmpi .eq arg1 c0_i32
  let arg2 : BitVec 32 := BitVec.ofNat 32 (i 2).val
  let c0_i32_78 : BitVec 32 := 0#32
  let v159 : BitVec 1 := Scalar.cmpi .eq arg2 c0_i32_78
  let v160 : BitVec 1 := Scalar.andi v158 v159
  let v161 : BitVec 32 := Scalar.extui v160
  let c0_i32_79 : BitVec 32 := 0#32
  let v162 : BitVec 1 := Scalar.cmpi .ne v161 c0_i32_79
  v162

def k0_cond2 (i : grid0.Coords) : BitVec 1 :=
  let arg1 : BitVec 32 := BitVec.ofNat 32 (i 1).val
  let c0_i32 : BitVec 32 := 0#32
  let v158 : BitVec 1 := Scalar.cmpi .eq arg1 c0_i32
  let arg2 : BitVec 32 := BitVec.ofNat 32 (i 2).val
  let c0_i32_78 : BitVec 32 := 0#32
  let v159 : BitVec 1 := Scalar.cmpi .eq arg2 c0_i32_78
  let v160 : BitVec 1 := Scalar.andi v158 v159
  let v_true : BitVec 1 := 1#1
  let v163 : BitVec 1 := Scalar.xori v160 v_true
  let v164 : BitVec 32 := Scalar.extui v163
  let c0_i32_80 : BitVec 32 := 0#32
  let v165 : BitVec 1 := Scalar.cmpi .ne v164 c0_i32_80
  v165

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S128x2048x128 : Shape := ⟨3, ![128, 2048, 128]⟩
abbrev S32x2304x128 : Shape := ⟨3, ![32, 2304, 128]⟩
abbrev S16384x2048 : Shape := ⟨2, ![16384, 2048]⟩
abbrev S8x16x2048x128 : Shape := ⟨4, ![8, 16, 2048, 128]⟩
abbrev S8x2048x16x128 : Shape := ⟨4, ![8, 2048, 16, 128]⟩
abbrev S8x4x2304x128 : Shape := ⟨4, ![8, 4, 2304, 128]⟩
abbrev S8x2304x4x128 : Shape := ⟨4, ![8, 2304, 4, 128]⟩
abbrev S8x2048x4x4x128 : Shape := ⟨5, ![8, 2048, 4, 4, 128]⟩
abbrev S8x4x2304x2048x4 : Shape := ⟨5, ![8, 4, 2304, 2048, 4]⟩
abbrev S8x4x4x2048x2304 : Shape := ⟨5, ![8, 4, 4, 2048, 2304]⟩
abbrev S_ : Shape := ⟨0, ![]⟩
abbrev S8x4x4x2048 : Shape := ⟨4, ![8, 4, 4, 2048]⟩
abbrev S8x4x4x2048x1 : Shape := ⟨5, ![8, 4, 4, 2048, 1]⟩
abbrev S8x4x128x4x2048 : Shape := ⟨5, ![8, 4, 128, 4, 2048]⟩
abbrev S8x2048x2048 : Shape := ⟨3, ![8, 2048, 2048]⟩
abbrev S8x4x128x2304 : Shape := ⟨4, ![8, 4, 128, 2304]⟩
abbrev S8x4x2048x4x128 : Shape := ⟨5, ![8, 4, 2048, 4, 128]⟩

abbrev nBuf : Space → Nat
  | .hbm => 97
  | .vmem => 0
  | .smem => 0
  | _ => 0

abbrev bufTy : (tb : Table) → Fin (tcTables nBuf tb) → BufTy
  | .hbm, ⟨0, _⟩ => ⟨S128x2048x128, .bf16⟩
  | .hbm, ⟨1, _⟩ => ⟨S32x2304x128, .bf16⟩
  | .hbm, ⟨2, _⟩ => ⟨S32x2304x128, .bf16⟩
  | .hbm, ⟨3, _⟩ => ⟨S16384x2048, .bf16⟩
  | .hbm, ⟨4, _⟩ => ⟨S128x2048x128, .f32⟩
  | .hbm, ⟨5, _⟩ => ⟨S32x2304x128, .f32⟩
  | .hbm, ⟨6, _⟩ => ⟨S32x2304x128, .f32⟩
  | .hbm, ⟨7, _⟩ => ⟨S16384x2048, .f32⟩
  | .hbm, ⟨8, _⟩ => ⟨S8x16x2048x128, .f32⟩
  | .hbm, ⟨9, _⟩ => ⟨S8x2048x16x128, .f32⟩
  | .hbm, ⟨10, _⟩ => ⟨S8x4x2304x128, .f32⟩
  | .hbm, ⟨11, _⟩ => ⟨S8x2304x4x128, .f32⟩
  | .hbm, ⟨12, _⟩ => ⟨S8x4x2304x128, .f32⟩
  | .hbm, ⟨13, _⟩ => ⟨S8x2304x4x128, .f32⟩
  | .hbm, ⟨14, _⟩ => ⟨S8x2048x4x4x128, .f32⟩
  | .hbm, ⟨15, _⟩ => ⟨S8x4x2304x2048x4, .f32⟩
  | .hbm, ⟨16, _⟩ => ⟨S8x4x4x2048x2304, .f32⟩
  | .hbm, ⟨17, _⟩ => ⟨S_, .f32⟩
  | .hbm, ⟨18, _⟩ => ⟨S8x4x4x2048x2304, .f32⟩
  | .hbm, ⟨19, _⟩ => ⟨S8x4x4x2048x2304, .f32⟩
  | .hbm, ⟨20, _⟩ => ⟨S_, .f32⟩
  | .hbm, ⟨21, _⟩ => ⟨S8x4x4x2048, .f32⟩
  | .hbm, ⟨22, _⟩ => ⟨S8x4x4x2048x1, .f32⟩
  | .hbm, ⟨23, _⟩ => ⟨S8x4x4x2048x2304, .f32⟩
  | .hbm, ⟨24, _⟩ => ⟨S8x4x4x2048x2304, .i1⟩
  | .hbm, ⟨25, _⟩ => ⟨S8x4x4x2048x2304, .f32⟩
  | .hbm, ⟨26, _⟩ => ⟨S_, .f32⟩
  | .hbm, ⟨27, _⟩ => ⟨S8x4x4x2048, .f32⟩
  | .hbm, ⟨28, _⟩ => ⟨S_, .f32⟩
  | .hbm, ⟨29, _⟩ => ⟨S8x4x4x2048, .f32⟩
  | .hbm, ⟨30, _⟩ => ⟨S8x4x4x2048, .f32⟩
  | .hbm, ⟨31, _⟩ => ⟨S_, .f32⟩
  | .hbm, ⟨32, _⟩ => ⟨S8x4x4x2048, .f32⟩
  | .hbm, ⟨33, _⟩ => ⟨S8x4x4x2048, .i1⟩
  | .hbm, ⟨34, _⟩ => ⟨S_, .f32⟩
  | .hbm, ⟨35, _⟩ => ⟨S8x4x4x2048, .f32⟩
  | .hbm, ⟨36, _⟩ => ⟨S8x4x4x2048, .i1⟩
  | .hbm, ⟨37, _⟩ => ⟨S_, .f32⟩
  | .hbm, ⟨38, _⟩ => ⟨S8x4x4x2048, .f32⟩
  | .hbm, ⟨39, _⟩ => ⟨S_, .f32⟩
  | .hbm, ⟨40, _⟩ => ⟨S8x4x4x2048, .f32⟩
  | .hbm, ⟨41, _⟩ => ⟨S_, .f32⟩
  | .hbm, ⟨42, _⟩ => ⟨S8x4x4x2048, .f32⟩
  | .hbm, ⟨43, _⟩ => ⟨S8x4x4x2048, .f32⟩
  | .hbm, ⟨44, _⟩ => ⟨S8x4x4x2048, .f32⟩
  | .hbm, ⟨45, _⟩ => ⟨S8x4x4x2048x1, .f32⟩
  | .hbm, ⟨46, _⟩ => ⟨S8x4x4x2048x2304, .f32⟩
  | .hbm, ⟨47, _⟩ => ⟨S8x4x4x2048x2304, .f32⟩
  | .hbm, ⟨48, _⟩ => ⟨S8x4x4x2048x2304, .f32⟩
  | .hbm, ⟨49, _⟩ => ⟨S_, .f32⟩
  | .hbm, ⟨50, _⟩ => ⟨S8x4x4x2048, .f32⟩
  | .hbm, ⟨51, _⟩ => ⟨S8x4x4x2048x1, .f32⟩
  | .hbm, ⟨52, _⟩ => ⟨S8x4x4x2048x2304, .f32⟩
  | .hbm, ⟨53, _⟩ => ⟨S8x4x4x2048x2304, .f32⟩
  | .hbm, ⟨54, _⟩ => ⟨S8x4x4x2048x1, .f32⟩
  | .hbm, ⟨55, _⟩ => ⟨S_, .f32⟩
  | .hbm, ⟨56, _⟩ => ⟨S8x4x4x2048x1, .f32⟩
  | .hbm, ⟨57, _⟩ => ⟨S8x4x4x2048x1, .f32⟩
  | .hbm, ⟨58, _⟩ => ⟨S8x4x128x4x2048, .f32⟩
  | .hbm, ⟨59, _⟩ => ⟨S8x2048x4x4x128, .f32⟩
  | .hbm, ⟨60, _⟩ => ⟨S8x2048x2048, .f32⟩
  | .hbm, ⟨61, _⟩ => ⟨S16384x2048, .f32⟩
  | .hbm, ⟨62, _⟩ => ⟨S8x2048x2048, .f32⟩
  | .hbm, ⟨63, _⟩ => ⟨S8x2048x4x4x128, .f32⟩
  | .hbm, ⟨64, _⟩ => ⟨S8x4x128x4x2048, .f32⟩
  | .hbm, ⟨65, _⟩ => ⟨S8x4x4x2048x2304, .f32⟩
  | .hbm, ⟨66, _⟩ => ⟨S8x4x128x2304, .f32⟩
  | .hbm, ⟨67, _⟩ => ⟨S8x2304x4x128, .f32⟩
  | .hbm, ⟨68, _⟩ => ⟨S8x4x4x2048x2304, .f32⟩
  | .hbm, ⟨69, _⟩ => ⟨S8x4x4x2048x2304, .f32⟩
  | .hbm, ⟨70, _⟩ => ⟨S8x4x4x2048x2304, .f32⟩
  | .hbm, ⟨71, _⟩ => ⟨S_, .f32⟩
  | .hbm, ⟨72, _⟩ => ⟨S8x4x4x2048, .f32⟩
  | .hbm, ⟨73, _⟩ => ⟨S8x4x4x2048x1, .f32⟩
  | .hbm, ⟨74, _⟩ => ⟨S8x4x4x2048x1, .f32⟩
  | .hbm, ⟨75, _⟩ => ⟨S8x4x4x2048x2304, .f32⟩
  | .hbm, ⟨76, _⟩ => ⟨S8x4x4x2048x2304, .f32⟩
  | .hbm, ⟨77, _⟩ => ⟨S_, .f32⟩
  | .hbm, ⟨78, _⟩ => ⟨S8x4x4x2048, .f32⟩
  | .hbm, ⟨79, _⟩ => ⟨S8x4x4x2048x2304, .f32⟩
  | .hbm, ⟨80, _⟩ => ⟨S8x4x4x2048x2304, .f32⟩
  | .hbm, ⟨81, _⟩ => ⟨S8x4x4x2048x2304, .f32⟩
  | .hbm, ⟨82, _⟩ => ⟨S_, .f32⟩
  | .hbm, ⟨83, _⟩ => ⟨S8x4x4x2048x2304, .f32⟩
  | .hbm, ⟨84, _⟩ => ⟨S8x4x4x2048x2304, .f32⟩
  | .hbm, ⟨85, _⟩ => ⟨S8x4x2304x2048x4, .f32⟩
  | .hbm, ⟨86, _⟩ => ⟨S8x4x2048x4x128, .f32⟩
  | .hbm, ⟨87, _⟩ => ⟨S8x2048x4x4x128, .f32⟩
  | .hbm, ⟨88, _⟩ => ⟨S8x4x2304x128, .f32⟩
  | .hbm, ⟨89, _⟩ => ⟨S8x2304x4x128, .f32⟩
  | .hbm, ⟨90, _⟩ => ⟨S8x2048x16x128, .f32⟩
  | .hbm, ⟨91, _⟩ => ⟨S8x4x2304x128, .f32⟩
  | .hbm, ⟨92, _⟩ => ⟨S32x2304x128, .f32⟩
  | .hbm, ⟨93, _⟩ => ⟨S8x4x2304x128, .f32⟩
  | .hbm, ⟨94, _⟩ => ⟨S32x2304x128, .f32⟩
  | .hbm, ⟨95, _⟩ => ⟨S8x16x2048x128, .f32⟩
  | .hbm, ⟨96, _⟩ => ⟨S128x2048x128, .f32⟩
  | _, _ => ⟨S128x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Merge.lean ====
abbrev S2048x2048 : Shape := ⟨2, ![2048, 2048]⟩
abbrev S2048x1024 : Shape := ⟨2, ![2048, 1024]⟩
abbrev S2048x4096 : Shape := ⟨2, ![2048, 4096]⟩
abbrev S1024x2048 : Shape := ⟨2, ![1024, 2048]⟩
abbrev S_ : Shape := ⟨0, ![]⟩
abbrev S2x2048x1024 : Shape := ⟨3, ![2, 2048, 1024]⟩
abbrev S2048x4x1024 : Shape := ⟨3, ![2048, 4, 1024]⟩
abbrev S4x2048x1024 : Shape := ⟨3, ![4, 2048, 1024]⟩
abbrev S6x2048x1024 : Shape := ⟨3, ![6, 2048, 1024]⟩
abbrev S1024x8x256 : Shape := ⟨3, ![1024, 8, 256]⟩
abbrev S8x1024x256 : Shape := ⟨3, ![8, 1024, 256]⟩
abbrev S512x2048 : Shape := ⟨2, ![512, 2048]⟩
abbrev S2048x512 : Shape := ⟨2, ![2048, 512]⟩
abbrev S512x512 : Shape := ⟨2, ![512, 512]⟩
abbrev S512x1024 : Shape := ⟨2, ![512, 1024]⟩
abbrev S1x1024x256 : Shape := ⟨3, ![1, 1024, 256]⟩
abbrev S1x512x256 : Shape := ⟨3, ![1, 512, 256]⟩
abbrev S512x256 : Shape := ⟨2, ![512, 256]⟩
abbrev S1024x256 : Shape := ⟨2, ![1024, 256]⟩
abbrev S256x2048 : Shape := ⟨2, ![256, 2048]⟩
abbrev S2048x256 : Shape := ⟨2, ![2048, 256]⟩
abbrev S2048x2x1024 : Shape := ⟨3, ![2048, 2, 1024]⟩

abbrev nBuf : Space → Nat
  | .hbm => 38
  | .vmem => 63
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x4096, .f32⟩
  | .hbm, ⟨3, _⟩ => ⟨S2048x2048, .bf16⟩
  | .hbm, ⟨4, _⟩ => ⟨S1024x2048, .bf16⟩
  | .hbm, ⟨5, _⟩ => ⟨S2048x2048, .bf16⟩
  | .hbm, ⟨6, _⟩ => ⟨S2048x2048, .bf16⟩
  | .hbm, ⟨7, _⟩ => ⟨S_, .f32⟩
  | .hbm, ⟨8, _⟩ => ⟨S2x2048x1024, .f32⟩
  | .hbm, ⟨9, _⟩ => ⟨S2048x4x1024, .f32⟩
  | .hbm, ⟨10, _⟩ => ⟨S4x2048x1024, .f32⟩
  | .hbm, ⟨11, _⟩ => ⟨S6x2048x1024, .f32⟩
  | .hbm, ⟨12, _⟩ => ⟨S1024x8x256, .bf16⟩
  | .hbm, ⟨13, _⟩ => ⟨S8x1024x256, .bf16⟩
  | .hbm, ⟨14, _⟩ => ⟨S2048x2048, .f32⟩
  | .hbm, ⟨15, _⟩ => ⟨S2048x2048, .f32⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2x2048x1024, .bf16⟩
  | .hbm, ⟨20, _⟩ => ⟨S2x2048x1024, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S8x1024x256, .bf16⟩
  | .hbm, ⟨25, _⟩ => ⟨S2x2048x1024, .f32⟩
  | .hbm, ⟨26, _⟩ => ⟨S2048x2x1024, .f32⟩
  | .hbm, ⟨27, _⟩ => ⟨S2048x2048, .f32⟩
  | .hbm, ⟨28, _⟩ => ⟨S2x2048x1024, .f32⟩
  | .hbm, ⟨29, _⟩ => ⟨S2048x2x1024, .f32⟩
  | .hbm, ⟨30, _⟩ => ⟨S2048x2048, .f32⟩
  | .hbm, ⟨31, _⟩ => ⟨S2048x4096, .f32⟩
  | .hbm, ⟨32, _⟩ => ⟨S2048x2048, .f32⟩
  | .hbm, ⟨33, _⟩ => ⟨S2048x2048, .f32⟩
  | .hbm, ⟨34, _⟩ => ⟨S8x1024x256, .f32⟩
  | .hbm, ⟨35, _⟩ => ⟨S1024x8x256, .f32⟩
  | .hbm, ⟨36, _⟩ => ⟨S1024x2048, .f32⟩
  | .hbm, ⟨37, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | .local _ .vmem, ⟨20, _⟩ => ⟨S512x2048, .bf16⟩
  | .local _ .vmem, ⟨21, _⟩ => ⟨S512x2048, .bf16⟩
  | .local _ .vmem, ⟨22, _⟩ => ⟨S256x2048, .bf16⟩
  | .local _ .vmem, ⟨23, _⟩ => ⟨S256x2048, .bf16⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .bf16⟩
  | .local _ .vmem, ⟨33, _⟩ => ⟨S512x256, .bf16⟩
  | .local _ .vmem, ⟨34, _⟩ => ⟨S512x256, .bf16⟩
  | .local _ .vmem, ⟨35, _⟩ => ⟨S512x256, .bf16⟩
  | .local _ .vmem, ⟨36, _⟩ => ⟨S1x512x256, .bf16⟩
  | .local _ .vmem, ⟨37, _⟩ => ⟨S1x512x256, .bf16⟩
  | .local _ .vmem, ⟨38, _⟩ => ⟨S1x512x256, .bf16⟩
  | .local _ .vmem, ⟨39, _⟩ => ⟨S1x512x256, .bf16⟩
  | .local _ .vmem, ⟨40, _⟩ => ⟨S2048x512, .bf16⟩
  | .local _ .vmem, ⟨41, _⟩ => ⟨S2048x512, .bf16⟩
  | .local _ .vmem, ⟨42, _⟩ => ⟨S2048x512, .bf16⟩
  | .local _ .vmem, ⟨43, _⟩ => ⟨S2048x512, .bf16⟩
  | .local _ .vmem, ⟨44, _⟩ => ⟨S512x512, .bf16⟩
  | .local _ .vmem, ⟨45, _⟩ => ⟨S512x512, .bf16⟩
  | .local _ .vmem, ⟨46, _⟩ => ⟨S2048x512, .bf16⟩
  | .local _ .vmem, ⟨47, _⟩ => ⟨S2048x512, .bf16⟩
  | .local _ .vmem, ⟨48, _⟩ => ⟨S2048x512, .bf16⟩
  | .local _ .vmem, ⟨49, _⟩ => ⟨S2048x512, .bf16⟩
  | .local _ .vmem, ⟨50, _⟩ => ⟨S512x512, .bf16⟩
  | .local _ .vmem, ⟨51, _⟩ => ⟨S512x512, .bf16⟩
  | .local _ .vmem, ⟨52, _⟩ => ⟨S512x2048, .bf16⟩
  | .local _ .vmem, ⟨53, _⟩ => ⟨S512x2048, .bf16⟩
  | .local _ .vmem, ⟨54, _⟩ => ⟨S512x2048, .bf16⟩
  | .local _ .vmem, ⟨55, _⟩ => ⟨S512x2048, .bf16⟩
  | .local _ .vmem, ⟨56, _⟩ => ⟨S512x512, .bf16⟩
  | .local _ .vmem, ⟨57, _⟩ => ⟨S512x512, .bf16⟩
  | .local _ .vmem, ⟨58, _⟩ => ⟨S2048x1024, .bf16⟩
  | .local _ .vmem, ⟨59, _⟩ => ⟨S2048x256, .bf16⟩
  | .local _ .vmem, ⟨60, _⟩ => ⟨S2048x256, .bf16⟩
  | .local _ .vmem, ⟨61, _⟩ => ⟨S1x1024x256, .bf16⟩
  | .local _ .vmem, ⟨62, _⟩ => ⟨S1x1024x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc6_stg0_0 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38
abbrev cc2_sem9_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc6_sem0_0 : DmaSem sig := 58
abbrev cc6_sem1_0 : DmaSem sig := 59
abbrev cc6_sem1_1 : DmaSem sig := 60
abbrev cc6_sem2_0 : DmaSem sig := 61
abbrev cc6_sem2_1 : DmaSem sig := 62

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg0.toNat, v27.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg0.toNat, v27.toNat]

def cc2_transform_3 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_8 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc2_transform_9 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x512x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x512x256 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S2048x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1024x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== MergeReferenceIdeal.lean ====
abbrev S2048x2048 : Shape := ⟨2, ![2048, 2048]⟩
abbrev S2048x1024 : Shape := ⟨2, ![2048, 1024]⟩
abbrev S2048x4096 : Shape := ⟨2, ![2048, 4096]⟩
abbrev S1024x2048 : Shape := ⟨2, ![1024, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x4096, .f32⟩
  | .hbm, ⟨3, _⟩ => ⟨S2048x2048, .bf16⟩
  | .hbm, ⟨4, _⟩ => ⟨S1024x2048, .bf16⟩
  | .hbm, ⟨5, _⟩ => ⟨S2048x2048, .bf16⟩
  | .hbm, ⟨6, _⟩ => ⟨S2048x2048, .bf16⟩
  | .hbm, ⟨7, _⟩ => ⟨S2048x2048, .f32⟩
  | .hbm, ⟨8, _⟩ => ⟨S2048x1024, .f32⟩
  | .hbm, ⟨9, _⟩ => ⟨S2048x2048, .f32⟩
  | .hbm, ⟨10, _⟩ => ⟨S1024x2048, .f32⟩
  | .hbm, ⟨11, _⟩ => ⟨S2048x2048, .f32⟩
  | .hbm, ⟨12, _⟩ => ⟨S2048x2048, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x1024, .f32⟩
  | .hbm, ⟨39, _⟩ => ⟨S1024x2048, .f32⟩
  | .hbm, ⟨40, _⟩ => ⟨S2048x1024, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x4096, .f32⟩
  | .hbm, ⟨47, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Ffn2.lean ====
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8x2048 : Shape := ⟨2, ![8, 2048]⟩
abbrev S1x2048 : Shape := ⟨2, ![1, 2048]⟩
abbrev S15x2048 : Shape := ⟨2, ![15, 2048]⟩
abbrev S24x2048 : Shape := ⟨2, ![24, 2048]⟩
abbrev S8x704x2048 : Shape := ⟨3, ![8, 704, 2048]⟩
abbrev S8x2048x704 : Shape := ⟨3, ![8, 2048, 704]⟩
abbrev S512x2048 : Shape := ⟨2, ![512, 2048]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩
abbrev S8x512x704 : Shape := ⟨3, ![8, 512, 704]⟩
abbrev S8x704x512 : Shape := ⟨3, ![8, 704, 512]⟩
abbrev S512x512 : Shape := ⟨2, ![512, 512]⟩
abbrev S24x512 : Shape := ⟨2, ![24, 512]⟩
abbrev S1x704x512 : Shape := ⟨3, ![1, 704, 512]⟩
abbrev S704x512 : Shape := ⟨2, ![704, 512]⟩
abbrev S1x512 : Shape := ⟨2, ![1, 512]⟩
abbrev S512x1 : Shape := ⟨2, ![512, 1]⟩
abbrev S1x2048x704 : Shape := ⟨3, ![1, 2048, 704]⟩
abbrev S2048x512 : Shape := ⟨2, ![2048, 512]⟩
abbrev S2048x704 : Shape := ⟨2, ![2048, 704]⟩
abbrev S8x704x256 : Shape := ⟨3, ![8, 704, 256]⟩
abbrev S512x256 : Shape := ⟨2, ![512, 256]⟩
abbrev S1x704x256 : Shape := ⟨3, ![1, 704, 256]⟩
abbrev S704x256 : Shape := ⟨2, ![704, 256]⟩

abbrev nBuf : Space → Nat
  | .hbm => 37
  | .vmem => 62
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .bf16⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048x2048, .bf16⟩
  | .hbm, ⟨7, _⟩ => ⟨S_, .f32⟩
  | .hbm, ⟨8, _⟩ => ⟨S8x2048, .f32⟩
  | .hbm, ⟨9, _⟩ => ⟨S1x2048, .f32⟩
  | .hbm, ⟨10, _⟩ => ⟨S_, .f32⟩
  | .hbm, ⟨11, _⟩ => ⟨S15x2048, .f32⟩
  | .hbm, ⟨12, _⟩ => ⟨S24x2048, .f32⟩
  | .hbm, ⟨13, _⟩ => ⟨S5632x2048, .bf16⟩
  | .hbm, ⟨14, _⟩ => ⟨S8x704x2048, .bf16⟩
  | .hbm, ⟨15, _⟩ => ⟨S5632x2048, .bf16⟩
  | .hbm, ⟨16, _⟩ => ⟨S8x704x2048, .bf16⟩
  | .hbm, ⟨17, _⟩ => ⟨S8x704x2048, .bf16⟩
  | .hbm, ⟨18, _⟩ => ⟨S8x2048x704, .bf16⟩
  | .hbm, ⟨19, _⟩ => ⟨S8x2048x704, .bf16⟩
  | .hbm, ⟨20, _⟩ => ⟨S8x2048x704, .bf16⟩
  | .hbm, ⟨21, _⟩ => ⟨S2048x2048, .f32⟩
  | .hbm, ⟨22, _⟩ => ⟨S2048x2048, .f32⟩
  | .hbm, ⟨23, _⟩ => ⟨S8x704x2048, .bf16⟩
  | .hbm, ⟨24, _⟩ => ⟨S8x2048x704, .bf16⟩
  | .hbm, ⟨25, _⟩ => ⟨S8x2048x704, .bf16⟩
  | .hbm, ⟨26, _⟩ => ⟨S8x704x2048, .bf16⟩
  | .hbm, ⟨27, _⟩ => ⟨S8x704x2048, .bf16⟩
  | .hbm, ⟨28, _⟩ => ⟨S2048x2048, .f32⟩
  | .hbm, ⟨29, _⟩ => ⟨S8x704x2048, .f32⟩
  | .hbm, ⟨30, _⟩ => ⟨S5632x2048, .f32⟩
  | .hbm, ⟨31, _⟩ => ⟨S2048x5632, .f32⟩
  | .hbm, ⟨32, _⟩ => ⟨S8x704x2048, .f32⟩
  | .hbm, ⟨33, _⟩ => ⟨S5632x2048, .f32⟩
  | .hbm, ⟨34, _⟩ => ⟨S2048x5632, .f32⟩
  | .hbm, ⟨35, _⟩ => ⟨S8x704x2048, .f32⟩
  | .hbm, ⟨36, _⟩ => ⟨S5632x2048, .f32⟩
  | .local _ .vmem, ⟨0, _⟩ => ⟨S512x2048, .bf16⟩
  | .local _ .vmem, ⟨1, _⟩ => ⟨S512x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S8x512x704, .bf16⟩
  | .local _ .vmem, ⟨13, _⟩ => ⟨S8x512x704, .bf16⟩
  | .local _ .vmem, ⟨14, _⟩ => ⟨S8x704x512, .bf16⟩
  | .local _ .vmem, ⟨15, _⟩ => ⟨S8x704x512, .bf16⟩
  | .local _ .vmem, ⟨16, _⟩ => ⟨S512x512, .f32⟩
  | .local _ .vmem, ⟨17, _⟩ => ⟨S512x512, .f32⟩
  | .local _ .vmem, ⟨18, _⟩ => ⟨S24x512, .f32⟩
  | .local _ .vmem, ⟨19, _⟩ => ⟨S24x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1x2048x704, .bf16⟩
  | .local _ .vmem, ⟨25, _⟩ => ⟨S1x2048x704, .bf16⟩
  | .local _ .vmem, ⟨26, _⟩ => ⟨S2048x512, .bf16⟩
  | .local _ .vmem, ⟨27, _⟩ => ⟨S2048x512, .bf16⟩
  | .local _ .vmem, ⟨28, _⟩ => ⟨S1x704x512, .bf16⟩
  | .local _ .vmem, ⟨29, _⟩ => ⟨S1x704x512, .bf16⟩
  | .local _ .vmem, ⟨30, _⟩ => ⟨S512x2048, .bf16⟩
  | .local _ .vmem, ⟨31, _⟩ => ⟨S512x2048, .bf16⟩
  | .local _ .vmem, ⟨32, _⟩ => ⟨S1x704x2048, .bf16⟩
  | .local _ .vmem, ⟨33, _⟩ => ⟨S1x704x2048, .bf16⟩
  | .local _ .vmem, ⟨34, _⟩ => ⟨S1x512x704, .bf16⟩
  | .local _ .vmem, ⟨35, _⟩ => ⟨S1x512x704, .bf16⟩
  | .local _ .vmem, ⟨36, _⟩ => ⟨S1x512x704, .bf16⟩
  | .local _ .vmem, ⟨37, _⟩ => ⟨S1x512x704, .bf16⟩
  | .local _ .vmem, ⟨38, _⟩ => ⟨S1x512x704, .bf16⟩
  | .local _ .vmem, ⟨39, _⟩ => ⟨S1x512x704, .bf16⟩
  | .local _ .vmem, ⟨40, _⟩ => ⟨S1x512x704, .bf16⟩
  | .local _ .vmem, ⟨41, _⟩ => ⟨S1x512x704, .bf16⟩
  | .local _ .vmem, ⟨42, _⟩ => ⟨S2048x512, .bf16⟩
  | .local _ .vmem, ⟨43, _⟩ => ⟨S2048x512, .bf16⟩
  | .local _ .vmem, ⟨44, _⟩ => ⟨S1x2048x704, .bf16⟩
  | .local _ .vmem, ⟨45, _⟩ => ⟨S1x2048x704, .bf16⟩
  | .local _ .vmem, ⟨46, _⟩ => ⟨S1x2048x704, .bf16⟩
  | .local _ .vmem, ⟨47, _⟩ => ⟨S1x2048x704, .bf16⟩
  | .local _ .vmem, ⟨48, _⟩ => ⟨S1x704x512, .bf16⟩
  | .local _ .vmem, ⟨49, _⟩ => ⟨S1x704x512, .bf16⟩
  | .local _ .vmem, ⟨50, _⟩ => ⟨S1x704x512, .bf16⟩
  | .local _ .vmem, ⟨51, _⟩ => ⟨S1x704x512, .bf16⟩
  | .local _ .vmem, ⟨52, _⟩ => ⟨S8x512x704, .bf16⟩
  | .local _ .vmem, ⟨53, _⟩ => ⟨S8x512x704, .bf16⟩
  | .local _ .vmem, ⟨54, _⟩ => ⟨S8x704x256, .bf16⟩
  | .local _ .vmem, ⟨55, _⟩ => ⟨S8x704x256, .bf16⟩
  | .local _ .vmem, ⟨56, _⟩ => ⟨S8x512x704, .bf16⟩
  | .local _ .vmem, ⟨57, _⟩ => ⟨S8x512x704, .bf16⟩
  | .local _ .vmem, ⟨58, _⟩ => ⟨S8x704x256, .bf16⟩
  | .local _ .vmem, ⟨59, _⟩ => ⟨S8x704x256, .bf16⟩
  | .local _ .vmem, ⟨60, _⟩ => ⟨S512x256, .f32⟩
  | .local _ .vmem, ⟨61, _⟩ => ⟨S512x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg3_1 : Ref sig .tc := ⟨.vmem, 59, rfl⟩
abbrev cc5_stg4_0 : Ref sig .tc := ⟨.vmem, 60, rfl⟩
abbrev cc5_stg4_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x704x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S24x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x704x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x704x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x512x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x512x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048x704 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x2048x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x704x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x704x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![4, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S8x512x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S8x704x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S8x512x704 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S8x704x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S512x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]
-- ==== Ffn2ReferenceIdeal.lean ====
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .bf16⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048x2048, .bf16⟩
  | .hbm, ⟨7, _⟩ => ⟨S2048x2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048x2048, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S_, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x5632, .f32⟩
  | .hbm, ⟨37, _⟩ => ⟨S5632x2048, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S5632x2048, .f32⟩
  | .hbm, ⟨42, _⟩ => ⟨S2048x5632, .f32⟩
  | .hbm, ⟨43, _⟩ => ⟨S2048x2048, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S5632x2048, .f32⟩
  | .hbm, ⟨49, _⟩ => ⟨S2048x5632, .f32⟩
  | .hbm, ⟨50, _⟩ => ⟨S2048x2048, .f32⟩
  | .hbm, ⟨51, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v6_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v6_1 : Ref sig .tc := ⟨.hbm, 24, rfl⟩
abbrev main_v6_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Ffn1.lean ====
abbrev S2048x2048 : Shape := ⟨2, ![2048, 2048]⟩
abbrev S256x2048 : Shape := ⟨2, ![256, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x2048 : Shape := ⟨2, ![2, 2048]⟩
abbrev S1x2048 : Shape := ⟨2, ![1, 2048]⟩
abbrev S8x2048 : Shape := ⟨2, ![8, 2048]⟩
abbrev S12x2048 : Shape := ⟨2, ![12, 2048]⟩
abbrev S24x2048 : Shape := ⟨2, ![24, 2048]⟩
abbrev S2304x2048 : Shape := ⟨2, ![2304, 2048]⟩
abbrev S8x704x2048 : Shape := ⟨3, ![8, 704, 2048]⟩
abbrev S8x2304x704 : Shape := ⟨3, ![8, 2304, 704]⟩
abbrev S384x2048 : Shape := ⟨2, ![384, 2048]⟩
abbrev S1x704x2048 : Shape := ⟨3, ![1, 704, 2048]⟩
abbrev S1x384x704 : Shape := ⟨3, ![1, 384, 704]⟩
abbrev S704x2048 : Shape := ⟨2, ![704, 2048]⟩
abbrev S384x704 : Shape := ⟨2, ![384, 704]⟩
abbrev S8x384x704 : Shape := ⟨3, ![8, 384, 704]⟩
abbrev S8x704x512 : Shape := ⟨3, ![8, 704, 512]⟩
abbrev S384x512 : Shape := ⟨2, ![384, 512]⟩
abbrev S24x512 : Shape := ⟨2, ![24, 512]⟩
abbrev S1x704x512 : Shape := ⟨3, ![1, 704, 512]⟩
abbrev S704x512 : Shape := ⟨2, ![704, 512]⟩
abbrev S1x512 : Shape := ⟨2, ![1, 512]⟩
abbrev S384x1 : Shape := ⟨2, ![384, 1]⟩
abbrev S1x2304x704 : Shape := ⟨3, ![1, 2304, 704]⟩
abbrev S2304x512 : Shape := ⟨2, ![2304, 512]⟩
abbrev S2304x704 : Shape := ⟨2, ![2304, 704]⟩
abbrev S8x704x256 : Shape := ⟨3, ![8, 704, 256]⟩
abbrev S384x256 : Shape := ⟨2, ![384, 256]⟩
abbrev S1x704x256 : Shape := ⟨3, ![1, 704, 256]⟩
abbrev S704x256 : Shape := ⟨2, ![704, 256]⟩

abbrev nBuf : Space → Nat
  | .hbm => 51
  | .vmem => 62
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048, .f32⟩
  | .hbm, ⟨3, _⟩ => ⟨S2048, .f32⟩
  | .hbm, ⟨4, _⟩ => ⟨S2048x2048, .bf16⟩
  | .hbm, ⟨5, _⟩ => ⟨S256x2048, .bf16⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S2048x2048, .bf16⟩
  | .hbm, ⟨10, _⟩ => ⟨S256x2048, .bf16⟩
  | .hbm, ⟨11, _⟩ => ⟨S_, .f32⟩
  | .hbm, ⟨12, _⟩ => ⟨S2x2048, .f32⟩
  | .hbm, ⟨13, _⟩ => ⟨S1x2048, .f32⟩
  | .hbm, ⟨14, _⟩ => ⟨S_, .f32⟩
  | .hbm, ⟨15, _⟩ => ⟨S8x2048, .f32⟩
  | .hbm, ⟨16, _⟩ => ⟨S1x2048, .f32⟩
  | .hbm, ⟨17, _⟩ => ⟨S_, .f32⟩
  | .hbm, ⟨18, _⟩ => ⟨S12x2048, .f32⟩
  | .hbm, ⟨19, _⟩ => ⟨S24x2048, .f32⟩
  | .hbm, ⟨20, _⟩ => ⟨S2304x2048, .f32⟩
  | .hbm, ⟨21, _⟩ => ⟨S2304x2048, .bf16⟩
  | .hbm, ⟨22, _⟩ => ⟨S2304x2048, .bf16⟩
  | .hbm, ⟨23, _⟩ => ⟨S5632x2048, .bf16⟩
  | .hbm, ⟨24, _⟩ => ⟨S8x704x2048, .bf16⟩
  | .hbm, ⟨25, _⟩ => ⟨S5632x2048, .bf16⟩
  | .hbm, ⟨26, _⟩ => ⟨S8x704x2048, .bf16⟩
  | .hbm, ⟨27, _⟩ => ⟨S8x704x2048, .bf16⟩
  | .hbm, ⟨28, _⟩ => ⟨S8x2304x704, .bf16⟩
  | .hbm, ⟨29, _⟩ => ⟨S8x2304x704, .bf16⟩
  | .hbm, ⟨30, _⟩ => ⟨S8x2304x704, .bf16⟩
  | .hbm, ⟨31, _⟩ => ⟨S2304x2048, .f32⟩
  | .hbm, ⟨32, _⟩ => ⟨S2304x2048, .f32⟩
  | .hbm, ⟨33, _⟩ => ⟨S8x704x2048, .bf16⟩
  | .hbm, ⟨34, _⟩ => ⟨S8x2304x704, .bf16⟩
  | .hbm, ⟨35, _⟩ => ⟨S8x2304x704, .bf16⟩
  | .hbm, ⟨36, _⟩ => ⟨S8x704x2048, .bf16⟩
  | .hbm, ⟨37, _⟩ => ⟨S8x704x2048, .bf16⟩
  | .hbm, ⟨38, _⟩ => ⟨S2304x2048, .f32⟩
  | .hbm, ⟨39, _⟩ => ⟨S8x704x2048, .f32⟩
  | .hbm, ⟨40, _⟩ => ⟨S5632x2048, .f32⟩
  | .hbm, ⟨41, _⟩ => ⟨S2048x5632, .f32⟩
  | .hbm, ⟨42, _⟩ => ⟨S8x704x2048, .f32⟩
  | .hbm, ⟨43, _⟩ => ⟨S5632x2048, .f32⟩
  | .hbm, ⟨44, _⟩ => ⟨S2048x5632, .f32⟩
  | .hbm, ⟨45, _⟩ => ⟨S8x704x2048, .f32⟩
  | .hbm, ⟨46, _⟩ => ⟨S5632x2048, .f32⟩
  | .hbm, ⟨47, _⟩ => ⟨S2048x2048, .f32⟩
  | .hbm, ⟨48, _⟩ => ⟨S256x2048, .f32⟩
  | .hbm, ⟨49, _⟩ => ⟨S2048x2048, .f32⟩
  | .hbm, ⟨50, _⟩ => ⟨S256x2048, .f32⟩
  | .local _ .vmem, ⟨0, _⟩ => ⟨S384x2048, .bf16⟩
  | .local _ .vmem, ⟨1, _⟩ => ⟨S384x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x384x704, .bf16⟩
  | .local _ .vmem, ⟨7, _⟩ => ⟨S1x384x704, .bf16⟩
  | .local _ .vmem, ⟨8, _⟩ => ⟨S1x384x704, .bf16⟩
  | .local _ .vmem, ⟨9, _⟩ => ⟨S1x384x704, .bf16⟩
  | .local _ .vmem, ⟨10, _⟩ => ⟨S1x384x704, .bf16⟩
  | .local _ .vmem, ⟨11, _⟩ => ⟨S1x384x704, .bf16⟩
  | .local _ .vmem, ⟨12, _⟩ => ⟨S8x384x704, .bf16⟩
  | .local _ .vmem, ⟨13, _⟩ => ⟨S8x384x704, .bf16⟩
  | .local _ .vmem, ⟨14, _⟩ => ⟨S8x704x512, .bf16⟩
  | .local _ .vmem, ⟨15, _⟩ => ⟨S8x704x512, .bf16⟩
  | .local _ .vmem, ⟨16, _⟩ => ⟨S384x512, .f32⟩
  | .local _ .vmem, ⟨17, _⟩ => ⟨S384x512, .f32⟩
  | .local _ .vmem, ⟨18, _⟩ => ⟨S24x512, .f32⟩
  | .local _ .vmem, ⟨19, _⟩ => ⟨S24x512, .f32⟩
  | .local _ .vmem, ⟨20, _⟩ => ⟨S384x512, .f32⟩
  | .local _ .vmem, ⟨21, _⟩ => ⟨S384x512, .f32⟩
  | .local _ .vmem, ⟨22, _⟩ => ⟨S384x512, .f32⟩
  | .local _ .vmem, ⟨23, _⟩ => ⟨S384x512, .f32⟩
  | .local _ .vmem, ⟨24, _⟩ => ⟨S1x2304x704, .bf16⟩
  | .local _ .vmem, ⟨25, _⟩ => ⟨S1x2304x704, .bf16⟩
  | .local _ .vmem, ⟨26, _⟩ => ⟨S2304x512, .bf16⟩
  | .local _ .vmem, ⟨27, _⟩ => ⟨S2304x512, .bf16⟩
  | .local _ .vmem, ⟨28, _⟩ => ⟨S1x704x512, .bf16⟩
  | .local _ .vmem, ⟨29, _⟩ => ⟨S1x704x512, .bf16⟩
  | .local _ .vmem, ⟨30, _⟩ => ⟨S384x2048, .bf16⟩
  | .local _ .vmem, ⟨31, _⟩ => ⟨S384x2048, .bf16⟩
  | .local _ .vmem, ⟨32, _⟩ => ⟨S1x704x2048, .bf16⟩
  | .local _ .vmem, ⟨33, _⟩ => ⟨S1x704x2048, .bf16⟩
  | .local _ .vmem, ⟨34, _⟩ => ⟨S1x384x704, .bf16⟩
  | .local _ .vmem, ⟨35, _⟩ => ⟨S1x384x704, .bf16⟩
  | .local _ .vmem, ⟨36, _⟩ => ⟨S1x384x704, .bf16⟩
  | .local _ .vmem, ⟨37, _⟩ => ⟨S1x384x704, .bf16⟩
  | .local _ .vmem, ⟨38, _⟩ => ⟨S1x384x704, .bf16⟩
  | .local _ .vmem, ⟨39, _⟩ => ⟨S1x384x704, .bf16⟩
  | .local _ .vmem, ⟨40, _⟩ => ⟨S1x384x704, .bf16⟩
  | .local _ .vmem, ⟨41, _⟩ => ⟨S1x384x704, .bf16⟩
  | .local _ .vmem, ⟨42, _⟩ => ⟨S2304x512, .bf16⟩
  | .local _ .vmem, ⟨43, _⟩ => ⟨S2304x512, .bf16⟩
  | .local _ .vmem, ⟨44, _⟩ => ⟨S1x2304x704, .bf16⟩
  | .local _ .vmem, ⟨45, _⟩ => ⟨S1x2304x704, .bf16⟩
  | .local _ .vmem, ⟨46, _⟩ => ⟨S1x2304x704, .bf16⟩
  | .local _ .vmem, ⟨47, _⟩ => ⟨S1x2304x704, .bf16⟩
  | .local _ .vmem, ⟨48, _⟩ => ⟨S1x704x512, .bf16⟩
  | .local _ .vmem, ⟨49, _⟩ => ⟨S1x704x512, .bf16⟩
  | .local _ .vmem, ⟨50, _⟩ => ⟨S1x704x512, .bf16⟩
  | .local _ .vmem, ⟨51, _⟩ => ⟨S1x704x512, .bf16⟩
  | .local _ .vmem, ⟨52, _⟩ => ⟨S8x384x704, .bf16⟩
  | .local _ .vmem, ⟨53, _⟩ => ⟨S8x384x704, .bf16⟩
  | .local _ .vmem, ⟨54, _⟩ => ⟨S8x704x256, .bf16⟩
  | .local _ .vmem, ⟨55, _⟩ => ⟨S8x704x256, .bf16⟩
  | .local _ .vmem, ⟨56, _⟩ => ⟨S8x384x704, .bf16⟩
  | .local _ .vmem, ⟨57, _⟩ => ⟨S8x384x704, .bf16⟩
  | .local _ .vmem, ⟨58, _⟩ => ⟨S8x704x256, .bf16⟩
  | .local _ .vmem, ⟨59, _⟩ => ⟨S8x704x256, .bf16⟩
  | .local _ .vmem, ⟨60, _⟩ => ⟨S384x256, .f32⟩
  | .local _ .vmem, ⟨61, _⟩ => ⟨S384x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg3_1 : Ref sig .tc := ⟨.vmem, 59, rfl⟩
abbrev cc5_stg4_0 : Ref sig .tc := ⟨.vmem, 60, rfl⟩
abbrev cc5_stg4_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x384x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![6, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x384x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x704x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S384x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S24x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S384x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S384x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2304x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2304x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x704x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S384x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x704x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x384x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x384x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x384x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x384x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S2304x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2304x704 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x2304x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x704x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x704x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![6, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S8x384x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S8x704x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S8x384x704 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S8x704x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S384x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]
-- ==== Ffn1ReferenceIdeal.lean ====
abbrev S2048x2048 : Shape := ⟨2, ![2048, 2048]⟩
abbrev S256x2048 : Shape := ⟨2, ![256, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S256x5632 : Shape := ⟨2, ![256, 5632]⟩
abbrev S1x2048 : Shape := ⟨2, ![1, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048, .f32⟩
  | .hbm, ⟨3, _⟩ => ⟨S2048, .f32⟩
  | .hbm, ⟨4, _⟩ => ⟨S2048x2048, .bf16⟩
  | .hbm, ⟨5, _⟩ => ⟨S256x2048, .bf16⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S2048x2048, .bf16⟩
  | .hbm, ⟨10, _⟩ => ⟨S256x2048, .bf16⟩
  | .hbm, ⟨11, _⟩ => ⟨S2048x2048, .f32⟩
  | .hbm, ⟨12, _⟩ => ⟨S256x2048, .f32⟩
  | .hbm, ⟨13, _⟩ => ⟨S2048x5632, .f32⟩
  | .hbm, ⟨14, _⟩ => ⟨S2048x5632, .f32⟩
  | .hbm, ⟨15, _⟩ => ⟨S5632x2048, .f32⟩
  | .hbm, ⟨16, _⟩ => ⟨S2048x2048, .f32⟩
  | .hbm, ⟨17, _⟩ => ⟨S256x2048, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S_, .f32⟩
  | .hbm, ⟨22, _⟩ => ⟨S2048x5632, .f32⟩
  | .hbm, ⟨23, _⟩ => ⟨S2048x5632, .f32⟩
  | .hbm, ⟨24, _⟩ => ⟨S_, .f32⟩
  | .hbm, ⟨25, _⟩ => ⟨S2048x5632, .f32⟩
  | .hbm, ⟨26, _⟩ => ⟨S2048x5632, .f32⟩
  | .hbm, ⟨27, _⟩ => ⟨S_, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x2048, .f32⟩
  | .hbm, ⟨35, _⟩ => ⟨S256x5632, .f32⟩
  | .hbm, ⟨36, _⟩ => ⟨S256x5632, .f32⟩
  | .hbm, ⟨37, _⟩ => ⟨S256x5632, .f32⟩
  | .hbm, ⟨38, _⟩ => ⟨S_, .f32⟩
  | .hbm, ⟨39, _⟩ => ⟨S256x5632, .f32⟩
  | .hbm, ⟨40, _⟩ => ⟨S256x5632, .f32⟩
  | .hbm, ⟨41, _⟩ => ⟨S_, .f32⟩
  | .hbm, ⟨42, _⟩ => ⟨S256x5632, .f32⟩
  | .hbm, ⟨43, _⟩ => ⟨S256x5632, .f32⟩
  | .hbm, ⟨44, _⟩ => ⟨S_, .f32⟩
  | .hbm, ⟨45, _⟩ => ⟨S256x5632, .f32⟩
  | .hbm, ⟨46, _⟩ => ⟨S256x5632, .f32⟩
  | .hbm, ⟨47, _⟩ => ⟨S256x5632, .f32⟩
  | .hbm, ⟨48, _⟩ => ⟨S256x5632, .f32⟩
  | .hbm, ⟨49, _⟩ => ⟨S256x5632, .f32⟩
  | .hbm, ⟨50, _⟩ => ⟨S256x5632, .f32⟩
  | .hbm, ⟨51, _⟩ => ⟨S256x2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S1x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S1x2048, .f32⟩
  | .hbm, ⟨63, _⟩ => ⟨S256x2048, .f32⟩
  | .hbm, ⟨64, _⟩ => ⟨S256x2048, .f32⟩
  | .hbm, ⟨65, _⟩ => ⟨S256x2048, .f32⟩
  | .hbm, ⟨66, _⟩ => ⟨S2048x5632, .f32⟩
  | .hbm, ⟨67, _⟩ => ⟨S5632x2048, .f32⟩
  | .hbm, ⟨68, _⟩ => ⟨S256x5632, .f32⟩
  | .hbm, ⟨69, _⟩ => ⟨S256x5632, .f32⟩
  | .hbm, ⟨70, _⟩ => ⟨S256x5632, .f32⟩
  | .hbm, ⟨71, _⟩ => ⟨S5632x2048, .f32⟩
  | .hbm, ⟨72, _⟩ => ⟨S2048x5632, .f32⟩
  | .hbm, ⟨73, _⟩ => ⟨S256x2048, .f32⟩
  | .hbm, ⟨74, _⟩ => ⟨S256x5632, .f32⟩
  | .hbm, ⟨75, _⟩ => ⟨S256x5632, .f32⟩
  | .hbm, ⟨76, _⟩ => ⟨S256x5632, .f32⟩
  | .hbm, ⟨77, _⟩ => ⟨S256x5632, .f32⟩
  | .hbm, ⟨78, _⟩ => ⟨S5632x2048, .f32⟩
  | .hbm, ⟨79, _⟩ => ⟨S2048x5632, .f32⟩
  | .hbm, ⟨80, _⟩ => ⟨S256x2048, .f32⟩
  | .hbm, ⟨81, _⟩ => ⟨S256x2048, .f32⟩
  | .hbm, ⟨82, _⟩ => ⟨S2048x5632, .f32⟩
  | .hbm, ⟨83, _⟩ => ⟨S5632x2048, .f32⟩
  | .hbm, ⟨84, _⟩ => ⟨S5632x2048, .f32⟩
  | .hbm, ⟨85, _⟩ => ⟨S2048x5632, .f32⟩
  | .hbm, ⟨86, _⟩ => ⟨S2048x5632, .f32⟩
  | .hbm, ⟨87, _⟩ => ⟨S2048x5632, .f32⟩
  | .hbm, ⟨88, _⟩ => ⟨S5632x2048, .f32⟩
  | .hbm, ⟨89, _⟩ => ⟨S2048x5632, .f32⟩
  | .hbm, ⟨90, _⟩ => ⟨S2048x5632, .f32⟩
  | .hbm, ⟨91, _⟩ => ⟨S2048x2048, .f32⟩
  | .hbm, ⟨92, _⟩ => ⟨S2048x5632, .f32⟩
  | .hbm, ⟨93, _⟩ => ⟨S2048x5632, .f32⟩
  | .hbm, ⟨94, _⟩ => ⟨S2048x5632, .f32⟩
  | .hbm, ⟨95, _⟩ => ⟨S2048x5632, .f32⟩
  | .hbm, ⟨96, _⟩ => ⟨S5632x2048, .f32⟩
  | .hbm, ⟨97, _⟩ => ⟨S2048x5632, .f32⟩
  | .hbm, ⟨98, _⟩ => ⟨S2048x5632, .f32⟩
  | .hbm, ⟨99, _⟩ => ⟨S2048x2048, .f32⟩
  | .hbm, ⟨100, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v8_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v8_1 : Ref sig .tc := ⟨.hbm, 30, rfl⟩
abbrev main_v8_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_v13_2 : Ref sig .tc := ⟨.hbm, 43, rfl⟩
abbrev main_call1_cst_1 : Ref sig .tc := ⟨.hbm, 44, rfl⟩
abbrev main_call1_v6 : Ref sig .tc := ⟨.hbm, 45, rfl⟩
abbrev main_call1_v7 : Ref sig .tc := ⟨.hbm, 46, rfl⟩
abbrev main_v13_1 : Ref sig .tc := ⟨.hbm, 47, rfl⟩
abbrev main_v13_0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_0 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩

abbrev nD : Nat := 1
abbrev τ : Topo := Topo.v7x

variable {F : FTy → Type} [FloatOps F]
-- ==== InProj.lean ====
abbrev S2048x2048 : Shape := ⟨2, ![2048, 2048]⟩
abbrev S256x2048 : Shape := ⟨2, ![256, 2048]⟩
abbrev S2048x8192 : Shape := ⟨2, ![2048, 8192]⟩
abbrev S256x2x1024 : Shape := ⟨3, ![256, 2, 1024]⟩
abbrev S2x256x1024 : Shape := ⟨3, ![2, 256, 1024]⟩
abbrev S_ : Shape := ⟨0, ![]⟩
abbrev S6x256x1024 : Shape := ⟨3, ![6, 256, 1024]⟩
abbrev S8x256x1024 : Shape := ⟨3, ![8, 256, 1024]⟩
abbrev S2048x8x1024 : Shape := ⟨3, ![2048, 8, 1024]⟩
abbrev S8x2048x1024 : Shape := ⟨3, ![8, 2048, 1024]⟩
abbrev S8x2304x1024 : Shape := ⟨3, ![8, 2304, 1024]⟩
abbrev S2304x2048 : Shape := ⟨2, ![2304, 2048]⟩
abbrev S2x2304x1024 : Shape := ⟨3, ![2, 2304, 1024]⟩
abbrev S384x2048 : Shape := ⟨2, ![384, 2048]⟩
abbrev S1x2048x1024 : Shape := ⟨3, ![1, 2048, 1024]⟩
abbrev S1x384x1024 : Shape := ⟨3, ![1, 384, 1024]⟩
abbrev S2048x1024 : Shape := ⟨2, ![2048, 1024]⟩
abbrev S384x1024 : Shape := ⟨2, ![384, 1024]⟩
abbrev S6x2048x1024 : Shape := ⟨3, ![6, 2048, 1024]⟩
abbrev S512x2048 : Shape := ⟨2, ![512, 2048]⟩
abbrev S1x512x1024 : Shape := ⟨3, ![1, 512, 1024]⟩
abbrev S512x1024 : Shape := ⟨2, ![512, 1024]⟩
abbrev S2304x512 : Shape := ⟨2, ![2304, 512]⟩
abbrev S1x2304x1024 : Shape := ⟨3, ![1, 2304, 1024]⟩
abbrev S2304x1024 : Shape := ⟨2, ![2304, 1024]⟩
abbrev S8x384x1024 : Shape := ⟨3, ![8, 384, 1024]⟩
abbrev S384x256 : Shape := ⟨2, ![384, 256]⟩
abbrev S1x256x1024 : Shape := ⟨3, ![1, 256, 1024]⟩
abbrev S256x1024 : Shape := ⟨2, ![256, 1024]⟩
abbrev S2x2048x1024 : Shape := ⟨3, ![2, 2048, 1024]⟩
abbrev S2048x2x1024 : Shape := ⟨3, ![2048, 2, 1024]⟩
abbrev S2048x6x1024 : Shape := ⟨3, ![2048, 6, 1024]⟩
abbrev S2048x6144 : Shape := ⟨2, ![2048, 6144]⟩

abbrev nBuf : Space → Nat
  | .hbm => 33
  | .vmem => 24
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S2048x8192, .bf16⟩
  | .hbm, ⟨3, _⟩ => ⟨S2048x8192, .bf16⟩
  | .hbm, ⟨4, _⟩ => ⟨S256x2048, .bf16⟩
  | .hbm, ⟨5, _⟩ => ⟨S256x2x1024, .bf16⟩
  | .hbm, ⟨6, _⟩ => ⟨S2x256x1024, .bf16⟩
  | .hbm, ⟨7, _⟩ => ⟨S_, .bf16⟩
  | .hbm, ⟨8, _⟩ => ⟨S6x256x1024, .bf16⟩
  | .hbm, ⟨9, _⟩ => ⟨S8x256x1024, .bf16⟩
  | .hbm, ⟨10, _⟩ => ⟨S2048x8x1024, .bf16⟩
  | .hbm, ⟨11, _⟩ => ⟨S8x2048x1024, .bf16⟩
  | .hbm, ⟨12, _⟩ => ⟨S8x2304x1024, .bf16⟩
  | .hbm, ⟨13, _⟩ => ⟨S2304x2048, .bf16⟩
  | .hbm, ⟨14, _⟩ => ⟨S2048x8x1024, .bf16⟩
  | .hbm, ⟨15, _⟩ => ⟨S8x2048x1024, .bf16⟩
  | .hbm, ⟨16, _⟩ => ⟨S2x2304x1024, .f32⟩
  | .hbm, ⟨17, _⟩ => ⟨S6x2048x1024, .f32⟩
  | .hbm, ⟨18, _⟩ => ⟨S8x2048x1024, .bf16⟩
  | .hbm, ⟨19, _⟩ => ⟨S2304x2048, .f32⟩
  | .hbm, ⟨20, _⟩ => ⟨S2x2048x1024, .f32⟩
  | .hbm, ⟨21, _⟩ => ⟨S2048x2x1024, .f32⟩
  | .hbm, ⟨22, _⟩ => ⟨S2048x2048, .f32⟩
  | .hbm, ⟨23, _⟩ => ⟨S2x256x1024, .f32⟩
  | .hbm, ⟨24, _⟩ => ⟨S256x2x1024, .f32⟩
  | .hbm, ⟨25, _⟩ => ⟨S256x2048, .f32⟩
  | .hbm, ⟨26, _⟩ => ⟨S2048x6x1024, .f32⟩
  | .hbm, ⟨27, _⟩ => ⟨S2048x6144, .f32⟩
  | .hbm, ⟨28, _⟩ => ⟨S2048x2048, .f32⟩
  | .hbm, ⟨29, _⟩ => ⟨S256x2048, .f32⟩
  | .hbm, ⟨30, _⟩ => ⟨S8x2048x1024, .f32⟩
  | .hbm, ⟨31, _⟩ => ⟨S2048x8x1024, .f32⟩
  | .hbm, ⟨32, _⟩ => ⟨S2048x8192, .f32⟩
  | .local _ .vmem, ⟨0, _⟩ => ⟨S384x2048, .bf16⟩
  | .local _ .vmem, ⟨1, _⟩ => ⟨S384x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x384x1024, .f32⟩
  | .local _ .vmem, ⟨5, _⟩ => ⟨S1x384x1024, .f32⟩
  | .local _ .vmem, ⟨6, _⟩ => ⟨S512x2048, .bf16⟩
  | .local _ .vmem, ⟨7, _⟩ => ⟨S512x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x512x1024, .f32⟩
  | .local _ .vmem, ⟨11, _⟩ => ⟨S1x512x1024, .f32⟩
  | .local _ .vmem, ⟨12, _⟩ => ⟨S2304x512, .bf16⟩
  | .local _ .vmem, ⟨13, _⟩ => ⟨S2304x512, .bf16⟩
  | .local _ .vmem, ⟨14, _⟩ => ⟨S1x2304x1024, .bf16⟩
  | .local _ .vmem, ⟨15, _⟩ => ⟨S1x2304x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S8x384x1024, .bf16⟩
  | .local _ .vmem, ⟨19, _⟩ => ⟨S8x384x1024, .bf16⟩
  | .local _ .vmem, ⟨20, _⟩ => ⟨S8x256x1024, .bf16⟩
  | .local _ .vmem, ⟨21, _⟩ => ⟨S8x256x1024, .bf16⟩
  | .local _ .vmem, ⟨22, _⟩ => ⟨S384x256, .f32⟩
  | .local _ .vmem, ⟨23, _⟩ => ⟨S384x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S2304x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2304x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![6, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S8x384x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S8x256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S384x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== InProjReferenceIdeal.lean ====
abbrev S2048x2048 : Shape := ⟨2, ![2048, 2048]⟩
abbrev S256x2048 : Shape := ⟨2, ![256, 2048]⟩
abbrev S2048x8192 : Shape := ⟨2, ![2048, 8192]⟩
abbrev S2048x6144 : Shape := ⟨2, ![2048, 6144]⟩
abbrev S_ : Shape := ⟨0, ![]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S2048x8192, .bf16⟩
  | .hbm, ⟨3, _⟩ => ⟨S2048x8192, .bf16⟩
  | .hbm, ⟨4, _⟩ => ⟨S256x2048, .bf16⟩
  | .hbm, ⟨5, _⟩ => ⟨S2048x2048, .f32⟩
  | .hbm, ⟨6, _⟩ => ⟨S256x2048, .f32⟩
  | .hbm, ⟨7, _⟩ => ⟨S2048x8192, .f32⟩
  | .hbm, ⟨8, _⟩ => ⟨S2048x8192, .f32⟩
  | .hbm, ⟨9, _⟩ => ⟨S256x2048, .f32⟩
  | .hbm, ⟨10, _⟩ => ⟨S2048x8192, .f32⟩
  | .hbm, ⟨11, _⟩ => ⟨S2048x2048, .f32⟩
  | .hbm, ⟨12, _⟩ => ⟨S256x2048, .f32⟩
  | .hbm, ⟨13, _⟩ => ⟨S2048x2048, .f32⟩
  | .hbm, ⟨14, _⟩ => ⟨S2048x6144, .f32⟩
  | .hbm, ⟨15, _⟩ => ⟨S2048x2048, .f32⟩
  | .hbm, ⟨16, _⟩ => ⟨S2048x2048, .f32⟩
  | .hbm, ⟨17, _⟩ => ⟨S256x2048, .f32⟩
  | .hbm, ⟨18, _⟩ => ⟨S_, .f32⟩
  | .hbm, ⟨19, _⟩ => ⟨S2048x8192, .f32⟩
  | .hbm, ⟨20, _⟩ => ⟨S8192x2048, .f32⟩
  | .hbm, ⟨21, _⟩ => ⟨S2048x8192, .f32⟩
  | .hbm, ⟨22, _⟩ => ⟨S2048x8192, .f32⟩
  | .hbm, ⟨23, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Glu.lean ====
abbrev S2048x2048 : Shape := ⟨2, ![2048, 2048]⟩
abbrev S2048x1024 : Shape := ⟨2, ![2048, 1024]⟩
abbrev S1024 : Shape := ⟨1, ![1024]⟩
abbrev S1024x1024 : Shape := ⟨2, ![1024, 1024]⟩
abbrev S2048x2x1024 : Shape := ⟨3, ![2048, 2, 1024]⟩
abbrev S2x2048x1024 : Shape := ⟨3, ![2, 2048, 1024]⟩
abbrev S1x1024 : Shape := ⟨2, ![1, 1024]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩
abbrev S1x512 : Shape := ⟨2, ![1, 512]⟩

abbrev nBuf : Space → Nat
  | .hbm => 15
  | .vmem => 23
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x1024, .bf16⟩
  | .hbm, ⟨5, _⟩ => ⟨S1024, .f32⟩
  | .hbm, ⟨6, _⟩ => ⟨S2048x2x1024, .f32⟩
  | .hbm, ⟨7, _⟩ => ⟨S2x2048x1024, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .hbm, ⟨14, _⟩ => ⟨S2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== GluReferenceIdeal.lean ====
abbrev S2048x2048 : Shape := ⟨2, ![2048, 2048]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x1024, .bf16⟩
  | .hbm, ⟨5, _⟩ => ⟨S1024, .f32⟩
  | .hbm, ⟨6, _⟩ => ⟨S1024x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OutProj.lean ====
abbrev S2048x2048 : Shape := ⟨2, ![2048, 2048]⟩
abbrev S2048 : Shape := ⟨1, ![2048]⟩
abbrev S_ : Shape := ⟨0, ![]⟩
abbrev S5x2048 : Shape := ⟨2, ![5, 2048]⟩
abbrev S1x2048 : Shape := ⟨2, ![1, 2048]⟩
abbrev S18x2048 : Shape := ⟨2, ![18, 2048]⟩
abbrev S24x2048 : Shape := ⟨2, ![24, 2048]⟩
abbrev S512x2048 : Shape := ⟨2, ![512, 2048]⟩
abbrev S2048x512 : Shape := ⟨2, ![2048, 512]⟩
abbrev S512x512 : Shape := ⟨2, ![512, 512]⟩
abbrev S24x512 : Shape := ⟨2, ![24, 512]⟩
abbrev S1x512 : Shape := ⟨2, ![1, 512]⟩

abbrev nBuf : Space → Nat
  | .hbm => 12
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048, .f32⟩
  | .hbm, ⟨4, _⟩ => ⟨S_, .f32⟩
  | .hbm, ⟨5, _⟩ => ⟨S5x2048, .f32⟩
  | .hbm, ⟨6, _⟩ => ⟨S1x2048, .f32⟩
  | .hbm, ⟨7, _⟩ => ⟨S_, .f32⟩
  | .hbm, ⟨8, _⟩ => ⟨S18x2048, .f32⟩
  | .hbm, ⟨9, _⟩ => ⟨S24x2048, .f32⟩
  | .hbm, ⟨10, _⟩ => ⟨S2048x2048, .f32⟩
  | .hbm, ⟨11, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S24x512, .f32⟩
  | .local _ .vmem, ⟨7, _⟩ => ⟨S24x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S24x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjReferenceIdeal.lean ====
abbrev S2048x2048 : Shape := ⟨2, ![2048, 2048]⟩
abbrev S2048 : Shape := ⟨1, ![2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Softmax.lean ====
/- The softmax and its derivative over the extended reals: the scores are real numbers, the weights are real and positive,
   and what the weights multiply may be any extended real. Nothing here mentions a program. -/
module

public import Idealize.ShloMosaic.PureOps.Ideal

@[expose] public section

noncomputable section

namespace Cert.Softmax

open Idealize.ShloMosaic

variable {ι : Type*}

/-! ### Sums of extended reals -/

/-- A sum of reals, taken among the extended reals, is the real sum. -/
theorem coe_sum (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A product of reals, taken among the extended reals, is the real product. -/
theorem mul_coe (a b : ℝ) : (a : EReal) * (b : EReal) = ((a * b : ℝ) : EReal) := (EReal.coe_mul a b).symm

/-- A nonnegative real factor goes through a sum of extended reals, on the right. -/
theorem sum_mul_coe {c : ℝ} (hc : 0 ≤ c) (s : Finset ι) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- Negation goes through a sum times a nonnegative real. -/
theorem neg_mul_coe (x : EReal) (c : ℝ) : -x * (c : EReal) = -(x * (c : EReal)) := EReal.neg_mul x c

/-- A difference of extended reals times a nonnegative real. -/
theorem sub_mul_coe {c : ℝ} (hc : 0 ≤ c) (x y : EReal) :
    (x - y) * (c : EReal) = x * (c : EReal) - y * (c : EReal) := by
  rw [sub_eq_add_neg, EReal.right_distrib_of_nonneg_of_ne_top (by exact_mod_cast hc) (EReal.coe_ne_top c), EReal.neg_mul,
    ← sub_eq_add_neg]

/-! ### A row's maximum is real -/

/-- The fold of `max` from `-∞` over a nonempty set of reals is a real. -/
theorem fold_max_real (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha _ ih =>
    obtain ⟨M, hM⟩ := ih
    refine ⟨max (f a) M, ?_⟩
    rw [Finset.cons_eq_insert, Finset.fold_insert ha, hM]
    exact (EReal.coe_strictMono.monotone.map_max).symm

/-! ### The weights -/

variable [Fintype ι]

/-- The sum of the exponentials of a row's scaled scores. -/
def total (σ : ℝ) (s : ι → ℝ) : ℝ := ∑ j, Real.exp (s j * σ)

/-- The softmax weight of entry `i` of a row of scores, the scores scaled by `σ`. -/
def weight (σ : ℝ) (s : ι → ℝ) (i : ι) : ℝ := Real.exp (s i * σ) / total σ s

theorem total_pos [Nonempty ι] (σ : ℝ) (s : ι → ℝ) : 0 < total σ s :=
  Finset.sum_pos (fun j _ => Real.exp_pos _) Finset.univ_nonempty

theorem weight_nonneg [Nonempty ι] (σ : ℝ) (s : ι → ℝ) (i : ι) : 0 ≤ weight σ s i :=
  div_nonneg (Real.exp_pos _).le (total_pos σ s).le

/-- The exponentials of the scores less a common shift sum to a positive real. -/
theorem shifted_pos [Nonempty ι] (σ M : ℝ) (s : ι → ℝ) : 0 < ∑ j, Real.exp (s j * σ - M) :=
  Finset.sum_pos (fun j _ => Real.exp_pos _) Finset.univ_nonempty

/-- A common shift of the scores leaves the weights as they are. -/
theorem weight_shift (σ M : ℝ) (s : ι → ℝ) (i : ι) :
    Real.exp (s i * σ - M) / ∑ j, Real.exp (s j * σ - M) = weight σ s i := by
  unfold weight total
  have h : ∀ j, Real.exp (s j * σ - M) = Real.exp (s j * σ) * Real.exp (-M) := fun j => by rw [← Real.exp_add]; ring_nf
  simp only [h, ← Finset.sum_mul]
  exact mul_div_mul_right _ _ (Real.exp_pos _).ne'

/-- A power of two whose exponent carries the factor `1 / log 2` is the exponential. -/
theorem exp2_scaled (x σ : ℝ) :
    Ideal.exp2 ((x : EReal) * ((σ * (Real.log 2)⁻¹ : ℝ) : EReal)) = ((Real.exp (x * σ) : ℝ) : EReal) := by
  rw [mul_coe, Ideal.exp2_coe]
  have h2 : Real.log 2 ≠ 0 := (Real.log_pos (by norm_num)).ne'
  congr 1
  show (2 : ℝ) ^ (x * (σ * (Real.log 2)⁻¹)) = _
  rw [Real.rpow_def_of_pos (by norm_num)]
  congr 1
  field_simp

/-- The weights as the product of an exponential with the reciprocal of the exponentials' sum, the scores shifted by
    their maximum before they are scaled, the exponentials taken to base two. -/
theorem weight_base_two [Nonempty ι] (σ : ℝ) (s : ι → ℝ) (i : ι) :
    Ideal.exp2 (((s i : EReal) - Finset.univ.fold max ⊥ (fun j => (s j : EReal))) * ((σ * (Real.log 2)⁻¹ : ℝ) : EReal))
      * Ideal.div 1 (∑ j, Ideal.exp2 (((s j : EReal) - Finset.univ.fold max ⊥ (fun j => (s j : EReal)))
          * ((σ * (Real.log 2)⁻¹ : ℝ) : EReal)))
      = (weight σ s i : EReal) := by
  obtain ⟨M, hM⟩ := fold_max_real Finset.univ Finset.univ_nonempty s
  have h : ∀ j, Ideal.exp2 (((s j : EReal) - (M : EReal)) * ((σ * (Real.log 2)⁻¹ : ℝ) : EReal))
      = ((Real.exp (s j * σ - M * σ) : ℝ) : EReal) := fun j => by
    rw [← EReal.coe_sub, exp2_scaled, sub_mul]
  simp only [hM, h]
  rw [coe_sum, Ideal.div_coe (shifted_pos σ (M * σ) s).ne', one_mul, mul_coe, ← weight_shift σ (M * σ) s i]
  congr 1
  ring

/-! ### The gradient of one row

`c` is the gradient with respect to the weights, any extended reals; the gradient with respect to the scaled scores is
`w i * (c i - ∑ j, w j * c j)`. -/

/-- The gradient with respect to a row's scaled scores. -/
def dscore (σ : ℝ) (s : ι → ℝ) (c : ι → EReal) (i : ι) : EReal :=
  (weight σ s i : EReal) * (c i - ∑ j, (weight σ s j : EReal) * c j)

/-- The gradient as the derivative of a quotient: the exponentials `e j = exp (s j σ - M)` and their sum `D`, the
    gradient of the quotient in the exponential (`c / D`) and in the sum (`-∑ c e / D²`), both times `e`. -/
theorem dscore_quotient [Nonempty ι] (σ M : ℝ) (s : ι → ℝ) (c : ι → EReal) (i : ι) :
    (Ideal.div (c i) ((∑ j, Real.exp (s j * σ - M) : ℝ) : EReal)
        + -(∑ j, c j * Ideal.div 1 (((∑ j, Real.exp (s j * σ - M) : ℝ) : EReal) * ((∑ j, Real.exp (s j * σ - M) : ℝ) : EReal))
              * ((Real.exp (s j * σ - M) : ℝ) : EReal)))
      * ((Real.exp (s i * σ - M) : ℝ) : EReal)
      = dscore σ s c i := by
  have hD := shifted_pos σ M s
  have hw : ∀ j, weight σ s j = Real.exp (s j * σ - M) / ∑ j, Real.exp (s j * σ - M) := fun j => (weight_shift σ M s j).symm
  unfold dscore
  simp only [hw]
  generalize (∑ j, Real.exp (s j * σ - M)) = D at hD ⊢
  rw [Ideal.div_coe hD.ne', mul_coe, Ideal.div_coe (mul_pos hD hD).ne', one_mul,
    EReal.right_distrib_of_nonneg_of_ne_top (by exact_mod_cast (Real.exp_pos _).le) (EReal.coe_ne_top _), mul_assoc, mul_coe,
    EReal.neg_mul, sum_mul_coe (Real.exp_pos _).le, ← sub_eq_add_neg,
    mul_comm ((Real.exp (s i * σ - M) / D : ℝ) : EReal), sub_mul_coe (div_nonneg (Real.exp_pos _).le hD.le),
    sum_mul_coe (div_nonneg (Real.exp_pos _).le hD.le)]
  congr 1
  · congr 2; ring
  · refine Finset.sum_congr rfl fun j _ => ?_
    rw [mul_assoc, mul_assoc, mul_coe, mul_coe, mul_comm _ (c j), mul_assoc, mul_coe]
    congr 2
    field_simp

end Cert.Softmax

end
-- ==== Proof.Spec.lean ====
/- The gradients of attention as mathematics, for one sequence: sixteen query heads of 2048 rows over four key heads of
   2304 rows, head size 128. Query head `n` attends to key head `n / 4`. The scores are supposed real. -/
module

public import proofs.«01_k».proof.Proof.Softmax

@[expose] public section

noncomputable section

namespace Cert.Spec

open Idealize.ShloMosaic

/-- The four arrays of one sequence: queries, keys, values and the gradient of the result, whose row holds the heads side
    by side. -/
structure Seq where
  q : Fin 16 → Fin 2048 → Fin 128 → EReal
  k : Fin 4 → Fin 2304 → Fin 128 → EReal
  v : Fin 4 → Fin 2304 → Fin 128 → EReal
  d : Fin 2048 → Fin 2048 → EReal

/-- The factor of the scores: the binary fraction next to `1 / √128`. -/
def scale : ℝ := 11863283 / 134217728

theorem scale_nonneg : 0 ≤ scale := by unfold scale; norm_num

/-- Query head `4 g + r`: member `r` of the group that attends to key head `g`. -/
def member (g r : Fin 4) : Fin 16 := ⟨4 * g.val + r.val, by have := g.isLt; have := r.isLt; omega⟩

/-- Column `e` of head `n` in a row of the result's gradient. -/
def col (n : Fin 16) (e : Fin 128) : Fin 2048 := ⟨n.val * 128 + e.val, by have := n.isLt; have := e.isLt; omega⟩

/-- The key head that query head `n` attends to. -/
def grpOf (n : Fin 16) : Fin 4 := ⟨n.val / 4, by have := n.isLt; omega⟩

/-- The place of query head `n` in its group. -/
def memOf (n : Fin 16) : Fin 4 := ⟨n.val % 4, by omega⟩

theorem member_of (n : Fin 16) : member (grpOf n) (memOf n) = n := Fin.ext (by show 4 * (n.val / 4) + n.val % 4 = n.val; omega)
theorem grpOf_member (g r : Fin 4) : grpOf (member g r) = g := Fin.ext (by have := r.isLt; show (4 * g.val + r.val) / 4 = g.val; omega)
theorem memOf_member (g r : Fin 4) : memOf (member g r) = r := Fin.ext (by have := r.isLt; show (4 * g.val + r.val) % 4 = r.val; omega)

namespace Seq

variable (a : Seq) (g r : Fin 4)

/-- The score of query row `l` of head `(g, r)` against key row `s`, before it is scaled. -/
def score (l : Fin 2048) (s : Fin 2304) : EReal := ∑ e, a.k g s e * a.q (member g r) l e

/-- The scores are real. -/
def IsReal : Prop := ∀ g r l s, a.score g r l s = ((a.score g r l s).toReal : EReal)

/-- Row `l` of the scores, as reals. -/
def row (l : Fin 2048) (s : Fin 2304) : ℝ := (a.score g r l s).toReal

/-- The gradient with respect to the weights. -/
def dweight (l : Fin 2048) (s : Fin 2304) : EReal := ∑ e, a.v g s e * a.d l (col (member g r) e)

/-- The softmax weights. -/
def weight (l : Fin 2048) (s : Fin 2304) : ℝ := Softmax.weight scale (a.row g r l) s

/-- The gradient with respect to the scaled scores. -/
def dscore (l : Fin 2048) (s : Fin 2304) : EReal := Softmax.dscore scale (a.row g r l) (a.dweight g r l) s

/-- The gradient of the queries. -/
def gradQ (l : Fin 2048) (e : Fin 128) : EReal := ∑ s, a.dscore g r l s * (scale : EReal) * a.k g s e

/-- The gradient of the keys: over the group's heads and the query rows. -/
def gradK (s : Fin 2304) (e : Fin 128) : EReal := ∑ l, ∑ r, a.dscore g r l s * (scale : EReal) * a.q (member g r) l e

/-- The gradient of the values. -/
def gradV (s : Fin 2304) (e : Fin 128) : EReal := ∑ l, ∑ r, (a.weight g r l s : EReal) * a.d l (col (member g r) e)

end Seq

/-- The 2048 query rows as 8 blocks of 256. -/
theorem sum_rows {M : Type*} [AddCommMonoid M] (f : Fin 2048 → M) :
    ∑ l, f l = ∑ i : Fin 8, ∑ t : Fin 256, f ⟨256 * i.val + t.val, by have := i.isLt; have := t.isLt; omega⟩ := by
  rw [← Finset.sum_product' (s := Finset.univ) (t := Finset.univ)
    (f := fun (i : Fin 8) (t : Fin 256) => f ⟨256 * i.val + t.val, by have := i.isLt; have := t.isLt; omega⟩)]
  refine (Fintype.sum_equiv (finProdFinEquiv (m := 8) (n := 256)) _ _ fun x => ?_).symm
  refine congrArg f (Fin.ext ?_)
  show 256 * x.1.val + x.2.val = x.2.val + 256 * x.1.val
  omega

end Cert.Spec

end
-- ==== Proof.Head.lean ====
/- What the kernel computes for one query head and one block of 256 query rows, as vector operations: the weights, the
   gradient with respect to the scores, and the three products that this head adds to the gradients. Each is then read,
   over the extended reals, at an index. -/
module

public import proofs.«01_k».proof.Proof.Gen.KernelIdeal
public import proofs.«01_k».proof.Proof.Spec
public import Idealize.ShloMosaic.Lib.Pointwise

@[expose] public section

set_option maxRecDepth 16384

noncomputable section

namespace Cert.Head

open Idealize.ShloMosaic Idealize.SL.Sem Cert.KernelIdeal Cert.KernelIdeal.Gen

variable {F : FTy → Type} [FloatOps F] [Named F]

/-! ### The vector operations -/

/-- The weights of one head, keys down and queries across: the exponential of the shifted scores times the reciprocal
    of the exponentials' sum over the keys. -/
def probs (k : FVec F S2304x128 .bf16) (q : FVec F S256x128 .bf16) : FVec F S2304x256 .f32 :=
  let st := matmul dot_S2304x128_S256x128_S2304x256_1_1_0_0_n_n none k q (constant S2304x256 .f32 0x00000000#32)
  let mx := broadcastTo S2304x256 (shapeCast S1x256 (multiReduction .maximumf [0] S256 st 0xFF800000#32 reduces_S2304x256_S256 (.inl rfl) rfl)
    shapeCasts_S256_S1x256) broadcasts_S1x256_S2304x256
  let e := exp2 (mulf (subf st mx) (broadcast S2304x256 (Named.named κ "scale_log2e" 0x3E0293EE#32 : F .f32)))
  let tot := shapeCast S1x256 (multiReduction .add [0] S256 e 0x00000000#32 reduces_S2304x256_S256 (.inl rfl) rfl) shapeCasts_S256_S1x256
  mulf e (broadcastTo S2304x256 (divf (broadcast S1x256 (Scalar.ofBits .f32 0x3F800000#32 : F .f32)) tot) broadcasts_S1x256_S2304x256)

/-- The gradient with respect to the scores of one head, from the weights `p` and the gradient `c` with respect to them. -/
def dscores (p c : FVec F S2304x256 .f32) : FVec F S2304x256 .bf16 :=
  let delta := broadcastTo S2304x256 (shapeCast S1x256 (multiReduction .add [0] S256 (mulf p c) 0x00000000#32 reduces_S2304x256_S256 (.inl rfl) rfl)
    shapeCasts_S256_S1x256) broadcasts_S1x256_S2304x256
  truncf .bf16 (mulf p (subf c delta)) bitsLt_bf16_f32

/-- The gradient with respect to the weights of one head: the values against the result's gradient. -/
def dprobs (v : FVec F S2304x128 .bf16) (d : FVec F S256x128 .bf16) : FVec F S2304x256 .f32 :=
  matmul dot_S2304x128_S256x128_S2304x256_1_1_0_0_n_n none v d (constant S2304x256 .f32 0x00000000#32)

/-- The gradient with respect to the scores of one head, from the head's arrays. -/
def ds (k v : FVec F S2304x128 .bf16) (q d : FVec F S256x128 .bf16) : FVec F S2304x256 .bf16 :=
  dscores (probs k q) (dprobs v d)

/-- What one head gives the gradient of its queries. -/
def dq (k v : FVec F S2304x128 .bf16) (q d : FVec F S256x128 .bf16) : FVec F S256x128 .f32 :=
  mulf (matmul dot_S2304x256_S2304x128_S256x128_0_0_1_1_n_n none (ds k v q d) k (constant S256x128 .f32 0x00000000#32))
    (broadcast S256x128 (Scalar.ofBits .f32 0x3DB504F3#32 : F .f32))

/-- What one head gives the gradient of the keys. -/
def dk (k v : FVec F S2304x128 .bf16) (q d : FVec F S256x128 .bf16) : FVec F S2304x128 .f32 :=
  mulf (matmul dot_S2304x256_S256x128_S2304x128_1_0_0_1_n_n none (ds k v q d) q (constant S2304x128 .f32 0x00000000#32))
    (broadcast S2304x128 (Scalar.ofBits .f32 0x3DB504F3#32 : F .f32))

/-- What one head gives the gradient of the values. -/
def dv (k : FVec F S2304x128 .bf16) (q d : FVec F S256x128 .bf16) : FVec F S2304x128 .f32 :=
  matmul dot_S2304x256_S256x128_S2304x128_1_0_0_1_n_n none (truncf .bf16 (probs k q) bitsLt_bf16_f32) d (constant S2304x128 .f32 0x00000000#32)

/-! ### Read at an index, over the extended reals -/

open Cert.Spec (scale)

theorem named_scale_log2e :
    (Named.named (F := Ideal) κ "scale_log2e" (φ := .f32) 0x3E0293EE#32) = ((scale * (Real.log 2)⁻¹ : ℝ) : EReal) :=
  IdealRules.named_const.ideal_named_scalar _ _ _ _ rfl

/-- The word of `-∞`. -/
theorem ofBits_neg_inf : Ideal.ofBits .f32 0xFF800000#32 = (⊥ : EReal) := by
  simp [Ideal.ofBits, Ideal.ieee]

/-- The word of `∞`. -/
theorem ofBits_inf : Ideal.ofBits .f32 0x7F800000#32 = (⊤ : EReal) := by
  simp [Ideal.ofBits, Ideal.ieee]

/-- The word of one. -/
theorem ofBits_one : Ideal.ofBits .f32 0x3F800000#32 = (1 : EReal) := by
  simp [Ideal.ofBits, Ideal.ieee, -EReal.coe_mul]; norm_num

/-- The word of the scores' factor. -/
theorem ofBits_scale : Ideal.ofBits .f32 0x3DB504F3#32 = (scale : EReal) := by
  simp [Ideal.ofBits, Ideal.ieee, scale, -EReal.coe_mul]; norm_num

/-- The score of query row `t` against key `s`. -/
def score (k : FVec Ideal S2304x128 .bf16) (q : FVec Ideal S256x128 .bf16) (t : Fin 256) (s : Fin 2304) : EReal :=
  ∑ e : Fin 128, k (ix2 s e) * q (ix2 t e)

theorem probs_apply (k : FVec Ideal S2304x128 .bf16) (q : FVec Ideal S256x128 .bf16) (sr : Fin 256 → Fin 2304 → ℝ)
    (h : ∀ t s, score k q t s = (sr t s : EReal)) (t : Fin 256) (s : Fin 2304) :
    probs k q (ix2 s t) = (Softmax.weight scale (sr t) s : EReal) := by
  rw [← Softmax.weight_base_two scale (sr t) s]
  unfold probs
  simp only [← h, score, ← named_scale_log2e]
  pointwise
  rw [ofBits_neg_inf]
  rfl

variable (k v : FVec Ideal S2304x128 .bf16) (q d : FVec Ideal S256x128 .bf16) (sr : Fin 256 → Fin 2304 → ℝ)

theorem ds_apply (h : ∀ t s, score k q t s = (sr t s : EReal)) (t : Fin 256) (s : Fin 2304) :
    ds k v q d (ix2 s t) = Softmax.dscore scale (sr t) (score v d t) s := by
  unfold ds dscores dprobs Softmax.dscore
  pointwise
  simp only [probs_apply k q sr h]
  rfl

theorem dq_apply (h : ∀ t s, score k q t s = (sr t s : EReal)) (t : Fin 256) (e : Fin 128) :
    dq k v q d (ix2 t e)
      = (∑ s : Fin 2304, Softmax.dscore scale (sr t) (score v d t) s * k (ix2 s e)) * (scale : EReal) := by
  unfold dq
  pointwise
  simp only [ds_apply k v q d sr h, ofBits_scale]

theorem dk_apply (h : ∀ t s, score k q t s = (sr t s : EReal)) (s : Fin 2304) (e : Fin 128) :
    dk k v q d (ix2 s e)
      = (∑ t : Fin 256, Softmax.dscore scale (sr t) (score v d t) s * q (ix2 t e)) * (scale : EReal) := by
  unfold dk
  pointwise
  simp only [ds_apply k v q d sr h, ofBits_scale]

theorem dv_apply (h : ∀ t s, score k q t s = (sr t s : EReal)) (s : Fin 2304) (e : Fin 128) :
    dv k q d (ix2 s e) = ∑ t : Fin 256, (Softmax.weight scale (sr t) s : EReal) * d (ix2 t e) := by
  unfold dv
  pointwise
  simp only [probs_apply k q sr h]

end Cert.Head

end
-- ==== Proof.Planes.lean ====
/- What the kernel computes on one grid point's blocks: four query heads, each as in the module on one head, the heads' shares
   of the key and value gradients added up. The blocks are functions of whole arrays here; no run is mentioned. -/
module

public import proofs.«01_k».proof.Proof.Head
public import Idealize.ShloMosaic.Lib.Pipeline.Value
public import Idealize.ShloMosaic.Lib.Pipeline.ValueKit.Stack
public import Idealize.ShloMosaic.Lib.Pipeline.CanonAppend

@[expose] public section

set_option maxRecDepth 16384

noncomputable section

namespace Cert.Block

open Idealize.ShloMosaic Idealize.ShloMosaic.TcCoe Idealize.SL.Sem Cert.KernelIdeal Cert.KernelIdeal.Gen

variable {F : FTy → Type} [FloatOps F] [Named F]

/-- A block of keys or values without its leading unit axis. -/
abbrev mat (x : Vec F S1x2304x128 .bf16) : FVec F S2304x128 .bf16 := shapeCast S2304x128 x shapeCasts_S1x2304x128_S2304x128

/-- Plane `n` of a block of queries. -/
def qPlane (x : Vec F S4x256x128 .bf16) (n : ℕ) (hn : n < 4) : Vec F S1x256x128 .bf16 := fun j => x (ix3 ⟨n, hn⟩ (j 1) (j 2))

/-- Head `h` of a block of queries. -/
abbrev qHead (x : Vec F S4x256x128 .bf16) (h : Fin 4) : FVec F S256x128 .bf16 :=
  shapeCast S256x128 (qPlane x h.val h.isLt) shapeCasts_S1x256x128_S256x128

/-- Columns `n` to `n + 127` of a block of the result's gradient. -/
def dCols (x : Vec F S256x512 .bf16) (n : ℕ) (hn : n + 128 ≤ 512) : FVec F S256x128 .bf16 := fun j =>
  x (ix2 (j 0) ⟨n + (j 1).val, lt_of_lt_of_le (Nat.add_lt_add_left (j 1).isLt n) hn⟩)

/-- Head `h` of a block of the result's gradient, where a row holds the heads side by side. -/
abbrev dHead (x : Vec F S256x512 .bf16) (h : Fin 4) : FVec F S256x128 .bf16 :=
  shapeCast S256x128 (dCols x (h.val * 128) (by have := h.isLt; omega)) shapeCasts_S256x128_S256x128

/-- The block of the queries' gradient: one head over the other. -/
def dqBlock (x0 : Vec F S4x256x128 .bf16) (x1 x2 : Vec F S1x2304x128 .bf16) (x3 : Vec F S256x512 .bf16) : Vec F S4x256x128 .f32 :=
  stackAlong0 fun h : Fin 4 => Head.dq (mat x1) (mat x2) (qHead x0 h) (dHead x3 h)

/-- The four heads' share of the keys' gradient. -/
def dkSum (x0 : Vec F S4x256x128 .bf16) (x1 x2 : Vec F S1x2304x128 .bf16) (x3 : Vec F S256x512 .bf16) : FVec F S2304x128 .f32 :=
  addf (addf (addf (Head.dk (mat x1) (mat x2) (qHead x0 0) (dHead x3 0)) (Head.dk (mat x1) (mat x2) (qHead x0 1) (dHead x3 1)))
    (Head.dk (mat x1) (mat x2) (qHead x0 2) (dHead x3 2))) (Head.dk (mat x1) (mat x2) (qHead x0 3) (dHead x3 3))

/-- The four heads' share of the values' gradient. -/
def dvSum (x0 : Vec F S4x256x128 .bf16) (x1 : Vec F S1x2304x128 .bf16) (x3 : Vec F S256x512 .bf16) : FVec F S2304x128 .f32 :=
  addf (addf (addf (Head.dv (mat x1) (qHead x0 0) (dHead x3 0)) (Head.dv (mat x1) (qHead x0 1) (dHead x3 1)))
    (Head.dv (mat x1) (qHead x0 2) (dHead x3 2))) (Head.dv (mat x1) (qHead x0 3) (dHead x3 3))

/-- A share with a leading unit axis: what the first point of a key head leaves. -/
abbrev start (s : FVec F S2304x128 .f32) : Vec F S1x2304x128 .f32 := shapeCast S1x2304x128 s shapeCasts_S2304x128_S1x2304x128

/-- A share added to what the block held: what every later point of a key head leaves. -/
abbrev more (x : Vec F S1x2304x128 .f32) (s : FVec F S2304x128 .f32) : Vec F S1x2304x128 .f32 :=
  shapeCast S1x2304x128 (addf (shapeCast S2304x128 x shapeCasts_S1x2304x128_S2304x128) s) shapeCasts_S2304x128_S1x2304x128

theorem hz3 : (![0, 0, 0] : Fin 3 → Nat) = fun _ => 0 := funext fun a => by fin_cases a <;> rfl

/-- A load of head `n` of a block of queries. -/
theorem q_load (x : Vec F S4x256x128 .bf16) (n : ℕ) (inb : ∀ a, (![n, 0, 0] : Fin 3 → ℕ) a + (![1, 256, 128] : Fin 3 → ℕ) a ≤ S4x256x128.size a) :
    View.ld x (Rect.unit ![n, 0, 0] ![1, 256, 128] inb) = qPlane x n (inb 0) := by
  funext j
  unfold qPlane View.ld
  refine congrArg x (funext fun a => Fin.ext ?_)
  fin_cases a
  · have : (j 0).val < 1 := (j 0).isLt
    show n + 1 * (j 0).val = n
    omega
  · show 0 + 1 * (j 1).val = (j 1).val
    omega
  · show 0 + 1 * (j 2).val = (j 2).val
    omega

/-- A load of columns `n` to `n + 127` of a block of the result's gradient. -/
theorem d_load (x : Vec F S256x512 .bf16) (n : ℕ) (inb : ∀ a, (![0, n] : Fin 2 → ℕ) a + (![256, 128] : Fin 2 → ℕ) a ≤ S256x512.size a) :
    View.ld x (Rect.unit ![0, n] ![256, 128] inb) = dCols x n (inb 1) := by
  funext j
  unfold dCols View.ld
  refine congrArg x (funext fun a => Fin.ext ?_)
  fin_cases a
  · show 0 + 1 * (j 0).val = (j 0).val
    omega
  · show n + 1 * (j 1).val = n + (j 1).val
    omega

/-- Four planes stored into a block, the last head first, leave the planes one over the other. -/
theorem canon_planes (f : Fin 4 → FVec F S256x128 .f32) (c : S256x128.ShapeCasts S1x256x128)
    (i0 i1 i2 i3) (h : ∀ y : S4x256x128.Idx, ∃ p ∈ ([⟨Rect.unit ![3, 0, 0] ![1, 256, 128] i3, shapeCast S1x256x128 (f 3) c⟩,
        ⟨Rect.unit ![2, 0, 0] ![1, 256, 128] i2, shapeCast S1x256x128 (f 2) c⟩,
        ⟨Rect.unit ![1, 0, 0] ![1, 256, 128] i1, shapeCast S1x256x128 (f 1) c⟩,
        ⟨Rect.unit ![0, 0, 0] ![1, 256, 128] i0, shapeCast S1x256x128 (f 0) c⟩] : List (View.Piece (Elt F) S4x256x128 .f32)), y ∈ p.1.set) :
    View.canon ([⟨Rect.unit ![3, 0, 0] ![1, 256, 128] i3, shapeCast S1x256x128 (f 3) c⟩,
        ⟨Rect.unit ![2, 0, 0] ![1, 256, 128] i2, shapeCast S1x256x128 (f 2) c⟩,
        ⟨Rect.unit ![1, 0, 0] ![1, 256, 128] i1, shapeCast S1x256x128 (f 1) c⟩,
        ⟨Rect.unit ![0, 0, 0] ![1, 256, 128] i0, shapeCast S1x256x128 (f 0) c⟩] : List (View.Piece (Elt F) S4x256x128 .f32))
      = stackAlong0 f := by
  funext y
  refine (congrArg (fun l => View.canon l y) (List.append_nil _).symm).trans
    (View.canon_append_of_pieces (Val := Elt F) (e := .f32) (stackAlong0 f) [] _ ?_ y (h y))
  intro p hp x
  simp only [List.mem_cons, List.not_mem_nil, or_false] at hp
  rcases hp with rfl | rfl | rfl | rfl
  · exact stack_piece_emb f 3 c _ i3 rfl (fun a => by fin_cases a <;> rfl) x
  · exact stack_piece_emb f 2 c _ i2 rfl (fun a => by fin_cases a <;> rfl) x
  · exact stack_piece_emb f 1 c _ i1 rfl (fun a => by fin_cases a <;> rfl) x
  · exact stack_piece_emb f 0 c _ i0 rfl (fun a => by fin_cases a <;> rfl) x

end Cert.Block

end
-- ==== Proof.Block.lean ====
/- The body's run, read: at the first point of a key head the gradient blocks are the four heads' shares, at a later point
   the shares are added to what the blocks of the keys' and values' gradients held. -/
module

public import proofs.«01_k».proof.Proof.Gen.KernelIdeal.Frame
public import proofs.«01_k».proof.Proof.Planes

@[expose] public section

set_option maxRecDepth 16384

noncomputable section

namespace Cert.Block

open Idealize.ShloMosaic Idealize.ShloMosaic.TcCoe Idealize.SL.Sem Cert.KernelIdeal Cert.KernelIdeal.Gen

variable {F : FTy → Type} [FloatOps F] [Named F]

section Run
variable (c : Dev nD) (i : grid0.Coords) (a0 : Memref sig .tc .vmem S4x256x128 .bf16) (h0 : a0.IsWhole)
  (a1 : Memref sig .tc .vmem S1x2304x128 .bf16) (h1 : a1.IsWhole) (a2 : Memref sig .tc .vmem S1x2304x128 .bf16) (h2 : a2.IsWhole)
  (a3 : Memref sig .tc .vmem S256x512 .bf16) (h3 : a3.IsWhole) (a4 : Memref sig .tc .vmem S4x256x128 .f32) (h4 : a4.IsWhole)
  (a5 : Memref sig .tc .vmem S1x2304x128 .f32) (h5 : a5.IsWhole) (a6 : Memref sig .tc .vmem S1x2304x128 .f32) (h6 : a6.IsWhole)
  (x0 : Vec F S4x256x128 .bf16) (x1 x2 : Vec F S1x2304x128 .bf16) (x3 : Vec F S256x512 .bf16)

/-- At the first point of a key head the keys' gradient block is the four heads' share. -/
theorem out_A_5 (hc0 : cond0_0 i) (hc1 : ¬cond0_1 i) :
    out0_A_5 c i a0 h0 a1 h1 a2 h2 a3 h3 a4 h4 a5 h5 a6 h6 hc0 hc1 x0 x1 x2 x3 = start (dkSum x0 x1 x2 x3) := by
  unfold out0_A_5
  rw [View.read_writes_eq_canon _ _ _ (cover0_A_5 c i a0 h0 a1 h1 a2 h2 a3 h3 a4 h4 a5 h5 a6 h6 hc0 hc1 x0 x1 x2 x3)]
  unfold kernelRun0_A
  dsimp only
  sl_unfold_words
  rw [View.canon_unit_zero hz3]
  simp only [View.readAt_eq_ld, h0.read_unread, h1.read_unread, h2.read_unread, h3.read_unread, View.ld_unit_zero (S := S1x2304x128) hz3,
    q_load, d_load]
  rfl

/-- At the first point of a key head the values' gradient block is the four heads' share. -/
theorem out_A_6 (hc0 : cond0_0 i) (hc1 : ¬cond0_1 i) :
    out0_A_6 c i a0 h0 a1 h1 a2 h2 a3 h3 a4 h4 a5 h5 a6 h6 hc0 hc1 x0 x1 x2 x3 = start (dvSum x0 x1 x3) := by
  unfold out0_A_6
  rw [View.read_writes_eq_canon _ _ _ (cover0_A_6 c i a0 h0 a1 h1 a2 h2 a3 h3 a4 h4 a5 h5 a6 h6 hc0 hc1 x0 x1 x2 x3)]
  unfold kernelRun0_A
  dsimp only
  sl_unfold_words
  rw [View.canon_unit_zero hz3]
  simp only [View.readAt_eq_ld, h0.read_unread, h1.read_unread, h2.read_unread, h3.read_unread, View.ld_unit_zero (S := S1x2304x128) hz3,
    q_load, d_load]
  rfl

/-- At a later point the keys' gradient block has the four heads' share added. -/
theorem out_B_5 (hc0 : ¬cond0_0 i) (hc1 : cond0_1 i) (xo5 xo6 : Vec F S1x2304x128 .f32) :
    out0_B_5 c i a0 h0 a1 h1 a2 h2 a3 h3 a4 h4 a5 h5 a6 h6 hc0 hc1 x0 x1 x2 x3 xo5 xo6 = more xo5 (dkSum x0 x1 x2 x3) := by
  unfold out0_B_5
  rw [View.read_writes_eq_canon _ _ _ (cover0_B_5 c i a0 h0 a1 h1 a2 h2 a3 h3 a4 h4 a5 h5 a6 h6 hc0 hc1 x0 x1 x2 x3 xo5 xo6)]
  unfold kernelRun0_B
  dsimp only
  sl_unfold_words
  rw [View.canon_unit_zero hz3]
  simp only [View.readAt_eq_ld, h0.read_unread, h1.read_unread, h2.read_unread, h3.read_unread, h5.read_unread, h6.read_unread,
    View.ld_unit_zero (S := S1x2304x128) hz3, q_load, d_load]
  rfl

/-- At a later point the values' gradient block has the four heads' share added. -/
theorem out_B_6 (hc0 : ¬cond0_0 i) (hc1 : cond0_1 i) (xo5 xo6 : Vec F S1x2304x128 .f32) :
    out0_B_6 c i a0 h0 a1 h1 a2 h2 a3 h3 a4 h4 a5 h5 a6 h6 hc0 hc1 x0 x1 x2 x3 xo5 xo6 = more xo6 (dvSum x0 x1 x3) := by
  unfold out0_B_6
  rw [View.read_writes_eq_canon _ _ _ (cover0_B_6 c i a0 h0 a1 h1 a2 h2 a3 h3 a4 h4 a5 h5 a6 h6 hc0 hc1 x0 x1 x2 x3 xo5 xo6)]
  unfold kernelRun0_B
  dsimp only
  sl_unfold_words
  rw [View.canon_unit_zero hz3]
  simp only [View.readAt_eq_ld, h0.read_unread, h1.read_unread, h2.read_unread, h3.read_unread, h5.read_unread, h6.read_unread,
    View.ld_unit_zero (S := S1x2304x128) hz3, q_load, d_load]
  rfl

/-- At the first point of a key head the queries' gradient block is the four heads'. -/
theorem out_A_4 (hc0 : cond0_0 i) (hc1 : ¬cond0_1 i) :
    out0_A_4 c i a0 h0 a1 h1 a2 h2 a3 h3 a4 h4 a5 h5 a6 h6 hc0 hc1 x0 x1 x2 x3 = dqBlock x0 x1 x2 x3 := by
  have hcov := cover0_A_4 c i a0 h0 a1 h1 a2 h2 a3 h3 a4 h4 a5 h5 a6 h6 hc0 hc1 x0 x1 x2 x3
  unfold out0_A_4
  rw [View.read_writes_eq_canon _ _ _ hcov]
  revert hcov
  unfold kernelRun0_A
  dsimp only
  sl_unfold_words
  simp only [View.readAt_eq_ld, h0.read_unread, h1.read_unread, h2.read_unread, h3.read_unread, View.ld_unit_zero (S := S1x2304x128) hz3,
    q_load, d_load]
  exact fun hcov => canon_planes (fun h : Fin 4 => Head.dq (mat x1) (mat x2) (qHead x0 h) (dHead x3 h)) shapeCasts_S256x128_S1x256x128 _ _ _ _ hcov

/-- At a later point of a key head the queries' gradient block is the four heads'. -/
theorem out_B_4 (hc0 : ¬cond0_0 i) (hc1 : cond0_1 i) (xo5 xo6 : Vec F S1x2304x128 .f32) :
    out0_B_4 c i a0 h0 a1 h1 a2 h2 a3 h3 a4 h4 a5 h5 a6 h6 hc0 hc1 x0 x1 x2 x3 xo5 xo6 = dqBlock x0 x1 x2 x3 := by
  have hcov := cover0_B_4 c i a0 h0 a1 h1 a2 h2 a3 h3 a4 h4 a5 h5 a6 h6 hc0 hc1 x0 x1 x2 x3 xo5 xo6
  unfold out0_B_4
  rw [View.read_writes_eq_canon _ _ _ hcov]
  revert hcov
  unfold kernelRun0_B
  dsimp only
  sl_unfold_words
  simp only [View.readAt_eq_ld, h0.read_unread, h1.read_unread, h2.read_unread, h3.read_unread, h5.read_unread, h6.read_unread,
    View.ld_unit_zero (S := S1x2304x128) hz3,
    q_load, d_load]
  exact fun hcov => canon_planes (fun h : Fin 4 => Head.dq (mat x1) (mat x2) (qHead x0 h) (dHead x3 h)) shapeCasts_S256x128_S1x256x128 _ _ _ _ hcov

end Run

end Cert.Block

end
-- ==== Proof.Point.lean ====
/- The kernel's blocks at grid point `t`, cut out of the whole arrays of one sequence, and what the body computes on them: the
   gradients of attention at the rows and heads that the point works on. -/
module

public import proofs.«01_k».proof.Proof.Planes

@[expose] public section

set_option maxRecDepth 16384

noncomputable section

namespace Cert.Point

open Idealize.ShloMosaic Idealize.ShloMosaic.TcCoe Idealize.SL.Sem Cert.KernelIdeal Cert.KernelIdeal.Gen Cert.Block
open Cert.Spec (Seq member col scale scale_nonneg)

/-! ### The grid -/

/-- The key head of point `t`. -/
def grp (t : Fin 32) : Fin 4 := ⟨t.val / 8, by have := t.isLt; omega⟩

/-- The block of query rows of point `t`. -/
def blk (t : Fin 32) : Fin 8 := ⟨t.val % 8, by omega⟩

/-- The point of key head `g` and row block `i`. -/
def pt (g : Fin 4) (i : Fin 8) : Fin 32 := ⟨8 * g.val + i.val, by have := g.isLt; have := i.isLt; omega⟩

/-- Row `r` of row block `i`. -/
def row (i : Fin 8) (r : Fin 256) : Fin 2048 := ⟨256 * i.val + r.val, by have := i.isLt; have := r.isLt; omega⟩

section Blocks
variable {F : FTy → Type} [FloatOps F] [Named F]

/-- The block of queries. -/
def qBlk (x : Vec F S16x2048x128 .bf16) (t : Fin 32) : Vec F S4x256x128 .bf16 := fun j =>
  x (ix3 (member (grp t) (j 0)) (row (blk t) (j 1)) (j 2))

/-- The block of keys, or of values. -/
def kBlk (x : Vec F S4x2304x128 .bf16) (t : Fin 32) : Vec F S1x2304x128 .bf16 := fun j => x (ix3 (grp t) (j 1) (j 2))

/-- Column `x` of the block of the result's gradient: the columns of four heads. -/
def cols (t : Fin 32) (x : Fin 512) : Fin 2048 := ⟨512 * (grp t).val + x.val, by have := (grp t).isLt; have := x.isLt; omega⟩

/-- The block of the result's gradient. -/
def dBlk (x : Vec F S2048x2048 .bf16) (t : Fin 32) : Vec F S256x512 .bf16 := fun j => x (ix2 (row (blk t) (j 0)) (cols t (j 1)))

end Blocks

/-! ### Read over the extended reals -/

/-- The arrays of one sequence. -/
def seq (q : S16x2048x128.Idx → EReal) (k v : S4x2304x128.Idx → EReal) (d : S2048x2048.Idx → EReal) : Seq where
  q n l e := q (ix3 n l e)
  k g s e := k (ix3 g s e)
  v g s e := v (ix3 g s e)
  d l x := d (ix2 l x)

/-- The gradient of the queries, as an array. -/
def resQ (a : Seq) : Vec Ideal S16x2048x128 .f32 := fun i => a.gradQ (Spec.grpOf (i 0)) (Spec.memOf (i 0)) (i 1) (i 2)

theorem resQ_member (a : Seq) (g r : Fin 4) (l : Fin 2048) (e : Fin 128) : resQ a (ix3 (member g r) l e) = a.gradQ g r l e := by
  show a.gradQ (Spec.grpOf (member g r)) (Spec.memOf (member g r)) l e = _
  rw [Spec.grpOf_member, Spec.memOf_member]

/-- The gradient of the keys, as an array. -/
def resK (a : Seq) : Vec Ideal S4x2304x128 .f32 := fun i => a.gradK (i 0) (i 1) (i 2)

/-- The gradient of the values, as an array. -/
def resV (a : Seq) : Vec Ideal S4x2304x128 .f32 := fun i => a.gradV (i 0) (i 1) (i 2)

variable (q : Vec Ideal S16x2048x128 .bf16) (k v : Vec Ideal S4x2304x128 .bf16) (d : Vec Ideal S2048x2048 .bf16) (t : Fin 32)

theorem mat_apply (s : Fin 2304) (e : Fin 128) : mat (kBlk k t) (ix2 s e) = k (ix3 (grp t) s e) := by
  unfold kBlk
  pointwise

theorem qHead_apply (h : Fin 4) (r : Fin 256) (e : Fin 128) :
    qHead (qBlk q t) h (ix2 r e) = q (ix3 (member (grp t) h) (row (blk t) r) e) := by
  unfold qHead qPlane qBlk
  pointwise

theorem dHead_apply (h : Fin 4) (r : Fin 256) (e : Fin 128) :
    dHead (dBlk d t) h (ix2 r e) = d (ix2 (row (blk t) r) (col (member (grp t) h) e)) := by
  unfold dHead dCols dBlk
  pointwise
  congr 2
  unfold cols col member
  refine Fin.ext ?_
  dsimp
  omega

theorem score_q (h : Fin 4) (r : Fin 256) (s : Fin 2304) :
    Head.score (mat (kBlk k t)) (qHead (qBlk q t) h) r s = (seq q k v d).score (grp t) h (row (blk t) r) s := by
  unfold Head.score Seq.score
  simp only [mat_apply, qHead_apply]
  rfl

theorem score_d (h : Fin 4) (r : Fin 256) :
    Head.score (mat (kBlk v t)) (dHead (dBlk d t) h) r = (seq q k v d).dweight (grp t) h (row (blk t) r) := by
  funext s
  unfold Head.score Seq.dweight
  simp only [mat_apply, dHead_apply]
  rfl

variable (hr : (seq q k v d).IsReal)
include hr

theorem score_real (h : Fin 4) (r : Fin 256) (s : Fin 2304) :
    Head.score (mat (kBlk k t)) (qHead (qBlk q t) h) r s = ((seq q k v d).row (grp t) h (row (blk t) r) s : EReal) :=
  (score_q q k v d t h r s).trans (hr _ _ _ _)

/-- The queries' gradient block. -/
theorem dqBlock_apply (h : Fin 4) (r : Fin 256) (e : Fin 128) :
    dqBlock (qBlk q t) (kBlk k t) (kBlk v t) (dBlk d t) (ix3 h r e) = (seq q k v d).gradQ (grp t) h (row (blk t) r) e := by
  have hp : dqBlock (qBlk q t) (kBlk k t) (kBlk v t) (dBlk d t) (ix3 h r e)
      = Head.dq (mat (kBlk k t)) (mat (kBlk v t)) (qHead (qBlk q t) h) (dHead (dBlk d t) h) (ix2 r e) := by
    unfold dqBlock stackAlong0
    exact congrArg _ (funext fun a => by fin_cases a <;> rfl)
  rw [hp, Head.dq_apply _ _ _ _ _ (score_real q k v d t hr h) r e]
  rw [Softmax.sum_mul_coe scale_nonneg]
  refine Finset.sum_congr rfl fun s _ => ?_
  rw [score_d q k v d, mat_apply, mul_right_comm]
  rfl

/-- One point's share of the keys' gradient. -/
theorem dkSum_apply (s : Fin 2304) (e : Fin 128) :
    dkSum (qBlk q t) (kBlk k t) (kBlk v t) (dBlk d t) (ix2 s e)
      = ∑ r : Fin 256, ∑ h : Fin 4, (seq q k v d).dscore (grp t) h (row (blk t) r) s * (scale : EReal)
          * (seq q k v d).q (member (grp t) h) (row (blk t) r) e := by
  have one : ∀ h : Fin 4, Head.dk (mat (kBlk k t)) (mat (kBlk v t)) (qHead (qBlk q t) h) (dHead (dBlk d t) h) (ix2 s e)
      = ∑ r : Fin 256, (seq q k v d).dscore (grp t) h (row (blk t) r) s * (scale : EReal)
          * (seq q k v d).q (member (grp t) h) (row (blk t) r) e := fun h => by
    rw [Head.dk_apply _ _ _ _ _ (score_real q k v d t hr h) s e, Softmax.sum_mul_coe scale_nonneg]
    refine Finset.sum_congr rfl fun r _ => ?_
    rw [score_d q k v d, qHead_apply, mul_right_comm]
    rfl
  rw [Finset.sum_comm, Fin.sum_univ_four, ← one 0, ← one 1, ← one 2, ← one 3]
  rfl

/-- One point's share of the values' gradient. -/
theorem dvSum_apply (s : Fin 2304) (e : Fin 128) :
    dvSum (qBlk q t) (kBlk k t) (dBlk d t) (ix2 s e)
      = ∑ r : Fin 256, ∑ h : Fin 4, ((seq q k v d).weight (grp t) h (row (blk t) r) s : EReal)
          * (seq q k v d).d (row (blk t) r) (col (member (grp t) h) e) := by
  have one : ∀ h : Fin 4, Head.dv (mat (kBlk k t)) (qHead (qBlk q t) h) (dHead (dBlk d t) h) (ix2 s e)
      = ∑ r : Fin 256, ((seq q k v d).weight (grp t) h (row (blk t) r) s : EReal)
          * (seq q k v d).d (row (blk t) r) (col (member (grp t) h) e) := fun h => by
    rw [Head.dv_apply _ _ _ _ (score_real q k v d t hr h) s e]
    refine Finset.sum_congr rfl fun r _ => ?_
    rw [dHead_apply]
    rfl
  rw [Finset.sum_comm, Fin.sum_univ_four, ← one 0, ← one 1, ← one 2, ← one 3]
  rfl

end Cert.Point

end
-- ==== Proof.Array.lean ====
/- What the kernel's three result arrays hold after the run on one device, over the extended reals: the gradients of attention on the
   device's sequence. -/
module

public import proofs.«01_k».proof.Proof.Gen.KernelIdeal.Value
public import proofs.«01_k».proof.Proof.Block
public import proofs.«01_k».proof.Proof.Point

@[expose] public section

set_option maxRecDepth 16384

noncomputable section

namespace Cert.Array

open Idealize.ShloMosaic Idealize.ShloMosaic.TcCoe Idealize.SL.Sem Cert.KernelIdeal Cert.KernelIdeal.Gen Cert.Block Cert.Point
open Idealize.ShloMosaic.Pipeline (Dat)
open Cert.Spec (Seq member col)

/-! ### The input blocks -/

theorem pt_lt (t : Fin cfg0.N) : t.val < 32 := lt_of_lt_of_eq t.isLt N_0

/-- A point as one of 32. -/
def pn (t : Fin cfg0.N) : Fin 32 := ⟨t.val, pt_lt t⟩

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
theorem idx4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)
theorem idx5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)
theorem idx6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

section Blocks
variable {F : FTy → Type} [FloatOps F] [Named F] (m : (ℓ : Loc nD τ sig) → Buf (Elt F) ℓ) (c : Dev nD) (t : Fin cfg0.N)

theorem iblk0 : iblk m c 0 t = qBlk (m ((c : Thread nD τ).loc main_arg0)) (pn t) := by
  rw [← V_main_arg0 m c]
  obtain ⟨h0, h1, h2⟩ := idx0 t
  refine funext fun j => congrArg (V m c main_arg0) (funext fun a => Fin.ext ?_)
  fin_cases a
  · show win0_0.index t 0 * 4 + 1 * (j 0).val = 4 * (t.val / 8) + (j 0).val
    rw [h0]; omega
  · show win0_0.index t 1 * 256 + 1 * (j 1).val = 256 * (t.val % 8) + (j 1).val
    rw [h1]; omega
  · show win0_0.index t 2 * 128 + 1 * (j 2).val = (j 2).val
    rw [h2]; omega

theorem iblk1 : iblk m c 1 t = kBlk (m ((c : Thread nD τ).loc main_arg1)) (pn t) := by
  rw [← V_main_arg1 m c]
  obtain ⟨h0, h1, h2⟩ := idx1 t
  refine funext fun j => congrArg (V m c main_arg1) (funext fun a => Fin.ext ?_)
  have hj : (j 0).val < 1 := (j 0).isLt
  fin_cases a
  · show win0_1.index t 0 * 1 + 1 * (j 0).val = t.val / 8
    rw [h0]; omega
  · show win0_1.index t 1 * 2304 + 1 * (j 1).val = (j 1).val
    rw [h1]; omega
  · show win0_1.index t 2 * 128 + 1 * (j 2).val = (j 2).val
    rw [h2]; omega

theorem iblk2 : iblk m c 2 t = kBlk (m ((c : Thread nD τ).loc main_arg2)) (pn t) := by
  rw [← V_main_arg2 m c]
  obtain ⟨h0, h1, h2⟩ := idx2 t
  refine funext fun j => congrArg (V m c main_arg2) (funext fun a => Fin.ext ?_)
  have hj : (j 0).val < 1 := (j 0).isLt
  fin_cases a
  · show win0_2.index t 0 * 1 + 1 * (j 0).val = t.val / 8
    rw [h0]; omega
  · show win0_2.index t 1 * 2304 + 1 * (j 1).val = (j 1).val
    rw [h1]; omega
  · show win0_2.index t 2 * 128 + 1 * (j 2).val = (j 2).val
    rw [h2]; omega

theorem iblk3 : iblk m c 3 t = dBlk (m ((c : Thread nD τ).loc main_arg3)) (pn t) := by
  rw [← V_main_arg3 m c]
  obtain ⟨h0, h1⟩ := idx3 t
  refine funext fun j => congrArg (V m c main_arg3) (funext fun a => Fin.ext ?_)
  fin_cases a
  · show win0_3.index t 0 * 256 + 1 * (j 0).val = 256 * (t.val % 8) + (j 0).val
    rw [h0]; omega
  · show win0_3.index t 1 * 512 + 1 * (j 1).val = 512 * (t.val / 8) + (j 1).val
    rw [h1]; omega

end Blocks

/-! ### What the blocks hold after each point -/

section Outs
variable (m : (ℓ : Loc nD τ sig) → Buf (Elt Ideal) ℓ) (c : Dev nD)

/-- The device's sequence. -/
abbrev arr : Seq := seq (m ((c : Thread nD τ).loc main_arg0)) (m ((c : Thread nD τ).loc main_arg1)) (m ((c : Thread nD τ).loc main_arg2))
  (m ((c : Thread nD τ).loc main_arg3))

variable (hr : (arr m c).IsReal)

theorem outs4 (t : Fin cfg0.N) :
    (outsAt0 m c t.val t.isLt).1 = dqBlock (qBlk (m ((c : Thread nD τ).loc main_arg0)) (pn t)) (kBlk (m ((c : Thread nD τ).loc main_arg1)) (pn t))
      (kBlk (m ((c : Thread nD τ).loc main_arg2)) (pn t)) (dBlk (m ((c : Thread nD τ).loc main_arg3)) (pn t)) := by
  by_cases h : t.val % 8 = 0
  · rw [outsAt0_A m c t h (by omega)]
    dsimp only
    rw [out_A_4, iblk0, iblk1, iblk2, iblk3]
  · rw [outsAt0_B m c t h (by omega)]
    dsimp only
    rw [out_B_4, iblk0, iblk1, iblk2, iblk3]

/-- Point `p`'s share of the keys' gradient. -/
def shareK (p : ℕ) : FVec Ideal S2304x128 .f32 := if h : p < 32 then
    dkSum (qBlk (m ((c : Thread nD τ).loc main_arg0)) ⟨p, h⟩) (kBlk (m ((c : Thread nD τ).loc main_arg1)) ⟨p, h⟩)
      (kBlk (m ((c : Thread nD τ).loc main_arg2)) ⟨p, h⟩) (dBlk (m ((c : Thread nD τ).loc main_arg3)) ⟨p, h⟩)
  else fun _ => 0

/-- Point `p`'s share of the values' gradient. -/
def shareV (p : ℕ) : FVec Ideal S2304x128 .f32 := if h : p < 32 then
    dvSum (qBlk (m ((c : Thread nD τ).loc main_arg0)) ⟨p, h⟩) (kBlk (m ((c : Thread nD τ).loc main_arg1)) ⟨p, h⟩)
      (dBlk (m ((c : Thread nD τ).loc main_arg3)) ⟨p, h⟩)
  else fun _ => 0

theorem start_apply (x : FVec Ideal S2304x128 .f32) (s : Fin 2304) (e : Fin 128) : start x (ix3 0 s e) = x (ix2 s e) := by
  unfold start
  pointwise

theorem more_apply (b : Vec Ideal S1x2304x128 .f32) (x : FVec Ideal S2304x128 .f32) (s : Fin 2304) (e : Fin 128) :
    more b x (ix3 0 s e) = b (ix3 0 s e) + x (ix2 s e) := by
  unfold more
  pointwise

theorem outs5_A (t : Fin cfg0.N) (h : t.val % 8 = 0) : (outsAt0 m c t.val t.isLt).2.1 = start (shareK m c t.val) := by
  rw [outsAt0_A m c t h (by omega), shareK, dif_pos (pt_lt t)]
  dsimp only
  rw [out_A_5, iblk0, iblk1, iblk2, iblk3]
  rfl

theorem outs6_A (t : Fin cfg0.N) (h : t.val % 8 = 0) : (outsAt0 m c t.val t.isLt).2.2 = start (shareV m c t.val) := by
  rw [outsAt0_A m c t h (by omega), shareV, dif_pos (pt_lt t)]
  dsimp only
  rw [out_A_6, iblk0, iblk1, iblk3]
  rfl

theorem outs5_B (t : Fin cfg0.N) (h : ¬t.val % 8 = 0) : (outsAt0 m c t.val t.isLt).2.1
    = more (outsAt0 m c (t.val - 1) (lt_of_le_of_lt (Nat.sub_le _ _) t.isLt)).2.1 (shareK m c t.val) := by
  rw [outsAt0_B m c t h (by omega), shareK, dif_pos (pt_lt t)]
  dsimp only
  rw [out_B_5, iblk0, iblk1, iblk2, iblk3]
  rfl

theorem outs6_B (t : Fin cfg0.N) (h : ¬t.val % 8 = 0) : (outsAt0 m c t.val t.isLt).2.2
    = more (outsAt0 m c (t.val - 1) (lt_of_le_of_lt (Nat.sub_le _ _) t.isLt)).2.2 (shareV m c t.val) := by
  rw [outsAt0_B m c t h (by omega), shareV, dif_pos (pt_lt t)]
  dsimp only
  rw [out_B_6, iblk0, iblk1, iblk3]
  rfl

/-- After point `n` the keys' gradient block holds the sum of the shares of its key head's points so far. -/
theorem outs5 (s : Fin 2304) (e : Fin 128) : ∀ (n : ℕ) (hn : n < cfg0.N),
    (outsAt0 m c n hn).2.1 (ix3 0 s e) = ∑ i ∈ Finset.range (n % 8 + 1), shareK m c (8 * (n / 8) + i) (ix2 s e)
  | n, hn => by
    by_cases h : n % 8 = 0
    · rw [outs5_A m c ⟨n, hn⟩ h, start_apply, h, Finset.sum_range_one, Nat.add_zero, show 8 * (n / 8) = n by omega]
    · obtain ⟨n, rfl⟩ : ∃ k, n = k + 1 := ⟨n - 1, by omega⟩
      rw [outs5_B m c ⟨n + 1, hn⟩ h, more_apply]
      refine (congrArg (· + _) (outs5 s e n (by omega))).trans ?_
      rw [show (n + 1) % 8 = n % 8 + 1 by omega, show (n + 1) / 8 = n / 8 by omega, Finset.sum_range_succ _ (n % 8 + 1),
        show 8 * (n / 8) + (n % 8 + 1) = n + 1 by omega]

/-- The same for the values' gradient block. -/
theorem outs6 (s : Fin 2304) (e : Fin 128) : ∀ (n : ℕ) (hn : n < cfg0.N),
    (outsAt0 m c n hn).2.2 (ix3 0 s e) = ∑ i ∈ Finset.range (n % 8 + 1), shareV m c (8 * (n / 8) + i) (ix2 s e)
  | n, hn => by
    by_cases h : n % 8 = 0
    · rw [outs6_A m c ⟨n, hn⟩ h, start_apply, h, Finset.sum_range_one, Nat.add_zero, show 8 * (n / 8) = n by omega]
    · obtain ⟨n, rfl⟩ : ∃ k, n = k + 1 := ⟨n - 1, by omega⟩
      rw [outs6_B m c ⟨n + 1, hn⟩ h, more_apply]
      refine (congrArg (· + _) (outs6 s e n (by omega))).trans ?_
      rw [show (n + 1) % 8 = n % 8 + 1 by omega, show (n + 1) / 8 = n / 8 by omega, Finset.sum_range_succ _ (n % 8 + 1),
        show 8 * (n / 8) + (n % 8 + 1) = n + 1 by omega]

/-! ### The arrays -/

include hr

/-- The shares of a key head's eight points add up to the gradient of its keys. -/
theorem sum_shareK (g : Fin 4) (s : Fin 2304) (e : Fin 128) :
    ∑ i ∈ Finset.range 8, shareK m c (8 * g.val + i) (ix2 s e) = (arr m c).gradK g s e := by
  rw [Finset.sum_range (n := 8), Seq.gradK, Spec.sum_rows]
  refine Finset.sum_congr rfl fun i _ => ?_
  have hp : 8 * g.val + i.val < 32 := by have := g.isLt; have := i.isLt; omega
  have hg : grp ⟨8 * g.val + i.val, hp⟩ = g := Fin.ext (by have := i.isLt; show (8 * g.val + i.val) / 8 = g.val; omega)
  have hb : blk ⟨8 * g.val + i.val, hp⟩ = i := Fin.ext (by have := i.isLt; show (8 * g.val + i.val) % 8 = i.val; omega)
  rw [shareK, dif_pos hp, dkSum_apply _ _ _ _ _ hr, hg, hb]
  rfl

/-- The shares of a key head's eight points add up to the gradient of its values. -/
theorem sum_shareV (g : Fin 4) (s : Fin 2304) (e : Fin 128) :
    ∑ i ∈ Finset.range 8, shareV m c (8 * g.val + i) (ix2 s e) = (arr m c).gradV g s e := by
  rw [Finset.sum_range (n := 8), Seq.gradV, Spec.sum_rows]
  refine Finset.sum_congr rfl fun i _ => ?_
  have hp : 8 * g.val + i.val < 32 := by have := g.isLt; have := i.isLt; omega
  have hg : grp ⟨8 * g.val + i.val, hp⟩ = g := Fin.ext (by have := i.isLt; show (8 * g.val + i.val) / 8 = g.val; omega)
  have hb : blk ⟨8 * g.val + i.val, hp⟩ = i := Fin.ext (by have := i.isLt; show (8 * g.val + i.val) % 8 = i.val; omega)
  rw [shareV, dif_pos hp, dvSum_apply _ _ _ _ _ hr, hg, hb]
  rfl

/-- The queries' gradient after the run. -/
theorem final4 : (dats m 0 c).arrAt 4 cfg0.N = resQ (arr m c) := by
  refine (dats m 0 c).arrAt_eq_of_cover 4 (resQ (arr m c)) (fun t hf => ?_) fun i => ?_
  · rw [Value.flushed4, outs4]
    obtain ⟨h0, h1, h2⟩ := idx4 t
    funext (j : S4x256x128.Idx)
    refine Eq.trans (b := resQ (arr m c) (ix3 (member (grp (pn t)) (j 0)) (row (blk (pn t)) (j 1)) (j 2))) ?_
      (congrArg (resQ (arr m c)) (funext fun a => Fin.ext ?_))
    · rw [eq_ix3 j]
      exact (dqBlock_apply _ _ _ _ _ hr _ _ _).trans (resQ_member _ _ _ _ _).symm
    · fin_cases a
      · show 4 * (t.val / 8) + (j 0).val = win0_4.index t 0 * 4 + 1 * (j 0).val
        rw [h0]; omega
      · show 256 * (t.val % 8) + (j 1).val = win0_4.index t 1 * 256 + 1 * (j 1).val
        rw [h1]; omega
      · show (j 2).val = win0_4.index t 2 * 128 + 1 * (j 2).val
        rw [h2]; omega
  · have i0 : (i 0).val < 16 := (i 0).isLt
    have i1 : (i 1).val < 2048 := (i 1).isLt
    have i2 : (i 2).val < 128 := (i 2).isLt
    have ht : 8 * ((i 0).val / 4) + (i 1).val / 256 < cfg0.N := lt_of_lt_of_eq (b := 32) (by omega) N_0.symm
    obtain ⟨t, hv⟩ : ∃ t : Fin cfg0.N, t.val = 8 * ((i 0).val / 4) + (i 1).val / 256 := ⟨⟨_, ht⟩, rfl⟩
    obtain ⟨h0, h1, h2⟩ := idx4 t
    refine ⟨t, flush0_4 t, ?_⟩
    show i ∈ ((View.whole main_v1_0).slice (win0_4.rect t)).set
    rw [View.set_slice_whole, Rect.mem_set_unit]
    intro a
    match a with
    | ⟨0, _⟩ =>
      show win0_4.index t 0 * 4 ≤ (i 0 : Nat) ∧ (i 0 : Nat) < win0_4.index t 0 * 4 + 4
      rw [h0]; omega
    | ⟨1, _⟩ =>
      show win0_4.index t 1 * 256 ≤ (i 1 : Nat) ∧ (i 1 : Nat) < win0_4.index t 1 * 256 + 256
      rw [h1]; omega
    | ⟨2, _⟩ =>
      show win0_4.index t 2 * 128 ≤ (i 2 : Nat) ∧ (i 2 : Nat) < win0_4.index t 2 * 128 + 128
      rw [h2]; omega

/-- The keys' gradient after the run. -/
theorem final5 : (dats m 0 c).arrAt 5 cfg0.N = resK (arr m c) := by
  refine (dats m 0 c).arrAt_eq_of_cover 5 (resK (arr m c)) (fun t hf => ?_) fun i => ?_
  · have h7 := (flush0_5 t).mp hf
    rw [Value.flushed5]
    obtain ⟨h0, h1, h2⟩ := idx5 t
    funext (j : S1x2304x128.Idx)
    have hj : (j 0).val < 1 := (j 0).isLt
    refine Eq.trans (b := resK (arr m c) (ix3 (grp (pn t)) (j 1) (j 2))) ?_ (congrArg (resK (arr m c)) (funext fun a => Fin.ext ?_))
    · rw [eq_ix3 j, show @Eq (Fin 1) (j 0) 0 from Subsingleton.elim _ _]
      refine (outs5 m c (j 1) (j 2) t.val t.isLt).trans ?_
      rw [h7]
      exact sum_shareK m c hr (grp (pn t)) (j 1) (j 2)
    · fin_cases a
      · show t.val / 8 = win0_5.index t 0 * 1 + 1 * (j 0).val
        rw [h0]; omega
      · show (j 1).val = win0_5.index t 1 * 2304 + 1 * (j 1).val
        rw [h1]; omega
      · show (j 2).val = win0_5.index t 2 * 128 + 1 * (j 2).val
        rw [h2]; omega
  · have i0 : (i 0).val < 4 := (i 0).isLt
    have i1 : (i 1).val < 2304 := (i 1).isLt
    have i2 : (i 2).val < 128 := (i 2).isLt
    have ht : 8 * (i 0).val + 7 < cfg0.N := lt_of_lt_of_eq (b := 32) (by omega) N_0.symm
    obtain ⟨t, hv⟩ : ∃ t : Fin cfg0.N, t.val = 8 * (i 0).val + 7 := ⟨⟨_, ht⟩, rfl⟩
    obtain ⟨h0, h1, h2⟩ := idx5 t
    refine ⟨t, (flush0_5 t).mpr (by omega), ?_⟩
    show i ∈ ((View.whole main_v1_1).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [h0]; omega
    | ⟨1, _⟩ =>
      show win0_5.index t 1 * 2304 ≤ (i 1 : Nat) ∧ (i 1 : Nat) < win0_5.index t 1 * 2304 + 2304
      rw [h1]; omega
    | ⟨2, _⟩ =>
      show win0_5.index t 2 * 128 ≤ (i 2 : Nat) ∧ (i 2 : Nat) < win0_5.index t 2 * 128 + 128
      rw [h2]; omega

/-- The values' gradient after the run. -/
theorem final6 : (dats m 0 c).arrAt 6 cfg0.N = resV (arr m c) := by
  refine (dats m 0 c).arrAt_eq_of_cover 6 (resV (arr m c)) (fun t hf => ?_) fun i => ?_
  · have h7 := (flush0_6 t).mp hf
    rw [Value.flushed6]
    obtain ⟨h0, h1, h2⟩ := idx6 t
    funext (j : S1x2304x128.Idx)
    have hj : (j 0).val < 1 := (j 0).isLt
    refine Eq.trans (b := resV (arr m c) (ix3 (grp (pn t)) (j 1) (j 2))) ?_ (congrArg (resV (arr m c)) (funext fun a => Fin.ext ?_))
    · rw [eq_ix3 j, show @Eq (Fin 1) (j 0) 0 from Subsingleton.elim _ _]
      refine (outs6 m c (j 1) (j 2) t.val t.isLt).trans ?_
      rw [h7]
      exact sum_shareV m c hr (grp (pn t)) (j 1) (j 2)
    · fin_cases a
      · show t.val / 8 = win0_6.index t 0 * 1 + 1 * (j 0).val
        rw [h0]; omega
      · show (j 1).val = win0_6.index t 1 * 2304 + 1 * (j 1).val
        rw [h1]; omega
      · show (j 2).val = win0_6.index t 2 * 128 + 1 * (j 2).val
        rw [h2]; omega
  · have i0 : (i 0).val < 4 := (i 0).isLt
    have i1 : (i 1).val < 2304 := (i 1).isLt
    have i2 : (i 2).val < 128 := (i 2).isLt
    have ht : 8 * (i 0).val + 7 < cfg0.N := lt_of_lt_of_eq (b := 32) (by omega) N_0.symm
    obtain ⟨t, hv⟩ : ∃ t : Fin cfg0.N, t.val = 8 * (i 0).val + 7 := ⟨⟨_, ht⟩, rfl⟩
    obtain ⟨h0, h1, h2⟩ := idx6 t
    refine ⟨t, (flush0_6 t).mpr (by omega), ?_⟩
    show i ∈ ((View.whole main_v1_2).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [h0]; omega
    | ⟨1, _⟩ =>
      show win0_6.index t 1 * 2304 ≤ (i 1 : Nat) ∧ (i 1 : Nat) < win0_6.index t 1 * 2304 + 2304
      rw [h1]; omega
    | ⟨2, _⟩ =>
      show win0_6.index t 2 * 128 ≤ (i 2 : Nat) ∧ (i 2 : Nat) < win0_6.index t 2 * 128 + 128
      rw [h2]; omega

end Outs

end Cert.Array

end
-- ==== Proof.Reference.lean ====
/- What the reference computes, over the extended reals, for each sequence of the batch: sequence `b` owns query heads
   `16 b …`, key heads `4 b …` and rows `2048 b …` of the result's gradient. -/
module

public import proofs.«01_k».proof.Proof.Gen.ReferenceIdeal.Read
public import proofs.«01_k».proof.Proof.Head

@[expose] public section

set_option maxRecDepth 16384

noncomputable section

namespace Cert.Reference

open Idealize.ShloMosaic Idealize.ShloMosaic.TcCoe Idealize.SL.Sem Cert.ReferenceIdeal Cert.ReferenceIdeal.Gen
open Cert.ReferenceIdeal.Read
open Cert.Spec (Seq member col scale scale_nonneg)

/-- Query head `n` of sequence `b`. -/
def qh (b : Fin 8) (n : Fin 16) : Fin 128 := ⟨16 * b.val + n.val, by have := b.isLt; have := n.isLt; omega⟩

/-- Key head `g` of sequence `b`. -/
def kh (b : Fin 8) (g : Fin 4) : Fin 32 := ⟨4 * b.val + g.val, by have := b.isLt; have := g.isLt; omega⟩

/-- Row `l` of sequence `b`. -/
def dr (b : Fin 8) (l : Fin 2048) : Fin 16384 := ⟨2048 * b.val + l.val, by have := b.isLt; have := l.isLt; omega⟩

/-- Sequence `b` of the batch. -/
def seqAt (x0 : S128x2048x128.Idx → EReal) (x1 x2 : S32x2304x128.Idx → EReal) (x3 : S16384x2048.Idx → EReal) (b : Fin 8) : Seq where
  q n l e := x0 (ix3 (qh b n) l e)
  k g s e := x1 (ix3 (kh b g) s e)
  v g s e := x2 (ix3 (kh b g) s e)
  d l x := x3 (ix2 (dr b l) x)

variable (x0 : (⟨S128x2048x128, .bf16⟩ : BufTy).Contents (Elt Ideal)) (x1 x2 : (⟨S32x2304x128, .bf16⟩ : BufTy).Contents (Elt Ideal))
  (x3 : (⟨S16384x2048, .bf16⟩ : BufTy).Contents (Elt Ideal)) (b : Fin 8)

/-! ### The arguments, laid out -/

theorem q_apply (l : Fin 2048) (g r : Fin 4) (e : Fin 128) :
    val_main_v10 x0 (ix5 b l g r e) = (seqAt x0 x1 x2 x3 b).q (member g r) l e := by
  have h4 : ∀ n, val_main_v4 x0 (ix4 b n l e) = x0 (ix3 (qh b n) l e) := fun n => by
    unfold val_main_v4
    exact (shapeCast_apply _ shapeCasts_S128x2048x128_S8x16x2048x128 _ (ix3 (qh b n) l e) (by
      rw [Shape.rowMajor_val_three, Shape.rowMajor_val_four]; simp [qh]; omega)).trans rfl
  have h10 : val_main_v10 x0 (ix5 b l g r e) = val_main_v5 x0 (ix4 b l (member g r) e) := by
    unfold val_main_v10
    exact shapeCast_apply _ shapeCasts_S8x2048x16x128_S8x2048x4x4x128 _ _ (by
      rw [Shape.rowMajor_val_four, Shape.rowMajor_val_five]; simp [member]; omega)
  rw [h10, val_main_v5_apply]
  exact (congrArg (val_main_v4 x0) (funext fun a => by fin_cases a <;> rfl)).trans (h4 _)

theorem k_apply (s : Fin 2304) (g : Fin 4) (e : Fin 128) : val_main_v7 x1 (ix4 b s g e) = (seqAt x0 x1 x2 x3 b).k g s e := by
  have h6 : val_main_v6 x1 (ix4 b g s e) = x1 (ix3 (kh b g) s e) := by
    unfold val_main_v6
    exact (shapeCast_apply _ shapeCasts_S32x2304x128_S8x4x2304x128 _ (ix3 (kh b g) s e) (by
      rw [Shape.rowMajor_val_three, Shape.rowMajor_val_four]; simp [kh]; omega)).trans rfl
  rw [val_main_v7_apply]
  exact (congrArg (val_main_v6 x1) (funext fun a => by fin_cases a <;> rfl)).trans h6

theorem v_apply (s : Fin 2304) (g : Fin 4) (e : Fin 128) : val_main_v9 x2 (ix4 b s g e) = (seqAt x0 x1 x2 x3 b).v g s e := by
  have h8 : val_main_v8 x2 (ix4 b g s e) = x2 (ix3 (kh b g) s e) := by
    unfold val_main_v8
    exact (shapeCast_apply _ shapeCasts_S32x2304x128_S8x4x2304x128 _ (ix3 (kh b g) s e) (by
      rw [Shape.rowMajor_val_three, Shape.rowMajor_val_four]; simp [kh]; omega)).trans rfl
  rw [val_main_v9_apply]
  exact (congrArg (val_main_v8 x2) (funext fun a => by fin_cases a <;> rfl)).trans h8

theorem d_apply (g : Fin 4) (e : Fin 128) (r : Fin 4) (l : Fin 2048) :
    val_main_v49 x3 (ix5 b g e r l) = (seqAt x0 x1 x2 x3 b).d l (col (member g r) e) := by
  have h47 : ∀ x, val_main_v47 x3 (ix3 b l x) = x3 (ix2 (dr b l) x) := fun x => by
    unfold val_main_v47
    exact (shapeCast_apply _ shapeCasts_S16384x2048_S8x2048x2048 _ (ix2 (dr b l) x) (by
      rw [Shape.rowMajor_val_two, Shape.rowMajor_val_three]; simp [dr]; omega)).trans rfl
  have h48 : val_main_v48 x3 (ix5 b l g r e) = val_main_v47 x3 (ix3 b l (col (member g r) e)) := by
    unfold val_main_v48
    exact shapeCast_apply _ shapeCasts_S8x2048x2048_S8x2048x4x4x128 _ _ (by
      rw [Shape.rowMajor_val_three, Shape.rowMajor_val_five]; simp [col, member]; omega)
  rw [val_main_v49_apply]
  exact ((congrArg (val_main_v48 x3) (funext fun a => by fin_cases a <;> rfl)).trans h48).trans (h47 _)

/-! ### The scores and the gradient with respect to the weights -/

theorem score_apply (g r : Fin 4) (l : Fin 2048) (s : Fin 2304) :
    val_main_v12 x0 x1 (ix5 b g r l s) = (seqAt x0 x1 x2 x3 b).score g r l s := by
  rw [val_main_v12_apply, val_main_v11_apply]
  refine Finset.sum_congr rfl fun e _ => ?_
  rw [← k_apply x0 x1 x2 x3, ← q_apply x0 x1 x2 x3]
  exact congrArg₂ (· * ·) (congrArg _ (funext fun a => by fin_cases a <;> rfl)) (congrArg _ (funext fun a => by fin_cases a <;> rfl))

theorem dweight_apply (g r : Fin 4) (l : Fin 2048) (s : Fin 2304) :
    val_main_v50 x2 x3 (ix5 b g r l s) = (seqAt x0 x1 x2 x3 b).dweight g r l s := by
  rw [val_main_v50_apply]
  refine Finset.sum_congr rfl fun e _ => ?_
  rw [← v_apply x0 x1 x2 x3, ← d_apply x0 x1 x2 x3, mul_comm]
  exact congrArg₂ (· * ·) (congrArg _ (funext fun a => by fin_cases a <;> rfl)) (congrArg _ (funext fun a => by fin_cases a <;> rfl))

variable (hr : (seqAt x0 x1 x2 x3 b).IsReal)
include hr

/-- The scaled scores. -/
theorem scaled_apply (g r : Fin 4) (l : Fin 2048) (s : Fin 2304) :
    val_main_v14 x0 x1 (ix5 b g r l s) = (((seqAt x0 x1 x2 x3 b).row g r l s * scale : ℝ) : EReal) := by
  rw [val_main_v14_apply, val_main_v13_apply, score_apply x0 x1 x2 x3, hr, EReal.coe_mul, ← Head.ofBits_scale]
  rfl

/-- The row's maximum is real. -/
theorem max_apply (g r : Fin 4) (l : Fin 2048) : ∃ M : ℝ, val_main_v22 x0 x1 (ix4 b g r l) = (M : EReal) := by
  have h15 : ∃ M : ℝ, val_main_v15 x0 x1 (ix4 b g r l) = (M : EReal) := by
    have hs := scaled_apply x0 x1 x2 x3 b hr g r l
    unfold val_main_v15 val_main_cst_0
    generalize val_main_v14 x0 x1 = y at hs
    pointwise
    simp only [hs]
    exact Softmax.fold_max_real _ Finset.univ_nonempty _
  obtain ⟨M, hM⟩ := h15
  refine ⟨M, ?_⟩
  rw [val_main_v22_apply, val_main_v21_apply, hM]
  refine Eq.trans (b := max (⊥ : EReal) (M : EReal)) ?_ (max_eq_right bot_le)
  rw [← Head.ofBits_neg_inf]
  rfl

/-- The row's exponentials, their sum, and the shift `M`. -/
theorem row_apply (g r : Fin 4) (l : Fin 2048) : ∃ M : ℝ,
    (∀ s, val_main_v35 x0 x1 (ix5 b g r l s) = ((Real.exp ((seqAt x0 x1 x2 x3 b).row g r l s * scale - M) : ℝ) : EReal))
    ∧ ∀ u, val_main_v37 x0 x1 (ix5 b g r l u)
        = ((∑ s, Real.exp ((seqAt x0 x1 x2 x3 b).row g r l s * scale - M) : ℝ) : EReal) := by
  obtain ⟨M, hM⟩ := max_apply x0 x1 x2 x3 b hr g r l
  have he : ∀ s, val_main_v35 x0 x1 (ix5 b g r l s) = ((Real.exp ((seqAt x0 x1 x2 x3 b).row g r l s * scale - M) : ℝ) : EReal) := fun s => by
    have h33 : val_main_v33 x0 x1 (ix5 b g r l s) = (M : EReal) := by
      rw [val_main_v33_apply, val_main_v32_apply, ← hM]
      exact congrArg _ (funext fun a => by fin_cases a <;> rfl)
    rw [val_main_v35_apply, val_main_v34_apply, h33, scaled_apply x0 x1 x2 x3 b hr]
    rw [Ideal.hostUnary_exp_def, show FloatOps.subf (F := Ideal) (φ := .f32) (((seqAt x0 x1 x2 x3 b).row g r l s * scale : ℝ) : EReal) (M : EReal)
      = (((seqAt x0 x1 x2 x3 b).row g r l s * scale - M : ℝ) : EReal) from (EReal.coe_sub _ _).symm]
    exact Ideal.exp_coe _
  refine ⟨M, he, fun u => ?_⟩
  rw [val_main_v37_apply, val_main_v36_apply, ← Softmax.coe_sum, show val_main_cst_8 (F := Ideal) (Shape.Idx.first h_S_) = (0 : EReal) from
    Ideal.ofBits_zero_f32, zero_add]
  refine Finset.sum_congr rfl fun s _ => ?_
  rw [← he]
  exact congrArg _ (funext fun a => by fin_cases a <;> rfl)

/-- The gradient with respect to the scaled scores. -/
theorem dscore_apply (g r : Fin 4) (l : Fin 2048) (s : Fin 2304) :
    val_main_v64 x0 x1 x2 x3 (ix5 b g r l s) = (seqAt x0 x1 x2 x3 b).dscore g r l s := by
  obtain ⟨M, he, hD⟩ := row_apply x0 x1 x2 x3 b hr g r l
  unfold Seq.dscore
  rw [← Softmax.dscore_quotient scale M, val_main_v64_apply, val_main_v63_apply, he]
  have h60 : val_main_v60 x0 x1 x2 x3 (ix5 b g r l s) = Ideal.div ((seqAt x0 x1 x2 x3 b).dweight g r l s)
      ((∑ s, Real.exp ((seqAt x0 x1 x2 x3 b).row g r l s * scale - M) : ℝ) : EReal) := by
    rw [val_main_v60_apply, dweight_apply x0 x1 x2 x3, val_main_v59_apply, ← hD 0]
    exact congrArg (Ideal.div _) (congrArg _ (funext fun a => by fin_cases a <;> rfl))
  have h53 : ∀ s, val_main_v53 x0 x1 (ix5 b g r l s)
      = Ideal.div 1 (((∑ s, Real.exp ((seqAt x0 x1 x2 x3 b).row g r l s * scale - M) : ℝ) : EReal)
        * ((∑ s, Real.exp ((seqAt x0 x1 x2 x3 b).row g r l s * scale - M) : ℝ) : EReal)) := fun s => by
    rw [val_main_v53_apply, show idx_main_v53 (ix5 b g r l s) = ix5 b g r l 0 from by funext a; fin_cases a <;> rfl,
      val_main_v42_apply, val_main_v40_apply, hD, val_main_v41_apply, ← Head.ofBits_one]
    rfl
  have h56 : val_main_v56 x0 x1 x2 x3 (ix4 b g r l)
      = ∑ j, (seqAt x0 x1 x2 x3 b).dweight g r l j
          * Ideal.div 1 (((∑ s, Real.exp ((seqAt x0 x1 x2 x3 b).row g r l s * scale - M) : ℝ) : EReal)
            * ((∑ s, Real.exp ((seqAt x0 x1 x2 x3 b).row g r l s * scale - M) : ℝ) : EReal))
          * ((Real.exp ((seqAt x0 x1 x2 x3 b).row g r l j * scale - M) : ℝ) : EReal) := by
    rw [val_main_v56_apply, show val_main_cst_10 (F := Ideal) (Shape.Idx.first h_S_) = (0 : EReal) from Ideal.ofBits_zero_f32, zero_add]
    refine Finset.sum_congr rfl fun j _ => ?_
    rw [show idx_main_v56 (ix4 b g r l) j = ix5 b g r l j from by funext a; fin_cases a <;> rfl,
      val_main_v55_apply, val_main_v54_apply, he, h53, dweight_apply x0 x1 x2 x3]
    rfl
  have h57 : val_main_v57 x0 x1 x2 x3 (ix5 b g r l 0) = val_main_v56 x0 x1 x2 x3 (ix4 b g r l) := by
    unfold val_main_v57
    exact shapeCast_apply _ shapeCasts_S8x4x4x2048_S8x4x4x2048x1 _ _ (by
      rw [Shape.rowMajor_val_four, Shape.rowMajor_val_five]; simp)
  have h62 : val_main_v62 x0 x1 x2 x3 (ix5 b g r l s) = -val_main_v56 x0 x1 x2 x3 (ix4 b g r l) := by
    rw [val_main_v62_apply, val_main_v61_apply, show val_main_cst_11 (F := Ideal) (Shape.Idx.first h_S_) = (0 : EReal) from
      Ideal.ofBits_zero_f32, zero_add, Fin.sum_univ_one, val_main_v58_apply,
      show idx_main_v61 (idx_main_v62 (ix5 b g r l s)) 0 = ix5 b g r l 0 from by funext a; fin_cases a <;> rfl, h57]
    rfl
  rw [h60, h62, h56]
  rfl

/-- The weights. -/
theorem weight_apply (g r : Fin 4) (l : Fin 2048) (s : Fin 2304) :
    val_main_v39 x0 x1 (ix5 b g r l s) = ((seqAt x0 x1 x2 x3 b).weight g r l s : EReal) := by
  obtain ⟨M, he, hD⟩ := row_apply x0 x1 x2 x3 b hr g r l
  rw [val_main_v39_apply, val_main_v38_apply, he, show idx_main_v38 (ix5 b g r l s) = ix5 b g r l 0 from by
    funext a; fin_cases a <;> rfl, hD]
  unfold Seq.weight
  rw [← Softmax.weight_shift scale M]
  refine (Ideal.div_coe (Softmax.shifted_pos scale M _).ne' _).trans ?_
  rw [Softmax.mul_coe, one_div, div_eq_mul_inv]

/-! ### The results -/

theorem v67_apply (g r : Fin 4) (l : Fin 2048) (s : Fin 2304) :
    val_main_v67 x0 x1 x2 x3 (ix5 b g s l r) = (seqAt x0 x1 x2 x3 b).dscore g r l s * (scale : EReal) := by
  rw [val_main_v67_apply, val_main_v66_apply, ← dscore_apply x0 x1 x2 x3 b hr, ← Head.ofBits_scale, val_main_v65_apply]
  exact congrArg₂ (· * ·) (congrArg _ (funext fun a => by fin_cases a <;> rfl)) rfl

theorem resQ_apply (g r : Fin 4) (l : Fin 2048) (e : Fin 128) :
    val_main_v78 x0 x1 x2 x3 (ix3 (qh b (member g r)) l e) = (seqAt x0 x1 x2 x3 b).gradQ g r l e := by
  have h78 : val_main_v78 x0 x1 x2 x3 (ix3 (qh b (member g r)) l e) = val_main_v77 x0 x1 x2 x3 (ix4 b (member g r) l e) := by
    unfold val_main_v78
    exact shapeCast_apply _ shapeCasts_S8x16x2048x128_S128x2048x128 _ _ (by
      rw [Shape.rowMajor_val_three, Shape.rowMajor_val_four]; simp [qh]; omega)
  have h72 : val_main_v72 x0 x1 x2 x3 (ix4 b l (member g r) e) = val_main_v69 x0 x1 x2 x3 (ix5 b l g r e) := by
    unfold val_main_v72
    exact shapeCast_apply _ shapeCasts_S8x2048x4x4x128_S8x2048x16x128 _ _ (by
      rw [Shape.rowMajor_val_four, Shape.rowMajor_val_five]; simp [member]; omega)
  rw [h78, val_main_v77_apply, show idx_main_v77 (ix4 b (member g r) l e) = ix4 b l (member g r) e from by
    funext a; fin_cases a <;> rfl, h72, val_main_v69_apply, val_main_v68_apply]
  refine Finset.sum_congr rfl fun s _ => ?_
  rw [← v67_apply x0 x1 x2 x3 b hr, ← k_apply x0 x1 x2 x3]
  exact congrArg₂ (· * ·) (congrArg _ (funext fun a => by fin_cases a <;> rfl)) (congrArg _ (funext fun a => by fin_cases a <;> rfl))

theorem resK_apply (g : Fin 4) (s : Fin 2304) (e : Fin 128) :
    val_main_v76 x0 x1 x2 x3 (ix3 (kh b g) s e) = (seqAt x0 x1 x2 x3 b).gradK g s e := by
  have h76 : val_main_v76 x0 x1 x2 x3 (ix3 (kh b g) s e) = val_main_v75 x0 x1 x2 x3 (ix4 b g s e) := by
    unfold val_main_v76
    exact shapeCast_apply _ shapeCasts_S8x4x2304x128_S32x2304x128 _ _ (by
      rw [Shape.rowMajor_val_three, Shape.rowMajor_val_four]; simp [kh]; omega)
  rw [h76, val_main_v75_apply, val_main_v71_apply, show idx_main_v71 (idx_main_v75 (ix4 b g s e)) = ix4 b g s e from by
    funext a; fin_cases a <;> rfl]
  unfold val_main_v70 Seq.gradK
  simp only [← v67_apply x0 x1 x2 x3 b hr, ← q_apply x0 x1 x2 x3]
  generalize val_main_v67 x0 x1 x2 x3 = y
  generalize val_main_v10 x0 = z
  pointwise

theorem resV_apply (g : Fin 4) (s : Fin 2304) (e : Fin 128) :
    val_main_v74 x0 x1 x3 (ix3 (kh b g) s e) = (seqAt x0 x1 x2 x3 b).gradV g s e := by
  have h74 : val_main_v74 x0 x1 x3 (ix3 (kh b g) s e) = val_main_v73 x0 x1 x3 (ix4 b g s e) := by
    unfold val_main_v74
    exact shapeCast_apply _ shapeCasts_S8x4x2304x128_S32x2304x128 _ _ (by
      rw [Shape.rowMajor_val_three, Shape.rowMajor_val_four]; simp [kh]; omega)
  rw [h74, val_main_v73_apply, val_main_v52_apply, show idx_main_v52 (idx_main_v73 (ix4 b g s e)) = ix4 b g e s from by
    funext a; fin_cases a <;> rfl]
  unfold val_main_v51 Seq.gradV
  simp only [← weight_apply x0 x1 x2 x3 b hr, ← d_apply x0 x1 x2 x3]
  generalize val_main_v39 x0 x1 = y
  generalize val_main_v49 x3 = z
  pointwise
  rw [Finset.sum_comm]
  exact Finset.sum_congr rfl fun l _ => Finset.sum_congr rfl fun r _ => mul_comm _ _

end Cert.Reference

end
-- ==== Proof.Equation.lean ====
/- The kernel's results are the reference's, cut along the batch: device `c` holds sequence `c`. The precondition makes that
   sequence's scores real. -/
module

public import proofs.«01_k».proof.Proof.Array
public import proofs.«01_k».proof.Proof.Reference
public import proofs.«01_k».proof.Proof.Gen.Pre_finite_scores_KernelIdeal
public import Idealize.ShloMosaic.Lib.Layout
public import Idealize.ShloMosaic.Lib.ReduceAll

@[expose] public section

set_option maxRecDepth 16384

noncomputable section

namespace Cert.Equation

open Idealize.ShloMosaic Idealize.ShloMosaic.TcCoe Idealize.SL.Sem
open Cert.Spec (Seq member)
open Cert.Reference (seqAt qh kh dr)
open Cert.Head (ofBits_inf)

/-! ### Layout -/

/-- Block `c` of an array of rank three, cut along its leading axis. -/
theorem block3 {α : Type} {n n' a b : Nat} (c : Fin 8) (x : (⟨3, ![n', a, b]⟩ : Shape).Idx → α)
    (h : Layout.Tiles ⟨3, ![n, a, b]⟩ ⟨3, ![n', a, b]⟩ 0 8) (i : Fin n) (j : Fin a) (l : Fin b) (i' : Fin n') (hi : i'.val = c.val * n + i.val) :
    Layout.block ⟨3, ![n, a, b]⟩ ⟨3, ![n', a, b]⟩ 0 8 c x h (ix3 i j l) = x (ix3 i' j l) := by
  rw [Layout.block_apply]
  refine congrArg x (funext fun d => Fin.ext ?_)
  rw [Layout.Tiles.idx_val]
  fin_cases d
  · exact hi.symm
  · rfl
  · rfl

/-- Block `c` of a matrix, cut along its rows. -/
theorem block2 {α : Type} {n n' a : Nat} (c : Fin 8) (x : (⟨2, ![n', a]⟩ : Shape).Idx → α)
    (h : Layout.Tiles ⟨2, ![n, a]⟩ ⟨2, ![n', a]⟩ 0 8) (i : Fin n) (j : Fin a) (i' : Fin n') (hi : i'.val = c.val * n + i.val) :
    Layout.block ⟨2, ![n, a]⟩ ⟨2, ![n', a]⟩ 0 8 c x h (ix2 i j) = x (ix2 i' j) := by
  rw [Layout.block_apply]
  refine congrArg x (funext fun d => Fin.ext ?_)
  rw [Layout.Tiles.idx_val]
  fin_cases d
  · exact hi.symm
  · rfl

theorem ext3 {n a b : Nat} (f g : (⟨3, ![n, a, b]⟩ : Shape).Idx → EReal) (h : ∀ i j l, f (ix3 i j l) = g (ix3 i j l)) : f = g :=
  funext fun x => by rw [eq_ix3 x]; exact h _ _ _

variable (x0 : (⟨3, ![128, 2048, 128]⟩ : Shape).Idx → EReal) (x1 x2 : (⟨3, ![32, 2304, 128]⟩ : Shape).Idx → EReal)
  (x3 : (⟨2, ![16384, 2048]⟩ : Shape).Idx → EReal) (c : Fin 8)

/-- A device's blocks of the four arrays are one sequence of the batch. -/
theorem seq_block : Point.seq (Layout.block ⟨3, ![16, 2048, 128]⟩ ⟨3, ![128, 2048, 128]⟩ 0 8 c x0)
    (Layout.block ⟨3, ![4, 2304, 128]⟩ ⟨3, ![32, 2304, 128]⟩ 0 8 c x1) (Layout.block ⟨3, ![4, 2304, 128]⟩ ⟨3, ![32, 2304, 128]⟩ 0 8 c x2)
    (Layout.block ⟨2, ![2048, 2048]⟩ ⟨2, ![16384, 2048]⟩ 0 8 c x3) = seqAt x0 x1 x2 x3 c := by
  unfold Point.seq seqAt
  congr 1
  · funext n l e; exact block3 c x0 _ n l e (qh c n) (by simp [qh]; omega)
  · funext g s e; exact block3 c x1 _ g s e (kh c g) (by simp [kh]; omega)
  · funext g s e; exact block3 c x2 _ g s e (kh c g) (by simp [kh]; omega)
  · funext l x; exact block2 c x3 _ l x (dr c l) (by simp [dr]; omega)

variable (hr : (seqAt x0 x1 x2 x3 c).IsReal)
include hr

theorem resQ_block : Point.resQ (seqAt x0 x1 x2 x3 c)
    = Layout.block ⟨3, ![16, 2048, 128]⟩ ⟨3, ![128, 2048, 128]⟩ 0 8 c (ReferenceIdeal.Read.val_main_v78 (F := Ideal) x0 x1 x2 x3) := by
  refine ext3 _ _ fun n l e => ?_
  rw [block3 c _ _ n _ _ (qh c n) (by simp [qh]; omega), ← Spec.member_of n, Point.resQ_member]
  exact (Reference.resQ_apply x0 x1 x2 x3 c hr _ _ _ _).symm

theorem resK_block : Point.resK (seqAt x0 x1 x2 x3 c)
    = Layout.block ⟨3, ![4, 2304, 128]⟩ ⟨3, ![32, 2304, 128]⟩ 0 8 c (ReferenceIdeal.Read.val_main_v76 (F := Ideal) x0 x1 x2 x3) := by
  refine ext3 _ _ fun g s e => ?_
  rw [block3 c _ _ g _ _ (kh c g) (by simp [kh]; omega)]
  exact (Reference.resK_apply x0 x1 x2 x3 c hr _ _ _).symm

theorem resV_block : Point.resV (seqAt x0 x1 x2 x3 c)
    = Layout.block ⟨3, ![4, 2304, 128]⟩ ⟨3, ![32, 2304, 128]⟩ 0 8 c (ReferenceIdeal.Read.val_main_v74 (F := Ideal) x0 x1 x3) := by
  refine ext3 _ _ fun g s e => ?_
  rw [block3 c _ _ g _ _ (kh c g) (by simp [kh]; omega)]
  exact (Reference.resV_apply x0 x1 x2 x3 c hr _ _ _).symm

omit hr

/-! ### The precondition -/

/-- Real queries and keys have real scores. -/
theorem isReal (a : Seq) (hq : ∀ n l e, ∃ t : ℝ, a.q n l e = t) (hk : ∀ g s e, ∃ t : ℝ, a.k g s e = t) : a.IsReal := fun g r l s => by
  choose q hq using hq
  choose k hk using hk
  have h : a.score g r l s = ((∑ e, k g s e * q (member g r) l e : ℝ) : EReal) := by
    unfold Seq.score
    rw [← Softmax.coe_sum]
    refine Finset.sum_congr rfl fun e _ => ?_
    rw [hq, hk, Softmax.mul_coe]
  rw [h, EReal.toReal_coe]

theorem and_one : ∀ a b : BitVec 1, IntOp.andi a b = 1#1 → a = 1#1 ∧ b = 1#1 := by decide

/-- An element between the infinities is real. -/
theorem real_of_between (x : EReal) (h : IntOp.andi (Ideal.cmp .ogt x ⊥) (Ideal.cmp .olt x ⊤) = 1#1) : ∃ t : ℝ, x = t := by
  obtain ⟨h1, h2⟩ := and_one _ _ h
  induction x using EReal.rec with
  | bot => simp [Ideal.cmp] at h1
  | top => simp [Ideal.cmp] at h2
  | coe t => exact ⟨t, rfl⟩

theorem finite (q : (⟨3, ![16, 2048, 128]⟩ : Shape).Idx → EReal) (k v : (⟨3, ![4, 2304, 128]⟩ : Shape).Idx → EReal)
    (d : (⟨2, ![2048, 2048]⟩ : Shape).Idx → EReal)
    (h : Cert.Pre_finite_scores_KernelIdeal.fn (F := Ideal) q k v d = fun _ => 1#1) : (Point.seq q k v d).IsReal := by
  have h0 := congrFun h (fun a => a.elim0)
  unfold Cert.Pre_finite_scores_KernelIdeal.fn at h0
  dsimp only at h0
  obtain ⟨ha, hb⟩ := and_one _ _ h0
  haveI : Subsingleton Cert.Pre_finite_scores_KernelIdeal.S_.Idx := ⟨fun a b => funext fun i => i.elim0⟩
  refine isReal _ (fun n l e => real_of_between _ ?_) (fun g s e => real_of_between _ ?_)
  · rw [← Head.ofBits_neg_inf, ← ofBits_inf]
    exact Host.reduce_andi_all _ _ _ _ _ ha (ix3 n l e)
  · rw [← Head.ofBits_neg_inf, ← ofBits_inf]
    exact Host.reduce_andi_all _ _ _ _ _ hb (ix3 g s e)

end Cert.Equation

end
-- ==== Proof.Matrix.lean ====
/- Products of matrices over the extended reals, by which axes are summed over, and the two ways an array is told equal to
   another: at every pair of coordinates, and one product equal to another factor by factor. And the gate of a value. -/
module

public import Idealize.ShloMosaic.Lib.Pointwise

@[expose] public section

noncomputable section

namespace Cert.Mat

open Idealize.ShloMosaic

variable {a b a' b' n : Nat}

/-- The product of two matrices. -/
def nn (x : (⟨2, ![a, n]⟩ : Shape).Idx → EReal) (y : (⟨2, ![n, b]⟩ : Shape).Idx → EReal) : (⟨2, ![a, b]⟩ : Shape).Idx → EReal :=
  fun i => ∑ k : Fin n, x (ix2 (i 0) k) * y (ix2 k (i 1))

/-- The product of a matrix with another's transpose. -/
def nt (x : (⟨2, ![a, n]⟩ : Shape).Idx → EReal) (y : (⟨2, ![b, n]⟩ : Shape).Idx → EReal) : (⟨2, ![a, b]⟩ : Shape).Idx → EReal :=
  fun i => ∑ k : Fin n, x (ix2 (i 0) k) * y (ix2 (i 1) k)

/-- The product of a matrix's transpose with another matrix. -/
def tn (x : (⟨2, ![n, a]⟩ : Shape).Idx → EReal) (y : (⟨2, ![n, b]⟩ : Shape).Idx → EReal) : (⟨2, ![a, b]⟩ : Shape).Idx → EReal :=
  fun i => ∑ k : Fin n, x (ix2 k (i 0)) * y (ix2 k (i 1))

theorem nn_congr {x : (⟨2, ![a, n]⟩ : Shape).Idx → EReal} {y : (⟨2, ![n, b]⟩ : Shape).Idx → EReal}
    {x' : (⟨2, ![a', n]⟩ : Shape).Idx → EReal} {y' : (⟨2, ![n, b']⟩ : Shape).Idx → EReal} {i : (⟨2, ![a, b]⟩ : Shape).Idx} {i' : (⟨2, ![a', b']⟩ : Shape).Idx}
    (hx : ∀ k, x (ix2 (i 0) k) = x' (ix2 (i' 0) k)) (hy : ∀ k, y (ix2 k (i 1)) = y' (ix2 k (i' 1))) : nn x y i = nn x' y' i' :=
  Finset.sum_congr rfl fun k _ => by rw [hx, hy]

theorem nt_congr {x : (⟨2, ![a, n]⟩ : Shape).Idx → EReal} {y : (⟨2, ![b, n]⟩ : Shape).Idx → EReal}
    {x' : (⟨2, ![a', n]⟩ : Shape).Idx → EReal} {y' : (⟨2, ![b', n]⟩ : Shape).Idx → EReal} {i : (⟨2, ![a, b]⟩ : Shape).Idx} {i' : (⟨2, ![a', b']⟩ : Shape).Idx}
    (hx : ∀ k, x (ix2 (i 0) k) = x' (ix2 (i' 0) k)) (hy : ∀ k, y (ix2 (i 1) k) = y' (ix2 (i' 1) k)) : nt x y i = nt x' y' i' :=
  Finset.sum_congr rfl fun k _ => by rw [hx, hy]

theorem nt_congr2 {x : (⟨2, ![a, n]⟩ : Shape).Idx → EReal} {y : (⟨2, ![b, n]⟩ : Shape).Idx → EReal}
    {x' : (⟨2, ![a', n]⟩ : Shape).Idx → EReal} {y' : (⟨2, ![b', n]⟩ : Shape).Idx → EReal} {i : Fin a} {j : Fin b} {i' : Fin a'} {j' : Fin b'}
    (hx : ∀ k, x (ix2 i k) = x' (ix2 i' k)) (hy : ∀ k, y (ix2 j k) = y' (ix2 j' k)) : nt x y (ix2 i j) = nt x' y' (ix2 i' j') :=
  nt_congr hx hy

theorem tn_congr {x : (⟨2, ![n, a]⟩ : Shape).Idx → EReal} {y : (⟨2, ![n, b]⟩ : Shape).Idx → EReal}
    {x' : (⟨2, ![n, a']⟩ : Shape).Idx → EReal} {y' : (⟨2, ![n, b']⟩ : Shape).Idx → EReal} {i : (⟨2, ![a, b]⟩ : Shape).Idx} {i' : (⟨2, ![a', b']⟩ : Shape).Idx}
    (hx : ∀ k, x (ix2 k (i 0)) = x' (ix2 k (i' 0))) (hy : ∀ k, y (ix2 k (i 1)) = y' (ix2 k (i' 1))) : tn x y i = tn x' y' i' :=
  Finset.sum_congr rfl fun k _ => by rw [hx, hy]

/-- Summing one factor first or the other is the same. -/
theorem tn_comm (x : (⟨2, ![n, a]⟩ : Shape).Idx → EReal) (y : (⟨2, ![n, b]⟩ : Shape).Idx → EReal) (i : Fin a) (j : Fin b) :
    tn x y (ix2 i j) = tn y x (ix2 j i) := Finset.sum_congr rfl fun _ _ => mul_comm _ _

theorem eq2 {α : Type} {f g : (⟨2, ![a, b]⟩ : Shape).Idx → α} (h : ∀ i j, f (ix2 i j) = g (ix2 i j)) : f = g := by
  funext y
  have e : y = ix2 (y 0) (y 1) := funext fun a => by fin_cases a <;> rfl
  rw [e]; exact h _ _

theorem eq3 {α : Type} {f g : (⟨3, ![n, a, b]⟩ : Shape).Idx → α} (h : ∀ p i j, f (ix3 p i j) = g (ix3 p i j)) : f = g := by
  funext y
  have e : y = ix3 (y 0) (y 1) (y 2) := funext fun a => by fin_cases a <;> rfl
  rw [e]; exact h _ _ _

/-- The gate of a value: one over one plus the exponential of the value taken from zero. -/
def sg (x : EReal) : EReal := Ideal.div 1 (1 + Ideal.exp (0 - x))

/-- A block of one plane, as a matrix. -/
def flat {a b : Nat} (x : (⟨3, ![1, a, b]⟩ : Shape).Idx → EReal) : (⟨2, ![a, b]⟩ : Shape).Idx → EReal := fun i => x (ix3 0 (i 0) (i 1))

theorem times {x y x' y' : EReal} (hx : x = x') (hy : y = y') : x * y = x' * y' := by rw [hx, hy]

theorem times_swap {x y x' y' : EReal} (hy : y = x') (hx : x = y') : x * y = x' * y' := by rw [hx, hy, mul_comm]

/-- The gate with its argument negated. -/
theorem sg_eq (x : EReal) : Ideal.div 1 (1 + Ideal.exp (-x)) = sg x := by rw [sg, zero_sub]

/-- The word of one. -/
theorem one_word : Ideal.ofBits .f32 0x3F800000#32 = (1 : EReal) := by
  simp [Ideal.ofBits, Ideal.ieee, -EReal.coe_mul]; norm_num

end Cert.Mat

end
-- ==== Proof.Merge.Bodies.lean ====
/- What each call's body computes from the blocks it reads, over the extended reals. -/
module

public import proofs.«01_k».proof.Proof.Gen.MergeIdeal.Frame
public import proofs.«01_k».proof.Proof.Matrix
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.Gated

open Idealize.ShloMosaic Idealize.ShloMosaic.TcCoe Idealize.SL.Sem Cert.MergeIdeal Cert.MergeIdeal.Gen Cert.Mat

theorem pay0 (x : Vec Ideal S512x2048 .bf16) (y : Vec Ideal S2048x512 .bf16) : k0_pay1 x y = (nn x y : S512x512.Idx → EReal) :=
  eq2 fun i j => by unfold k0_pay1; pointwise; rfl

theorem pay1 (x : Vec Ideal S512x1024 .bf16) (y : Vec Ideal S1x1024x256 .bf16) : k1_pay1 x y = (nn x (flat y) : S512x256.Idx → EReal) :=
  eq2 fun i j => by unfold k1_pay1; pointwise; rfl

theorem pay2 (x : Vec Ideal S512x2048 .bf16) (y : Vec Ideal S256x2048 .bf16) : k2_pay3 x y = (nt x y : S512x256.Idx → EReal) :=
  eq2 fun i j => by unfold k2_pay3; pointwise; rfl

theorem pay3 (x y : Vec Ideal S2048x512 .bf16) : k3_pay1 x y = (tn x y : S512x512.Idx → EReal) :=
  eq2 fun i j => by unfold k3_pay1; pointwise; rfl

theorem pay4 (x y : Vec Ideal S2048x512 .bf16) : k4_pay1 x y = (tn x y : S512x512.Idx → EReal) :=
  eq2 fun i j => by unfold k4_pay1; pointwise; rfl

theorem pay5 (x y : Vec Ideal S512x2048 .bf16) : k5_pay1 x y = (nt x y : S512x512.Idx → EReal) :=
  eq2 fun i j => by unfold k5_pay1; pointwise; rfl

theorem pay6 (x : Vec Ideal S2048x1024 .bf16) (y : Vec Ideal S2048x256 .bf16) :
    k6_pay1 x y = (fun i => tn x y (ix2 (i 1) (i 2)) : S1x1024x256.Idx → EReal) :=
  eq3 fun p i j => by unfold k6_pay1; obtain rfl : p = 0 := Subsingleton.elim _ _; pointwise; rfl

theorem gateA (z : Vec Ideal S1x512x256 .f32) : k2_pay4 z = (fun i => sg (flat z i) : S512x256.Idx → EReal) :=
  eq2 fun i j => by unfold k2_pay4; pointwise; rfl

theorem gateS (z : Vec Ideal S1x512x256 .f32) : k2_pay5 z = (fun i => sg (flat z i) : S512x256.Idx → EReal) :=
  eq2 fun i j => by unfold k2_pay5; pointwise; rfl

theorem merge (x : Vec Ideal S512x1024 .bf16) (y : Vec Ideal S1x1024x256 .bf16) (ga : Vec Ideal S1x512x256 .f32) (b : Vec Ideal S512x256 .f32)
    (gs : Vec Ideal S1x512x256 .f32) : k1_pay2 x y ga b gs
      = (fun i => sg (flat ga i) * b i + sg (flat gs i) * nn x (flat y) i : S512x256.Idx → EReal) :=
  eq2 fun i j => by unfold k1_pay2; rw [pay1]; pointwise; rfl

theorem branchA (x : Vec Ideal S512x2048 .bf16) (y : Vec Ideal S256x2048 .bf16) (z : Vec Ideal S1x512x256 .f32) :
    k2_pay6 x y z = (fun i => sg (flat z i) * nt x y i : S512x256.Idx → EReal) :=
  eq2 fun i j => by unfold k2_pay6; rw [pay2, gateA]; pointwise

theorem branchS (x : Vec Ideal S512x2048 .bf16) (y : Vec Ideal S256x2048 .bf16) (z : Vec Ideal S1x512x256 .f32) :
    k2_pay7 x y z = (fun i => sg (flat z i) * nt x y i : S512x256.Idx → EReal) :=
  eq2 fun i j => by unfold k2_pay7; rw [pay2, gateS]; pointwise

theorem slopeA (x : Vec Ideal S512x2048 .bf16) (y : Vec Ideal S256x2048 .bf16) (z : Vec Ideal S1x512x256 .f32) (b : Vec Ideal S512x256 .f32) :
    k2_pay1 (k2_pay4 z) (k2_pay8 x y z b) (k2_pay9 (F := Ideal))
      = (fun i => nt x y (ix2 (i 1) (i 2)) * b (ix2 (i 1) (i 2)) * sg (z (ix3 0 (i 1) (i 2))) * (1 - sg (z (ix3 0 (i 1) (i 2)))) : S1x512x256.Idx → EReal) :=
  eq3 fun p i j => by
    unfold k2_pay1 k2_pay8 k2_pay9; rw [pay2, gateA]; obtain rfl : p = 0 := Subsingleton.elim _ _; pointwise; rfl

theorem slopeS (x : Vec Ideal S512x2048 .bf16) (y : Vec Ideal S256x2048 .bf16) (z : Vec Ideal S1x512x256 .f32) (b : Vec Ideal S512x256 .f32) :
    k2_pay2 (k2_pay3 x y) (k2_pay5 z) b
      = (fun i => nt x y (ix2 (i 1) (i 2)) * b (ix2 (i 1) (i 2)) * sg (z (ix3 0 (i 1) (i 2))) * (1 - sg (z (ix3 0 (i 1) (i 2)))) : S1x512x256.Idx → EReal) :=
  eq3 fun p i j => by
    unfold k2_pay2; rw [pay2, gateS]; obtain rfl : p = 0 := Subsingleton.elim _ _; pointwise; rfl

end Cert.Gated

end
-- ==== Proof.Merge.Gates.lean ====
/- The two calls that gate: the merge of the branches, and the gradients the gates pass to the branches and receive
   themselves. After a call every output array is a function of the arrays read, element by element but for one product. -/
module

public import proofs.«01_k».proof.Proof.Gen.MergeIdeal.Frame
public import proofs.«01_k».proof.Proof.Merge.Bodies
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Gated

open Idealize.ShloMosaic Idealize.ShloMosaic.TcCoe Idealize.SL.Sem Cert.MergeIdeal Cert.MergeIdeal.Gen Cert.Mat

/-! ### Where a point's blocks lie -/

theorem idx1_0 : ∀ t : Fin cfg1.N, win1_0.index t = ![t.val / 8, 0] :=
  (by decide +kernel : ∀ t : Fin grid1.N, win1_0.index t = ![t.val / 8, 0])
theorem idx1_1 : ∀ t : Fin cfg1.N, win1_1.index t = ![t.val % 8, 0, 0] :=
  (by decide +kernel : ∀ t : Fin grid1.N, win1_1.index t = ![t.val % 8, 0, 0])
theorem idx1_2 : ∀ t : Fin cfg1.N, win1_2.index t = ![2 + t.val % 8 / 4, t.val / 8, t.val % 4] :=
  (by decide +kernel : ∀ t : Fin grid1.N, win1_2.index t = ![2 + t.val % 8 / 4, t.val / 8, t.val % 4])
theorem idx1_3 : ∀ t : Fin cfg1.N, win1_3.index t = ![4 + t.val % 8 / 4, t.val / 8, t.val % 4] :=
  (by decide +kernel : ∀ t : Fin grid1.N, win1_3.index t = ![4 + t.val % 8 / 4, t.val / 8, t.val % 4])
theorem idx1_4 : ∀ t : Fin cfg1.N, win1_4.index t = ![t.val / 8, t.val % 8] :=
  (by decide +kernel : ∀ t : Fin grid1.N, win1_4.index t = ![t.val / 8, t.val % 8])
theorem idx1_5 : ∀ t : Fin cfg1.N, win1_5.index t = ![t.val / 8, t.val % 8] :=
  (by decide +kernel : ∀ t : Fin grid1.N, win1_5.index t = ![t.val / 8, t.val % 8])
theorem idx1_6 : ∀ t : Fin cfg1.N, win1_6.index t = ![t.val / 8, t.val % 8] :=
  (by decide +kernel : ∀ t : Fin grid1.N, win1_6.index t = ![t.val / 8, t.val % 8])
theorem idx2_0 : ∀ t : Fin cfg2.N, win2_0.index t = ![t.val / 8, 0] :=
  (by decide +kernel : ∀ t : Fin grid2.N, win2_0.index t = ![t.val / 8, 0])
theorem idx2_1 : ∀ t : Fin cfg2.N, win2_1.index t = ![t.val % 8, 0] :=
  (by decide +kernel : ∀ t : Fin grid2.N, win2_1.index t = ![t.val % 8, 0])
theorem idx2_2 : ∀ t : Fin cfg2.N, win2_2.index t = ![2 + t.val % 8 / 4, t.val / 8, t.val % 4] :=
  (by decide +kernel : ∀ t : Fin grid2.N, win2_2.index t = ![2 + t.val % 8 / 4, t.val / 8, t.val % 4])
theorem idx2_3 : ∀ t : Fin cfg2.N, win2_3.index t = ![4 + t.val % 8 / 4, t.val / 8, t.val % 4] :=
  (by decide +kernel : ∀ t : Fin grid2.N, win2_3.index t = ![4 + t.val % 8 / 4, t.val / 8, t.val % 4])
theorem idx2_4 : ∀ t : Fin cfg2.N, win2_4.index t = ![t.val / 8, t.val % 8] :=
  (by decide +kernel : ∀ t : Fin grid2.N, win2_4.index t = ![t.val / 8, t.val % 8])
theorem idx2_5 : ∀ t : Fin cfg2.N, win2_5.index t = ![t.val / 8, t.val % 8] :=
  (by decide +kernel : ∀ t : Fin grid2.N, win2_5.index t = ![t.val / 8, t.val % 8])
theorem idx2_6 : ∀ t : Fin cfg2.N, win2_6.index t = ![t.val / 8, t.val % 8] :=
  (by decide +kernel : ∀ t : Fin grid2.N, win2_6.index t = ![t.val / 8, t.val % 8])
theorem idx2_7 : ∀ t : Fin cfg2.N, win2_7.index t = ![t.val / 8, t.val % 8] :=
  (by decide +kernel : ∀ t : Fin grid2.N, win2_7.index t = ![t.val / 8, t.val % 8])
theorem idx2_8 : ∀ t : Fin cfg2.N, win2_8.index t = ![t.val % 8 / 4, t.val / 8, t.val % 4] :=
  (by decide +kernel : ∀ t : Fin grid2.N, win2_8.index t = ![t.val % 8 / 4, t.val / 8, t.val % 4])
theorem idx2_9 : ∀ t : Fin cfg2.N, win2_9.index t = ![t.val % 8 / 4, t.val / 8, t.val % 4] :=
  (by decide +kernel : ∀ t : Fin grid2.N, win2_9.index t = ![t.val % 8 / 4, t.val / 8, t.val % 4])

theorem lt_1 (t : Fin cfg1.N) : t.val < 32 := lt_of_lt_of_eq t.isLt N_1
theorem lt_2 (t : Fin cfg2.N) : t.val < 32 := lt_of_lt_of_eq t.isLt N_2

/-! ### The arrays -/

/-- Two of six planes of 1024 columns, from plane `p` on, as a matrix of 2048 columns. -/
def gateAt (z : S6x2048x1024.Idx → EReal) (p : Nat) (hp : p ≤ 4) : S2048x2048.Idx → EReal :=
  fun i => z (ix3 ⟨p + (i 1).val / 1024, by have h : (i 1).val < 2048 := (i 1).isLt; omega⟩ (i 0) ⟨(i 1).val % 1024, by omega⟩)

theorem gateAt_apply (z : S6x2048x1024.Idx → EReal) (p : Nat) (hp : p ≤ 4) (i j : Fin 2048) :
    gateAt z p hp (ix2 i j) = z (ix3 ⟨p + j.val / 1024, by omega⟩ i ⟨j.val % 1024, by omega⟩) := rfl

/-- Eight matrices of 256 columns, side by side. -/
def joined (w : S8x1024x256.Idx → EReal) : (⟨2, ![1024, 2048]⟩ : Shape).Idx → EReal :=
  fun i => w (ix3 ⟨(i 1).val / 256, by have h : (i 1).val < 2048 := (i 1).isLt; omega⟩ (i 0) ⟨(i 1).val % 256, by omega⟩)

/-- A matrix of 2048 columns as two planes of 1024 columns each. -/
def planes (g : S2048x2048.Idx → EReal) : S2x2048x1024.Idx → EReal :=
  fun i => g (ix2 (i 1) ⟨(i 0).val * 1024 + (i 2).val, by have h0 : (i 0).val < 2 := (i 0).isLt; have h2 : (i 2).val < 1024 := (i 2).isLt; omega⟩)

/-- The branches merged: each by its gate. -/
def merged (ga gs a s : S2048x2048.Idx → EReal) : S2048x2048.Idx → EReal := fun i => sg (ga i) * a i + sg (gs i) * s i

theorem merged_congr {ga gs a s ga' gs' a' s' : EReal} (h1 : ga = ga') (h2 : gs = gs') (h3 : a = a') (h4 : s = s') :
    sg ga * a + sg gs * s = sg ga' * a' + sg gs' * s' := by rw [h1, h2, h3, h4]

/-- What a gate passes to its branch of the gradient `d`. -/
def passed (g d : S2048x2048.Idx → EReal) : S2048x2048.Idx → EReal := fun i => sg (g i) * d i

theorem passed_congr {g d g' d' : EReal} (h1 : g = g') (h2 : d = d') : sg g * d = sg g' * d' := by rw [h1, h2]

/-- What a gate receives of the gradient `d`: the branch times the gate's slope. -/
def slope (g d b : S2048x2048.Idx → EReal) : S2048x2048.Idx → EReal := fun i => d i * b i * sg (g i) * (1 - sg (g i))

theorem slope_congr {g d b g' d' b' : EReal} (h1 : g = g') (h2 : d = d') (h3 : b = b') : d * b * sg g * (1 - sg g) = d' * b' * sg g' * (1 - sg g') := by
  rw [h1, h2, h3]

variable (V : (c : Dev nD) → (b : Ref sig .tc) → Buf (Elt Ideal) ((c : Thread nD τ).loc b)) (c : Dev nD)

/-- The second branch's product. -/
theorem region1_5 : (dat1 V c).arrAt 5 cfg1.N
    = (nn (V c main_arg1 : S2048x1024.Idx → EReal) (joined (V c main_v5)) : S2048x2048.Idx → EReal) := by
  refine (dat1 V c).arrAt_eq_of_covers 5 _ (by decide +kernel) fun t hf y => ?_
  have ht := lt_1 t
  blk_simp
  rw [after1_5]; frame_out
  rw [pay1]
  have h1 : (y 1).val < 256 := (y 1).isLt
  refine nn_congr (fun k => ?_) (fun k => ?_)
  · blk_simp [iblk1]
    refine congrArg (V c main_arg1) ?_
    blk_ext [idx1_0, idx1_5]
  · unfold flat joined
    blk_simp [iblk1]
    refine congrArg (V c main_v5) ?_
    blk_ext [idx1_1, idx1_5]

/-- The merged branches. -/
theorem region1_6 : (dat1 V c).arrAt 6 cfg1.N
    = (merged (gateAt (V c main_v3 : S6x2048x1024.Idx → EReal) 2 (by decide)) (gateAt (V c main_v3 : S6x2048x1024.Idx → EReal) 4 (by decide)) (V c main_v6) (nn (V c main_arg1 : S2048x1024.Idx → EReal) (joined (V c main_v5))) : S2048x2048.Idx → EReal) := by
  refine (dat1 V c).arrAt_eq_of_covers 6 _ (by decide +kernel) fun t hf y => ?_
  have ht := lt_1 t
  blk_simp
  rw [after1_6]; frame_out
  rw [merge]
  have h1 : (y 1).val < 256 := (y 1).isLt
  refine merged_congr ?_ ?_ ?_ (nn_congr (fun k => ?_) (fun k => ?_))
  · unfold flat gateAt
    blk_simp [iblk1]
    refine congrArg (V c main_v3) ?_
    blk_ext [idx1_2, idx1_6]
  · unfold flat gateAt
    blk_simp [iblk1]
    refine congrArg (V c main_v3) ?_
    blk_ext [idx1_3, idx1_6]
  · blk_simp [iblk1]
    refine congrArg (V c main_v6) ?_
    blk_ext [idx1_4, idx1_6]
  · blk_simp [iblk1]
    refine congrArg (V c main_arg1) ?_
    blk_ext [idx1_0, idx1_6]
  · unfold flat joined
    blk_simp [iblk1]
    refine congrArg (V c main_v5) ?_
    blk_ext [idx1_1, idx1_6]

/-- What the first gate passes to its branch. -/
theorem region2_6 : (dat2 V c).arrAt 6 cfg2.N = (passed (gateAt (V c main_v3 : S6x2048x1024.Idx → EReal) 2 (by decide)) (nt (V c main_arg6 : S2048x2048.Idx → EReal) (V c main_arg5 : S2048x2048.Idx → EReal)) : S2048x2048.Idx → EReal) := by
  refine (dat2 V c).arrAt_eq_of_covers 6 _ (by decide +kernel) fun t hf y => ?_
  have ht := lt_2 t
  blk_simp
  rw [after2_6]; frame_out
  rw [branchA]
  have h1 : (y 1).val < 256 := (y 1).isLt
  refine passed_congr ?_ (nt_congr (fun k => ?_) (fun k => ?_))
  · unfold flat gateAt
    blk_simp [iblk2]
    refine congrArg (V c main_v3) ?_
    blk_ext [idx2_2, idx2_6]
  · blk_simp [iblk2]
    refine congrArg (V c main_arg6) ?_
    blk_ext [idx2_0, idx2_6]
  · blk_simp [iblk2]
    refine congrArg (V c main_arg5) ?_
    blk_ext [idx2_1, idx2_6]

/-- What the second gate passes to its branch. -/
theorem region2_7 : (dat2 V c).arrAt 7 cfg2.N = (passed (gateAt (V c main_v3 : S6x2048x1024.Idx → EReal) 4 (by decide)) (nt (V c main_arg6 : S2048x2048.Idx → EReal) (V c main_arg5 : S2048x2048.Idx → EReal)) : S2048x2048.Idx → EReal) := by
  refine (dat2 V c).arrAt_eq_of_covers 7 _ (by decide +kernel) fun t hf y => ?_
  have ht := lt_2 t
  blk_simp
  rw [after2_7]; frame_out
  rw [branchS]
  have h1 : (y 1).val < 256 := (y 1).isLt
  refine passed_congr ?_ (nt_congr (fun k => ?_) (fun k => ?_))
  · unfold flat gateAt
    blk_simp [iblk2]
    refine congrArg (V c main_v3) ?_
    blk_ext [idx2_3, idx2_7]
  · blk_simp [iblk2]
    refine congrArg (V c main_arg6) ?_
    blk_ext [idx2_0, idx2_7]
  · blk_simp [iblk2]
    refine congrArg (V c main_arg5) ?_
    blk_ext [idx2_1, idx2_7]

/-- What the first gate receives. -/
theorem region2_8 : (dat2 V c).arrAt 8 cfg2.N = planes (slope (gateAt (V c main_v3 : S6x2048x1024.Idx → EReal) 2 (by decide)) (nt (V c main_arg6 : S2048x2048.Idx → EReal) (V c main_arg5 : S2048x2048.Idx → EReal)) (V c main_v6)) := by
  refine (dat2 V c).arrAt_eq_of_covers 8 _ (by decide +kernel) fun t hf y => ?_
  have ht := lt_2 t
  blk_simp
  rw [after2_8]; frame_out
  rw [slopeA]
  have h0 : (y 0).val < 1 := (y 0).isLt
  have h2 : (y 2).val < 256 := (y 2).isLt
  refine slope_congr ?_ (nt_congr2 (fun k => ?_) (fun k => ?_)) ?_
  · refine Eq.trans ?_ (gateAt_apply _ _ _ _ _).symm
    blk_simp [iblk2]
    refine congrArg (V c main_v3) ?_
    blk_ext [idx2_2, idx2_8]
  · blk_simp [iblk2]
    refine congrArg (V c main_arg6) ?_
    blk_ext [idx2_0, idx2_8]
  · blk_simp [iblk2]
    refine congrArg (V c main_arg5) ?_
    blk_ext [idx2_1, idx2_8]
  · blk_simp [iblk2]
    refine congrArg (V c main_v6) ?_
    blk_ext [idx2_4, idx2_8]

/-- What the second gate receives. -/
theorem region2_9 : (dat2 V c).arrAt 9 cfg2.N = planes (slope (gateAt (V c main_v3 : S6x2048x1024.Idx → EReal) 4 (by decide)) (nt (V c main_arg6 : S2048x2048.Idx → EReal) (V c main_arg5 : S2048x2048.Idx → EReal)) (V c main_v7_0)) := by
  refine (dat2 V c).arrAt_eq_of_covers 9 _ (by decide +kernel) fun t hf y => ?_
  have ht := lt_2 t
  blk_simp
  rw [after2_9]; frame_out
  rw [slopeS]
  have h0 : (y 0).val < 1 := (y 0).isLt
  have h2 : (y 2).val < 256 := (y 2).isLt
  refine slope_congr ?_ (nt_congr2 (fun k => ?_) (fun k => ?_)) ?_
  · refine Eq.trans ?_ (gateAt_apply _ _ _ _ _).symm
    blk_simp [iblk2]
    refine congrArg (V c main_v3) ?_
    blk_ext [idx2_3, idx2_9]
  · blk_simp [iblk2]
    refine congrArg (V c main_arg6) ?_
    blk_ext [idx2_0, idx2_9]
  · blk_simp [iblk2]
    refine congrArg (V c main_arg5) ?_
    blk_ext [idx2_1, idx2_9]
  · blk_simp [iblk2]
    refine congrArg (V c main_v7_0) ?_
    blk_ext [idx2_5, idx2_9]

end Cert.Gated

end
-- ==== Proof.Merge.Products.lean ====
/- The five calls that are one product each: the output array after the call is the product of the two arrays read. -/
module

public import proofs.«01_k».proof.Proof.Gen.MergeIdeal.Frame
public import proofs.«01_k».proof.Proof.Merge.Bodies
public import Idealize.ShloMosaic.Lib.Pipeline.ValueKit.Geometry
public import Idealize.ShloMosaic.Lib.Pipeline.ValueKit.Acc

@[expose] public section

set_option maxRecDepth 16384

noncomputable section

namespace Cert.Gated

open Idealize.ShloMosaic Idealize.ShloMosaic.TcCoe Idealize.SL.Sem Cert.MergeIdeal Cert.MergeIdeal.Gen Cert.Mat

/-! ### Where a point's blocks lie -/

theorem idx0_0 : ∀ t : Fin cfg0.N, win0_0.index t = ![t.val / 4, 0] :=
  (by decide +kernel : ∀ t : Fin grid0.N, win0_0.index t = ![t.val / 4, 0])
theorem idx0_1 : ∀ t : Fin cfg0.N, win0_1.index t = ![0, t.val % 4] :=
  (by decide +kernel : ∀ t : Fin grid0.N, win0_1.index t = ![0, t.val % 4])
theorem idx0_2 : ∀ t : Fin cfg0.N, win0_2.index t = ![t.val / 4, t.val % 4] :=
  (by decide +kernel : ∀ t : Fin grid0.N, win0_2.index t = ![t.val / 4, t.val % 4])
theorem idx3_0 : ∀ t : Fin cfg3.N, win3_0.index t = ![0, t.val / 4] :=
  (by decide +kernel : ∀ t : Fin grid3.N, win3_0.index t = ![0, t.val / 4])
theorem idx3_1 : ∀ t : Fin cfg3.N, win3_1.index t = ![0, t.val % 4] :=
  (by decide +kernel : ∀ t : Fin grid3.N, win3_1.index t = ![0, t.val % 4])
theorem idx3_2 : ∀ t : Fin cfg3.N, win3_2.index t = ![t.val / 4, t.val % 4] :=
  (by decide +kernel : ∀ t : Fin grid3.N, win3_2.index t = ![t.val / 4, t.val % 4])
theorem idx4_0 : ∀ t : Fin cfg4.N, win4_0.index t = ![0, t.val / 4] :=
  (by decide +kernel : ∀ t : Fin grid4.N, win4_0.index t = ![0, t.val / 4])
theorem idx4_1 : ∀ t : Fin cfg4.N, win4_1.index t = ![0, t.val % 4] :=
  (by decide +kernel : ∀ t : Fin grid4.N, win4_1.index t = ![0, t.val % 4])
theorem idx4_2 : ∀ t : Fin cfg4.N, win4_2.index t = ![t.val / 4, t.val % 4] :=
  (by decide +kernel : ∀ t : Fin grid4.N, win4_2.index t = ![t.val / 4, t.val % 4])
theorem idx5_0 : ∀ t : Fin cfg5.N, win5_0.index t = ![t.val / 4, 0] :=
  (by decide +kernel : ∀ t : Fin grid5.N, win5_0.index t = ![t.val / 4, 0])
theorem idx5_1 : ∀ t : Fin cfg5.N, win5_1.index t = ![t.val % 4, 0] :=
  (by decide +kernel : ∀ t : Fin grid5.N, win5_1.index t = ![t.val % 4, 0])
theorem idx5_2 : ∀ t : Fin cfg5.N, win5_2.index t = ![t.val / 4, t.val % 4] :=
  (by decide +kernel : ∀ t : Fin grid5.N, win5_2.index t = ![t.val / 4, t.val % 4])
theorem idx6_0 : ∀ t : Fin cfg6.N, win6_0.index t = ![0, 0] :=
  (by decide +kernel : ∀ t : Fin grid6.N, win6_0.index t = ![0, 0])
theorem idx6_1 : ∀ t : Fin cfg6.N, win6_1.index t = ![0, t.val] :=
  (by decide +kernel : ∀ t : Fin grid6.N, win6_1.index t = ![0, t.val])
theorem idx6_2 : ∀ t : Fin cfg6.N, win6_2.index t = ![t.val, 0, 0] :=
  (by decide +kernel : ∀ t : Fin grid6.N, win6_2.index t = ![t.val, 0, 0])

variable (V : (c : Dev nD) → (b : Ref sig .tc) → Buf (Elt Ideal) ((c : Thread nD τ).loc b)) (c : Dev nD)

/-- The first branch: its product. -/
theorem region0 : (dat0 V c).arrAt 2 cfg0.N = (nn (V c main_arg0 : S2048x2048.Idx → EReal) (V c main_arg3 : S2048x2048.Idx → EReal) : S2048x2048.Idx → EReal) := by
  refine (dat0 V c).arrAt_eq_of_covers 2 _ (by decide +kernel) fun t hf y => ?_
  blk_simp
  rw [after0_2]; frame_out
  rw [pay0]
  refine nn_congr (fun k => ?_) (fun k => ?_)
  · blk_simp [iblk0]
    refine congrArg (V c main_arg0) ?_
    blk_ext [idx0_0, idx0_2]
  · blk_simp [iblk0]
    refine congrArg (V c main_arg3) ?_
    blk_ext [idx0_1, idx0_2]

/-- The last matrix's gradient. -/
theorem region3 : (dat3 V c).arrAt 2 cfg3.N = (tn (V c main_v7_1 : S2048x2048.Idx → EReal) (V c main_arg6 : S2048x2048.Idx → EReal) : S2048x2048.Idx → EReal) := by
  refine (dat3 V c).arrAt_eq_of_covers 2 _ (by decide +kernel) fun t hf y => ?_
  blk_simp
  rw [after3_2]; frame_out
  rw [pay3]
  refine tn_congr (fun k => ?_) (fun k => ?_)
  · blk_simp [iblk3]
    refine congrArg (V c main_v7_1) ?_
    blk_ext [idx3_0, idx3_2]
  · blk_simp [iblk3]
    refine congrArg (V c main_arg6) ?_
    blk_ext [idx3_1, idx3_2]

/-- The first branch's matrix's gradient. -/
theorem region4 : (dat4 V c).arrAt 2 cfg4.N = (tn (V c main_arg0 : S2048x2048.Idx → EReal) (V c main_v8_0 : S2048x2048.Idx → EReal) : S2048x2048.Idx → EReal) := by
  refine (dat4 V c).arrAt_eq_of_covers 2 _ (by decide +kernel) fun t hf y => ?_
  blk_simp
  rw [after4_2]; frame_out
  rw [pay4]
  refine tn_congr (fun k => ?_) (fun k => ?_)
  · blk_simp [iblk4]
    refine congrArg (V c main_arg0) ?_
    blk_ext [idx4_0, idx4_2]
  · blk_simp [iblk4]
    refine congrArg (V c main_v8_0) ?_
    blk_ext [idx4_1, idx4_2]

/-- The first branch's argument's gradient. -/
theorem region5 : (dat5 V c).arrAt 2 cfg5.N = (nt (V c main_v8_0 : S2048x2048.Idx → EReal) (V c main_arg3 : S2048x2048.Idx → EReal) : S2048x2048.Idx → EReal) := by
  refine (dat5 V c).arrAt_eq_of_covers 2 _ (by decide +kernel) fun t hf y => ?_
  blk_simp
  rw [after5_2]; frame_out
  rw [pay5]
  refine nt_congr (fun k => ?_) (fun k => ?_)
  · blk_simp [iblk5]
    refine congrArg (V c main_v8_0) ?_
    blk_ext [idx5_0, idx5_2]
  · blk_simp [iblk5]
    refine congrArg (V c main_arg3) ?_
    blk_ext [idx5_1, idx5_2]

/-- A matrix of 2048 columns as eight matrices of 256 columns each. -/
def cols (g : (⟨2, ![1024, 2048]⟩ : Shape).Idx → EReal) : S8x1024x256.Idx → EReal :=
  fun i => g (ix2 (i 1) ⟨(i 0).val * 256 + (i 2).val, by have h0 : (i 0).val < 8 := (i 0).isLt; have h2 : (i 2).val < 256 := (i 2).isLt; omega⟩)

/-- The second branch's matrix's gradient. -/
theorem region6 : (dat6 V c).arrAt 2 cfg6.N = cols (tn (V c main_arg1 : S2048x1024.Idx → EReal) (V c main_v8_1 : S2048x2048.Idx → EReal)) := by
  refine (dat6 V c).arrAt_eq_of_covers 2 _ (by decide +kernel) fun t hf y => ?_
  blk_simp
  rw [after6_2]; frame_out
  rw [pay6]
  have h0 : (y 0).val < 1 := (y 0).isLt
  refine tn_congr (fun k => ?_) (fun k => ?_)
  · blk_simp [iblk6]
    refine congrArg (V c main_arg1) ?_
    blk_ext [idx6_0, idx6_2]
  · blk_simp [iblk6]
    refine congrArg (V c main_v8_1) ?_
    blk_ext [idx6_1, idx6_2]

end Cert.Gated

end
-- ==== Proof.Merge.Host.lean ====
/- What the host's operations before and after the calls do: they lay the gates out in planes and the second branch's
   matrix in blocks of columns, and put the results back in the arguments' layouts. -/
module

public import proofs.«01_k».proof.Proof.Merge.Gates
public import proofs.«01_k».proof.Proof.Merge.Products
public import Idealize.ShloMosaic.Lib.Pointwise

@[expose] public section

set_option maxRecDepth 16384

noncomputable section

namespace Cert.Gated

open Idealize.ShloMosaic Idealize.ShloMosaic.TcCoe Idealize.SL.Sem Cert.MergeIdeal Cert.MergeIdeal.Gen Cert.Mat

/-- Half of the columns of a matrix of 4096, from column `p` on. -/
def half (g : S2048x4096.Idx → EReal) (p : Nat) (hp : p ≤ 2048) : S2048x2048.Idx → EReal :=
  fun i => g (ix2 (i 0) ⟨p + (i 1).val, by have h : (i 1).val < 2048 := (i 1).isLt; omega⟩)

theorem gate_planes (z : Vec Ideal S2x2048x1024 .f32) (g : Vec Ideal S2048x4096 .f32) (q p : Nat) (hq : q ≤ 2) (hp : p ≤ 4) (hp' : q * 1024 ≤ 2048) (e : p = q + 2) :
    gateAt (concatenate S6x2048x1024 0 [⟨S2x2048x1024, z⟩, ⟨S4x2048x1024, transpose S4x2048x1024 [1, 0, 2]
      (shapeCast S2048x4x1024 g shapeCasts_S2048x4096_S2048x4x1024) transposes_S2048x4x1024_S4x2048x1024_1_0_2⟩]
      concatenates_S2x2048x1024_S4x2048x1024_S6x2048x1024_d0) p hp = half g (q * 1024) hp' :=
  eq2 fun i j => by
    subst e
    have hj : j.val < 2048 := j.isLt
    have h4 : q + j.val / 1024 < 4 := by omega
    have hm : j.val % 1024 < 1024 := by omega
    refine (concatenate_pair_apply_right (t := S6x2048x1024) (s₁ := S2x2048x1024) (s₂ := S4x2048x1024) 0 _ _ _ _ rfl rfl (ix3 ⟨q + j.val / 1024, h4⟩ i ⟨j.val % 1024, hm⟩) ?_ ?_).trans ?_
    · intro b hb
      fin_cases b
      · exact absurd rfl hb
      · rfl
      · rfl
    · show q + j.val / 1024 + 2 = q + 2 + j.val / 1024
      omega
    · refine (transpose_apply _ _ _ _ (ix3 i ⟨q + j.val / 1024, h4⟩ ⟨j.val % 1024, hm⟩) fun b => by fin_cases b <;> rfl).trans ?_
      refine shapeCast_apply _ _ _ (ix2 i ⟨q * 1024 + j.val, by omega⟩) ?_
      rw [Shape.rowMajor_val_two, Shape.rowMajor_val_three]
      show i.val * 4096 + (q * 1024 + j.val) = (i.val * 4 + (q + j.val / 1024)) * 1024 + j.val % 1024
      omega

theorem blocks_joined (w : Vec Ideal S1024x2048 .bf16) :
    joined (transpose S8x1024x256 [1, 0, 2] (shapeCast S1024x8x256 w shapeCasts_S1024x2048_S1024x8x256) transposes_S1024x8x256_S8x1024x256_1_0_2) = w :=
  eq2 fun i j => by
    have hj : j.val < 2048 := j.isLt
    have h8 : j.val / 256 < 8 := by omega
    have hm : j.val % 256 < 256 := by omega
    refine (transpose_apply _ _ _ _ (ix3 i ⟨j.val / 256, h8⟩ ⟨j.val % 256, hm⟩) fun b => by fin_cases b <;> rfl).trans ?_
    refine shapeCast_apply _ _ _ (ix2 i j) ?_
    rw [Shape.rowMajor_val_two, Shape.rowMajor_val_three]
    show i.val * 2048 + j.val = (i.val * 8 + j.val / 256) * 256 + j.val % 256
    omega

theorem cols_back (g : S1024x2048.Idx → EReal) :
    shapeCast S1024x2048 (transpose S1024x8x256 [1, 0, 2] (cols g) transposes_S8x1024x256_S1024x8x256_1_0_2) shapeCasts_S1024x8x256_S1024x2048 = g :=
  eq2 fun i j => by
    have hj : j.val < 2048 := j.isLt
    have h8 : j.val / 256 < 8 := by omega
    have hm : j.val % 256 < 256 := by omega
    refine (shapeCast_apply _ _ _ (ix3 i ⟨j.val / 256, h8⟩ ⟨j.val % 256, hm⟩) ?_).trans ?_
    · rw [Shape.rowMajor_val_two, Shape.rowMajor_val_three]
      show (i.val * 8 + j.val / 256) * 256 + j.val % 256 = i.val * 2048 + j.val
      omega
    · refine (transpose_apply _ _ _ _ (ix3 ⟨j.val / 256, h8⟩ i ⟨j.val % 256, hm⟩) fun b => by fin_cases b <;> rfl).trans ?_
      refine congrArg (fun k => g (ix2 i k)) (Fin.ext ?_)
      show j.val / 256 * 256 + j.val % 256 = j.val
      omega

theorem planes_back (g : S2048x2048.Idx → EReal) :
    shapeCast S2048x2048 (transpose S2048x2x1024 [1, 0, 2] (planes g) transposes_S2x2048x1024_S2048x2x1024_1_0_2) shapeCasts_S2048x2x1024_S2048x2048 = g :=
  eq2 fun i j => by
    have hj : j.val < 2048 := j.isLt
    have h8 : j.val / 1024 < 2 := by omega
    have hm : j.val % 1024 < 1024 := by omega
    refine (shapeCast_apply _ _ _ (ix3 i ⟨j.val / 1024, h8⟩ ⟨j.val % 1024, hm⟩) ?_).trans ?_
    · rw [Shape.rowMajor_val_two, Shape.rowMajor_val_three]
      show (i.val * 2 + j.val / 1024) * 1024 + j.val % 1024 = i.val * 2048 + j.val
      omega
    · refine (transpose_apply _ _ _ _ (ix3 ⟨j.val / 1024, h8⟩ i ⟨j.val % 1024, hm⟩) fun b => by fin_cases b <;> rfl).trans ?_
      refine congrArg (fun k => g (ix2 i k)) (Fin.ext ?_)
      show j.val / 1024 * 1024 + j.val % 1024 = j.val
      omega

end Cert.Gated

end
-- ==== Proof.Merge.Chain.lean ====
/- The calls one after another: what each array holds at the end, as a function of the arguments. -/
module

public import proofs.«01_k».proof.Proof.Merge.Host

@[expose] public section

set_option maxRecDepth 16384

noncomputable section

namespace Cert.Gated

open Idealize.ShloMosaic Idealize.ShloMosaic.TcCoe Idealize.SL.Sem Cert.MergeIdeal Cert.MergeIdeal.Gen Cert.Mat

/-- The arguments: the two branches before their matrices, the gates, the three matrices, the result's gradient. -/
structure Args where
  attn : S2048x2048.Idx → EReal
  y : S2048x1024.Idx → EReal
  gate : S2048x4096.Idx → EReal
  wAttn : S2048x2048.Idx → EReal
  wSsm : S1024x2048.Idx → EReal
  wOut : S2048x2048.Idx → EReal
  ct : S2048x2048.Idx → EReal

namespace Args
variable (a : Args)

/-- The first branch's gate. -/
def gA : S2048x2048.Idx → EReal := half a.gate 0 (by decide)
/-- The second branch's gate. -/
def gS : S2048x2048.Idx → EReal := half a.gate 2048 (by decide)
/-- The first branch. -/
def bA : S2048x2048.Idx → EReal := nn a.attn a.wAttn
/-- The second branch. -/
def bS : S2048x2048.Idx → EReal := nn a.y a.wSsm
/-- The gradient of the merged branches. -/
def d : S2048x2048.Idx → EReal := nt a.ct a.wOut
/-- The gradient of the first branch. -/
def dA : S2048x2048.Idx → EReal := passed a.gA a.d
/-- The gradient of the second branch. -/
def dS : S2048x2048.Idx → EReal := passed a.gS a.d
/-- The gradient of the first branch's argument. -/
def gradAttn : S2048x2048.Idx → EReal := nt a.dA a.wAttn
/-- The gradient of the first branch's matrix. -/
def gradWAttn : S2048x2048.Idx → EReal := tn a.attn a.dA
/-- The gradient of the second branch's matrix. -/
def gradWSsm : S1024x2048.Idx → EReal := tn a.y a.dS
/-- The gradient of the last matrix. -/
def gradWOut : S2048x2048.Idx → EReal := tn (merged a.gA a.gS a.bA a.bS) a.ct
/-- The gradient of the first gate. -/
def slopeA : S2048x2048.Idx → EReal := slope a.gA a.d a.bA
/-- The gradient of the second gate. -/
def slopeS : S2048x2048.Idx → EReal := slope a.gS a.d a.bS
end Args

variable (m : (ℓ : Loc nD τ sig) → Buf (Elt Ideal) ℓ) (ρ : Dev nD → PrngReg) (c : Dev nD)

/-- A device's arguments. -/
def args : Args where
  attn := m ((c.tc : Thread nD τ).loc main_arg0)
  y := m ((c.tc : Thread nD τ).loc main_arg1)
  gate := m ((c.tc : Thread nD τ).loc main_arg2)
  wAttn := m ((c.tc : Thread nD τ).loc main_arg3)
  wSsm := m ((c.tc : Thread nD τ).loc main_arg4)
  wOut := m ((c.tc : Thread nD τ).loc main_arg5)
  ct := m ((c.tc : Thread nD τ).loc main_arg6)

/-! ### Before the calls -/

theorem gates1 : ∃ z : Vec Ideal S2x2048x1024 .f32, W1 m ρ c (Proc.devRef .tc main_v3)
    = concatenate S6x2048x1024 0 [⟨S2x2048x1024, z⟩, ⟨S4x2048x1024, transpose S4x2048x1024 [1, 0, 2]
      (shapeCast S2048x4x1024 (args m c).gate shapeCasts_S2048x4096_S2048x4x1024) transposes_S2048x4x1024_S4x2048x1024_1_0_2⟩]
      concatenates_S2x2048x1024_S4x2048x1024_S6x2048x1024_d0 := by
  refine ⟨broadcastInDim S2x2048x1024 ![] bcast_S_S2x2048x1024 (constant (F := Ideal) S_ .f32 0x00000000#32 : S_.Idx → EReal), ?_⟩
  after_results_simp <;> rfl

theorem blocks1 : W1 m ρ c (Proc.devRef .tc main_v5)
    = transpose S8x1024x256 [1, 0, 2] (shapeCast S1024x8x256 (args m c).wSsm shapeCasts_S1024x2048_S1024x8x256) transposes_S1024x8x256_S8x1024x256_1_0_2 := by
  after_results_simp <;> rfl

/-! ### After each call -/

theorem v6 : W2 m ρ c (Proc.devRef .tc main_v6) = (args m c).bA :=
  (W2_arr m ρ c 2).trans ((region0 (V1 m ρ) c).trans (congrArg₂ nn (W1_args m ρ c main_arg0 (by decide)) (W1_args m ρ c main_arg3 (by decide))))

theorem v3_2 : W2 m ρ c (Proc.devRef .tc main_v3) = W1 m ρ c (Proc.devRef .tc main_v3) := W2_of m ρ c main_v3 (by decide +kernel)
theorem v5_2 : W2 m ρ c (Proc.devRef .tc main_v5) = W1 m ρ c (Proc.devRef .tc main_v5) := W2_of m ρ c main_v5 (by decide +kernel)

theorem gA_2 : gateAt (W2 m ρ c (Proc.devRef .tc main_v3)) 2 (by decide) = (args m c).gA := by
  obtain ⟨z, h⟩ := gates1 m ρ c
  rw [v3_2, h]; exact gate_planes z _ 0 2 (by decide) _ _ rfl
theorem gS_2 : gateAt (W2 m ρ c (Proc.devRef .tc main_v3)) 4 (by decide) = (args m c).gS := by
  obtain ⟨z, h⟩ := gates1 m ρ c
  rw [v3_2, h]; exact gate_planes z _ 2 4 (by decide) _ _ rfl
theorem wSsm_2 : joined (W2 m ρ c (Proc.devRef .tc main_v5)) = (args m c).wSsm := by
  rw [v5_2, blocks1]; exact blocks_joined _

theorem v7_0 : W3 m ρ c (Proc.devRef .tc main_v7_0) = (args m c).bS :=
  (W3_arr m ρ c 5).trans ((region1_5 (V2 m ρ) c).trans (congrArg₂ nn (W2_args m ρ c main_arg1 (by decide)) (wSsm_2 m ρ c)))

theorem v7_1 : W3 m ρ c (Proc.devRef .tc main_v7_1) = merged (args m c).gA (args m c).gS (args m c).bA (args m c).bS :=
  (W3_arr m ρ c 6).trans ((region1_6 (V2 m ρ) c).trans (by
    rw [show (V2 m ρ c main_v6 : S2048x2048.Idx → EReal) = (args m c).bA from v6 m ρ c]
    rw [show (V2 m ρ c main_arg1 : S2048x1024.Idx → EReal) = (args m c).y from W2_args m ρ c main_arg1 (by decide)]
    rw [show joined (V2 m ρ c main_v5) = (args m c).wSsm from wSsm_2 m ρ c]
    rw [show gateAt (V2 m ρ c main_v3 : S6x2048x1024.Idx → EReal) 2 (by decide) = (args m c).gA from gA_2 m ρ c]
    rw [show gateAt (V2 m ρ c main_v3 : S6x2048x1024.Idx → EReal) 4 (by decide) = (args m c).gS from gS_2 m ρ c]
    rfl))

theorem v3_3 : W3 m ρ c (Proc.devRef .tc main_v3) = W2 m ρ c (Proc.devRef .tc main_v3) := W3_of m ρ c main_v3 (by decide +kernel)
theorem v6_3 : W3 m ρ c (Proc.devRef .tc main_v6) = (args m c).bA := (W3_of m ρ c main_v6 (by decide +kernel)).trans (v6 m ρ c)

theorem d_3 : (nt (V3 m ρ c main_arg6 : S2048x2048.Idx → EReal) (V3 m ρ c main_arg5 : S2048x2048.Idx → EReal) : S2048x2048.Idx → EReal) = (args m c).d :=
  congrArg₂ nt (W3_args m ρ c main_arg6 (by decide)) (W3_args m ρ c main_arg5 (by decide))
theorem gA_3 : gateAt (V3 m ρ c main_v3) 2 (by decide) = (args m c).gA :=
  (congrArg (fun z => gateAt z 2 (by decide)) (v3_3 m ρ c)).trans (gA_2 m ρ c)
theorem gS_3 : gateAt (V3 m ρ c main_v3) 4 (by decide) = (args m c).gS :=
  (congrArg (fun z => gateAt z 4 (by decide)) (v3_3 m ρ c)).trans (gS_2 m ρ c)

theorem v8_0 : W4 m ρ c (Proc.devRef .tc main_v8_0) = (args m c).dA :=
  (W4_arr m ρ c 6).trans ((region2_6 (V3 m ρ) c).trans (congrArg₂ passed (gA_3 m ρ c) (d_3 m ρ c)))
theorem v8_1 : W4 m ρ c (Proc.devRef .tc main_v8_1) = (args m c).dS :=
  (W4_arr m ρ c 7).trans ((region2_7 (V3 m ρ) c).trans (congrArg₂ passed (gS_3 m ρ c) (d_3 m ρ c)))
theorem v8_2 : W4 m ρ c (Proc.devRef .tc main_v8_2) = planes (args m c).slopeA :=
  (W4_arr m ρ c 8).trans ((region2_8 (V3 m ρ) c).trans (congrArg planes (by
    rw [gA_3, d_3, show (V3 m ρ c main_v6 : S2048x2048.Idx → EReal) = (args m c).bA from v6_3 m ρ c]; rfl)))
theorem v8_3 : W4 m ρ c (Proc.devRef .tc main_v8_3) = planes (args m c).slopeS :=
  (W4_arr m ρ c 9).trans ((region2_9 (V3 m ρ) c).trans (congrArg planes (by
    rw [gS_3, d_3, show (V3 m ρ c main_v7_0 : S2048x2048.Idx → EReal) = (args m c).bS from v7_0 m ρ c]; rfl)))

theorem v9 : W5 m ρ c (Proc.devRef .tc main_v9) = (args m c).gradWOut :=
  (W5_arr m ρ c 2).trans ((region3 (V4 m ρ) c).trans (congrArg₂ tn ((W4_of m ρ c main_v7_1 (by decide +kernel)).trans (v7_1 m ρ c))
    (W4_args m ρ c main_arg6 (by decide))))

theorem v8_0_5 : W5 m ρ c (Proc.devRef .tc main_v8_0) = (args m c).dA := (W5_of m ρ c main_v8_0 (by decide +kernel)).trans (v8_0 m ρ c)
theorem v8_0_6 : W6 m ρ c (Proc.devRef .tc main_v8_0) = (args m c).dA := (W6_of m ρ c main_v8_0 (by decide +kernel)).trans (v8_0_5 m ρ c)
theorem v8_1_7 : W7 m ρ c (Proc.devRef .tc main_v8_1) = (args m c).dS :=
  (W7_of m ρ c main_v8_1 (by decide +kernel)).trans ((W6_of m ρ c main_v8_1 (by decide +kernel)).trans
    ((W5_of m ρ c main_v8_1 (by decide +kernel)).trans (v8_1 m ρ c)))

theorem v10 : W6 m ρ c (Proc.devRef .tc main_v10) = (args m c).gradWAttn :=
  (W6_arr m ρ c 2).trans ((region4 (V5 m ρ) c).trans (congrArg₂ tn (W5_args m ρ c main_arg0 (by decide)) (v8_0_5 m ρ c)))
theorem v11 : W7 m ρ c (Proc.devRef .tc main_v11) = (args m c).gradAttn :=
  (W7_arr m ρ c 2).trans ((region5 (V6 m ρ) c).trans (congrArg₂ nt (v8_0_6 m ρ c) (W6_args m ρ c main_arg3 (by decide))))
theorem v12 : W8 m ρ c (Proc.devRef .tc main_v12) = cols (args m c).gradWSsm :=
  (W8_arr m ρ c 2).trans ((region6 (V7 m ρ) c).trans (congrArg cols (congrArg₂ tn (W7_args m ρ c main_arg1 (by decide)) (v8_1_7 m ρ c))))

/-! ### After the calls -/

theorem v8_2_8 : W8 m ρ c (Proc.devRef .tc main_v8_2) = planes (args m c).slopeA :=
  (W8_of m ρ c main_v8_2 (by decide +kernel)).trans ((W7_of m ρ c main_v8_2 (by decide +kernel)).trans ((W6_of m ρ c main_v8_2 (by decide +kernel)).trans
    ((W5_of m ρ c main_v8_2 (by decide +kernel)).trans (v8_2 m ρ c))))
theorem v8_3_8 : W8 m ρ c (Proc.devRef .tc main_v8_3) = planes (args m c).slopeS :=
  (W8_of m ρ c main_v8_3 (by decide +kernel)).trans ((W7_of m ρ c main_v8_3 (by decide +kernel)).trans ((W6_of m ρ c main_v8_3 (by decide +kernel)).trans
    ((W5_of m ρ c main_v8_3 (by decide +kernel)).trans (v8_3 m ρ c))))
theorem v9_8 : W8 m ρ c (Proc.devRef .tc main_v9) = (args m c).gradWOut :=
  (W8_of m ρ c main_v9 (by decide +kernel)).trans ((W7_of m ρ c main_v9 (by decide +kernel)).trans ((W6_of m ρ c main_v9 (by decide +kernel)).trans (v9 m ρ c)))
theorem v10_8 : W8 m ρ c (Proc.devRef .tc main_v10) = (args m c).gradWAttn :=
  (W8_of m ρ c main_v10 (by decide +kernel)).trans ((W7_of m ρ c main_v10 (by decide +kernel)).trans (v10 m ρ c))
theorem v11_8 : W8 m ρ c (Proc.devRef .tc main_v11) = (args m c).gradAttn :=
  (W8_of m ρ c main_v11 (by decide +kernel)).trans (v11 m ρ c)

theorem out0 : W9 m ρ c (Proc.devRef .tc main_v20) = (args m c).gradAttn := by
  refine Eq.trans ?_ (v11_8 m ρ c)
  after_results_simp <;> rfl
theorem out2 : W9 m ρ c (Proc.devRef .tc main_v21) = (args m c).gradWAttn := by
  refine Eq.trans ?_ (v10_8 m ρ c)
  after_results_simp <;> rfl
theorem out4 : W9 m ρ c (Proc.devRef .tc main_v25) = (args m c).gradWOut := by
  refine Eq.trans ?_ (v9_8 m ρ c)
  after_results_simp <;> rfl
theorem out3 : W9 m ρ c (Proc.devRef .tc main_v24) = (args m c).gradWSsm := by
  refine Eq.trans ?_ (cols_back _)
  rw [← v12 m ρ c]
  after_results_simp <;> rfl
theorem out1 : W9 m ρ c (Proc.devRef .tc main_v19) = concatenate S2048x4096 1 [⟨S2048x2048, (args m c).slopeA⟩, ⟨S2048x2048, (args m c).slopeS⟩]
    concatenates_S2048x2048_S2048x2048_S2048x4096_d1 := by
  rw [← planes_back (args m c).slopeA, ← planes_back (args m c).slopeS, ← v8_2_8 m ρ c, ← v8_3_8 m ρ c]
  after_results_simp <;> rfl

end Cert.Gated

end
-- ==== Proof.Merge.Reference.lean ====
/- The reference's results at the same functions of the arguments, and with them the claim. -/
module

public import proofs.«01_k».proof.Proof.Gen.MergeReferenceIdeal.Read
public import proofs.«01_k».proof.Proof.Merge.Chain

@[expose] public section

set_option maxRecDepth 16384

noncomputable section

namespace Cert.Gated

open Idealize.ShloMosaic Idealize.ShloMosaic.TcCoe Cert.MergeReferenceIdeal Cert.MergeReferenceIdeal.Gen Cert.MergeReferenceIdeal.Read Cert.Mat

variable (x0 x3 x5 x6 : (⟨S2048x2048, .bf16⟩ : BufTy).Contents (Elt Ideal)) (x1 : (⟨S2048x1024, .bf16⟩ : BufTy).Contents (Elt Ideal))
  (x2 : (⟨S2048x4096, .f32⟩ : BufTy).Contents (Elt Ideal)) (x4 : (⟨S1024x2048, .bf16⟩ : BufTy).Contents (Elt Ideal))

/-- The reference's arguments. -/
abbrev refArgs : Args := ⟨x0, x1, x2, x3, x4, x5, x6⟩

theorem gate_apply (i : S2048x4096.Idx) : val_main_v11 (F := Ideal) x2 i = sg (x2 i) := by
  rw [val_main_v11_apply, val_main_v10_apply, val_main_v9_apply, val_main_v8_apply, val_main_v7_apply, val_main_v6_apply]
  rw [val_main_cst_apply, val_main_cst_0_apply, ← sg_eq, ← one_word]
  rfl

theorem gA_ref (i : S2048x2048.Idx) : val_main_v15 (F := Ideal) x2 i = sg (half x2 0 (by decide) i) := by
  rw [val_main_v15_apply, gate_apply]
  refine congrArg (fun k => sg (x2 k)) (funext fun a => Fin.ext ?_)
  fin_cases a
  · rfl
  · exact (Nat.zero_add _).symm

theorem gS_ref (i : S2048x2048.Idx) : val_main_v16 (F := Ideal) x2 i = sg (half x2 2048 (by decide) i) := by
  rw [val_main_v16_apply, gate_apply]
  refine congrArg (fun k => sg (x2 k)) (funext fun a => Fin.ext ?_)
  fin_cases a <;> rfl

theorem bA_ref : val_main_v17 (F := Ideal) x0 x3 = (refArgs x0 x3 x5 x6 x1 x2 x4).bA := eq2 fun i j => by
  rw [val_main_v17_apply]
  show _ = ∑ k : Fin 2048, x0 (ix2 i k) * x3 (ix2 k j)
  refine Finset.sum_congr rfl fun k _ => times ?_ ?_
  · exact congrArg x0 (funext fun a => by fin_cases a <;> rfl)
  · exact congrArg x3 (funext fun a => by fin_cases a <;> rfl)

theorem bS_ref : val_main_v19 (F := Ideal) x1 x4 = (refArgs x0 x3 x5 x6 x1 x2 x4).bS := eq2 fun i j => by
  rw [val_main_v19_apply]
  show _ = ∑ k : Fin 1024, x1 (ix2 i k) * x4 (ix2 k j)
  refine Finset.sum_congr rfl fun k _ => times ?_ ?_
  · exact congrArg x1 (funext fun a => by fin_cases a <;> rfl)
  · exact congrArg x4 (funext fun a => by fin_cases a <;> rfl)

theorem d_ref : val_main_v25 (F := Ideal) x5 x6 = (refArgs x0 x3 x5 x6 x1 x2 x4).d := eq2 fun i j => by
  rw [val_main_v25_apply]
  show _ = ∑ k : Fin 2048, x6 (ix2 i k) * x5 (ix2 j k)
  refine Finset.sum_congr rfl fun k _ => times ?_ ?_
  · exact congrArg x6 (funext fun a => by fin_cases a <;> rfl)
  · exact congrArg x5 (funext fun a => by fin_cases a <;> rfl)

theorem dA_ref : val_main_v31 (F := Ideal) x2 x5 x6 = (refArgs x0 x3 x5 x6 x1 x2 x4).dA := funext fun i => by
  rw [val_main_v31_apply, gA_ref, d_ref x0 x3 x5 x6 x1 x2 x4]; rfl

theorem dS_ref : val_main_v26 (F := Ideal) x2 x5 x6 = (refArgs x0 x3 x5 x6 x1 x2 x4).dS := funext fun i => by
  rw [val_main_v26_apply, gS_ref, d_ref x0 x3 x5 x6 x1 x2 x4]; rfl

theorem merged_ref : val_main_v21 (F := Ideal) x0 x1 x2 x3 x4 = merged (refArgs x0 x3 x5 x6 x1 x2 x4).gA (refArgs x0 x3 x5 x6 x1 x2 x4).gS (refArgs x0 x3 x5 x6 x1 x2 x4).bA (refArgs x0 x3 x5 x6 x1 x2 x4).bS := funext fun i => by
  rw [val_main_v21_apply, val_main_v18_apply, val_main_v20_apply, gA_ref, gS_ref, bA_ref x0 x3 x5 x6 x1 x2 x4, bS_ref x0 x3 x5 x6 x1 x2 x4]; rfl

theorem attn_ref : val_main_v35 (F := Ideal) x2 x3 x5 x6 = (refArgs x0 x3 x5 x6 x1 x2 x4).gradAttn := eq2 fun i j => by
  rw [val_main_v35_apply]
  show _ = ∑ k : Fin 2048, (refArgs x0 x3 x5 x6 x1 x2 x4).dA (ix2 i k) * x3 (ix2 j k)
  refine Finset.sum_congr rfl fun k _ => times ?_ ?_
  · rw [dA_ref x0 x3 x5 x6 x1 x2 x4]; exact congrArg (refArgs x0 x3 x5 x6 x1 x2 x4).dA (funext fun a => by fin_cases a <;> rfl)
  · exact congrArg x3 (funext fun a => by fin_cases a <;> rfl)

theorem wAttn_ref : val_main_v34 (F := Ideal) x0 x2 x5 x6 = (refArgs x0 x3 x5 x6 x1 x2 x4).gradWAttn := eq2 fun i j => by
  rw [val_main_v34_apply, val_main_v33_apply]
  show _ = ∑ k : Fin 2048, x0 (ix2 k i) * (refArgs x0 x3 x5 x6 x1 x2 x4).dA (ix2 k j)
  refine Finset.sum_congr rfl fun k _ => times_swap ?_ ?_
  · exact congrArg x0 (funext fun a => by fin_cases a <;> rfl)
  · rw [dA_ref x0 x3 x5 x6 x1 x2 x4]; exact congrArg (refArgs x0 x3 x5 x6 x1 x2 x4).dA (funext fun a => by fin_cases a <;> rfl)

theorem wSsm_ref : val_main_v29 (F := Ideal) x1 x2 x5 x6 = (refArgs x0 x3 x5 x6 x1 x2 x4).gradWSsm := eq2 fun i j => by
  rw [val_main_v29_apply, val_main_v28_apply]
  show _ = ∑ k : Fin 2048, x1 (ix2 k i) * (refArgs x0 x3 x5 x6 x1 x2 x4).dS (ix2 k j)
  refine Finset.sum_congr rfl fun k _ => times_swap ?_ ?_
  · exact congrArg x1 (funext fun a => by fin_cases a <;> rfl)
  · rw [dS_ref x0 x3 x5 x6 x1 x2 x4]; exact congrArg (refArgs x0 x3 x5 x6 x1 x2 x4).dS (funext fun a => by fin_cases a <;> rfl)

theorem wOut_ref : val_main_v24 (F := Ideal) x0 x1 x2 x3 x4 x6 = (refArgs x0 x3 x5 x6 x1 x2 x4).gradWOut := eq2 fun i j => by
  rw [val_main_v24_apply, val_main_v23_apply]
  show _ = ∑ k : Fin 2048, (merged (refArgs x0 x3 x5 x6 x1 x2 x4).gA (refArgs x0 x3 x5 x6 x1 x2 x4).gS (refArgs x0 x3 x5 x6 x1 x2 x4).bA (refArgs x0 x3 x5 x6 x1 x2 x4).bS) (ix2 k i) * x6 (ix2 k j)
  refine Finset.sum_congr rfl fun k _ => times_swap ?_ ?_
  · rw [merged_ref x0 x3 x5 x6 x1 x2 x4]; exact congrArg (merged (refArgs x0 x3 x5 x6 x1 x2 x4).gA (refArgs x0 x3 x5 x6 x1 x2 x4).gS (refArgs x0 x3 x5 x6 x1 x2 x4).bA (refArgs x0 x3 x5 x6 x1 x2 x4).bS) (funext fun a => by fin_cases a <;> rfl)
  · exact congrArg x6 (funext fun a => by fin_cases a <;> rfl)

/-- Two matrices of 2048 columns side by side. -/
abbrev beside (x y : S2048x2048.Idx → EReal) : S2048x4096.Idx → EReal :=
  concatenate S2048x4096 1 [⟨S2048x2048, x⟩, ⟨S2048x2048, y⟩] concatenates_S2048x2048_S2048x2048_S2048x4096_d1

theorem beside_left (x y : S2048x2048.Idx → EReal) (i : Fin 2048) (j : Fin 4096) (h : j.val < 2048) : beside x y (ix2 i j) = x (ix2 i ⟨j.val, h⟩) :=
  concatenate_pair_apply_left (t := S2048x4096) (s₁ := S2048x2048) (s₂ := S2048x2048) 1 _ _ _ _ rfl (ix2 i ⟨j.val, h⟩) fun b => by
    fin_cases b <;> rfl

theorem beside_right (x y : S2048x2048.Idx → EReal) (i : Fin 2048) (j : Fin 4096) (h : ¬j.val < 2048) :
    beside x y (ix2 i j) = y (ix2 i ⟨j.val - 2048, by omega⟩) :=
  concatenate_pair_apply_right (t := S2048x4096) (s₁ := S2048x2048) (s₂ := S2048x2048) 1 _ _ _ _ rfl rfl (ix2 i ⟨j.val - 2048, by omega⟩)
    (fun b hb => by
      fin_cases b
      · rfl
      · exact absurd rfl hb)
    (by show j.val - 2048 + 2048 = j.val; omega)

theorem slope_apply (i : S2048x4096.Idx) : val_main_v14 (F := Ideal) x2 i = sg (x2 i) * (1 - sg (x2 i)) := by
  rw [val_main_v14_apply, val_main_v13_apply, gate_apply, val_main_v12_apply, val_main_cst_1_apply, ← one_word]
  rfl

theorem gate_ref : val_main_v37 (F := Ideal) x0 x1 x2 x3 x4 x5 x6 = beside (refArgs x0 x3 x5 x6 x1 x2 x4).slopeA (refArgs x0 x3 x5 x6 x1 x2 x4).slopeS := eq2 fun i j => by
  rw [val_main_v37_apply, slope_apply]
  have e32 : val_main_v32 (F := Ideal) x0 x3 x5 x6 = fun i => (refArgs x0 x3 x5 x6 x1 x2 x4).d i * (refArgs x0 x3 x5 x6 x1 x2 x4).bA i := funext fun i => by
    rw [val_main_v32_apply, d_ref x0 x3 x5 x6 x1 x2 x4, bA_ref x0 x3 x5 x6 x1 x2 x4]; rfl
  have e27 : val_main_v27 (F := Ideal) x1 x4 x5 x6 = fun i => (refArgs x0 x3 x5 x6 x1 x2 x4).d i * (refArgs x0 x3 x5 x6 x1 x2 x4).bS i := funext fun i => by
    rw [val_main_v27_apply, d_ref x0 x3 x5 x6 x1 x2 x4, bS_ref x0 x3 x5 x6 x1 x2 x4]; rfl
  have e : val_main_v36 (F := Ideal) x0 x1 x3 x4 x5 x6 = beside (fun i => (refArgs x0 x3 x5 x6 x1 x2 x4).d i * (refArgs x0 x3 x5 x6 x1 x2 x4).bA i) (fun i => (refArgs x0 x3 x5 x6 x1 x2 x4).d i * (refArgs x0 x3 x5 x6 x1 x2 x4).bS i) := by
    unfold val_main_v36; rw [e32, e27]
  rw [e]
  by_cases h : j.val < 2048
  · rw [beside_left _ _ i j h, beside_left _ _ i j h]
    have hg : x2 (ix2 i j) = (refArgs x0 x3 x5 x6 x1 x2 x4).gA (ix2 i ⟨j.val, h⟩) := congrArg (fun k => x2 (ix2 i k)) (Fin.ext (Nat.zero_add _).symm)
    rw [hg]; exact (mul_assoc _ _ _).symm
  · rw [beside_right _ _ i j h, beside_right _ _ i j h]
    have hg : x2 (ix2 i j) = (refArgs x0 x3 x5 x6 x1 x2 x4).gS (ix2 i ⟨j.val - 2048, by omega⟩) :=
      congrArg (fun k => x2 (ix2 i k)) (Fin.ext (by show j.val = 2048 + (j.val - 2048); omega))
    rw [hg]; exact (mul_assoc _ _ _).symm

end Cert.Gated

end
-- ==== Proof.Merge.Run.lean ====
/- The run of the whole program with every array it leaves: at the end each buffer that outlives the calls holds what the
   host operations and the calls, in their order, leave there. -/
module

public import proofs.«01_k».proof.Proof.Gen.MergeIdeal.Frame

@[expose] public section

set_option maxRecDepth 16384

noncomputable section

namespace Cert.Gated

open Idealize.ShloMosaic Idealize.ShloMosaic.TcCoe Idealize.ShloMosaic.Tactic Cert.MergeIdeal Cert.MergeIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the calls, at the end; and every counter back at zero. -/
theorem run : θ_run defs (onTc (τ := τ) (main (F := F))) ⟨m, fun _ => 0, ρ⟩ (fun r =>
    (∀ (c : Dev nD) (b : Ref sig .tc), ¬(Proc.devRef .tc b : DevRef τ sig).isScoped → r.2.mem ((c.tc : Thread nD τ).loc b) = W9 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨fun c b hb => h c _ (mem_uc b hb), funext fun g => hz g (.inr (no_unscoped g.2))⟩)

end Cert.Gated

end
-- ==== Proof.Merge.Claim.lean ====
/- The claim for the merge's backward pass: the seven calls leave the reference's five gradients. -/
module

public import proofs.«01_k».proof.Defs
public import proofs.«01_k».proof.Proof.Gen.Merge.Frame
public import proofs.«01_k».proof.Proof.Merge.Reference
public import proofs.«01_k».proof.Proof.Merge.Run

@[expose] public section

noncomputable section

namespace Cert.Gated

open Idealize.ShloMosaic Idealize.SL.Sem

/-- The reference's frame: its run keeps the arguments, and it declares no semaphore. -/
theorem frame_reference : Cert.quiescent_MergeReferenceIdeal := fun m g _ =>
  (θ_run Cert.MergeReferenceIdeal.defs _ _).mono (fun r h => ⟨fun c => (h c).2.2.2.2.2, sem_eq_zero_of_no_sems (by decide) r.2⟩)
    (Cert.MergeReferenceIdeal.Value.run (F := Ideal) m g)

/-- The memory of the reference, and an argument on device `c`. -/
abbrev Mem := (ℓ : Loc Cert.MergeReferenceIdeal.nD Cert.MergeReferenceIdeal.τ Cert.MergeReferenceIdeal.sig) → Buf (Elt Ideal) ℓ

abbrev rarg (m' : Mem) (c : Dev Cert.MergeReferenceIdeal.nD) (b : Ref Cert.MergeReferenceIdeal.sig .tc) :=
  m' ((c.tc : Thread Cert.MergeReferenceIdeal.nD Cert.MergeReferenceIdeal.τ).loc b)

/-- The reference's arguments on device `c`. -/
abbrev rargs (m' : Mem) (c : Dev Cert.MergeReferenceIdeal.nD) : Args :=
  refArgs (rarg m' c Cert.MergeReferenceIdeal.main_arg0) (rarg m' c Cert.MergeReferenceIdeal.main_arg3) (rarg m' c Cert.MergeReferenceIdeal.main_arg5)
    (rarg m' c Cert.MergeReferenceIdeal.main_arg6) (rarg m' c Cert.MergeReferenceIdeal.main_arg1) (rarg m' c Cert.MergeReferenceIdeal.main_arg2)
    (rarg m' c Cert.MergeReferenceIdeal.main_arg4)

theorem algebraic : Cert.algebraic_MergeIdeal_MergeReferenceIdeal := by
  intro m g m' g' _ hargs
  have hA : ∀ c, args m c = rargs m' c := fun c => by
    obtain ⟨h0, h1, h2, h3, h4, h5, h6⟩ := hargs c
    unfold args
    dsimp only [rargs, refArgs, rarg]
    rw [h0, h1, h2, h3, h4, h5, h6]
  refine ⟨fun c => (args m c).gradAttn, fun c => beside (args m c).slopeA (args m c).slopeS, fun c => (args m c).gradWAttn,
    fun c => (args m c).gradWSsm, fun c => (args m c).gradWOut, (θ_run Cert.MergeIdeal.defs _ _).mono (fun r h c => ?_) (run m g),
    (θ_run Cert.MergeReferenceIdeal.defs _ _).mono (fun r h c => ?_) (Cert.MergeReferenceIdeal.Value.run (F := Ideal) m' g')⟩
  · have hk := fun (b : Ref Cert.MergeIdeal.sig .tc) hb => h.1 c b hb
    refine ⟨(hk _ (by decide)).trans (out0 m g c), (hk _ (by decide)).trans (out1 m g c), (hk _ (by decide)).trans (out2 m g c),
      (hk _ (by decide)).trans (out3 m g c), (hk _ (by decide)).trans (out4 m g c), ?_, ?_, ?_, ?_, ?_, ?_, ?_⟩ <;>
      exact (hk _ (by decide)).trans (Cert.MergeIdeal.Gen.W9_args m g c _ (by decide))
  · obtain ⟨h0, h1, h2, h3, h4, h5⟩ := h c
    exact ⟨h0.trans ((attn_ref _ _ _ _ _ _ _).trans (congrArg Args.gradAttn (hA c).symm)),
      h1.trans ((gate_ref _ _ _ _ _ _ _).trans (congrArg (fun a : Args => beside a.slopeA a.slopeS) (hA c).symm)),
      h2.trans ((wAttn_ref _ _ _ _ _ _ _).trans (congrArg Args.gradWAttn (hA c).symm)),
      h3.trans ((wSsm_ref _ _ _ _ _ _ _).trans (congrArg Args.gradWSsm (hA c).symm)),
      h4.trans ((wOut_ref _ _ _ _ _ _ _).trans (congrArg Args.gradWOut (hA c).symm)),
      h5⟩

end Cert.Gated
-- ==== Proof.Ffn.Layout.lean ====
/- The feed-forward block's layouts: the 5632 hidden channels are eight groups of 704, and a weight or a hidden array is held as
   eight planes, one per group. -/
module

public import proofs.«01_k».proof.Proof.Matrix
public import Idealize.ShloMosaic.Lib.Pipeline.Value

@[expose] public section

noncomputable section

namespace Cert.Swiglu

open Idealize.ShloMosaic Cert.Mat

/-- A matrix. -/
abbrev Mat (a b : Nat) := (⟨2, ![a, b]⟩ : Shape).Idx → EReal
/-- A weight in planes: a row per channel of the group. -/
abbrev WPlanes := (⟨3, ![8, 704, 2048]⟩ : Shape).Idx → EReal
/-- A hidden array of `n` tokens in planes: a column per channel of the group. -/
abbrev HPlanes (n : Nat) := (⟨3, ![8, n, 704]⟩ : Shape).Idx → EReal

/-- The channel `k` of group `p`. -/
def chan (p : Fin 8) (k : Fin 704) : Fin 5632 := ⟨p.val * 704 + k.val, by omega⟩
/-- A channel's group, and its place there. -/
def grp (k : Fin 5632) : Fin 8 := ⟨k.val / 704, by omega⟩
def plc (k : Fin 5632) : Fin 704 := ⟨k.val % 704, by omega⟩

theorem chan_grp (k : Fin 5632) : chan (grp k) (plc k) = k := Fin.ext (by show k.val / 704 * 704 + k.val % 704 = k.val; omega)
theorem grp_chan (p : Fin 8) (k : Fin 704) : grp (chan p k) = p := Fin.ext (by show (p.val * 704 + k.val) / 704 = p.val; omega)
theorem plc_chan (p : Fin 8) (k : Fin 704) : plc (chan p k) = k := Fin.ext (by show (p.val * 704 + k.val) % 704 = k.val; omega)

/-- A group and a place there are a channel. -/
def channels : Fin 8 × Fin 704 ≃ Fin 5632 where
  toFun x := chan x.1 x.2
  invFun k := (grp k, plc k)
  left_inv x := Prod.ext (grp_chan x.1 x.2) (plc_chan x.1 x.2)
  right_inv := chan_grp

/-- A sum over the channels, group by group. -/
theorem sum_chan (f : Fin 5632 → EReal) : ∑ k, f k = ∑ p : Fin 8, ∑ k : Fin 704, f (chan p k) :=
  (channels.sum_comp f).symm.trans (Fintype.sum_prod_type _)

variable {n m : Nat}

/-- A weight into planes, and back. -/
def stack (g : Mat 5632 2048) : WPlanes := fun i => g (ix2 (chan (i 0) (i 1)) (i 2))
def unstack (w : WPlanes) : Mat 5632 2048 := fun i => w (ix3 (grp (i 0)) (plc (i 0)) (i 1))
/-- A hidden array into planes, and back. -/
def side (g : Mat n 5632) : HPlanes n := fun i => g (ix2 (i 1) (chan (i 0) (i 2)))
def unside (w : HPlanes n) : Mat n 5632 := fun i => w (ix3 (grp (i 1)) (i 0) (plc (i 1)))

theorem unstack_stack (g : Mat 5632 2048) : unstack (stack g) = g := eq2 fun i j => by
  show g (ix2 (chan (grp i) (plc i)) j) = _
  rw [chan_grp]
theorem unside_side (g : Mat n 5632) : unside (side g) = g := eq2 fun i j => by
  show g (ix2 i (chan (grp j) (plc j))) = _
  rw [chan_grp]
theorem unstack_chan (w : WPlanes) (p : Fin 8) (k : Fin 704) (j : Fin 2048) : unstack w (ix2 (chan p k) j) = w (ix3 p k j) := by
  show w (ix3 (grp (chan p k)) (plc (chan p k)) j) = _
  rw [grp_chan, plc_chan]
theorem unside_chan (w : HPlanes n) (p : Fin 8) (k : Fin 704) (i : Fin n) : unside w (ix2 i (chan p k)) = w (ix3 p i k) := by
  show w (ix3 (grp (chan p k)) i (plc (chan p k))) = _
  rw [grp_chan, plc_chan]

/-- A product over the channels, plane by plane. -/
theorem nn_planes (s : HPlanes n) (w : WPlanes) (i : Fin n) (j : Fin 2048) :
    nn (unside s) (unstack w) (ix2 i j) = ∑ p : Fin 8, ∑ k : Fin 704, s (ix3 p i k) * w (ix3 p k j) :=
  (sum_chan _).trans (Finset.sum_congr rfl fun p _ => Finset.sum_congr rfl fun k _ => by
    show unside s (ix2 i (chan p k)) * unstack w (ix2 (chan p k) j) = _
    rw [unside_chan, unstack_chan])

/-- A product onto the channels, in planes. -/
theorem nt_planes (h : Mat n 2048) (w : WPlanes) (p : Fin 8) (i : Fin n) (k : Fin 704) :
    nt h (unstack w) (ix2 i (chan p k)) = ∑ j : Fin 2048, h (ix2 i j) * w (ix3 p k j) :=
  Finset.sum_congr rfl fun j _ => by
    show h (ix2 i j) * unstack w (ix2 (chan p k) j) = _
    rw [unstack_chan]

/-- A product over the tokens, in planes. -/
theorem tn_planes (s : HPlanes n) (h : Mat n 2048) (p : Fin 8) (k : Fin 704) (j : Fin 2048) :
    tn (unside s) h (ix2 (chan p k) j) = ∑ i : Fin n, s (ix3 p i k) * h (ix2 i j) :=
  Finset.sum_congr rfl fun i _ => by
    show unside s (ix2 i (chan p k)) * h (ix2 i j) = _
    rw [unside_chan]

theorem tn_congr2 {a b a' b' : Nat} {x : Mat n a} {y : Mat n b} {x' : Mat n a'} {y' : Mat n b'} {i : Fin a} {j : Fin b} {i' : Fin a'} {j' : Fin b'}
    (hx : ∀ k, x (ix2 k i) = x' (ix2 k i')) (hy : ∀ k, y (ix2 k j) = y' (ix2 k j')) : tn x y (ix2 i j) = tn x' y' (ix2 i' j') := tn_congr hx hy

/-- A matrix's transpose. -/
def tr (x : Mat n m) : Mat m n := fun i => x (ix2 (i 1) (i 0))

end Cert.Swiglu

end
-- ==== Proof.Ffn.Block.lean ====
/- The feed-forward block of `n` tokens as functions of its arguments: its value, gated and added to the tokens, and its gradients.
   The gradient of the gated product is written once and once more as the chain rule writes it; the two agree where the other factors
   are real. -/
module

public import proofs.«01_k».proof.Proof.Ffn.Layout
public import proofs.«01_k».proof.Proof.Softmax

@[expose] public section

noncomputable section

namespace Cert.Swiglu

open Idealize.ShloMosaic Cert.Mat

variable {n m : Nat}

/-! ### Element by element -/

/-- The hidden value of two products. -/
def hid (a b : EReal) : EReal := a * sg a * b
/-- The gradient of the first product, of the hidden value's gradient `d`. -/
def gradA (d a b : EReal) : EReal := d * b * (sg a * (1 + a * (1 - sg a)))
/-- The gradient of the second product. -/
def gradB (d a : EReal) : EReal := d * (a * sg a)
/-- A token, and half of its gate times its part of the block's value. -/
def gated (x g f : EReal) : EReal := x + Ideal.ofBits .f32 0x3F000000#32 * g * f

theorem plus {x y x' y' : EReal} (hx : x = x') (hy : y = y') : x + y = x' + y' := by rw [hx, hy]
theorem hid_congr {a b a' b' : EReal} (h : a = a') (h' : b = b') : hid a b = hid a' b' := by rw [h, h']
theorem gradA_congr {d a b d' a' b' : EReal} (h : d = d') (h' : a = a') (h'' : b = b') : gradA d a b = gradA d' a' b' := by rw [h, h', h'']
theorem gradB_congr {d a d' a' : EReal} (h : d = d') (h' : a = a') : gradB d a = gradB d' a' := by rw [h, h']
theorem gated_congr {x g f x' g' f' : EReal} (h : x = x') (h' : g = g') (h'' : f = f') : gated x g f = gated x' g' f' := by rw [h, h', h'']

theorem sg_top : sg ⊤ = 1 := by simp [sg, Ideal.div]
theorem one_top : (1 : EReal) + ⊤ = ⊤ := EReal.add_top_of_ne_bot (by decide)
theorem sg_bot : sg ⊥ = 0 := by simp [sg, Ideal.div, one_top]
theorem sg_coe (t : ℝ) : ∃ s : ℝ, sg t = s := by
  have h : (1 + Ideal.exp (0 - (t : EReal))) = ((1 + Real.exp (-t) : ℝ) : EReal) := by
    rw [zero_sub, ← EReal.coe_neg, Ideal.exp_coe, EReal.coe_add, EReal.coe_one]
  have hp : (1 + Real.exp (-t)) ≠ 0 := by positivity
  refine ⟨1 / (1 + Real.exp (-t)), ?_⟩
  unfold sg
  rw [h, Ideal.div_coe hp, one_mul]

theorem one_sub : (1 : EReal) - 1 = 0 := by rw [← EReal.coe_one, ← EReal.coe_sub, sub_self, EReal.coe_zero]

/-- The derivative as one product and as a sum of two agree, times a real number. -/
theorem slope_sum (c : ℝ) (a : EReal) : (c : EReal) * (sg a * (1 + a * (1 - sg a))) = c * sg a + a * c * (sg a * (1 - sg a)) := by
  induction a using EReal.rec with
  | bot => simp [sg_bot]
  | top => rw [sg_top, one_sub]; simp
  | coe t =>
    obtain ⟨s, hs⟩ := sg_coe t
    rw [hs, ← EReal.coe_one, ← EReal.coe_sub]
    simp only [Softmax.mul_coe, ← EReal.coe_add]
    exact congrArg _ (by ring)

/-! ### The arrays -/

/-- The hidden array of two products. -/
def hidden (a b : Mat n m) : Mat n m := fun i => hid (a i) (b i)
/-- The first product's gradient, and the second's. -/
def slopeA (d a b : Mat n m) : Mat n m := fun i => gradA (d i) (a i) (b i)
def slopeB (d a : Mat n m) : Mat n m := fun i => gradB (d i) (a i)
/-- The tokens and the gated block added. -/
def updated (x g f : Mat n m) : Mat n m := fun i => gated (x i) (g i) (f i)
/-- Two matrices added. -/
def added (x y : Mat n m) : Mat n m := fun i => x i + y i

/-- The arguments: the tokens, their gates, the block's argument, the three weights, the gradient of the block's value. -/
structure Args (n : Nat) where
  x : Mat n 2048
  gate : Mat n 2048
  h : Mat n 2048
  wGate : Mat 2048 5632
  wUp : Mat 2048 5632
  wDown : Mat 5632 2048
  ct : Mat n 2048

namespace Args
variable (a : Args n)

/-- The first product, the second and the hidden array. -/
def a1 : Mat n 5632 := nn a.h a.wGate
def b1 : Mat n 5632 := nn a.h a.wUp
def s : Mat n 5632 := hidden a.a1 a.b1
/-- The tokens after the block. -/
def out : Mat n 2048 := updated a.x a.gate (nn a.s a.wDown)
/-- The gradients of the hidden array, of the first product and of the second. -/
def d : Mat n 5632 := nt a.ct a.wDown
def da : Mat n 5632 := slopeA a.d a.a1 a.b1
def db : Mat n 5632 := slopeB a.d a.a1
/-- The gradients of the block's argument and of the three weights. -/
def gradH : Mat n 2048 := added (nt a.da a.wGate) (nt a.db a.wUp)
def gradWGate : Mat 2048 5632 := tn a.h a.da
def gradWUp : Mat 2048 5632 := tn a.h a.db
def gradWDown : Mat 5632 2048 := tn a.s a.ct

/-- Every element that enters the second product and the hidden array's gradient is real. -/
structure IsReal : Prop where
  h : ∀ i, ∃ t : ℝ, a.h i = t
  wUp : ∀ i, ∃ t : ℝ, a.wUp i = t
  wDown : ∀ i, ∃ t : ℝ, a.wDown i = t
  ct : ∀ i, ∃ t : ℝ, a.ct i = t
end Args

/-- A sum of products of reals is real. -/
theorem real_sum {k : Nat} {f g : Fin k → EReal} (hf : ∀ i, ∃ t : ℝ, f i = t) (hg : ∀ i, ∃ t : ℝ, g i = t) : ∃ t : ℝ, ∑ i, f i * g i = t := by
  choose u hu using hf
  choose v hv using hg
  refine ⟨∑ i, u i * v i, ?_⟩
  rw [← Softmax.coe_sum]
  exact Finset.sum_congr rfl fun i _ => by rw [hu, hv, Softmax.mul_coe]

/-- The first product's gradient as the chain rule writes it. -/
theorem Args.da_apply {a : Args n} (ha : a.IsReal) (i : (⟨2, ![n, 5632]⟩ : Shape).Idx) :
    a.d i * a.b1 i * sg (a.a1 i) + a.a1 i * (a.d i * a.b1 i) * (sg (a.a1 i) * (1 - sg (a.a1 i))) = a.da i := by
  obtain ⟨u, hu⟩ : ∃ t : ℝ, a.d i = t := real_sum (fun _ => ha.ct _) fun _ => ha.wDown _
  obtain ⟨v, hv⟩ : ∃ t : ℝ, a.b1 i = t := real_sum (fun _ => ha.h _) fun _ => ha.wUp _
  show _ = a.d i * a.b1 i * (sg (a.a1 i) * (1 + a.a1 i * (1 - sg (a.a1 i))))
  rw [hu, hv, Softmax.mul_coe]
  exact (slope_sum _ _).symm

/-! ### Products in planes -/

/-- One plane's product. -/
def planeProd (x : (⟨3, ![8, n, 704]⟩ : Shape).Idx → EReal) (y : (⟨3, ![8, 704, m]⟩ : Shape).Idx → EReal) (i : Fin n) (j : Fin m) (p : Fin 8) : EReal :=
  ∑ k : Fin 704, x (ix3 p i k) * y (ix3 p k j)

/-- The planes' products, added up. -/
def planesProd (x : (⟨3, ![8, n, 704]⟩ : Shape).Idx → EReal) (y : (⟨3, ![8, 704, m]⟩ : Shape).Idx → EReal) : Mat n m :=
  fun i => ∑ p : Fin 8, planeProd x y (i 0) (i 1) p

theorem plane {x : (⟨3, ![8, n, 704]⟩ : Shape).Idx → EReal} {y : (⟨3, ![8, 704, m]⟩ : Shape).Idx → EReal} {i : Fin n} {j : Fin m} {f g : Fin 704 → EReal} (p : Fin 8)
    (hf : ∀ k, f k = x (ix3 p i k)) (hg : ∀ k, g k = y (ix3 p k j)) : ∑ k, f k * g k = planeProd x y i j p :=
  Finset.sum_congr rfl fun k _ => times (hf k) (hg k)

theorem planesProd_congr {n' m' : Nat} {x : (⟨3, ![8, n, 704]⟩ : Shape).Idx → EReal} {y : (⟨3, ![8, 704, m]⟩ : Shape).Idx → EReal}
    {x' : (⟨3, ![8, n', 704]⟩ : Shape).Idx → EReal} {y' : (⟨3, ![8, 704, m']⟩ : Shape).Idx → EReal} {i : (⟨2, ![n, m]⟩ : Shape).Idx} {i' : (⟨2, ![n', m']⟩ : Shape).Idx}
    (hx : ∀ p k, x (ix3 p (i 0) k) = x' (ix3 p (i' 0) k)) (hy : ∀ p k, y (ix3 p k (i 1)) = y' (ix3 p k (i' 1))) : planesProd x y i = planesProd x' y' i' :=
  Finset.sum_congr rfl fun p _ => Finset.sum_congr rfl fun k _ => times (hx p k) (hy p k)

/-- The planes' products added up are the whole product over the channels. -/
theorem planesProd_eq (s : HPlanes n) (w : WPlanes) : planesProd s w = nn (unside s) (unstack w) := eq2 fun i j => (nn_planes s w i j).symm

/-! ### A weight and its transpose -/

theorem nt_tr (x : Mat n 2048) (w : Mat 2048 5632) : nt x (tr w) = nn x w := rfl
theorem nn_tr (x : Mat n 5632) (w : Mat 2048 5632) : nn x (tr w) = nt x w := rfl
theorem tr_tn (x : Mat n 5632) (y : Mat n 2048) : tr (tn x y) = tn y x := eq2 fun i j => tn_comm x y j i

/-- A weight laid out in planes holds the weight. -/
theorem unstack_split (w : Mat 5632 2048) (hs : (⟨2, ![5632, 2048]⟩ : Shape).ShapeCasts ⟨3, ![8, 704, 2048]⟩) :
    unstack (shapeCast ⟨3, ![8, 704, 2048]⟩ w hs) = w := eq2 fun i j => by
  refine shapeCast_apply _ _ _ (ix2 i j) ?_
  rw [Shape.rowMajor_val_two, Shape.rowMajor_val_three]
  show i.val * 2048 + j.val = (i.val / 704 * 704 + i.val % 704) * 2048 + j.val
  omega

/-- And back. -/
theorem split_stack (g : Mat 5632 2048) (hs : (⟨3, ![8, 704, 2048]⟩ : Shape).ShapeCasts ⟨2, ![5632, 2048]⟩) :
    shapeCast ⟨2, ![5632, 2048]⟩ (stack g) hs = g := eq2 fun i j => by
  refine (shapeCast_apply _ _ _ (ix3 (grp i) (plc i) j) ?_).trans ?_
  · rw [Shape.rowMajor_val_two, Shape.rowMajor_val_three]
    show (i.val / 704 * 704 + i.val % 704) * 2048 + j.val = i.val * 2048 + j.val
    omega
  · show g (ix2 (chan (grp i) (plc i)) j) = _
    rw [chan_grp]

theorem transpose_tr {a b : Nat} (w : Mat a b) (ht : Shape.Transposes ⟨2, ![a, b]⟩ [1, 0] ⟨2, ![b, a]⟩) :
    transpose ⟨2, ![b, a]⟩ [1, 0] w ht = tr w := eq2 fun i j =>
  transpose_apply _ _ _ _ (ix2 j i) fun k => by fin_cases k <;> rfl

end Cert.Swiglu

end
-- ==== Proof.Ffn2.Reference.lean ====
/- The reference's results are the block's value and gradients. -/
module

public import proofs.«01_k».proof.Proof.Gen.Ffn2ReferenceIdeal.Read
public import proofs.«01_k».proof.Proof.Ffn.Block

@[expose] public section

set_option maxRecDepth 16384

noncomputable section

namespace Cert.Swiglu2

open Idealize.ShloMosaic Idealize.ShloMosaic.TcCoe Cert.Ffn2ReferenceIdeal Cert.Ffn2ReferenceIdeal.Gen Cert.Ffn2ReferenceIdeal.Read Cert.Mat Cert.Swiglu

variable (a : Args 2048)

/-- The two products. -/
theorem a_ref : val_main_v5 (F := Ideal) a.h a.wGate = a.a1 := eq2 fun i j => by
  rw [val_main_v5_apply]
  show _ = ∑ k : Fin 2048, a.h (ix2 i k) * a.wGate (ix2 k j)
  refine Finset.sum_congr rfl fun k _ => times ?_ ?_
  · exact congrArg a.h (funext fun b => by fin_cases b <;> rfl)
  · exact congrArg a.wGate (funext fun b => by fin_cases b <;> rfl)

theorem b_ref : val_main_v7 (F := Ideal) a.h a.wUp = a.b1 := eq2 fun i j => by
  rw [val_main_v7_apply]
  show _ = ∑ k : Fin 2048, a.h (ix2 i k) * a.wUp (ix2 k j)
  refine Finset.sum_congr rfl fun k _ => times ?_ ?_
  · exact congrArg a.h (funext fun b => by fin_cases b <;> rfl)
  · exact congrArg a.wUp (funext fun b => by fin_cases b <;> rfl)

/-- The gate of the first product, its slope and the hidden array. -/
theorem gate_ref (i : S2048x5632.Idx) : val_main_v6_2 (F := Ideal) a.h a.wGate i = sg (a.a1 i) := by
  rw [val_main_v6_2_apply, val_main_call0_v4_apply, val_main_call0_v3_apply, val_main_call0_v2_apply, val_main_call0_v1_apply, val_main_call0_v0_apply, a_ref,
    val_main_call0_cst_apply, val_main_call0_cst_0_apply, ← sg_eq, ← one_word]
  rfl

theorem slope_ref (i : S2048x5632.Idx) : val_main_v6_1 (F := Ideal) a.h a.wGate i = sg (a.a1 i) * (1 - sg (a.a1 i)) := by
  rw [val_main_v6_1_apply, val_main_call0_v7_apply, gate_ref, val_main_call0_v6_apply, val_main_call0_cst_1_apply, ← one_word]
  rfl

theorem silu_ref (i : S2048x5632.Idx) : val_main_v6_0 (F := Ideal) a.h a.wGate i = a.a1 i * sg (a.a1 i) := by
  rw [val_main_v6_0_apply, gate_ref, a_ref]
  rfl

theorem s_ref : val_main_v8 (F := Ideal) a.h a.wGate a.wUp = a.s := funext fun i => by
  rw [val_main_v8_apply, silu_ref, b_ref]
  rfl

/-- The block, and the tokens after it. -/
theorem block_ref : val_main_v9 (F := Ideal) a.h a.wGate a.wUp a.wDown = nn a.s a.wDown := eq2 fun i j => by
  rw [val_main_v9_apply]
  show _ = ∑ k : Fin 5632, a.s (ix2 i k) * a.wDown (ix2 k j)
  refine Finset.sum_congr rfl fun k _ => times ?_ ?_
  · rw [s_ref]; exact congrArg a.s (funext fun b => by fin_cases b <;> rfl)
  · exact congrArg a.wDown (funext fun b => by fin_cases b <;> rfl)

theorem out_ref (g : S2048.Idx → EReal) (hg : a.gate = fun i => g (ix1 (i 1))) :
    val_main_v15 (F := Ideal) a.x g a.h a.wGate a.wUp a.wDown = a.out := eq2 fun i j => by
  rw [val_main_v15_apply, val_main_v14_apply, val_main_v13_apply, val_main_v12_apply, val_main_v11_apply, val_main_v10_apply, val_main_cst_apply, block_ref]
  show _ = gated (a.x (ix2 i j)) (a.gate (ix2 i j)) (nn a.s a.wDown (ix2 i j))
  rw [hg]
  refine gated_congr rfl ?_ rfl
  exact congrArg g (funext fun b => by fin_cases b; rfl)

/-- The hidden array's gradient. -/
theorem d_ref : val_main_v18 (F := Ideal) a.wDown a.ct = a.d := eq2 fun i j => by
  rw [val_main_v18_apply]
  show _ = ∑ k : Fin 2048, a.ct (ix2 i k) * a.wDown (ix2 j k)
  refine Finset.sum_congr rfl fun k _ => times ?_ ?_
  · exact congrArg a.ct (funext fun b => by fin_cases b <;> rfl)
  · exact congrArg a.wDown (funext fun b => by fin_cases b <;> rfl)

theorem db_ref : val_main_v19 (F := Ideal) a.h a.wGate a.wDown a.ct = a.db := funext fun i => by
  rw [val_main_v19_apply, silu_ref, d_ref]
  exact mul_comm _ _

theorem da_ref (ha : a.IsReal) : val_main_v24 (F := Ideal) a.h a.wGate a.wUp a.wDown a.ct = a.da := funext fun i => by
  rw [val_main_v24_apply, val_main_call1_v1_apply, val_main_call1_v2_apply, val_main_call1_v0_apply, val_main_v20_apply,
    d_ref, b_ref, a_ref, gate_ref, slope_ref]
  exact Args.da_apply ha i

/-- The weights' gradients. -/
theorem wDown_ref : val_main_v17 (F := Ideal) a.h a.wGate a.wUp a.ct = a.gradWDown := eq2 fun i j => by
  rw [val_main_v17_apply, val_main_v16_apply]
  show _ = ∑ k : Fin 2048, a.s (ix2 k i) * a.ct (ix2 k j)
  refine Finset.sum_congr rfl fun k _ => times_swap ?_ ?_
  · rw [s_ref]; exact congrArg a.s (funext fun b => by fin_cases b <;> rfl)
  · exact congrArg a.ct (funext fun b => by fin_cases b <;> rfl)

theorem wUp_ref : val_main_v22 (F := Ideal) a.h a.wGate a.wDown a.ct = a.gradWUp := eq2 fun i j => by
  rw [val_main_v22_apply, val_main_v21_apply]
  show _ = ∑ k : Fin 2048, a.h (ix2 k i) * a.db (ix2 k j)
  refine Finset.sum_congr rfl fun k _ => times_swap ?_ ?_
  · exact congrArg a.h (funext fun b => by fin_cases b <;> rfl)
  · rw [db_ref]; exact congrArg a.db (funext fun b => by fin_cases b <;> rfl)

theorem wGate_ref (ha : a.IsReal) : val_main_v26 (F := Ideal) a.h a.wGate a.wUp a.wDown a.ct = a.gradWGate := eq2 fun i j => by
  rw [val_main_v26_apply, val_main_v25_apply]
  show _ = ∑ k : Fin 2048, a.h (ix2 k i) * a.da (ix2 k j)
  refine Finset.sum_congr rfl fun k _ => times_swap ?_ ?_
  · exact congrArg a.h (funext fun b => by fin_cases b <;> rfl)
  · rw [da_ref _ ha]; exact congrArg a.da (funext fun b => by fin_cases b <;> rfl)

/-- The argument's gradient. -/
theorem dhA_ref (ha : a.IsReal) : val_main_v27 (F := Ideal) a.h a.wGate a.wUp a.wDown a.ct = nt a.da a.wGate := eq2 fun i j => by
  rw [val_main_v27_apply]
  show _ = ∑ k : Fin 5632, a.da (ix2 i k) * a.wGate (ix2 j k)
  refine Finset.sum_congr rfl fun k _ => times ?_ ?_
  · rw [da_ref _ ha]; exact congrArg a.da (funext fun b => by fin_cases b <;> rfl)
  · exact congrArg a.wGate (funext fun b => by fin_cases b <;> rfl)

theorem dhB_ref : val_main_v23 (F := Ideal) a.h a.wGate a.wUp a.wDown a.ct = nt a.db a.wUp := eq2 fun i j => by
  rw [val_main_v23_apply]
  show _ = ∑ k : Fin 5632, a.db (ix2 i k) * a.wUp (ix2 j k)
  refine Finset.sum_congr rfl fun k _ => times ?_ ?_
  · rw [db_ref]; exact congrArg a.db (funext fun b => by fin_cases b <;> rfl)
  · exact congrArg a.wUp (funext fun b => by fin_cases b <;> rfl)

theorem h_ref (ha : a.IsReal) : val_main_v28 (F := Ideal) a.h a.wGate a.wUp a.wDown a.ct = a.gradH := funext fun i => by
  rw [val_main_v28_apply, dhA_ref _ ha, dhB_ref]
  exact add_comm _ _

end Cert.Swiglu2

end
-- ==== Proof.Ffn2.Finite.lean ====
/- What the precondition of the second block gives: its argument, two of its weights and its cotangent are real. -/
module

public import proofs.«01_k».proof.Proof.Equation
public import proofs.«01_k».proof.Proof.Ffn.Block
public import proofs.«01_k».proof.Proof.Gen.Pre_finite_ffn2

@[expose] public section

noncomputable section

namespace Cert.Swiglu2

open Idealize.ShloMosaic Cert.Mat Cert.Swiglu

theorem isReal (a : Args 2048) (g : (⟨1, ![2048]⟩ : Shape).Idx → EReal)
    (hp : Cert.Pre_finite_ffn2.fn (F := Ideal) a.x g a.h a.wGate a.wUp a.wDown a.ct = fun _ => 1#1) : a.IsReal := by
  have h0 := congrFun hp (fun b => b.elim0)
  unfold Cert.Pre_finite_ffn2.fn Cert.Pre_finite_ffn2.fn_part1 at h0
  dsimp only at h0
  obtain ⟨h1, hc⟩ := Cert.Equation.and_one _ _ h0
  obtain ⟨h2, hd⟩ := Cert.Equation.and_one _ _ h1
  obtain ⟨hh, hu⟩ := Cert.Equation.and_one _ _ h2
  haveI : Subsingleton Cert.Pre_finite_ffn2.S_.Idx := ⟨fun a b => funext fun i => i.elim0⟩
  refine ⟨fun i => ?_, fun i => ?_, fun i => ?_, fun i => ?_⟩ <;> refine Cert.Equation.real_of_between _ ?_ <;>
    rw [← Head.ofBits_neg_inf, ← Head.ofBits_inf]
  · exact Host.reduce_andi_all _ _ _ _ _ hh i
  · exact Host.reduce_andi_all _ _ _ _ _ hu i
  · exact Host.reduce_andi_all _ _ _ _ _ hd i
  · exact Host.reduce_andi_all _ _ _ _ _ hc i

end Cert.Swiglu2

end
-- ==== Proof.Ffn2.Bodies.lean ====
/- What each call's body computes from the blocks it reads, over the extended reals. -/
module

public import proofs.«01_k».proof.Proof.Gen.Ffn2Ideal.Frame
public import proofs.«01_k».proof.Proof.Ffn.Block

@[expose] public section

set_option maxRecDepth 16384

noncomputable section

namespace Cert.Swiglu2

open Idealize.ShloMosaic Idealize.ShloMosaic.TcCoe Idealize.SL.Sem Cert.Ffn2Ideal Cert.Ffn2Ideal.Gen Cert.Mat Cert.Swiglu

/-! ### The hidden arrays -/

theorem prodA (x : Vec Ideal S512x2048 .bf16) (y : Vec Ideal S1x704x2048 .bf16) : k0_pay1 x y = (nt x (flat y) : S512x704.Idx → EReal) :=
  eq2 fun i j => by unfold k0_pay1; pointwise; rfl

theorem prodB (x : Vec Ideal S512x2048 .bf16) (y : Vec Ideal S1x704x2048 .bf16) : k0_pay2 x y = (nt x (flat y) : S512x704.Idx → EReal) :=
  eq2 fun i j => by unfold k0_pay2; pointwise; rfl

theorem storeA (x : Vec Ideal S512x2048 .bf16) (y : Vec Ideal S1x704x2048 .bf16) :
    k0_pay3 x y = (fun i => nt x (flat y) (ix2 (i 1) (i 2)) : S1x512x704.Idx → EReal) :=
  eq3 fun p i j => by unfold k0_pay3; rw [prodA]; pointwise

theorem storeB (x : Vec Ideal S512x2048 .bf16) (y : Vec Ideal S1x704x2048 .bf16) :
    k0_pay4 x y = (fun i => nt x (flat y) (ix2 (i 1) (i 2)) : S1x512x704.Idx → EReal) :=
  eq3 fun p i j => by unfold k0_pay4; rw [prodB]; pointwise

theorem storeS (x : Vec Ideal S512x2048 .bf16) (y : Vec Ideal S1x704x2048 .bf16) (x' : Vec Ideal S512x2048 .bf16) (y' : Vec Ideal S1x704x2048 .bf16) :
    k0_pay5 x y x' y' = (fun i => hid (nt x (flat y) (ix2 (i 1) (i 2))) (nt x' (flat y') (ix2 (i 1) (i 2))) : S1x512x704.Idx → EReal) :=
  eq3 fun p i j => by unfold k0_pay5; rw [prodA, prodB]; pointwise; rfl

/-! ### The hidden arrays' gradients -/

theorem prodD (x : Vec Ideal S512x2048 .bf16) (y : Vec Ideal S1x704x2048 .bf16) : k3_pay2 x y = (nt x (flat y) : S512x704.Idx → EReal) :=
  eq2 fun i j => by unfold k3_pay2; pointwise; rfl

theorem readA (z : Vec Ideal S1x512x704 .bf16) : k3_pay3 z = (flat z : S512x704.Idx → EReal) :=
  eq2 fun i j => by unfold k3_pay3; pointwise; rfl

theorem gateA (z : Vec Ideal S1x512x704 .bf16) : k3_pay4 z = (fun i => sg (flat z i) : S512x704.Idx → EReal) :=
  eq2 fun i j => by unfold k3_pay4; rw [readA]; pointwise; rfl

theorem storeDA (x : Vec Ideal S512x2048 .bf16) (y : Vec Ideal S1x704x2048 .bf16) (a b : Vec Ideal S1x512x704 .bf16) :
    k3_pay5 x y a b = (fun i => gradA (nt x (flat y) (ix2 (i 1) (i 2))) (a (ix3 0 (i 1) (i 2))) (b (ix3 0 (i 1) (i 2))) : S1x512x704.Idx → EReal) :=
  eq3 fun p i j => by unfold k3_pay5; rw [prodD, readA, gateA]; pointwise; rfl

theorem storeDB (x : Vec Ideal S512x2048 .bf16) (y : Vec Ideal S1x704x2048 .bf16) (a : Vec Ideal S1x512x704 .bf16) :
    k3_pay1 (k3_pay6 x y a) = (fun i => gradB (nt x (flat y) (ix2 (i 1) (i 2))) (a (ix3 0 (i 1) (i 2))) : S1x512x704.Idx → EReal) :=
  eq3 fun p i j => by unfold k3_pay1 k3_pay6; rw [prodD, readA, gateA]; pointwise; rfl

/-! ### The weights' gradients -/

theorem store2 (x : Vec Ideal S1x2048x704 .bf16) (y : Vec Ideal S2048x512 .bf16) :
    k2_pay1 x y = (fun i => tn (flat x) y (ix2 (i 1) (i 2)) : S1x704x512.Idx → EReal) :=
  eq3 fun p i j => by unfold k2_pay1; pointwise; rfl

theorem store4 (x : Vec Ideal S1x2048x704 .bf16) (y : Vec Ideal S2048x512 .bf16) :
    k4_pay1 x y = (fun i => tn (flat x) y (ix2 (i 1) (i 2)) : S1x704x512.Idx → EReal) :=
  eq3 fun p i j => by unfold k4_pay1; pointwise; rfl

theorem store4' (x : Vec Ideal S1x2048x704 .bf16) (y : Vec Ideal S2048x512 .bf16) :
    k4_pay2 x y = (fun i => tn (flat x) y (ix2 (i 1) (i 2)) : S1x704x512.Idx → EReal) :=
  eq3 fun p i j => by unfold k4_pay2; pointwise; rfl

end Cert.Swiglu2

end
-- ==== Proof.Ffn2.Hidden.lean ====
/- The hidden arrays and their gradients: after the first call and the fourth, every array they write is, in planes, a function
   of products of the arrays they read. -/
module

public import proofs.«01_k».proof.Proof.Gen.Ffn2Ideal.Frame
public import proofs.«01_k».proof.Proof.Ffn2.Bodies
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu2

open Idealize.ShloMosaic Idealize.ShloMosaic.TcCoe Idealize.SL.Sem Cert.Ffn2Ideal Cert.Ffn2Ideal.Gen Cert.Mat Cert.Swiglu

/-! ### Where a point's blocks lie -/

theorem idx0_0 : ∀ t : Fin cfg0.N, win0_0.index t = ![t.val % 4, 0] :=
  (by decide +kernel : ∀ t : Fin grid0.N, win0_0.index t = ![t.val % 4, 0])
theorem idx0_1 : ∀ t : Fin cfg0.N, win0_1.index t = ![t.val / 4, 0, 0] :=
  (by decide +kernel : ∀ t : Fin grid0.N, win0_1.index t = ![t.val / 4, 0, 0])
theorem idx0_2 : ∀ t : Fin cfg0.N, win0_2.index t = ![t.val / 4, 0, 0] :=
  (by decide +kernel : ∀ t : Fin grid0.N, win0_2.index t = ![t.val / 4, 0, 0])
theorem idx0_3 : ∀ t : Fin cfg0.N, win0_3.index t = ![t.val / 4, t.val % 4, 0] :=
  (by decide +kernel : ∀ t : Fin grid0.N, win0_3.index t = ![t.val / 4, t.val % 4, 0])
theorem idx0_4 : ∀ t : Fin cfg0.N, win0_4.index t = ![t.val / 4, t.val % 4, 0] :=
  (by decide +kernel : ∀ t : Fin grid0.N, win0_4.index t = ![t.val / 4, t.val % 4, 0])
theorem idx0_5 : ∀ t : Fin cfg0.N, win0_5.index t = ![t.val / 4, t.val % 4, 0] :=
  (by decide +kernel : ∀ t : Fin grid0.N, win0_5.index t = ![t.val / 4, t.val % 4, 0])
theorem idx3_0 : ∀ t : Fin cfg3.N, win3_0.index t = ![t.val % 4, 0] :=
  (by decide +kernel : ∀ t : Fin grid3.N, win3_0.index t = ![t.val % 4, 0])
theorem idx3_1 : ∀ t : Fin cfg3.N, win3_1.index t = ![t.val / 4, 0, 0] :=
  (by decide +kernel : ∀ t : Fin grid3.N, win3_1.index t = ![t.val / 4, 0, 0])
theorem idx3_2 : ∀ t : Fin cfg3.N, win3_2.index t = ![t.val / 4, t.val % 4, 0] :=
  (by decide +kernel : ∀ t : Fin grid3.N, win3_2.index t = ![t.val / 4, t.val % 4, 0])
theorem idx3_3 : ∀ t : Fin cfg3.N, win3_3.index t = ![t.val / 4, t.val % 4, 0] :=
  (by decide +kernel : ∀ t : Fin grid3.N, win3_3.index t = ![t.val / 4, t.val % 4, 0])
theorem idx3_4 : ∀ t : Fin cfg3.N, win3_4.index t = ![t.val / 4, t.val % 4, 0] :=
  (by decide +kernel : ∀ t : Fin grid3.N, win3_4.index t = ![t.val / 4, t.val % 4, 0])
theorem idx3_5 : ∀ t : Fin cfg3.N, win3_5.index t = ![t.val / 4, t.val % 4, 0] :=
  (by decide +kernel : ∀ t : Fin grid3.N, win3_5.index t = ![t.val / 4, t.val % 4, 0])
theorem lt_0 (t : Fin cfg0.N) : t.val < 32 := lt_of_lt_of_eq t.isLt N_0
theorem lt_3 (t : Fin cfg3.N) : t.val < 32 := lt_of_lt_of_eq t.isLt N_3

variable (V : (c : Dev nD) → (b : Ref sig .tc) → Buf (Elt Ideal) ((c : Thread nD τ).loc b)) (c : Dev nD)

/-- The first product. -/
theorem region0_3 : (dat0 V c).arrAt 3 cfg0.N = side (nt (V c main_arg2 : Mat 2048 2048) (unstack (V c main_v5 : WPlanes))) := by
  refine (dat0 V c).arrAt_eq_of_covers 3 _ (by decide +kernel) fun t hf y => ?_
  have ht := lt_0 t
  blk_simp
  rw [after0_3]; frame_out
  rw [storeA]
  have h0 : (y 0).val < 1 := (y 0).isLt
  refine nt_congr2 (fun k => ?_) (fun k => ?_)
  · blk_simp [iblk0]
    refine congrArg (V c main_arg2) ?_
    blk_ext [idx0_0, idx0_3]
  · refine Eq.trans ?_ (unstack_chan _ _ _ _).symm
    unfold flat
    blk_simp [iblk0]
    refine congrArg (V c main_v5) ?_
    blk_ext [idx0_1, idx0_3]

/-- The second product. -/
theorem region0_4 : (dat0 V c).arrAt 4 cfg0.N = side (nt (V c main_arg2 : Mat 2048 2048) (unstack (V c main_v7 : WPlanes))) := by
  refine (dat0 V c).arrAt_eq_of_covers 4 _ (by decide +kernel) fun t hf y => ?_
  have ht := lt_0 t
  blk_simp
  rw [after0_4]; frame_out
  rw [storeB]
  have h0 : (y 0).val < 1 := (y 0).isLt
  refine nt_congr2 (fun k => ?_) (fun k => ?_)
  · blk_simp [iblk0]
    refine congrArg (V c main_arg2) ?_
    blk_ext [idx0_0, idx0_4]
  · refine Eq.trans ?_ (unstack_chan _ _ _ _).symm
    unfold flat
    blk_simp [iblk0]
    refine congrArg (V c main_v7) ?_
    blk_ext [idx0_2, idx0_4]

/-- The hidden array. -/
theorem region0_5 : (dat0 V c).arrAt 5 cfg0.N = side (hidden (nt (V c main_arg2 : Mat 2048 2048) (unstack (V c main_v5 : WPlanes))) (nt (V c main_arg2 : Mat 2048 2048) (unstack (V c main_v7 : WPlanes)))) := by
  refine (dat0 V c).arrAt_eq_of_covers 5 _ (by decide +kernel) fun t hf y => ?_
  have ht := lt_0 t
  blk_simp
  rw [after0_5]; frame_out
  rw [storeS]
  have h0 : (y 0).val < 1 := (y 0).isLt
  refine hid_congr (nt_congr2 (fun k => ?_) (fun k => ?_)) (nt_congr2 (fun k => ?_) (fun k => ?_))
  · blk_simp [iblk0]
    refine congrArg (V c main_arg2) ?_
    blk_ext [idx0_0, idx0_5]
  · refine Eq.trans ?_ (unstack_chan _ _ _ _).symm
    unfold flat
    blk_simp [iblk0]
    refine congrArg (V c main_v5) ?_
    blk_ext [idx0_1, idx0_5]
  · blk_simp [iblk0]
    refine congrArg (V c main_arg2) ?_
    blk_ext [idx0_0, idx0_5]
  · refine Eq.trans ?_ (unstack_chan _ _ _ _).symm
    unfold flat
    blk_simp [iblk0]
    refine congrArg (V c main_v7) ?_
    blk_ext [idx0_2, idx0_5]

/-- The first product's gradient. -/
theorem region3_4 : (dat3 V c).arrAt 4 cfg3.N = side (slopeA (nt (V c main_arg6 : Mat 2048 2048) (unstack (V c main_v8 : WPlanes))) (unside (V c main_v9_0 : HPlanes 2048)) (unside (V c main_v9_1 : HPlanes 2048))) := by
  refine (dat3 V c).arrAt_eq_of_covers 4 _ (by decide +kernel) fun t hf y => ?_
  have ht := lt_3 t
  blk_simp
  rw [after3_4]; frame_out
  rw [storeDA]
  have h0 : (y 0).val < 1 := (y 0).isLt
  refine gradA_congr (nt_congr2 (fun k => ?_) (fun k => ?_)) ?_ ?_
  · blk_simp [iblk3]
    refine congrArg (V c main_arg6) ?_
    blk_ext [idx3_0, idx3_4]
  · refine Eq.trans ?_ (unstack_chan _ _ _ _).symm
    unfold flat
    blk_simp [iblk3]
    refine congrArg (V c main_v8) ?_
    blk_ext [idx3_1, idx3_4]
  · refine Eq.trans ?_ (unside_chan _ _ _ _).symm
    blk_simp [iblk3]
    refine congrArg (V c main_v9_0) ?_
    blk_ext [idx3_2, idx3_4]
  · refine Eq.trans ?_ (unside_chan _ _ _ _).symm
    blk_simp [iblk3]
    refine congrArg (V c main_v9_1) ?_
    blk_ext [idx3_3, idx3_4]

/-- The second product's gradient. -/
theorem region3_5 : (dat3 V c).arrAt 5 cfg3.N = side (slopeB (nt (V c main_arg6 : Mat 2048 2048) (unstack (V c main_v8 : WPlanes))) (unside (V c main_v9_0 : HPlanes 2048))) := by
  refine (dat3 V c).arrAt_eq_of_covers 5 _ (by decide +kernel) fun t hf y => ?_
  have ht := lt_3 t
  blk_simp
  rw [after3_5]; frame_out
  rw [storeDB]
  have h0 : (y 0).val < 1 := (y 0).isLt
  refine gradB_congr (nt_congr2 (fun k => ?_) (fun k => ?_)) ?_
  · blk_simp [iblk3]
    refine congrArg (V c main_arg6) ?_
    blk_ext [idx3_0, idx3_5]
  · refine Eq.trans ?_ (unstack_chan _ _ _ _).symm
    unfold flat
    blk_simp [iblk3]
    refine congrArg (V c main_v8) ?_
    blk_ext [idx3_1, idx3_5]
  · refine Eq.trans ?_ (unside_chan _ _ _ _).symm
    blk_simp [iblk3]
    refine congrArg (V c main_v9_0) ?_
    blk_ext [idx3_2, idx3_5]

end Cert.Swiglu2

end
-- ==== Proof.Ffn2.Planes.lean ====
/- The bodies that sum a product over the eight planes: each plane's product in turn, added up. -/
module

public import proofs.«01_k».proof.Proof.Ffn2.Bodies
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu2

open Idealize.ShloMosaic Idealize.ShloMosaic.TcCoe Idealize.SL.Sem Cert.Ffn2Ideal Cert.Ffn2Ideal.Gen Cert.Mat Cert.Swiglu

theorem down (i : grid1.Coords) (x : Vec Ideal S8x512x704 .bf16) (y : Vec Ideal S8x704x512 .bf16) (a : Vec Ideal S512x512 .f32) (b : Vec Ideal S24x512 .f32) :
    k1_pay9 i x y a b = (planesProd x y : S512x512.Idx → EReal) :=
  eq2 fun r s => by
    unfold k1_pay9 k1_pay4 k1_pay2 k1_pay3
    pointwise
    refine Eq.trans ?_ (Fin.sum_univ_eight _).symm
    refine plus (plus (plus (plus (plus (plus (plus (plane 0 ?_ ?_) (plane 1 ?_ ?_)) (plane 2 ?_ ?_)) (plane 3 ?_ ?_)) (plane 4 ?_ ?_)) (plane 5 ?_ ?_)) (plane 6 ?_ ?_)) (plane 7 ?_ ?_)
    all_goals exact fun k => rfl

theorem out (f : Vec Ideal S512x512 .f32) (g : Vec Ideal S24x512 .f32) (c : IVec S512x1 1) (x : Vec Ideal S512x512 .f32) :
    k1_pay1 f (k1_pay6 g) (k1_pay7 g) c x
      = (fun i => gated (x i) (g (ix2 8 (i 1))) (f i) : S512x512.Idx → EReal) :=
  eq2 fun r s => by
    unfold k1_pay1 k1_pay6 k1_pay7 k1_pay5
    pointwise
    rfl

theorem dh (x x' : Vec Ideal S8x512x704 .bf16) (y y' : Vec Ideal S8x704x256 .bf16) :
    out5_4 x y x' y' = (added (planesProd x y) (planesProd x' y') : S512x256.Idx → EReal) :=
  eq2 fun r s => by
    unfold out5_4
    frame_out
    unfold k5_pay1 k5_pay4 k5_pay2 k5_pay3 k5_pay6 k5_pay5 k5_pay7 k5_pay8
    pointwise
    refine plus ?_ ?_
    all_goals
      refine Eq.trans ?_ (Fin.sum_univ_eight _).symm
      refine plus (plus (plus (plus (plus (plus (plus (plane 0 ?_ ?_) (plane 1 ?_ ?_)) (plane 2 ?_ ?_)) (plane 3 ?_ ?_)) (plane 4 ?_ ?_)) (plane 5 ?_ ?_)) (plane 6 ?_ ?_)) (plane 7 ?_ ?_)
      all_goals exact fun k => rfl

end Cert.Swiglu2

end
-- ==== Proof.Ffn2.Tokens.lean ====
/- The block's result and its argument's gradient: after the second call and the last, the arrays they write are products over the
   channels, the first scaled by the gate and added to the tokens. -/
module

public import proofs.«01_k».proof.Proof.Gen.Ffn2Ideal.Frame
public import proofs.«01_k».proof.Proof.Ffn2.Planes
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu2

open Idealize.ShloMosaic Idealize.ShloMosaic.TcCoe Idealize.SL.Sem Cert.Ffn2Ideal Cert.Ffn2Ideal.Gen Cert.Mat Cert.Swiglu

/-! ### Where a point's blocks lie -/

theorem idx1_0 : ∀ t : Fin cfg1.N, win1_0.index t = ![0, t.val / 4, 0] :=
  (by decide +kernel : ∀ t : Fin grid1.N, win1_0.index t = ![0, t.val / 4, 0])
theorem idx1_1 : ∀ t : Fin cfg1.N, win1_1.index t = ![0, 0, t.val % 4] :=
  (by decide +kernel : ∀ t : Fin grid1.N, win1_1.index t = ![0, 0, t.val % 4])
theorem idx1_2 : ∀ t : Fin cfg1.N, win1_2.index t = ![t.val / 4, t.val % 4] :=
  (by decide +kernel : ∀ t : Fin grid1.N, win1_2.index t = ![t.val / 4, t.val % 4])
theorem idx1_3 : ∀ t : Fin cfg1.N, win1_3.index t = ![0, t.val % 4] :=
  (by decide +kernel : ∀ t : Fin grid1.N, win1_3.index t = ![0, t.val % 4])
theorem idx1_4 : ∀ t : Fin cfg1.N, win1_4.index t = ![t.val / 4, t.val % 4] :=
  (by decide +kernel : ∀ t : Fin grid1.N, win1_4.index t = ![t.val / 4, t.val % 4])
theorem idx1_5 : ∀ t : Fin cfg1.N, win1_5.index t = ![t.val / 4, t.val % 4] :=
  (by decide +kernel : ∀ t : Fin grid1.N, win1_5.index t = ![t.val / 4, t.val % 4])
theorem idx5_0 : ∀ t : Fin cfg5.N, win5_0.index t = ![0, t.val / 8, 0] :=
  (by decide +kernel : ∀ t : Fin grid5.N, win5_0.index t = ![0, t.val / 8, 0])
theorem idx5_1 : ∀ t : Fin cfg5.N, win5_1.index t = ![0, 0, t.val % 8] :=
  (by decide +kernel : ∀ t : Fin grid5.N, win5_1.index t = ![0, 0, t.val % 8])
theorem idx5_2 : ∀ t : Fin cfg5.N, win5_2.index t = ![0, t.val / 8, 0] :=
  (by decide +kernel : ∀ t : Fin grid5.N, win5_2.index t = ![0, t.val / 8, 0])
theorem idx5_3 : ∀ t : Fin cfg5.N, win5_3.index t = ![0, 0, t.val % 8] :=
  (by decide +kernel : ∀ t : Fin grid5.N, win5_3.index t = ![0, 0, t.val % 8])
theorem idx5_4 : ∀ t : Fin cfg5.N, win5_4.index t = ![t.val / 8, t.val % 8] :=
  (by decide +kernel : ∀ t : Fin grid5.N, win5_4.index t = ![t.val / 8, t.val % 8])
theorem lt_1 (t : Fin cfg1.N) : t.val < 16 := lt_of_lt_of_eq t.isLt N_1
theorem lt_5 (t : Fin cfg5.N) : t.val < 32 := lt_of_lt_of_eq t.isLt N_5

/-- The gates the table holds: one row for every token. -/
def gates (z : Mat 24 2048) : Mat 2048 2048 := fun i => z (ix2 8 (i 1))

variable (V : (c : Dev nD) → (b : Ref sig .tc) → Buf (Elt Ideal) ((c : Thread nD τ).loc b)) (c : Dev nD)

/-- The block's result, gated, and the tokens. -/
theorem region1_5 : (dat1 V c).arrAt 5 cfg1.N
    = updated (V c main_arg0 : Mat 2048 2048) (gates (V c main_v3)) (nn (unside (V c main_v9_2 : HPlanes 2048)) (unstack (V c main_v8 : WPlanes))) := by
  rw [← planesProd_eq]
  refine (dat1 V c).arrAt_eq_of_covers 5 _ (by decide +kernel) fun t hf y => ?_
  have ht := lt_1 t
  blk_simp
  rw [after1_5]; frame_out
  rw [down, out]
  refine gated_congr ?_ ?_ (planesProd_congr (fun p k => ?_) (fun p k => ?_))
  · blk_simp [iblk1]
    refine congrArg (V c main_arg0) ?_
    blk_ext [idx1_2, idx1_5]
  · unfold gates
    blk_simp [iblk1]
    refine congrArg (V c main_v3) ?_
    blk_ext [idx1_3, idx1_5]
  · blk_simp [iblk1]
    refine congrArg (V c main_v9_2) ?_
    blk_ext [idx1_0, idx1_5]
  · blk_simp [iblk1]
    refine congrArg (V c main_v8) ?_
    blk_ext [idx1_1, idx1_5]

/-- The argument's gradient. -/
theorem region5_4 : (dat5 V c).arrAt 4 cfg5.N
    = added (nn (unside (V c main_v12_0 : HPlanes 2048)) (unstack (V c main_v5 : WPlanes))) (nn (unside (V c main_v12_1 : HPlanes 2048)) (unstack (V c main_v7 : WPlanes))) := by
  rw [← planesProd_eq, ← planesProd_eq]
  refine (dat5 V c).arrAt_eq_of_covers 4 _ (by decide +kernel) fun t hf y => ?_
  have ht := lt_5 t
  blk_simp
  rw [after5_4]
  rw [dh]
  refine plus (planesProd_congr (fun p k => ?_) (fun p k => ?_)) (planesProd_congr (fun p k => ?_) (fun p k => ?_))
  · blk_simp [iblk5]
    refine congrArg (V c main_v12_0) ?_
    blk_ext [idx5_0, idx5_4]
  · blk_simp [iblk5]
    refine congrArg (V c main_v5) ?_
    blk_ext [idx5_1, idx5_4]
  · blk_simp [iblk5]
    refine congrArg (V c main_v12_1) ?_
    blk_ext [idx5_2, idx5_4]
  · blk_simp [iblk5]
    refine congrArg (V c main_v7) ?_
    blk_ext [idx5_3, idx5_4]

end Cert.Swiglu2

end
-- ==== Proof.Ffn2.Weights.lean ====
/- The weights' gradients: after the third call and the fifth, every array they write is, in planes, the product of the two arrays
   it reads, summed over the tokens. -/
module

public import proofs.«01_k».proof.Proof.Gen.Ffn2Ideal.Frame
public import proofs.«01_k».proof.Proof.Ffn2.Bodies
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu2

open Idealize.ShloMosaic Idealize.ShloMosaic.TcCoe Idealize.SL.Sem Cert.Ffn2Ideal Cert.Ffn2Ideal.Gen Cert.Mat Cert.Swiglu

/-! ### Where a point's blocks lie -/

theorem idx2_0 : ∀ t : Fin cfg2.N, win2_0.index t = ![t.val / 4, 0, 0] :=
  (by decide +kernel : ∀ t : Fin grid2.N, win2_0.index t = ![t.val / 4, 0, 0])
theorem idx2_1 : ∀ t : Fin cfg2.N, win2_1.index t = ![0, t.val % 4] :=
  (by decide +kernel : ∀ t : Fin grid2.N, win2_1.index t = ![0, t.val % 4])
theorem idx2_2 : ∀ t : Fin cfg2.N, win2_2.index t = ![t.val / 4, 0, t.val % 4] :=
  (by decide +kernel : ∀ t : Fin grid2.N, win2_2.index t = ![t.val / 4, 0, t.val % 4])
theorem idx4_0 : ∀ t : Fin cfg4.N, win4_0.index t = ![0, t.val % 4] :=
  (by decide +kernel : ∀ t : Fin grid4.N, win4_0.index t = ![0, t.val % 4])
theorem idx4_1 : ∀ t : Fin cfg4.N, win4_1.index t = ![t.val / 4, 0, 0] :=
  (by decide +kernel : ∀ t : Fin grid4.N, win4_1.index t = ![t.val / 4, 0, 0])
theorem idx4_2 : ∀ t : Fin cfg4.N, win4_2.index t = ![t.val / 4, 0, 0] :=
  (by decide +kernel : ∀ t : Fin grid4.N, win4_2.index t = ![t.val / 4, 0, 0])
theorem idx4_3 : ∀ t : Fin cfg4.N, win4_3.index t = ![t.val / 4, 0, t.val % 4] :=
  (by decide +kernel : ∀ t : Fin grid4.N, win4_3.index t = ![t.val / 4, 0, t.val % 4])
theorem idx4_4 : ∀ t : Fin cfg4.N, win4_4.index t = ![t.val / 4, 0, t.val % 4] :=
  (by decide +kernel : ∀ t : Fin grid4.N, win4_4.index t = ![t.val / 4, 0, t.val % 4])
theorem lt_2 (t : Fin cfg2.N) : t.val < 32 := lt_of_lt_of_eq t.isLt N_2
theorem lt_4 (t : Fin cfg4.N) : t.val < 32 := lt_of_lt_of_eq t.isLt N_4

variable (V : (c : Dev nD) → (b : Ref sig .tc) → Buf (Elt Ideal) ((c : Thread nD τ).loc b)) (c : Dev nD)

/-- The last weight's gradient. -/
theorem region2_2 : (dat2 V c).arrAt 2 cfg2.N = stack (tn (unside (V c main_v9_2 : HPlanes 2048)) (V c main_arg6 : Mat 2048 2048)) := by
  refine (dat2 V c).arrAt_eq_of_covers 2 _ (by decide +kernel) fun t hf y => ?_
  have ht := lt_2 t
  blk_simp
  rw [after2_2]; frame_out
  rw [store2]
  have h0 : (y 0).val < 1 := (y 0).isLt
  refine tn_congr2 (fun k => ?_) (fun k => ?_)
  · refine Eq.trans ?_ (unside_chan _ _ _ _).symm
    unfold flat
    blk_simp [iblk2]
    refine congrArg (V c main_v9_2) ?_
    blk_ext [idx2_0, idx2_2]
  · blk_simp [iblk2]
    refine congrArg (V c main_arg6) ?_
    blk_ext [idx2_1, idx2_2]

/-- The first weight's gradient. -/
theorem region4_3 : (dat4 V c).arrAt 3 cfg4.N = stack (tn (unside (V c main_v12_0 : HPlanes 2048)) (V c main_arg2 : Mat 2048 2048)) := by
  refine (dat4 V c).arrAt_eq_of_covers 3 _ (by decide +kernel) fun t hf y => ?_
  have ht := lt_4 t
  blk_simp
  rw [after4_3]; frame_out
  rw [store4]
  have h0 : (y 0).val < 1 := (y 0).isLt
  refine tn_congr2 (fun k => ?_) (fun k => ?_)
  · refine Eq.trans ?_ (unside_chan _ _ _ _).symm
    unfold flat
    blk_simp [iblk4]
    refine congrArg (V c main_v12_0) ?_
    blk_ext [idx4_1, idx4_3]
  · blk_simp [iblk4]
    refine congrArg (V c main_arg2) ?_
    blk_ext [idx4_0, idx4_3]

/-- The second weight's gradient. -/
theorem region4_4 : (dat4 V c).arrAt 4 cfg4.N = stack (tn (unside (V c main_v12_1 : HPlanes 2048)) (V c main_arg2 : Mat 2048 2048)) := by
  refine (dat4 V c).arrAt_eq_of_covers 4 _ (by decide +kernel) fun t hf y => ?_
  have ht := lt_4 t
  blk_simp
  rw [after4_4]; frame_out
  rw [store4']
  have h0 : (y 0).val < 1 := (y 0).isLt
  refine tn_congr2 (fun k => ?_) (fun k => ?_)
  · refine Eq.trans ?_ (unside_chan _ _ _ _).symm
    unfold flat
    blk_simp [iblk4]
    refine congrArg (V c main_v12_1) ?_
    blk_ext [idx4_2, idx4_4]
  · blk_simp [iblk4]
    refine congrArg (V c main_arg2) ?_
    blk_ext [idx4_0, idx4_4]

end Cert.Swiglu2

end
-- ==== Proof.Ffn2.Chain.lean ====
/- The calls one after another: what each array holds at the end, as a function of the arguments. -/
module

public import proofs.«01_k».proof.Proof.Ffn2.Hidden
public import proofs.«01_k».proof.Proof.Ffn2.Tokens
public import proofs.«01_k».proof.Proof.Ffn2.Weights

@[expose] public section

set_option maxRecDepth 16384

noncomputable section

namespace Cert.Swiglu2

open Idealize.ShloMosaic Idealize.ShloMosaic.TcCoe Idealize.SL.Sem Cert.Ffn2Ideal Cert.Ffn2Ideal.Gen Cert.Mat Cert.Swiglu

variable (m : (ℓ : Loc nD τ sig) → Buf (Elt Ideal) ℓ) (ρ : Dev nD → PrngReg) (c : Dev nD)

/-- An argument on a device. -/
abbrev arg (b : Ref sig .tc) := m ((c.tc : Thread nD τ).loc b)

/-- A device's arguments. -/
def args : Args 2048 where
  x := arg m c main_arg0
  gate i := arg m c main_arg1 (ix1 (i 1))
  h := arg m c main_arg2
  wGate := arg m c main_arg3
  wUp := arg m c main_arg4
  wDown := arg m c main_arg5
  ct := arg m c main_arg6

/-! ### Before the calls -/

theorem table_gates (z : Vec Ideal S8x2048 .f32) (z' : Vec Ideal S15x2048 .f32) (g : Vec Ideal S2048 .f32) :
    gates (concatenate S24x2048 0 [⟨S8x2048, z⟩, ⟨S1x2048, broadcastInDim S1x2048 ![1] bcast_S2048_S1x2048_1 g⟩, ⟨S15x2048, z'⟩]
      concatenates_S8x2048_S1x2048_S15x2048_S24x2048_d0) = fun i => g (ix1 (i 1)) := eq2 fun i j => by
  refine (concatenate_apply_piece (t := S24x2048) 0 _ _ _ 1 (by simp) S1x2048 _ rfl rfl 8 rfl (ix2 0 j) (fun b hb => ?_) rfl).trans ?_
  · fin_cases b
    · exact absurd rfl hb
    · rfl
  · exact congrArg g (funext fun b => by fin_cases b; rfl)

theorem table1 : ∃ (z : Vec Ideal S8x2048 .f32) (z' : Vec Ideal S15x2048 .f32), W1 m ρ c (Proc.devRef .tc main_v3)
    = concatenate S24x2048 0 [⟨S8x2048, z⟩, ⟨S1x2048, broadcastInDim S1x2048 ![1] bcast_S2048_S1x2048_1 (arg m c main_arg1)⟩, ⟨S15x2048, z'⟩]
      concatenates_S8x2048_S1x2048_S15x2048_S24x2048_d0 := by
  refine ⟨broadcastInDim S8x2048 ![] bcast_S_S8x2048 (constant (F := Ideal) S_ .f32 0x00000000#32 : S_.Idx → EReal),
    broadcastInDim S15x2048 ![] bcast_S_S15x2048 (constant (F := Ideal) S_ .f32 0x00000000#32 : S_.Idx → EReal), ?_⟩
  after_results_simp <;> rfl

theorem gates1 : gates (W1 m ρ c (Proc.devRef .tc main_v3)) = (args m c).gate := by
  obtain ⟨z, z', h⟩ := table1 m ρ c
  rw [h]; exact table_gates _ _ _

theorem wGate1 : unstack (W1 m ρ c (Proc.devRef .tc main_v5)) = tr (args m c).wGate := by
  refine Eq.trans (congrArg unstack ?_) ((unstack_split (transpose S5632x2048 [1, 0] (arg m c main_arg3) transposes_S2048x5632_S5632x2048_1_0)
    shapeCasts_S5632x2048_S8x704x2048).trans (transpose_tr _ _))
  after_results_simp <;> rfl
theorem wUp1 : unstack (W1 m ρ c (Proc.devRef .tc main_v7)) = tr (args m c).wUp := by
  refine Eq.trans (congrArg unstack ?_) ((unstack_split (transpose S5632x2048 [1, 0] (arg m c main_arg4) transposes_S2048x5632_S5632x2048_1_0)
    shapeCasts_S5632x2048_S8x704x2048).trans (transpose_tr _ _))
  after_results_simp <;> rfl
theorem wDown1 : unstack (W1 m ρ c (Proc.devRef .tc main_v8)) = (args m c).wDown := by
  refine Eq.trans (congrArg unstack ?_) (unstack_split (arg m c main_arg5) shapeCasts_S5632x2048_S8x704x2048)
  after_results_simp <;> rfl

/-! ### What a call reads is what an earlier one, or the host, left -/

theorem h1 : W1 m ρ c (Proc.devRef .tc main_arg2) = (args m c).h := W1_args m ρ c main_arg2 (by decide)
theorem h5 : W5 m ρ c (Proc.devRef .tc main_arg2) = (args m c).h := W5_args m ρ c main_arg2 (by decide)
theorem x2 : W2 m ρ c (Proc.devRef .tc main_arg0) = (args m c).x := W2_args m ρ c main_arg0 (by decide)
theorem ct3 : W3 m ρ c (Proc.devRef .tc main_arg6) = (args m c).ct := W3_args m ρ c main_arg6 (by decide)
theorem ct4 : W4 m ρ c (Proc.devRef .tc main_arg6) = (args m c).ct := W4_args m ρ c main_arg6 (by decide)
theorem gates2 : gates (W2 m ρ c (Proc.devRef .tc main_v3)) = (args m c).gate :=
  (congrArg gates ((W2_of m ρ c main_v3 (by decide +kernel)))).trans (gates1 m ρ c)
theorem wDown2 : unstack (W2 m ρ c (Proc.devRef .tc main_v8)) = (args m c).wDown :=
  (congrArg unstack ((W2_of m ρ c main_v8 (by decide +kernel)))).trans (wDown1 m ρ c)
theorem wDown4 : unstack (W4 m ρ c (Proc.devRef .tc main_v8)) = (args m c).wDown :=
  (congrArg unstack ((W4_of m ρ c main_v8 (by decide +kernel)).trans ((W3_of m ρ c main_v8 (by decide +kernel)).trans ((W2_of m ρ c main_v8 (by decide +kernel)))))).trans (wDown1 m ρ c)
theorem wGate6 : unstack (W6 m ρ c (Proc.devRef .tc main_v5)) = tr (args m c).wGate :=
  (congrArg unstack ((W6_of m ρ c main_v5 (by decide +kernel)).trans ((W5_of m ρ c main_v5 (by decide +kernel)).trans ((W4_of m ρ c main_v5 (by decide +kernel)).trans ((W3_of m ρ c main_v5 (by decide +kernel)).trans ((W2_of m ρ c main_v5 (by decide +kernel)))))))).trans (wGate1 m ρ c)
theorem wUp6 : unstack (W6 m ρ c (Proc.devRef .tc main_v7)) = tr (args m c).wUp :=
  (congrArg unstack ((W6_of m ρ c main_v7 (by decide +kernel)).trans ((W5_of m ρ c main_v7 (by decide +kernel)).trans ((W4_of m ρ c main_v7 (by decide +kernel)).trans ((W3_of m ρ c main_v7 (by decide +kernel)).trans ((W2_of m ρ c main_v7 (by decide +kernel)))))))).trans (wUp1 m ρ c)

/-! ### After each call -/

theorem a2 : W2 m ρ c (Proc.devRef .tc main_v9_0) = side (args m c).a1 :=
  (W2_arr m ρ c 3).trans ((region0_3 (V1 m ρ) c).trans (congrArg side (congrArg₂ nt (h1 m ρ c) (wGate1 m ρ c))))
theorem b2 : W2 m ρ c (Proc.devRef .tc main_v9_1) = side (args m c).b1 :=
  (W2_arr m ρ c 4).trans ((region0_4 (V1 m ρ) c).trans (congrArg side (congrArg₂ nt (h1 m ρ c) (wUp1 m ρ c))))
theorem s2 : W2 m ρ c (Proc.devRef .tc main_v9_2) = side (args m c).s :=
  (W2_arr m ρ c 5).trans ((region0_5 (V1 m ρ) c).trans (congrArg side
    (congrArg₂ Swiglu.hidden (congrArg₂ nt (h1 m ρ c) (wGate1 m ρ c)) (congrArg₂ nt (h1 m ρ c) (wUp1 m ρ c)))))
theorem us2 : unside (W2 m ρ c (Proc.devRef .tc main_v9_2)) = (args m c).s := (congrArg unside (s2 m ρ c)).trans (unside_side _)

theorem out3 : W3 m ρ c (Proc.devRef .tc main_v10_1) = (args m c).out :=
  (W3_arr m ρ c 5).trans ((region1_5 (V2 m ρ) c).trans ((congrArg₂ (fun x g => updated x g _) (x2 m ρ c) (gates2 m ρ c)).trans
    (congrArg (updated _ _) (congrArg₂ nn (us2 m ρ c) (wDown2 m ρ c)))))

theorem us3 : unside (W3 m ρ c (Proc.devRef .tc main_v9_2)) = (args m c).s := (congrArg unside (W3_of m ρ c main_v9_2 (by decide +kernel))).trans (us2 m ρ c)
theorem gradWDown4 : W4 m ρ c (Proc.devRef .tc main_v11) = stack (args m c).gradWDown :=
  (W4_arr m ρ c 2).trans ((region2_2 (V3 m ρ) c).trans (congrArg stack (congrArg₂ tn (us3 m ρ c) (ct3 m ρ c))))

theorem d4 : nt (V4 m ρ c main_arg6 : Mat 2048 2048) (unstack (V4 m ρ c main_v8 : WPlanes)) = (args m c).d := congrArg₂ nt (ct4 m ρ c) (wDown4 m ρ c)
theorem ua4 : unside (W4 m ρ c (Proc.devRef .tc main_v9_0)) = (args m c).a1 :=
  (congrArg unside ((W4_of m ρ c main_v9_0 (by decide +kernel)).trans ((W3_of m ρ c main_v9_0 (by decide +kernel)).trans (a2 m ρ c)))).trans (unside_side _)
theorem ub4 : unside (W4 m ρ c (Proc.devRef .tc main_v9_1)) = (args m c).b1 :=
  (congrArg unside ((W4_of m ρ c main_v9_1 (by decide +kernel)).trans ((W3_of m ρ c main_v9_1 (by decide +kernel)).trans (b2 m ρ c)))).trans (unside_side _)

theorem da5 : W5 m ρ c (Proc.devRef .tc main_v12_0) = side (args m c).da :=
  (W5_arr m ρ c 4).trans ((region3_4 (V4 m ρ) c).trans (congrArg side ((congrArg₂ (fun x y => slopeA x y _) (d4 m ρ c) (ua4 m ρ c)).trans
    (congrArg (slopeA _ _) (ub4 m ρ c)))))
theorem db5 : W5 m ρ c (Proc.devRef .tc main_v12_1) = side (args m c).db :=
  (W5_arr m ρ c 5).trans ((region3_5 (V4 m ρ) c).trans (congrArg side (congrArg₂ slopeB (d4 m ρ c) (ua4 m ρ c))))
theorem uda5 : unside (W5 m ρ c (Proc.devRef .tc main_v12_0)) = (args m c).da := (congrArg unside (da5 m ρ c)).trans (unside_side _)
theorem udb5 : unside (W5 m ρ c (Proc.devRef .tc main_v12_1)) = (args m c).db := (congrArg unside (db5 m ρ c)).trans (unside_side _)
theorem uda6 : unside (W6 m ρ c (Proc.devRef .tc main_v12_0)) = (args m c).da := (congrArg unside (W6_of m ρ c main_v12_0 (by decide +kernel))).trans (uda5 m ρ c)
theorem udb6 : unside (W6 m ρ c (Proc.devRef .tc main_v12_1)) = (args m c).db := (congrArg unside (W6_of m ρ c main_v12_1 (by decide +kernel))).trans (udb5 m ρ c)

theorem gradWGate6 : W6 m ρ c (Proc.devRef .tc main_v13_0) = stack (tn (args m c).da (args m c).h) :=
  (W6_arr m ρ c 3).trans ((region4_3 (V5 m ρ) c).trans (congrArg stack (congrArg₂ tn (uda5 m ρ c) (h5 m ρ c))))
theorem gradWUp6 : W6 m ρ c (Proc.devRef .tc main_v13_1) = stack (tn (args m c).db (args m c).h) :=
  (W6_arr m ρ c 4).trans ((region4_4 (V5 m ρ) c).trans (congrArg stack (congrArg₂ tn (udb5 m ρ c) (h5 m ρ c))))
theorem gradH7 : W7 m ρ c (Proc.devRef .tc main_v14) = (args m c).gradH :=
  (W7_arr m ρ c 4).trans ((region5_4 (V6 m ρ) c).trans
    (congrArg₂ added (congrArg₂ nn (uda6 m ρ c) (wGate6 m ρ c)) (congrArg₂ nn (udb6 m ρ c) (wUp6 m ρ c))))

/-! ### After the calls -/

theorem out7 : W7 m ρ c (Proc.devRef .tc main_v10_1) = (args m c).out := (W7_of m ρ c main_v10_1 (by decide +kernel)).trans ((W6_of m ρ c main_v10_1 (by decide +kernel)).trans ((W5_of m ρ c main_v10_1 (by decide +kernel)).trans ((W4_of m ρ c main_v10_1 (by decide +kernel)).trans (out3 m ρ c))))
theorem gradWDown7 : W7 m ρ c (Proc.devRef .tc main_v11) = stack (args m c).gradWDown := (W7_of m ρ c main_v11 (by decide +kernel)).trans ((W6_of m ρ c main_v11 (by decide +kernel)).trans ((W5_of m ρ c main_v11 (by decide +kernel)).trans (gradWDown4 m ρ c)))
theorem gradWGate7 : W7 m ρ c (Proc.devRef .tc main_v13_0) = stack (tn (args m c).da (args m c).h) := (W7_of m ρ c main_v13_0 (by decide +kernel)).trans (gradWGate6 m ρ c)
theorem gradWUp7 : W7 m ρ c (Proc.devRef .tc main_v13_1) = stack (tn (args m c).db (args m c).h) := (W7_of m ρ c main_v13_1 (by decide +kernel)).trans (gradWUp6 m ρ c)

theorem out8 : W8 m ρ c (Proc.devRef .tc main_v10_1) = (args m c).out := (W8_of m ρ c main_v10_1 (by decide +kernel)).trans (out7 m ρ c)
theorem gradH8 : W8 m ρ c (Proc.devRef .tc main_v14) = (args m c).gradH := (W8_of m ρ c main_v14 (by decide +kernel)).trans (gradH7 m ρ c)
theorem gradWGate8 : W8 m ρ c (Proc.devRef .tc main_v17) = (args m c).gradWGate := by
  refine Eq.trans ?_ ((congrArg (fun z => transpose S2048x5632 [1, 0] z transposes_S5632x2048_S2048x5632_1_0)
    (split_stack (tn (args m c).da (args m c).h) shapeCasts_S8x704x2048_S5632x2048)).trans ((transpose_tr _ _).trans (tr_tn _ _)))
  rw [← gradWGate7 m ρ c]
  after_results_simp <;> rfl
theorem gradWUp8 : W8 m ρ c (Proc.devRef .tc main_v20) = (args m c).gradWUp := by
  refine Eq.trans ?_ ((congrArg (fun z => transpose S2048x5632 [1, 0] z transposes_S5632x2048_S2048x5632_1_0)
    (split_stack (tn (args m c).db (args m c).h) shapeCasts_S8x704x2048_S5632x2048)).trans ((transpose_tr _ _).trans (tr_tn _ _)))
  rw [← gradWUp7 m ρ c]
  after_results_simp <;> rfl
theorem gradWDown8 : W8 m ρ c (Proc.devRef .tc main_v22) = (args m c).gradWDown := by
  refine Eq.trans ?_ (split_stack (args m c).gradWDown shapeCasts_S8x704x2048_S5632x2048)
  rw [← gradWDown7 m ρ c]
  after_results_simp <;> rfl

end Cert.Swiglu2

end
-- ==== Proof.Ffn2.Run.lean ====
/- The run of the whole program with every array it leaves: at the end each buffer that outlives the calls holds what the
   host operations and the calls, in their order, leave there. -/
module

public import proofs.«01_k».proof.Proof.Gen.Ffn2Ideal.Frame

@[expose] public section

set_option maxRecDepth 16384

noncomputable section

namespace Cert.Swiglu2

open Idealize.ShloMosaic Idealize.ShloMosaic.TcCoe Idealize.ShloMosaic.Tactic Cert.Ffn2Ideal Cert.Ffn2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the calls, at the end; and every counter back at zero. -/
theorem run : θ_run defs (onTc (τ := τ) (main (F := F))) ⟨m, fun _ => 0, ρ⟩ (fun r =>
    (∀ (c : Dev nD) (b : Ref sig .tc), ¬(Proc.devRef .tc b : DevRef τ sig).isScoped → r.2.mem ((c.tc : Thread nD τ).loc b) = W8 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c b hb => h c _ (mem_uc b hb), funext fun g => hz g (.inr (no_unscoped g.2))⟩)

end Cert.Swiglu2

end
-- ==== Proof.Ffn2.Claim.lean ====
/- The claim for the second feed-forward block: the six calls leave the reference's value and its four gradients. -/
module

public import proofs.«01_k».proof.Defs
public import proofs.«01_k».proof.Proof.Gen.Ffn2.Frame
public import proofs.«01_k».proof.Proof.Gen.Ffn2ReferenceIdeal.Run
public import proofs.«01_k».proof.Proof.Ffn2.Reference
public import proofs.«01_k».proof.Proof.Ffn2.Finite
public import proofs.«01_k».proof.Proof.Ffn2.Chain
public import proofs.«01_k».proof.Proof.Ffn2.Run

@[expose] public section

noncomputable section

namespace Cert.Swiglu2

open Idealize.ShloMosaic Idealize.SL.Sem Cert.Swiglu

/-- The reference's frame: its run keeps the arguments, and it declares no semaphore. -/
theorem frame_reference : Cert.quiescent_Ffn2ReferenceIdeal := fun m g _ =>
  (θ_run Cert.Ffn2ReferenceIdeal.defs _ _).mono (fun r h => ⟨fun c => (h c).2.2.2.2.2, sem_eq_zero_of_no_sems (by decide) r.2⟩)
    (Cert.Ffn2ReferenceIdeal.Value.run (F := Ideal) m g)

/-- The memory of the reference, and an argument on device `c`. -/
abbrev Mem := (ℓ : Loc Cert.Ffn2ReferenceIdeal.nD Cert.Ffn2ReferenceIdeal.τ Cert.Ffn2ReferenceIdeal.sig) → Buf (Elt Ideal) ℓ

abbrev rarg (m' : Mem) (c : Dev Cert.Ffn2ReferenceIdeal.nD) (b : Ref Cert.Ffn2ReferenceIdeal.sig .tc) :=
  m' ((c.tc : Thread Cert.Ffn2ReferenceIdeal.nD Cert.Ffn2ReferenceIdeal.τ).loc b)

/-- The reference's arguments on device `c`. -/
abbrev rargs (m' : Mem) (c : Dev Cert.Ffn2ReferenceIdeal.nD) : Args 2048 where
  x := rarg m' c Cert.Ffn2ReferenceIdeal.main_arg0
  gate i := rarg m' c Cert.Ffn2ReferenceIdeal.main_arg1 (ix1 (i 1))
  h := rarg m' c Cert.Ffn2ReferenceIdeal.main_arg2
  wGate := rarg m' c Cert.Ffn2ReferenceIdeal.main_arg3
  wUp := rarg m' c Cert.Ffn2ReferenceIdeal.main_arg4
  wDown := rarg m' c Cert.Ffn2ReferenceIdeal.main_arg5
  ct := rarg m' c Cert.Ffn2ReferenceIdeal.main_arg6

theorem algebraic : Cert.algebraic_Ffn2Ideal_Ffn2ReferenceIdeal_pre_finite_ffn2 := by
  intro m g m' g' hpre hargs
  have hA : ∀ c, args m c = rargs m' c := fun c => by
    obtain ⟨h0, h1, h2, h3, h4, h5, h6⟩ := hargs c
    unfold args
    dsimp only [rargs, rarg]
    rw [h0, h1, h2, h3, h4, h5, h6]
  have hr : ∀ c, (rargs m' c).IsReal := fun c => hA c ▸ isReal (args m c) _ (hpre c)
  refine ⟨fun c => (args m c).out, fun c => (args m c).gradH, fun c => (args m c).gradWGate, fun c => (args m c).gradWUp,
    fun c => (args m c).gradWDown, (θ_run Cert.Ffn2Ideal.defs _ _).mono (fun r h c => ?_) (run m g),
    (θ_run Cert.Ffn2ReferenceIdeal.defs _ _).mono (fun r h c => ?_) (Cert.Ffn2ReferenceIdeal.Value.run (F := Ideal) m' g')⟩
  · have hk := fun (b : Ref Cert.Ffn2Ideal.sig .tc) hb => h.1 c b hb
    refine ⟨(hk _ (by decide)).trans (out8 m g c), (hk _ (by decide)).trans (gradH8 m g c), (hk _ (by decide)).trans (gradWGate8 m g c),
      (hk _ (by decide)).trans (gradWUp8 m g c), (hk _ (by decide)).trans (gradWDown8 m g c), ?_, ?_, ?_, ?_, ?_, ?_, ?_⟩ <;>
      exact (hk _ (by decide)).trans (Cert.Ffn2Ideal.Gen.W8_args m g c _ (by decide))
  · obtain ⟨h0, h1, h2, h3, h4, h5⟩ := h c
    exact ⟨h0.trans ((out_ref (rargs m' c) _ rfl).trans (congrArg Args.out (hA c).symm)),
      h1.trans ((h_ref (rargs m' c) (hr c)).trans (congrArg Args.gradH (hA c).symm)),
      h2.trans ((wGate_ref (rargs m' c) (hr c)).trans (congrArg Args.gradWGate (hA c).symm)),
      h3.trans ((wUp_ref (rargs m' c)).trans (congrArg Args.gradWUp (hA c).symm)),
      h4.trans ((wDown_ref (rargs m' c)).trans (congrArg Args.gradWDown (hA c).symm)),
      h5⟩

end Cert.Swiglu2

end
-- ==== Proof.Ffn1.Latent.lean ====
/- The reference's part over the latent tokens: the block's value and gradients. -/
module

public import proofs.«01_k».proof.Proof.Gen.Ffn1ReferenceIdeal.Read
public import proofs.«01_k».proof.Proof.Ffn.Block

@[expose] public section

set_option maxRecDepth 16384

noncomputable section

namespace Cert.Swiglu1

open Idealize.ShloMosaic Idealize.ShloMosaic.TcCoe Cert.Ffn1ReferenceIdeal Cert.Ffn1ReferenceIdeal.Gen Cert.Ffn1ReferenceIdeal.Read Cert.Mat Cert.Swiglu

variable (a : Args 2048)

/-- The two products. -/
theorem l_a_ref : val_main_v7 (F := Ideal) a.h a.wGate = a.a1 := eq2 fun i j => by
  rw [val_main_v7_apply]
  show _ = ∑ k : Fin 2048, a.h (ix2 i k) * a.wGate (ix2 k j)
  refine Finset.sum_congr rfl fun k _ => times ?_ ?_
  · exact congrArg a.h (funext fun b => by fin_cases b <;> rfl)
  · exact congrArg a.wGate (funext fun b => by fin_cases b <;> rfl)

theorem l_b_ref : val_main_v9 (F := Ideal) a.h a.wUp = a.b1 := eq2 fun i j => by
  rw [val_main_v9_apply]
  show _ = ∑ k : Fin 2048, a.h (ix2 i k) * a.wUp (ix2 k j)
  refine Finset.sum_congr rfl fun k _ => times ?_ ?_
  · exact congrArg a.h (funext fun b => by fin_cases b <;> rfl)
  · exact congrArg a.wUp (funext fun b => by fin_cases b <;> rfl)

/-- The gate of the first product, its slope and the hidden array. -/
theorem l_gate_ref (i : S2048x5632.Idx) : val_main_v8_2 (F := Ideal) a.h a.wGate i = sg (a.a1 i) := by
  rw [val_main_v8_2_apply, val_main_call0_v4_apply, val_main_call0_v3_apply, val_main_call0_v2_apply, val_main_call0_v1_apply, val_main_call0_v0_apply, l_a_ref,
    val_main_call0_cst_apply, val_main_call0_cst_0_apply, ← sg_eq, ← one_word]
  rfl

theorem l_slope_ref (i : S2048x5632.Idx) : val_main_v8_1 (F := Ideal) a.h a.wGate i = sg (a.a1 i) * (1 - sg (a.a1 i)) := by
  rw [val_main_v8_1_apply, val_main_call0_v7_apply, l_gate_ref, val_main_call0_v6_apply, val_main_call0_cst_1_apply, ← one_word]
  rfl

theorem l_silu_ref (i : S2048x5632.Idx) : val_main_v8_0 (F := Ideal) a.h a.wGate i = a.a1 i * sg (a.a1 i) := by
  rw [val_main_v8_0_apply, l_gate_ref, l_a_ref]
  rfl

theorem l_s_ref : val_main_v10 (F := Ideal) a.h a.wGate a.wUp = a.s := funext fun i => by
  rw [val_main_v10_apply, l_silu_ref, l_b_ref]
  rfl

/-- The block, and the tokens after it. -/
theorem l_block_ref : val_main_v11 (F := Ideal) a.h a.wGate a.wUp a.wDown = nn a.s a.wDown := eq2 fun i j => by
  rw [val_main_v11_apply]
  show _ = ∑ k : Fin 5632, a.s (ix2 i k) * a.wDown (ix2 k j)
  refine Finset.sum_congr rfl fun k _ => times ?_ ?_
  · rw [l_s_ref]; exact congrArg a.s (funext fun b => by fin_cases b <;> rfl)
  · exact congrArg a.wDown (funext fun b => by fin_cases b <;> rfl)

theorem l_out_ref (g : S2048.Idx → EReal) (hg : a.gate = fun i => g (ix1 (i 1))) :
    val_main_v22 (F := Ideal) a.x g a.h a.wGate a.wUp a.wDown = a.out := eq2 fun i j => by
  rw [val_main_v22_apply, val_main_v21_apply, val_main_v20_apply, val_main_v19_apply, val_main_v18_apply, val_main_v17_apply, val_main_cst_apply, l_block_ref]
  show _ = gated (a.x (ix2 i j)) (a.gate (ix2 i j)) (nn a.s a.wDown (ix2 i j))
  rw [hg]
  refine gated_congr rfl ?_ rfl
  exact congrArg g (funext fun b => by fin_cases b; rfl)

/-- The hidden array's gradient. -/
theorem l_d_ref : val_main_v45 (F := Ideal) a.wDown a.ct = a.d := eq2 fun i j => by
  rw [val_main_v45_apply]
  show _ = ∑ k : Fin 2048, a.ct (ix2 i k) * a.wDown (ix2 j k)
  refine Finset.sum_congr rfl fun k _ => times ?_ ?_
  · exact congrArg a.ct (funext fun b => by fin_cases b <;> rfl)
  · exact congrArg a.wDown (funext fun b => by fin_cases b <;> rfl)

theorem l_db_ref : val_main_v46 (F := Ideal) a.h a.wGate a.wDown a.ct = a.db := funext fun i => by
  rw [val_main_v46_apply, l_silu_ref, l_d_ref]
  exact mul_comm _ _

theorem l_da_ref (ha : a.IsReal) : val_main_v52 (F := Ideal) a.h a.wGate a.wUp a.wDown a.ct = a.da := funext fun i => by
  rw [val_main_v52_apply, val_main_call3_v1_apply, val_main_call3_v2_apply, val_main_call3_v0_apply, val_main_v47_apply,
    l_d_ref, l_b_ref, l_a_ref, l_gate_ref, l_slope_ref]
  exact Args.da_apply ha i

/-- The weights' gradients. -/
theorem l_wDown_ref : val_main_v43 (F := Ideal) a.h a.wGate a.wUp a.ct = a.gradWDown := eq2 fun i j => by
  rw [val_main_v43_apply, val_main_v42_apply]
  show _ = ∑ k : Fin 2048, a.s (ix2 k i) * a.ct (ix2 k j)
  refine Finset.sum_congr rfl fun k _ => times_swap ?_ ?_
  · rw [l_s_ref]; exact congrArg a.s (funext fun b => by fin_cases b <;> rfl)
  · exact congrArg a.ct (funext fun b => by fin_cases b <;> rfl)

theorem l_wUp_ref : val_main_v49 (F := Ideal) a.h a.wGate a.wDown a.ct = a.gradWUp := eq2 fun i j => by
  rw [val_main_v49_apply, val_main_v48_apply]
  show _ = ∑ k : Fin 2048, a.h (ix2 k i) * a.db (ix2 k j)
  refine Finset.sum_congr rfl fun k _ => times_swap ?_ ?_
  · exact congrArg a.h (funext fun b => by fin_cases b <;> rfl)
  · rw [l_db_ref]; exact congrArg a.db (funext fun b => by fin_cases b <;> rfl)

theorem l_wGate_ref (ha : a.IsReal) : val_main_v54 (F := Ideal) a.h a.wGate a.wUp a.wDown a.ct = a.gradWGate := eq2 fun i j => by
  rw [val_main_v54_apply, val_main_v53_apply]
  show _ = ∑ k : Fin 2048, a.h (ix2 k i) * a.da (ix2 k j)
  refine Finset.sum_congr rfl fun k _ => times_swap ?_ ?_
  · exact congrArg a.h (funext fun b => by fin_cases b <;> rfl)
  · rw [l_da_ref _ ha]; exact congrArg a.da (funext fun b => by fin_cases b <;> rfl)

/-- The argument's gradient. -/
theorem l_dhA_ref (ha : a.IsReal) : val_main_v56 (F := Ideal) a.h a.wGate a.wUp a.wDown a.ct = nt a.da a.wGate := eq2 fun i j => by
  rw [val_main_v56_apply]
  show _ = ∑ k : Fin 5632, a.da (ix2 i k) * a.wGate (ix2 j k)
  refine Finset.sum_congr rfl fun k _ => times ?_ ?_
  · rw [l_da_ref _ ha]; exact congrArg a.da (funext fun b => by fin_cases b <;> rfl)
  · exact congrArg a.wGate (funext fun b => by fin_cases b <;> rfl)

theorem l_dhB_ref : val_main_v51 (F := Ideal) a.h a.wGate a.wUp a.wDown a.ct = nt a.db a.wUp := eq2 fun i j => by
  rw [val_main_v51_apply]
  show _ = ∑ k : Fin 5632, a.db (ix2 i k) * a.wUp (ix2 j k)
  refine Finset.sum_congr rfl fun k _ => times ?_ ?_
  · rw [l_db_ref]; exact congrArg a.db (funext fun b => by fin_cases b <;> rfl)
  · exact congrArg a.wUp (funext fun b => by fin_cases b <;> rfl)

theorem l_h_ref (ha : a.IsReal) : val_main_v57 (F := Ideal) a.h a.wGate a.wUp a.wDown a.ct = a.gradH := funext fun i => by
  rw [val_main_v57_apply, l_dhA_ref _ ha, l_dhB_ref]
  exact add_comm _ _

end Cert.Swiglu1

end
-- ==== Proof.Ffn1.Context.lean ====
/- The reference's part over the context's tokens: the block's value and gradients. -/
module

public import proofs.«01_k».proof.Proof.Gen.Ffn1ReferenceIdeal.Read
public import proofs.«01_k».proof.Proof.Ffn.Block

@[expose] public section

set_option maxRecDepth 16384

noncomputable section

namespace Cert.Swiglu1

open Idealize.ShloMosaic Idealize.ShloMosaic.TcCoe Cert.Ffn1ReferenceIdeal Cert.Ffn1ReferenceIdeal.Gen Cert.Ffn1ReferenceIdeal.Read Cert.Mat Cert.Swiglu

variable (a : Args 256)

/-- The two products. -/
theorem c_a_ref : val_main_v12 (F := Ideal) a.h a.wGate = a.a1 := eq2 fun i j => by
  rw [val_main_v12_apply]
  show _ = ∑ k : Fin 2048, a.h (ix2 i k) * a.wGate (ix2 k j)
  refine Finset.sum_congr rfl fun k _ => times ?_ ?_
  · exact congrArg a.h (funext fun b => by fin_cases b <;> rfl)
  · exact congrArg a.wGate (funext fun b => by fin_cases b <;> rfl)

theorem c_b_ref : val_main_v14 (F := Ideal) a.h a.wUp = a.b1 := eq2 fun i j => by
  rw [val_main_v14_apply]
  show _ = ∑ k : Fin 2048, a.h (ix2 i k) * a.wUp (ix2 k j)
  refine Finset.sum_congr rfl fun k _ => times ?_ ?_
  · exact congrArg a.h (funext fun b => by fin_cases b <;> rfl)
  · exact congrArg a.wUp (funext fun b => by fin_cases b <;> rfl)

/-- The gate of the first product, its slope and the hidden array. -/
theorem c_gate_ref (i : S256x5632.Idx) : val_main_v13_2 (F := Ideal) a.h a.wGate i = sg (a.a1 i) := by
  rw [val_main_v13_2_apply, val_main_call1_v4_apply, val_main_call1_v3_apply, val_main_call1_v2_apply, val_main_call1_v1_apply, val_main_call1_v0_apply, c_a_ref,
    val_main_call1_cst_apply, val_main_call1_cst_0_apply, ← sg_eq, ← one_word]
  rfl

theorem c_slope_ref (i : S256x5632.Idx) : val_main_v13_1 (F := Ideal) a.h a.wGate i = sg (a.a1 i) * (1 - sg (a.a1 i)) := by
  rw [val_main_v13_1_apply, val_main_call1_v7_apply, c_gate_ref, val_main_call1_v6_apply, val_main_call1_cst_1_apply, ← one_word]
  rfl

theorem c_silu_ref (i : S256x5632.Idx) : val_main_v13_0 (F := Ideal) a.h a.wGate i = a.a1 i * sg (a.a1 i) := by
  rw [val_main_v13_0_apply, c_gate_ref, c_a_ref]
  rfl

theorem c_s_ref : val_main_v15 (F := Ideal) a.h a.wGate a.wUp = a.s := funext fun i => by
  rw [val_main_v15_apply, c_silu_ref, c_b_ref]
  rfl

/-- The block, and the tokens after it. -/
theorem c_block_ref : val_main_v16 (F := Ideal) a.h a.wGate a.wUp a.wDown = nn a.s a.wDown := eq2 fun i j => by
  rw [val_main_v16_apply]
  show _ = ∑ k : Fin 5632, a.s (ix2 i k) * a.wDown (ix2 k j)
  refine Finset.sum_congr rfl fun k _ => times ?_ ?_
  · rw [c_s_ref]; exact congrArg a.s (funext fun b => by fin_cases b <;> rfl)
  · exact congrArg a.wDown (funext fun b => by fin_cases b <;> rfl)

theorem c_out_ref (g : S2048.Idx → EReal) (hg : a.gate = fun i => g (ix1 (i 1))) :
    val_main_v28 (F := Ideal) a.x g a.h a.wGate a.wUp a.wDown = a.out := eq2 fun i j => by
  rw [val_main_v28_apply, val_main_v27_apply, val_main_v26_apply, val_main_v25_apply, val_main_v24_apply, val_main_v23_apply, val_main_cst_0_apply, c_block_ref]
  show _ = gated (a.x (ix2 i j)) (a.gate (ix2 i j)) (nn a.s a.wDown (ix2 i j))
  rw [hg]
  refine gated_congr rfl ?_ rfl
  exact congrArg g (funext fun b => by fin_cases b; rfl)

/-- The hidden array's gradient. -/
theorem c_d_ref : val_main_v31 (F := Ideal) a.wDown a.ct = a.d := eq2 fun i j => by
  rw [val_main_v31_apply]
  show _ = ∑ k : Fin 2048, a.ct (ix2 i k) * a.wDown (ix2 j k)
  refine Finset.sum_congr rfl fun k _ => times ?_ ?_
  · exact congrArg a.ct (funext fun b => by fin_cases b <;> rfl)
  · exact congrArg a.wDown (funext fun b => by fin_cases b <;> rfl)

theorem c_db_ref : val_main_v32 (F := Ideal) a.h a.wGate a.wDown a.ct = a.db := funext fun i => by
  rw [val_main_v32_apply, c_silu_ref, c_d_ref]
  exact mul_comm _ _

theorem c_da_ref (ha : a.IsReal) : val_main_v37 (F := Ideal) a.h a.wGate a.wUp a.wDown a.ct = a.da := funext fun i => by
  rw [val_main_v37_apply, val_main_call2_v1_apply, val_main_call2_v2_apply, val_main_call2_v0_apply, val_main_v33_apply,
    c_d_ref, c_b_ref, c_a_ref, c_gate_ref, c_slope_ref]
  exact Args.da_apply ha i

/-- The weights' gradients. -/
theorem c_wDown_ref : val_main_v30 (F := Ideal) a.h a.wGate a.wUp a.ct = a.gradWDown := eq2 fun i j => by
  rw [val_main_v30_apply, val_main_v29_apply]
  show _ = ∑ k : Fin 256, a.s (ix2 k i) * a.ct (ix2 k j)
  refine Finset.sum_congr rfl fun k _ => times_swap ?_ ?_
  · rw [c_s_ref]; exact congrArg a.s (funext fun b => by fin_cases b <;> rfl)
  · exact congrArg a.ct (funext fun b => by fin_cases b <;> rfl)

theorem c_wUp_ref : val_main_v35 (F := Ideal) a.h a.wGate a.wDown a.ct = a.gradWUp := eq2 fun i j => by
  rw [val_main_v35_apply, val_main_v34_apply]
  show _ = ∑ k : Fin 256, a.h (ix2 k i) * a.db (ix2 k j)
  refine Finset.sum_congr rfl fun k _ => times_swap ?_ ?_
  · exact congrArg a.h (funext fun b => by fin_cases b <;> rfl)
  · rw [c_db_ref]; exact congrArg a.db (funext fun b => by fin_cases b <;> rfl)

theorem c_wGate_ref (ha : a.IsReal) : val_main_v39 (F := Ideal) a.h a.wGate a.wUp a.wDown a.ct = a.gradWGate := eq2 fun i j => by
  rw [val_main_v39_apply, val_main_v38_apply]
  show _ = ∑ k : Fin 256, a.h (ix2 k i) * a.da (ix2 k j)
  refine Finset.sum_congr rfl fun k _ => times_swap ?_ ?_
  · exact congrArg a.h (funext fun b => by fin_cases b <;> rfl)
  · rw [c_da_ref _ ha]; exact congrArg a.da (funext fun b => by fin_cases b <;> rfl)

/-- The argument's gradient. -/
theorem c_dhA_ref (ha : a.IsReal) : val_main_v40 (F := Ideal) a.h a.wGate a.wUp a.wDown a.ct = nt a.da a.wGate := eq2 fun i j => by
  rw [val_main_v40_apply]
  show _ = ∑ k : Fin 5632, a.da (ix2 i k) * a.wGate (ix2 j k)
  refine Finset.sum_congr rfl fun k _ => times ?_ ?_
  · rw [c_da_ref _ ha]; exact congrArg a.da (funext fun b => by fin_cases b <;> rfl)
  · exact congrArg a.wGate (funext fun b => by fin_cases b <;> rfl)

theorem c_dhB_ref : val_main_v36 (F := Ideal) a.h a.wGate a.wUp a.wDown a.ct = nt a.db a.wUp := eq2 fun i j => by
  rw [val_main_v36_apply]
  show _ = ∑ k : Fin 5632, a.db (ix2 i k) * a.wUp (ix2 j k)
  refine Finset.sum_congr rfl fun k _ => times ?_ ?_
  · rw [c_db_ref]; exact congrArg a.db (funext fun b => by fin_cases b <;> rfl)
  · exact congrArg a.wUp (funext fun b => by fin_cases b <;> rfl)

theorem c_h_ref (ha : a.IsReal) : val_main_v41 (F := Ideal) a.h a.wGate a.wUp a.wDown a.ct = a.gradH := funext fun i => by
  rw [val_main_v41_apply, c_dhA_ref _ ha, c_dhB_ref]
  exact add_comm _ _

end Cert.Swiglu1

end
-- ==== Proof.Ffn1.Rows.lean ====
/- The first block's tokens: the latent ones and, below them, the context's. What the block computes token by token it computes for
   each part alone, and a product summed over all the tokens is the two parts' products added. -/
module

public import proofs.«01_k».proof.Proof.Ffn.Block

@[expose] public section

noncomputable section

namespace Cert.Swiglu1

open Idealize.ShloMosaic Cert.Mat Cert.Swiglu

variable {m k : Nat}

/-- The latent tokens' rows, and the context's below them. -/
def rows (x : Mat 2048 m) (y : Mat 256 m) : Mat 2304 m := fun i =>
  if h : (i 0).val < 2048 then x (ix2 ⟨(i 0).val, h⟩ (i 1)) else y (ix2 ⟨(i 0).val - 2048, by have h' : (i 0).val < 2304 := (i 0).isLt; omega⟩ (i 1))
/-- The latent tokens' row `i`, and the context's. -/
def up (i : Fin 2048) : Fin 2304 := ⟨i.val, by omega⟩
def low (i : Fin 256) : Fin 2304 := ⟨i.val + 2048, by omega⟩
/-- The latent tokens' rows alone, and the context's. -/
def upper (z : Mat 2304 m) : Mat 2048 m := fun i => z (ix2 (up (i 0)) (i 1))
def lower (z : Mat 2304 m) : Mat 256 m := fun i => z (ix2 (low (i 0)) (i 1))

theorem upper_rows (x : Mat 2048 m) (y : Mat 256 m) : upper (rows x y) = x := eq2 fun i j => by
  have h : (up i).val < 2048 := i.isLt
  show rows x y (ix2 (up i) j) = _
  unfold rows
  rw [dif_pos (show ((ix2 (up i) j : (⟨2, ![2304, m]⟩ : Shape).Idx) 0).val < 2048 from h)]
  rfl
theorem lower_rows (x : Mat 2048 m) (y : Mat 256 m) : lower (rows x y) = y := eq2 fun i j => by
  have e : (low i).val = i.val + 2048 := rfl
  have h : ¬(low i).val < 2048 := by omega
  show rows x y (ix2 (low i) j) = _
  unfold rows
  rw [dif_neg (show ¬((ix2 (low i) j : (⟨2, ![2304, m]⟩ : Shape).Idx) 0).val < 2048 from h)]
  refine congrArg (fun r => y (ix2 r j)) (Fin.ext ?_)
  show (low i).val - 2048 = i.val
  omega

/-- A product summed over the tokens, part by part. -/
theorem tn_parts (x : Mat 2304 m) (y : Mat 2304 k) : tn x y = added (tn (upper x) (upper y)) (tn (lower x) (lower y)) := eq2 fun i j => by
  refine (Fin.sum_univ_add (a := 2048) (b := 256) fun r : Fin 2304 => x (ix2 r i) * y (ix2 r j)).trans (plus rfl ?_)
  refine Finset.sum_congr rfl fun r _ => ?_
  have e : Fin.natAdd 2048 r = low r := Fin.ext (Nat.add_comm _ _)
  exact congrArg (fun q : Fin 2304 => x (ix2 q i) * y (ix2 q j)) e

/-- The arguments of both parts, whose weights are the same. -/
def joined (l : Args 2048) (c : Args 256) : Args 2304 :=
  ⟨rows l.x c.x, rows l.gate c.gate, rows l.h c.h, l.wGate, l.wUp, l.wDown, rows l.ct c.ct⟩
/-- The latent tokens' part, and the context's. -/
def above (a : Args 2304) : Args 2048 := ⟨upper a.x, upper a.gate, upper a.h, a.wGate, a.wUp, a.wDown, upper a.ct⟩
def below (a : Args 2304) : Args 256 := ⟨lower a.x, lower a.gate, lower a.h, a.wGate, a.wUp, a.wDown, lower a.ct⟩

theorem upper_out' (a : Args 2304) : upper a.out = (above a).out := rfl
theorem lower_out' (a : Args 2304) : lower a.out = (below a).out := rfl
theorem upper_gradH' (a : Args 2304) : upper a.gradH = (above a).gradH := rfl
theorem lower_gradH' (a : Args 2304) : lower a.gradH = (below a).gradH := rfl
theorem gradWGate' (a : Args 2304) : a.gradWGate = added (above a).gradWGate (below a).gradWGate := tn_parts a.h a.da
theorem gradWUp' (a : Args 2304) : a.gradWUp = added (above a).gradWUp (below a).gradWUp := tn_parts a.h a.db
theorem gradWDown' (a : Args 2304) : a.gradWDown = added (above a).gradWDown (below a).gradWDown := tn_parts a.s a.ct

theorem above_joined (l : Args 2048) (c : Args 256) : above (joined l c) = l := by
  unfold above joined
  simp only [upper_rows]

variable {l : Args 2048} {c : Args 256} (hg : l.wGate = c.wGate) (hu : l.wUp = c.wUp) (hd : l.wDown = c.wDown)
include hg hu hd

theorem below_joined : below (joined l c) = c := by
  unfold below joined
  simp only [lower_rows, hg, hu, hd]

omit hg hu hd in
theorem upper_out : upper (joined l c).out = l.out := (upper_out' _).trans (congrArg Args.out (above_joined l c))
theorem lower_out : lower (joined l c).out = c.out := (lower_out' _).trans (congrArg Args.out (below_joined hg hu hd))
omit hg hu hd in
theorem upper_gradH : upper (joined l c).gradH = l.gradH := (upper_gradH' _).trans (congrArg Args.gradH (above_joined l c))
theorem lower_gradH : lower (joined l c).gradH = c.gradH := (lower_gradH' _).trans (congrArg Args.gradH (below_joined hg hu hd))

theorem gradWGate_parts : (joined l c).gradWGate = added l.gradWGate c.gradWGate := by
  rw [gradWGate', above_joined, below_joined hg hu hd]
theorem gradWUp_parts : (joined l c).gradWUp = added l.gradWUp c.gradWUp := by
  rw [gradWUp', above_joined, below_joined hg hu hd]
theorem gradWDown_parts : (joined l c).gradWDown = added l.gradWDown c.gradWDown := by
  rw [gradWDown', above_joined, below_joined hg hu hd]

end Cert.Swiglu1

end
-- ==== Proof.Ffn1.Reference.lean ====
/- The reference's weight gradients: the context's part and the latent tokens' added up. -/
module

public import proofs.«01_k».proof.Proof.Ffn1.Latent
public import proofs.«01_k».proof.Proof.Ffn1.Context
public import proofs.«01_k».proof.Proof.Ffn1.Rows

@[expose] public section

set_option maxRecDepth 16384

noncomputable section

namespace Cert.Swiglu1

open Idealize.ShloMosaic Idealize.ShloMosaic.TcCoe Cert.Ffn1ReferenceIdeal Cert.Ffn1ReferenceIdeal.Read Cert.Mat Cert.Swiglu

variable {l : Args 2048} {c : Args 256} (hg : l.wGate = c.wGate) (hu : l.wUp = c.wUp) (hd : l.wDown = c.wDown)
include hg hu hd

theorem wDown_ref : val_main_v44 (F := Ideal) l.h c.h l.wGate l.wUp l.ct c.ct = (joined l c).gradWDown := by
  have e := c_wDown_ref c
  rw [← hg, ← hu] at e
  rw [gradWDown_parts hg hu hd]
  funext i
  rw [val_main_v44_apply, l_wDown_ref, e]
  exact add_comm _ _

theorem wUp_ref : val_main_v50 (F := Ideal) l.h c.h l.wGate l.wDown l.ct c.ct = (joined l c).gradWUp := by
  have e := c_wUp_ref c
  rw [← hg, ← hd] at e
  rw [gradWUp_parts hg hu hd]
  funext i
  rw [val_main_v50_apply, l_wUp_ref, e]
  exact add_comm _ _

theorem wGate_ref (hl : l.IsReal) (hc : c.IsReal) :
    val_main_v55 (F := Ideal) l.h c.h l.wGate l.wUp l.wDown l.ct c.ct = (joined l c).gradWGate := by
  have e := c_wGate_ref c hc
  rw [← hg, ← hu, ← hd] at e
  rw [gradWGate_parts hg hu hd]
  funext i
  rw [val_main_v55_apply, l_wGate_ref l hl, e]
  exact add_comm _ _

end Cert.Swiglu1

end
-- ==== Proof.Ffn1.Finite.lean ====
/- What the precondition of the first block gives: both arguments, two of the weights and both cotangents are real. -/
module

public import proofs.«01_k».proof.Proof.Equation
public import proofs.«01_k».proof.Proof.Ffn.Block
public import proofs.«01_k».proof.Proof.Gen.Pre_finite_ffn1

@[expose] public section

noncomputable section

namespace Cert.Swiglu1

open Idealize.ShloMosaic Cert.Mat Cert.Swiglu

theorem isReal (l : Args 2048) (c : Args 256) (hu : l.wUp = c.wUp) (hd : l.wDown = c.wDown) (g g' : (⟨1, ![2048]⟩ : Shape).Idx → EReal)
    (hp : Cert.Pre_finite_ffn1.fn (F := Ideal) l.x c.x g g' l.h c.h l.wGate l.wUp l.wDown l.ct c.ct = fun _ => 1#1) : l.IsReal ∧ c.IsReal := by
  have h0 := congrFun hp (fun b => b.elim0)
  unfold Cert.Pre_finite_ffn1.fn Cert.Pre_finite_ffn1.fn_part1 Cert.Pre_finite_ffn1.fn_part2 at h0
  dsimp only at h0
  obtain ⟨h1, down⟩ := Cert.Equation.and_one _ _ h0
  obtain ⟨h2, up⟩ := Cert.Equation.and_one _ _ h1
  obtain ⟨h3, ct'⟩ := Cert.Equation.and_one _ _ h2
  obtain ⟨h4, ct⟩ := Cert.Equation.and_one _ _ h3
  obtain ⟨h, h'⟩ := Cert.Equation.and_one _ _ h4
  haveI : Subsingleton Cert.Pre_finite_ffn1.S_.Idx := ⟨fun a b => funext fun i => i.elim0⟩
  have hup : ∀ i, ∃ t : ℝ, l.wUp i = t := fun i => by
    refine Cert.Equation.real_of_between _ ?_
    rw [← Head.ofBits_neg_inf, ← Head.ofBits_inf]
    exact Host.reduce_andi_all _ _ _ _ _ up i
  have hdown : ∀ i, ∃ t : ℝ, l.wDown i = t := fun i => by
    refine Cert.Equation.real_of_between _ ?_
    rw [← Head.ofBits_neg_inf, ← Head.ofBits_inf]
    exact Host.reduce_andi_all _ _ _ _ _ down i
  refine ⟨⟨fun i => ?_, hup, hdown, fun i => ?_⟩, ⟨fun i => ?_, fun i => hu ▸ hup i, fun i => hd ▸ hdown i, fun i => ?_⟩⟩ <;>
    refine Cert.Equation.real_of_between _ ?_ <;> rw [← Head.ofBits_neg_inf, ← Head.ofBits_inf]
  · exact Host.reduce_andi_all _ _ _ _ _ h i
  · exact Host.reduce_andi_all _ _ _ _ _ ct i
  · exact Host.reduce_andi_all _ _ _ _ _ h' i
  · exact Host.reduce_andi_all _ _ _ _ _ ct' i

end Cert.Swiglu1

end
-- ==== Proof.Ffn1.Bodies.lean ====
/- What each call's body computes from the blocks it reads, over the extended reals. -/
module

public import proofs.«01_k».proof.Proof.Gen.Ffn1Ideal.Frame
public import proofs.«01_k».proof.Proof.Ffn.Block

@[expose] public section

set_option maxRecDepth 16384

noncomputable section

namespace Cert.Swiglu1

open Idealize.ShloMosaic Idealize.ShloMosaic.TcCoe Idealize.SL.Sem Cert.Ffn1Ideal Cert.Ffn1Ideal.Gen Cert.Mat Cert.Swiglu

/-! ### The hidden arrays -/

theorem prodA (x : Vec Ideal S384x2048 .bf16) (y : Vec Ideal S1x704x2048 .bf16) : k0_pay1 x y = (nt x (flat y) : S384x704.Idx → EReal) :=
  eq2 fun i j => by unfold k0_pay1; pointwise; rfl

theorem prodB (x : Vec Ideal S384x2048 .bf16) (y : Vec Ideal S1x704x2048 .bf16) : k0_pay2 x y = (nt x (flat y) : S384x704.Idx → EReal) :=
  eq2 fun i j => by unfold k0_pay2; pointwise; rfl

theorem storeA (x : Vec Ideal S384x2048 .bf16) (y : Vec Ideal S1x704x2048 .bf16) :
    k0_pay3 x y = (fun i => nt x (flat y) (ix2 (i 1) (i 2)) : S1x384x704.Idx → EReal) :=
  eq3 fun p i j => by unfold k0_pay3; rw [prodA]; pointwise

theorem storeB (x : Vec Ideal S384x2048 .bf16) (y : Vec Ideal S1x704x2048 .bf16) :
    k0_pay4 x y = (fun i => nt x (flat y) (ix2 (i 1) (i 2)) : S1x384x704.Idx → EReal) :=
  eq3 fun p i j => by unfold k0_pay4; rw [prodB]; pointwise

theorem storeS (x : Vec Ideal S384x2048 .bf16) (y : Vec Ideal S1x704x2048 .bf16) (x' : Vec Ideal S384x2048 .bf16) (y' : Vec Ideal S1x704x2048 .bf16) :
    k0_pay5 x y x' y' = (fun i => hid (nt x (flat y) (ix2 (i 1) (i 2))) (nt x' (flat y') (ix2 (i 1) (i 2))) : S1x384x704.Idx → EReal) :=
  eq3 fun p i j => by unfold k0_pay5; rw [prodA, prodB]; pointwise; rfl

/-! ### The hidden arrays' gradients -/

theorem prodD (x : Vec Ideal S384x2048 .bf16) (y : Vec Ideal S1x704x2048 .bf16) : k3_pay2 x y = (nt x (flat y) : S384x704.Idx → EReal) :=
  eq2 fun i j => by unfold k3_pay2; pointwise; rfl

theorem readA (z : Vec Ideal S1x384x704 .bf16) : k3_pay3 z = (flat z : S384x704.Idx → EReal) :=
  eq2 fun i j => by unfold k3_pay3; pointwise; rfl

theorem gateA (z : Vec Ideal S1x384x704 .bf16) : k3_pay4 z = (fun i => sg (flat z i) : S384x704.Idx → EReal) :=
  eq2 fun i j => by unfold k3_pay4; rw [readA]; pointwise; rfl

theorem storeDA (x : Vec Ideal S384x2048 .bf16) (y : Vec Ideal S1x704x2048 .bf16) (a b : Vec Ideal S1x384x704 .bf16) :
    k3_pay5 x y a b = (fun i => gradA (nt x (flat y) (ix2 (i 1) (i 2))) (a (ix3 0 (i 1) (i 2))) (b (ix3 0 (i 1) (i 2))) : S1x384x704.Idx → EReal) :=
  eq3 fun p i j => by unfold k3_pay5; rw [prodD, readA, gateA]; pointwise; rfl

theorem storeDB (x : Vec Ideal S384x2048 .bf16) (y : Vec Ideal S1x704x2048 .bf16) (a : Vec Ideal S1x384x704 .bf16) :
    k3_pay1 (k3_pay6 x y a) = (fun i => gradB (nt x (flat y) (ix2 (i 1) (i 2))) (a (ix3 0 (i 1) (i 2))) : S1x384x704.Idx → EReal) :=
  eq3 fun p i j => by unfold k3_pay1 k3_pay6; rw [prodD, readA, gateA]; pointwise; rfl

/-! ### The weights' gradients -/

theorem store2 (x : Vec Ideal S1x2304x704 .bf16) (y : Vec Ideal S2304x512 .bf16) :
    k2_pay1 x y = (fun i => tn (flat x) y (ix2 (i 1) (i 2)) : S1x704x512.Idx → EReal) :=
  eq3 fun p i j => by unfold k2_pay1; pointwise; rfl

theorem store4 (x : Vec Ideal S1x2304x704 .bf16) (y : Vec Ideal S2304x512 .bf16) :
    k4_pay1 x y = (fun i => tn (flat x) y (ix2 (i 1) (i 2)) : S1x704x512.Idx → EReal) :=
  eq3 fun p i j => by unfold k4_pay1; pointwise; rfl

theorem store4' (x : Vec Ideal S1x2304x704 .bf16) (y : Vec Ideal S2304x512 .bf16) :
    k4_pay2 x y = (fun i => tn (flat x) y (ix2 (i 1) (i 2)) : S1x704x512.Idx → EReal) :=
  eq3 fun p i j => by unfold k4_pay2; pointwise; rfl

end Cert.Swiglu1

end
-- ==== Proof.Ffn1.Hidden.lean ====
/- The hidden arrays and their gradients: after the first call and the fourth, every array they write is, in planes, a function
   of products of the arrays they read. -/
module

public import proofs.«01_k».proof.Proof.Gen.Ffn1Ideal.Frame
public import proofs.«01_k».proof.Proof.Ffn1.Bodies
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu1

open Idealize.ShloMosaic Idealize.ShloMosaic.TcCoe Idealize.SL.Sem Cert.Ffn1Ideal Cert.Ffn1Ideal.Gen Cert.Mat Cert.Swiglu

/-! ### Where a point's blocks lie -/

theorem idx0_0 : ∀ t : Fin cfg0.N, win0_0.index t = ![t.val % 6, 0] :=
  (by decide +kernel : ∀ t : Fin grid0.N, win0_0.index t = ![t.val % 6, 0])
theorem idx0_1 : ∀ t : Fin cfg0.N, win0_1.index t = ![t.val / 6, 0, 0] :=
  (by decide +kernel : ∀ t : Fin grid0.N, win0_1.index t = ![t.val / 6, 0, 0])
theorem idx0_2 : ∀ t : Fin cfg0.N, win0_2.index t = ![t.val / 6, 0, 0] :=
  (by decide +kernel : ∀ t : Fin grid0.N, win0_2.index t = ![t.val / 6, 0, 0])
theorem idx0_3 : ∀ t : Fin cfg0.N, win0_3.index t = ![t.val / 6, t.val % 6, 0] :=
  (by decide +kernel : ∀ t : Fin grid0.N, win0_3.index t = ![t.val / 6, t.val % 6, 0])
theorem idx0_4 : ∀ t : Fin cfg0.N, win0_4.index t = ![t.val / 6, t.val % 6, 0] :=
  (by decide +kernel : ∀ t : Fin grid0.N, win0_4.index t = ![t.val / 6, t.val % 6, 0])
theorem idx0_5 : ∀ t : Fin cfg0.N, win0_5.index t = ![t.val / 6, t.val % 6, 0] :=
  (by decide +kernel : ∀ t : Fin grid0.N, win0_5.index t = ![t.val / 6, t.val % 6, 0])
theorem idx3_0 : ∀ t : Fin cfg3.N, win3_0.index t = ![t.val % 6, 0] :=
  (by decide +kernel : ∀ t : Fin grid3.N, win3_0.index t = ![t.val % 6, 0])
theorem idx3_1 : ∀ t : Fin cfg3.N, win3_1.index t = ![t.val / 6, 0, 0] :=
  (by decide +kernel : ∀ t : Fin grid3.N, win3_1.index t = ![t.val / 6, 0, 0])
theorem idx3_2 : ∀ t : Fin cfg3.N, win3_2.index t = ![t.val / 6, t.val % 6, 0] :=
  (by decide +kernel : ∀ t : Fin grid3.N, win3_2.index t = ![t.val / 6, t.val % 6, 0])
theorem idx3_3 : ∀ t : Fin cfg3.N, win3_3.index t = ![t.val / 6, t.val % 6, 0] :=
  (by decide +kernel : ∀ t : Fin grid3.N, win3_3.index t = ![t.val / 6, t.val % 6, 0])
theorem idx3_4 : ∀ t : Fin cfg3.N, win3_4.index t = ![t.val / 6, t.val % 6, 0] :=
  (by decide +kernel : ∀ t : Fin grid3.N, win3_4.index t = ![t.val / 6, t.val % 6, 0])
theorem idx3_5 : ∀ t : Fin cfg3.N, win3_5.index t = ![t.val / 6, t.val % 6, 0] :=
  (by decide +kernel : ∀ t : Fin grid3.N, win3_5.index t = ![t.val / 6, t.val % 6, 0])
theorem lt_0 (t : Fin cfg0.N) : t.val < 48 := lt_of_lt_of_eq t.isLt N_0
theorem lt_3 (t : Fin cfg3.N) : t.val < 48 := lt_of_lt_of_eq t.isLt N_3

variable (V : (c : Dev nD) → (b : Ref sig .tc) → Buf (Elt Ideal) ((c : Thread nD τ).loc b)) (c : Dev nD)

/-- The first product. -/
theorem region0_3 : (dat0 V c).arrAt 3 cfg0.N = side (nt (V c main_v7 : Mat 2304 2048) (unstack (V c main_v10 : WPlanes))) := by
  refine (dat0 V c).arrAt_eq_of_covers 3 _ (by decide +kernel) fun t hf y => ?_
  have ht := lt_0 t
  blk_simp
  rw [after0_3]; frame_out
  rw [storeA]
  have h0 : (y 0).val < 1 := (y 0).isLt
  refine nt_congr2 (fun k => ?_) (fun k => ?_)
  · blk_simp [iblk0]
    refine congrArg (V c main_v7) ?_
    blk_ext [idx0_0, idx0_3]
  · refine Eq.trans ?_ (unstack_chan _ _ _ _).symm
    unfold flat
    blk_simp [iblk0]
    refine congrArg (V c main_v10) ?_
    blk_ext [idx0_1, idx0_3]

/-- The second product. -/
theorem region0_4 : (dat0 V c).arrAt 4 cfg0.N = side (nt (V c main_v7 : Mat 2304 2048) (unstack (V c main_v12 : WPlanes))) := by
  refine (dat0 V c).arrAt_eq_of_covers 4 _ (by decide +kernel) fun t hf y => ?_
  have ht := lt_0 t
  blk_simp
  rw [after0_4]; frame_out
  rw [storeB]
  have h0 : (y 0).val < 1 := (y 0).isLt
  refine nt_congr2 (fun k => ?_) (fun k => ?_)
  · blk_simp [iblk0]
    refine congrArg (V c main_v7) ?_
    blk_ext [idx0_0, idx0_4]
  · refine Eq.trans ?_ (unstack_chan _ _ _ _).symm
    unfold flat
    blk_simp [iblk0]
    refine congrArg (V c main_v12) ?_
    blk_ext [idx0_2, idx0_4]

/-- The hidden array. -/
theorem region0_5 : (dat0 V c).arrAt 5 cfg0.N = side (hidden (nt (V c main_v7 : Mat 2304 2048) (unstack (V c main_v10 : WPlanes))) (nt (V c main_v7 : Mat 2304 2048) (unstack (V c main_v12 : WPlanes)))) := by
  refine (dat0 V c).arrAt_eq_of_covers 5 _ (by decide +kernel) fun t hf y => ?_
  have ht := lt_0 t
  blk_simp
  rw [after0_5]; frame_out
  rw [storeS]
  have h0 : (y 0).val < 1 := (y 0).isLt
  refine hid_congr (nt_congr2 (fun k => ?_) (fun k => ?_)) (nt_congr2 (fun k => ?_) (fun k => ?_))
  · blk_simp [iblk0]
    refine congrArg (V c main_v7) ?_
    blk_ext [idx0_0, idx0_5]
  · refine Eq.trans ?_ (unstack_chan _ _ _ _).symm
    unfold flat
    blk_simp [iblk0]
    refine congrArg (V c main_v10) ?_
    blk_ext [idx0_1, idx0_5]
  · blk_simp [iblk0]
    refine congrArg (V c main_v7) ?_
    blk_ext [idx0_0, idx0_5]
  · refine Eq.trans ?_ (unstack_chan _ _ _ _).symm
    unfold flat
    blk_simp [iblk0]
    refine congrArg (V c main_v12) ?_
    blk_ext [idx0_2, idx0_5]

/-- The first product's gradient. -/
theorem region3_4 : (dat3 V c).arrAt 4 cfg3.N = side (slopeA (nt (V c main_v8 : Mat 2304 2048) (unstack (V c main_v13 : WPlanes))) (unside (V c main_v14_0 : HPlanes 2304)) (unside (V c main_v14_1 : HPlanes 2304))) := by
  refine (dat3 V c).arrAt_eq_of_covers 4 _ (by decide +kernel) fun t hf y => ?_
  have ht := lt_3 t
  blk_simp
  rw [after3_4]; frame_out
  rw [storeDA]
  have h0 : (y 0).val < 1 := (y 0).isLt
  refine gradA_congr (nt_congr2 (fun k => ?_) (fun k => ?_)) ?_ ?_
  · blk_simp [iblk3]
    refine congrArg (V c main_v8) ?_
    blk_ext [idx3_0, idx3_4]
  · refine Eq.trans ?_ (unstack_chan _ _ _ _).symm
    unfold flat
    blk_simp [iblk3]
    refine congrArg (V c main_v13) ?_
    blk_ext [idx3_1, idx3_4]
  · refine Eq.trans ?_ (unside_chan _ _ _ _).symm
    blk_simp [iblk3]
    refine congrArg (V c main_v14_0) ?_
    blk_ext [idx3_2, idx3_4]
  · refine Eq.trans ?_ (unside_chan _ _ _ _).symm
    blk_simp [iblk3]
    refine congrArg (V c main_v14_1) ?_
    blk_ext [idx3_3, idx3_4]

/-- The second product's gradient. -/
theorem region3_5 : (dat3 V c).arrAt 5 cfg3.N = side (slopeB (nt (V c main_v8 : Mat 2304 2048) (unstack (V c main_v13 : WPlanes))) (unside (V c main_v14_0 : HPlanes 2304))) := by
  refine (dat3 V c).arrAt_eq_of_covers 5 _ (by decide +kernel) fun t hf y => ?_
  have ht := lt_3 t
  blk_simp
  rw [after3_5]; frame_out
  rw [storeDB]
  have h0 : (y 0).val < 1 := (y 0).isLt
  refine gradB_congr (nt_congr2 (fun k => ?_) (fun k => ?_)) ?_
  · blk_simp [iblk3]
    refine congrArg (V c main_v8) ?_
    blk_ext [idx3_0, idx3_5]
  · refine Eq.trans ?_ (unstack_chan _ _ _ _).symm
    unfold flat
    blk_simp [iblk3]
    refine congrArg (V c main_v13) ?_
    blk_ext [idx3_1, idx3_5]
  · refine Eq.trans ?_ (unside_chan _ _ _ _).symm
    blk_simp [iblk3]
    refine congrArg (V c main_v14_0) ?_
    blk_ext [idx3_2, idx3_5]

end Cert.Swiglu1

end
-- ==== Proof.Ffn1.Planes.lean ====
/- The bodies that sum a product over the eight planes: each plane's product in turn, added up. -/
module

public import proofs.«01_k».proof.Proof.Ffn1.Bodies
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu1

open Idealize.ShloMosaic Idealize.ShloMosaic.TcCoe Idealize.SL.Sem Cert.Ffn1Ideal Cert.Ffn1Ideal.Gen Cert.Mat Cert.Swiglu

theorem down (i : grid1.Coords) (x : Vec Ideal S8x384x704 .bf16) (y : Vec Ideal S8x704x512 .bf16) (a : Vec Ideal S384x512 .f32) (b : Vec Ideal S24x512 .f32) :
    k1_pay9 i x y a b = (planesProd x y : S384x512.Idx → EReal) :=
  eq2 fun r s => by
    unfold k1_pay9 k1_pay4 k1_pay2 k1_pay3
    pointwise
    refine Eq.trans ?_ (Fin.sum_univ_eight _).symm
    refine plus (plus (plus (plus (plus (plus (plus (plane 0 ?_ ?_) (plane 1 ?_ ?_)) (plane 2 ?_ ?_)) (plane 3 ?_ ?_)) (plane 4 ?_ ?_)) (plane 5 ?_ ?_)) (plane 6 ?_ ?_)) (plane 7 ?_ ?_)
    all_goals exact fun k => rfl

/-- Whether a row of tile `i` is a latent token. -/
theorem flag : ∀ (i : Fin 6) (r : Fin 384), k1_pay8 (BitVec.ofNat 32 i.val) (ix2 r 0) = if i.val * 384 + r.val < 2048 then 1#1 else 0#1 := by
  unfold k1_pay8
  pointwise
  decide +kernel

theorem out (f : Vec Ideal S384x512 .f32) (g : Vec Ideal S24x512 .f32) {n : Nat} (hn : n < 6) (x : Vec Ideal S384x512 .f32) :
    k1_pay1 f (k1_pay6 g) (k1_pay7 g) (k1_pay8 (BitVec.ofNat 32 n)) x
      = (fun i => gated (x i) (if n * 384 + (i 0).val < 2048 then g (ix2 2 (i 1)) else g (ix2 11 (i 1))) (f i) : S384x512.Idx → EReal) :=
  eq2 fun r s => by
    unfold k1_pay1 k1_pay6 k1_pay7 k1_pay5
    pointwise
    have hf : k1_pay8 (BitVec.ofNat 32 n) (ix2 r 0) = if n * 384 + r.val < 2048 then 1#1 else 0#1 := flag ⟨n, hn⟩ r
    rw [hf]
    refine gated_congr rfl ?_ rfl
    show _ = if n * 384 + r.val < 2048 then g (ix2 2 s) else g (ix2 11 s)
    by_cases h : n * 384 + r.val < 2048
    · rw [if_pos h, if_pos h]; rfl
    · rw [if_neg h, if_neg h]; rfl

theorem dh (x x' : Vec Ideal S8x384x704 .bf16) (y y' : Vec Ideal S8x704x256 .bf16) :
    out5_4 x y x' y' = (added (planesProd x y) (planesProd x' y') : S384x256.Idx → EReal) :=
  eq2 fun r s => by
    unfold out5_4
    frame_out
    unfold k5_pay1 k5_pay4 k5_pay2 k5_pay3 k5_pay6 k5_pay5 k5_pay7 k5_pay8
    pointwise
    refine plus ?_ ?_
    all_goals
      refine Eq.trans ?_ (Fin.sum_univ_eight _).symm
      refine plus (plus (plus (plus (plus (plus (plus (plane 0 ?_ ?_) (plane 1 ?_ ?_)) (plane 2 ?_ ?_)) (plane 3 ?_ ?_)) (plane 4 ?_ ?_)) (plane 5 ?_ ?_)) (plane 6 ?_ ?_)) (plane 7 ?_ ?_)
      all_goals exact fun k => rfl

end Cert.Swiglu1

end
-- ==== Proof.Ffn1.Tokens.lean ====
/- The block's result and its argument's gradient: after the second call and the last, the arrays they write are products over the
   channels, the first scaled by the gate and added to the tokens. -/
module

public import proofs.«01_k».proof.Proof.Gen.Ffn1Ideal.Frame
public import proofs.«01_k».proof.Proof.Ffn1.Planes
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu1

open Idealize.ShloMosaic Idealize.ShloMosaic.TcCoe Idealize.SL.Sem Cert.Ffn1Ideal Cert.Ffn1Ideal.Gen Cert.Mat Cert.Swiglu

/-! ### Where a point's blocks lie -/

theorem idx1_0 : ∀ t : Fin cfg1.N, win1_0.index t = ![0, t.val / 4, 0] :=
  (by decide +kernel : ∀ t : Fin grid1.N, win1_0.index t = ![0, t.val / 4, 0])
theorem idx1_1 : ∀ t : Fin cfg1.N, win1_1.index t = ![0, 0, t.val % 4] :=
  (by decide +kernel : ∀ t : Fin grid1.N, win1_1.index t = ![0, 0, t.val % 4])
theorem idx1_2 : ∀ t : Fin cfg1.N, win1_2.index t = ![t.val / 4, t.val % 4] :=
  (by decide +kernel : ∀ t : Fin grid1.N, win1_2.index t = ![t.val / 4, t.val % 4])
theorem idx1_3 : ∀ t : Fin cfg1.N, win1_3.index t = ![0, t.val % 4] :=
  (by decide +kernel : ∀ t : Fin grid1.N, win1_3.index t = ![0, t.val % 4])
theorem idx1_4 : ∀ t : Fin cfg1.N, win1_4.index t = ![t.val / 4, t.val % 4] :=
  (by decide +kernel : ∀ t : Fin grid1.N, win1_4.index t = ![t.val / 4, t.val % 4])
theorem idx1_5 : ∀ t : Fin cfg1.N, win1_5.index t = ![t.val / 4, t.val % 4] :=
  (by decide +kernel : ∀ t : Fin grid1.N, win1_5.index t = ![t.val / 4, t.val % 4])
theorem idx5_0 : ∀ t : Fin cfg5.N, win5_0.index t = ![0, t.val / 8, 0] :=
  (by decide +kernel : ∀ t : Fin grid5.N, win5_0.index t = ![0, t.val / 8, 0])
theorem idx5_1 : ∀ t : Fin cfg5.N, win5_1.index t = ![0, 0, t.val % 8] :=
  (by decide +kernel : ∀ t : Fin grid5.N, win5_1.index t = ![0, 0, t.val % 8])
theorem idx5_2 : ∀ t : Fin cfg5.N, win5_2.index t = ![0, t.val / 8, 0] :=
  (by decide +kernel : ∀ t : Fin grid5.N, win5_2.index t = ![0, t.val / 8, 0])
theorem idx5_3 : ∀ t : Fin cfg5.N, win5_3.index t = ![0, 0, t.val % 8] :=
  (by decide +kernel : ∀ t : Fin grid5.N, win5_3.index t = ![0, 0, t.val % 8])
theorem idx5_4 : ∀ t : Fin cfg5.N, win5_4.index t = ![t.val / 8, t.val % 8] :=
  (by decide +kernel : ∀ t : Fin grid5.N, win5_4.index t = ![t.val / 8, t.val % 8])
theorem lt_1 (t : Fin cfg1.N) : t.val < 24 := lt_of_lt_of_eq t.isLt N_1
theorem lt_5 (t : Fin cfg5.N) : t.val < 48 := lt_of_lt_of_eq t.isLt N_5

/-- A point's tile of rows. -/
theorem coords1 : ∀ t : Fin cfg1.N, (grid1.coords t 0).val = t.val / 4 := (by decide +kernel : ∀ t : Fin grid1.N, (grid1.coords t 0).val = t.val / 4)

/-- The gates the table holds: one row for the latent tokens, another for the context's below them. -/
def gates (z : Mat 24 2048) : Mat 2304 2048 := fun i => if (i 0).val < 2048 then z (ix2 2 (i 1)) else z (ix2 11 (i 1))

variable (V : (c : Dev nD) → (b : Ref sig .tc) → Buf (Elt Ideal) ((c : Thread nD τ).loc b)) (c : Dev nD)

/-- The block's result, gated, and the tokens. -/
theorem region1_5 : (dat1 V c).arrAt 5 cfg1.N
    = updated (V c main_v6 : Mat 2304 2048) (gates (V c main_v5)) (nn (unside (V c main_v14_2 : HPlanes 2304)) (unstack (V c main_v13 : WPlanes))) := by
  rw [← planesProd_eq]
  refine (dat1 V c).arrAt_eq_of_covers 5 _ (by decide +kernel) fun t hf y => ?_
  have ht := lt_1 t
  blk_simp
  rw [after1_5]; frame_out
  rw [down, coords1 t, out _ _ (show t.val / 4 < 6 by omega)]
  refine gated_congr ?_ ?_ (planesProd_congr (fun p k => ?_) (fun p k => ?_))
  · blk_simp [iblk1]
    refine congrArg (V c main_v6) ?_
    blk_ext [idx1_2, idx1_5]
  · have h0 : (y 0).val < 384 := (y 0).isLt
    have h1 : (y 1).val < 512 := (y 1).isLt
    have e : ((View.whole main_v15_1).slice (win1_5.rect t)).emb y
        = ix2 (⟨t.val / 4 * 384 + (y 0).val, by omega⟩ : Fin 2304) (⟨t.val % 4 * 512 + (y 1).val, by omega⟩ : Fin 2048) := by
      blk_ext [idx1_5]
    rw [e]
    show _ = if t.val / 4 * 384 + (y 0).val < 2048 then (V c main_v5 : Mat 24 2048) (ix2 2 ⟨t.val % 4 * 512 + (y 1).val, by omega⟩)
      else (V c main_v5 : Mat 24 2048) (ix2 11 ⟨t.val % 4 * 512 + (y 1).val, by omega⟩)
    refine congrArg₂ (ite _) ?_ ?_
    · blk_simp [iblk1]
      refine congrArg (V c main_v5) ?_
      blk_ext [idx1_3]
    · blk_simp [iblk1]
      refine congrArg (V c main_v5) ?_
      blk_ext [idx1_3]
  · blk_simp [iblk1]
    refine congrArg (V c main_v14_2) ?_
    blk_ext [idx1_0, idx1_5]
  · blk_simp [iblk1]
    refine congrArg (V c main_v13) ?_
    blk_ext [idx1_1, idx1_5]

/-- The argument's gradient. -/
theorem region5_4 : (dat5 V c).arrAt 4 cfg5.N
    = added (nn (unside (V c main_v17_0 : HPlanes 2304)) (unstack (V c main_v10 : WPlanes))) (nn (unside (V c main_v17_1 : HPlanes 2304)) (unstack (V c main_v12 : WPlanes))) := by
  rw [← planesProd_eq, ← planesProd_eq]
  refine (dat5 V c).arrAt_eq_of_covers 4 _ (by decide +kernel) fun t hf y => ?_
  have ht := lt_5 t
  blk_simp
  rw [after5_4]
  rw [dh]
  refine plus (planesProd_congr (fun p k => ?_) (fun p k => ?_)) (planesProd_congr (fun p k => ?_) (fun p k => ?_))
  · blk_simp [iblk5]
    refine congrArg (V c main_v17_0) ?_
    blk_ext [idx5_0, idx5_4]
  · blk_simp [iblk5]
    refine congrArg (V c main_v10) ?_
    blk_ext [idx5_1, idx5_4]
  · blk_simp [iblk5]
    refine congrArg (V c main_v17_1) ?_
    blk_ext [idx5_2, idx5_4]
  · blk_simp [iblk5]
    refine congrArg (V c main_v12) ?_
    blk_ext [idx5_3, idx5_4]

end Cert.Swiglu1

end
-- ==== Proof.Ffn1.Weights.lean ====
/- The weights' gradients: after the third call and the fifth, every array they write is, in planes, the product of the two arrays
   it reads, summed over the tokens. -/
module

public import proofs.«01_k».proof.Proof.Gen.Ffn1Ideal.Frame
public import proofs.«01_k».proof.Proof.Ffn1.Bodies
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Swiglu1

open Idealize.ShloMosaic Idealize.ShloMosaic.TcCoe Idealize.SL.Sem Cert.Ffn1Ideal Cert.Ffn1Ideal.Gen Cert.Mat Cert.Swiglu

/-! ### Where a point's blocks lie -/

theorem idx2_0 : ∀ t : Fin cfg2.N, win2_0.index t = ![t.val / 4, 0, 0] :=
  (by decide +kernel : ∀ t : Fin grid2.N, win2_0.index t = ![t.val / 4, 0, 0])
theorem idx2_1 : ∀ t : Fin cfg2.N, win2_1.index t = ![0, t.val % 4] :=
  (by decide +kernel : ∀ t : Fin grid2.N, win2_1.index t = ![0, t.val % 4])
theorem idx2_2 : ∀ t : Fin cfg2.N, win2_2.index t = ![t.val / 4, 0, t.val % 4] :=
  (by decide +kernel : ∀ t : Fin grid2.N, win2_2.index t = ![t.val / 4, 0, t.val % 4])
theorem idx4_0 : ∀ t : Fin cfg4.N, win4_0.index t = ![0, t.val % 4] :=
  (by decide +kernel : ∀ t : Fin grid4.N, win4_0.index t = ![0, t.val % 4])
theorem idx4_1 : ∀ t : Fin cfg4.N, win4_1.index t = ![t.val / 4, 0, 0] :=
  (by decide +kernel : ∀ t : Fin grid4.N, win4_1.index t = ![t.val / 4, 0, 0])
theorem idx4_2 : ∀ t : Fin cfg4.N, win4_2.index t = ![t.val / 4, 0, 0] :=
  (by decide +kernel : ∀ t : Fin grid4.N, win4_2.index t = ![t.val / 4, 0, 0])
theorem idx4_3 : ∀ t : Fin cfg4.N, win4_3.index t = ![t.val / 4, 0, t.val % 4] :=
  (by decide +kernel : ∀ t : Fin grid4.N, win4_3.index t = ![t.val / 4, 0, t.val % 4])
theorem idx4_4 : ∀ t : Fin cfg4.N, win4_4.index t = ![t.val / 4, 0, t.val % 4] :=
  (by decide +kernel : ∀ t : Fin grid4.N, win4_4.index t = ![t.val / 4, 0, t.val % 4])
theorem lt_2 (t : Fin cfg2.N) : t.val < 32 := lt_of_lt_of_eq t.isLt N_2
theorem lt_4 (t : Fin cfg4.N) : t.val < 32 := lt_of_lt_of_eq t.isLt N_4

variable (V : (c : Dev nD) → (b : Ref sig .tc) → Buf (Elt Ideal) ((c : Thread nD τ).loc b)) (c : Dev nD)

/-- The last weight's gradient. -/
theorem region2_2 : (dat2 V c).arrAt 2 cfg2.N = stack (tn (unside (V c main_v14_2 : HPlanes 2304)) (V c main_v8 : Mat 2304 2048)) := by
  refine (dat2 V c).arrAt_eq_of_covers 2 _ (by decide +kernel) fun t hf y => ?_
  have ht := lt_2 t
  blk_simp
  rw [after2_2]; frame_out
  rw [store2]
  have h0 : (y 0).val < 1 := (y 0).isLt
  refine tn_congr2 (fun k => ?_) (fun k => ?_)
  · refine Eq.trans ?_ (unside_chan _ _ _ _).symm
    unfold flat
    blk_simp [iblk2]
    refine congrArg (V c main_v14_2) ?_
    blk_ext [idx2_0, idx2_2]
  · blk_simp [iblk2]
    refine congrArg (V c main_v8) ?_
    blk_ext [idx2_1, idx2_2]

/-- The first weight's gradient. -/
theorem region4_3 : (dat4 V c).arrAt 3 cfg4.N = stack (tn (unside (V c main_v17_0 : HPlanes 2304)) (V c main_v7 : Mat 2304 2048)) := by
  refine (dat4 V c).arrAt_eq_of_covers 3 _ (by decide +kernel) fun t hf y => ?_
  have ht := lt_4 t
  blk_simp
  rw [after4_3]; frame_out
  rw [store4]
  have h0 : (y 0).val < 1 := (y 0).isLt
  refine tn_congr2 (fun k => ?_) (fun k => ?_)
  · refine Eq.trans ?_ (unside_chan _ _ _ _).symm
    unfold flat
    blk_simp [iblk4]
    refine congrArg (V c main_v17_0) ?_
    blk_ext [idx4_1, idx4_3]
  · blk_simp [iblk4]
    refine congrArg (V c main_v7) ?_
    blk_ext [idx4_0, idx4_3]

/-- The second weight's gradient. -/
theorem region4_4 : (dat4 V c).arrAt 4 cfg4.N = stack (tn (unside (V c main_v17_1 : HPlanes 2304)) (V c main_v7 : Mat 2304 2048)) := by
  refine (dat4 V c).arrAt_eq_of_covers 4 _ (by decide +kernel) fun t hf y => ?_
  have ht := lt_4 t
  blk_simp
  rw [after4_4]; frame_out
  rw [store4']
  have h0 : (y 0).val < 1 := (y 0).isLt
  refine tn_congr2 (fun k => ?_) (fun k => ?_)
  · refine Eq.trans ?_ (unside_chan _ _ _ _).symm
    unfold flat
    blk_simp [iblk4]
    refine congrArg (V c main_v17_1) ?_
    blk_ext [idx4_2, idx4_4]
  · blk_simp [iblk4]
    refine congrArg (V c main_v7) ?_
    blk_ext [idx4_0, idx4_4]

end Cert.Swiglu1

end
-- ==== Proof.Ffn1.Chain.lean ====
/- The calls one after another: what each array holds at the end, as a function of the arguments. -/
module

public import proofs.«01_k».proof.Proof.Ffn1.Hidden
public import proofs.«01_k».proof.Proof.Ffn1.Tokens
public import proofs.«01_k».proof.Proof.Ffn1.Weights
public import proofs.«01_k».proof.Proof.Ffn1.Rows

@[expose] public section

set_option maxRecDepth 16384

noncomputable section

namespace Cert.Swiglu1

open Idealize.ShloMosaic Idealize.ShloMosaic.TcCoe Idealize.SL.Sem Cert.Ffn1Ideal Cert.Ffn1Ideal.Gen Cert.Mat Cert.Swiglu

variable (m : (ℓ : Loc nD τ sig) → Buf (Elt Ideal) ℓ) (ρ : Dev nD → PrngReg) (c : Dev nD)

/-- An argument on a device. -/
abbrev arg (b : Ref sig .tc) := m ((c.tc : Thread nD τ).loc b)

/-- A device's arguments: the latent tokens', and the context's. -/
def lat : Args 2048 where
  x := arg m c main_arg0
  gate i := arg m c main_arg2 (ix1 (i 1))
  h := arg m c main_arg4
  wGate := arg m c main_arg6
  wUp := arg m c main_arg7
  wDown := arg m c main_arg8
  ct := arg m c main_arg9
def ctx : Args 256 where
  x := arg m c main_arg1
  gate i := arg m c main_arg3 (ix1 (i 1))
  h := arg m c main_arg5
  wGate := arg m c main_arg6
  wUp := arg m c main_arg7
  wDown := arg m c main_arg8
  ct := arg m c main_arg10

/-- All the tokens' arguments. -/
def args : Args 2304 := joined (lat m c) (ctx m c)

/-! ### Before the calls -/

theorem table_gates (z : Vec Ideal S2x2048 .f32) (z' : Vec Ideal S8x2048 .f32) (z'' : Vec Ideal S12x2048 .f32) (g g' : Vec Ideal S2048 .f32) :
    gates (concatenate S24x2048 0 [⟨S2x2048, z⟩, ⟨S1x2048, broadcastInDim S1x2048 ![1] bcast_S2048_S1x2048_1 g⟩, ⟨S8x2048, z'⟩,
      ⟨S1x2048, broadcastInDim S1x2048 ![1] bcast_S2048_S1x2048_1 g'⟩, ⟨S12x2048, z''⟩]
      concatenates_S2x2048_S1x2048_S8x2048_S1x2048_S12x2048_S24x2048_d0)
      = rows (m := 2048) (fun i => g (ix1 (i 1))) (fun i => g' (ix1 (i 1))) := eq2 fun i j => by
  unfold gates rows
  by_cases h : ((ix2 i j : (⟨2, ![2304, 2048]⟩ : Shape).Idx) 0).val < 2048
  · rw [if_pos h, dif_pos h]
    refine (concatenate_apply_piece (t := S24x2048) 0 _ _ _ 1 (by simp) S1x2048 _ rfl rfl 2 rfl (ix2 0 j) (fun b hb => ?_) rfl).trans ?_
    · fin_cases b
      · exact absurd rfl hb
      · rfl
    · exact congrArg g (funext fun b => by fin_cases b; rfl)
  · rw [if_neg h, dif_neg h]
    refine (concatenate_apply_piece (t := S24x2048) 0 _ _ _ 3 (by simp) S1x2048 _ rfl rfl 11 rfl (ix2 0 j) (fun b hb => ?_) rfl).trans ?_
    · fin_cases b
      · exact absurd rfl hb
      · rfl
    · exact congrArg g' (funext fun b => by fin_cases b; rfl)

/-- Rows joined one below the other. -/
theorem concatenate_rows (x : S2048x2048.Idx → EReal) (y : S256x2048.Idx → EReal) :
    concatenate S2304x2048 0 [⟨S2048x2048, x⟩, ⟨S256x2048, y⟩] concatenates_S2048x2048_S256x2048_S2304x2048_d0 = rows x y := eq2 fun i j => by
  unfold rows
  by_cases h : ((ix2 i j : (⟨2, ![2304, 2048]⟩ : Shape).Idx) 0).val < 2048
  · rw [dif_pos h]
    exact concatenate_pair_apply_left (t := S2304x2048) (s₁ := S2048x2048) (s₂ := S256x2048) 0 _ _ _ _ rfl (ix2 ⟨i.val, h⟩ j) fun b => by
      fin_cases b <;> rfl
  · rw [dif_neg h]
    exact concatenate_pair_apply_right (t := S2304x2048) (s₁ := S2048x2048) (s₂ := S256x2048) 0 _ _ _ _ rfl rfl
      (ix2 ⟨i.val - 2048, by have := i.isLt; omega⟩ j)
      (fun b hb => by
        fin_cases b
        · exact absurd rfl hb
        · rfl)
      (by have h' : ¬i.val < 2048 := h; show i.val - 2048 + 2048 = i.val; omega)

theorem table1 : ∃ (z : Vec Ideal S2x2048 .f32) (z' : Vec Ideal S8x2048 .f32) (z'' : Vec Ideal S12x2048 .f32), W1 m ρ c (Proc.devRef .tc main_v5)
    = concatenate S24x2048 0 [⟨S2x2048, z⟩, ⟨S1x2048, broadcastInDim S1x2048 ![1] bcast_S2048_S1x2048_1 (arg m c main_arg2)⟩, ⟨S8x2048, z'⟩,
      ⟨S1x2048, broadcastInDim S1x2048 ![1] bcast_S2048_S1x2048_1 (arg m c main_arg3)⟩, ⟨S12x2048, z''⟩]
      concatenates_S2x2048_S1x2048_S8x2048_S1x2048_S12x2048_S24x2048_d0 := by
  refine ⟨broadcastInDim S2x2048 ![] bcast_S_S2x2048 (constant (F := Ideal) S_ .f32 0x00000000#32 : S_.Idx → EReal),
    broadcastInDim S8x2048 ![] bcast_S_S8x2048 (constant (F := Ideal) S_ .f32 0x00000000#32 : S_.Idx → EReal),
    broadcastInDim S12x2048 ![] bcast_S_S12x2048 (constant (F := Ideal) S_ .f32 0x00000000#32 : S_.Idx → EReal), ?_⟩
  after_results_simp <;> rfl

theorem gates1 : gates (W1 m ρ c (Proc.devRef .tc main_v5)) = (args m c).gate := by
  obtain ⟨z, z', z'', h⟩ := table1 m ρ c
  rw [h]; exact table_gates _ _ _ _ _

theorem x1 : W1 m ρ c (Proc.devRef .tc main_v6) = (args m c).x := by
  refine Eq.trans ?_ (concatenate_rows (arg m c main_arg0) (arg m c main_arg1))
  after_results_simp <;> rfl
theorem h1 : W1 m ρ c (Proc.devRef .tc main_v7) = (args m c).h := by
  refine Eq.trans ?_ (concatenate_rows (arg m c main_arg4) (arg m c main_arg5))
  after_results_simp <;> rfl
theorem ct1 : W1 m ρ c (Proc.devRef .tc main_v8) = (args m c).ct := by
  refine Eq.trans ?_ (concatenate_rows (arg m c main_arg9) (arg m c main_arg10))
  after_results_simp <;> rfl

theorem wGate1 : unstack (W1 m ρ c (Proc.devRef .tc main_v10)) = tr (args m c).wGate := by
  refine Eq.trans (congrArg unstack ?_) ((unstack_split (transpose S5632x2048 [1, 0] (arg m c main_arg6) transposes_S2048x5632_S5632x2048_1_0)
    shapeCasts_S5632x2048_S8x704x2048).trans (transpose_tr _ _))
  after_results_simp <;> rfl
theorem wUp1 : unstack (W1 m ρ c (Proc.devRef .tc main_v12)) = tr (args m c).wUp := by
  refine Eq.trans (congrArg unstack ?_) ((unstack_split (transpose S5632x2048 [1, 0] (arg m c main_arg7) transposes_S2048x5632_S5632x2048_1_0)
    shapeCasts_S5632x2048_S8x704x2048).trans (transpose_tr _ _))
  after_results_simp <;> rfl
theorem wDown1 : unstack (W1 m ρ c (Proc.devRef .tc main_v13)) = (args m c).wDown := by
  refine Eq.trans (congrArg unstack ?_) (unstack_split (arg m c main_arg8) shapeCasts_S5632x2048_S8x704x2048)
  after_results_simp <;> rfl

/-! ### What a call reads is what an earlier one, or the host, left -/

theorem h5 : W5 m ρ c (Proc.devRef .tc main_v7) = (args m c).h :=
  ((W5_of m ρ c main_v7 (by decide +kernel)).trans ((W4_of m ρ c main_v7 (by decide +kernel)).trans ((W3_of m ρ c main_v7 (by decide +kernel)).trans ((W2_of m ρ c main_v7 (by decide +kernel)))))).trans (h1 m ρ c)
theorem x2 : W2 m ρ c (Proc.devRef .tc main_v6) = (args m c).x :=
  ((W2_of m ρ c main_v6 (by decide +kernel))).trans (x1 m ρ c)
theorem ct3 : W3 m ρ c (Proc.devRef .tc main_v8) = (args m c).ct :=
  ((W3_of m ρ c main_v8 (by decide +kernel)).trans ((W2_of m ρ c main_v8 (by decide +kernel)))).trans (ct1 m ρ c)
theorem ct4 : W4 m ρ c (Proc.devRef .tc main_v8) = (args m c).ct :=
  ((W4_of m ρ c main_v8 (by decide +kernel)).trans ((W3_of m ρ c main_v8 (by decide +kernel)).trans ((W2_of m ρ c main_v8 (by decide +kernel))))).trans (ct1 m ρ c)
theorem gates2 : gates (W2 m ρ c (Proc.devRef .tc main_v5)) = (args m c).gate :=
  (congrArg gates ((W2_of m ρ c main_v5 (by decide +kernel)))).trans (gates1 m ρ c)
theorem wDown2 : unstack (W2 m ρ c (Proc.devRef .tc main_v13)) = (args m c).wDown :=
  (congrArg unstack ((W2_of m ρ c main_v13 (by decide +kernel)))).trans (wDown1 m ρ c)
theorem wDown4 : unstack (W4 m ρ c (Proc.devRef .tc main_v13)) = (args m c).wDown :=
  (congrArg unstack ((W4_of m ρ c main_v13 (by decide +kernel)).trans ((W3_of m ρ c main_v13 (by decide +kernel)).trans ((W2_of m ρ c main_v13 (by decide +kernel)))))).trans (wDown1 m ρ c)
theorem wGate6 : unstack (W6 m ρ c (Proc.devRef .tc main_v10)) = tr (args m c).wGate :=
  (congrArg unstack ((W6_of m ρ c main_v10 (by decide +kernel)).trans ((W5_of m ρ c main_v10 (by decide +kernel)).trans ((W4_of m ρ c main_v10 (by decide +kernel)).trans ((W3_of m ρ c main_v10 (by decide +kernel)).trans ((W2_of m ρ c main_v10 (by decide +kernel)))))))).trans (wGate1 m ρ c)
theorem wUp6 : unstack (W6 m ρ c (Proc.devRef .tc main_v12)) = tr (args m c).wUp :=
  (congrArg unstack ((W6_of m ρ c main_v12 (by decide +kernel)).trans ((W5_of m ρ c main_v12 (by decide +kernel)).trans ((W4_of m ρ c main_v12 (by decide +kernel)).trans ((W3_of m ρ c main_v12 (by decide +kernel)).trans ((W2_of m ρ c main_v12 (by decide +kernel)))))))).trans (wUp1 m ρ c)

/-! ### After each call -/

theorem a2 : W2 m ρ c (Proc.devRef .tc main_v14_0) = side (args m c).a1 :=
  (W2_arr m ρ c 3).trans ((region0_3 (V1 m ρ) c).trans (congrArg side (congrArg₂ nt (h1 m ρ c) (wGate1 m ρ c))))
theorem b2 : W2 m ρ c (Proc.devRef .tc main_v14_1) = side (args m c).b1 :=
  (W2_arr m ρ c 4).trans ((region0_4 (V1 m ρ) c).trans (congrArg side (congrArg₂ nt (h1 m ρ c) (wUp1 m ρ c))))
theorem s2 : W2 m ρ c (Proc.devRef .tc main_v14_2) = side (args m c).s :=
  (W2_arr m ρ c 5).trans ((region0_5 (V1 m ρ) c).trans (congrArg side
    (congrArg₂ Swiglu.hidden (congrArg₂ nt (h1 m ρ c) (wGate1 m ρ c)) (congrArg₂ nt (h1 m ρ c) (wUp1 m ρ c)))))
theorem us2 : unside (W2 m ρ c (Proc.devRef .tc main_v14_2)) = (args m c).s := (congrArg unside (s2 m ρ c)).trans (unside_side _)

theorem out3 : W3 m ρ c (Proc.devRef .tc main_v15_1) = (args m c).out :=
  (W3_arr m ρ c 5).trans ((region1_5 (V2 m ρ) c).trans ((congrArg₂ (fun x g => updated x g _) (x2 m ρ c) (gates2 m ρ c)).trans
    (congrArg (updated _ _) (congrArg₂ nn (us2 m ρ c) (wDown2 m ρ c)))))

theorem us3 : unside (W3 m ρ c (Proc.devRef .tc main_v14_2)) = (args m c).s := (congrArg unside (W3_of m ρ c main_v14_2 (by decide +kernel))).trans (us2 m ρ c)
theorem gradWDown4 : W4 m ρ c (Proc.devRef .tc main_v16) = stack (args m c).gradWDown :=
  (W4_arr m ρ c 2).trans ((region2_2 (V3 m ρ) c).trans (congrArg stack (congrArg₂ tn (us3 m ρ c) (ct3 m ρ c))))

theorem d4 : nt (V4 m ρ c main_v8 : Mat 2304 2048) (unstack (V4 m ρ c main_v13 : WPlanes)) = (args m c).d := congrArg₂ nt (ct4 m ρ c) (wDown4 m ρ c)
theorem ua4 : unside (W4 m ρ c (Proc.devRef .tc main_v14_0)) = (args m c).a1 :=
  (congrArg unside ((W4_of m ρ c main_v14_0 (by decide +kernel)).trans ((W3_of m ρ c main_v14_0 (by decide +kernel)).trans (a2 m ρ c)))).trans (unside_side _)
theorem ub4 : unside (W4 m ρ c (Proc.devRef .tc main_v14_1)) = (args m c).b1 :=
  (congrArg unside ((W4_of m ρ c main_v14_1 (by decide +kernel)).trans ((W3_of m ρ c main_v14_1 (by decide +kernel)).trans (b2 m ρ c)))).trans (unside_side _)

theorem da5 : W5 m ρ c (Proc.devRef .tc main_v17_0) = side (args m c).da :=
  (W5_arr m ρ c 4).trans ((region3_4 (V4 m ρ) c).trans (congrArg side ((congrArg₂ (fun x y => slopeA x y _) (d4 m ρ c) (ua4 m ρ c)).trans
    (congrArg (slopeA _ _) (ub4 m ρ c)))))
theorem db5 : W5 m ρ c (Proc.devRef .tc main_v17_1) = side (args m c).db :=
  (W5_arr m ρ c 5).trans ((region3_5 (V4 m ρ) c).trans (congrArg side (congrArg₂ slopeB (d4 m ρ c) (ua4 m ρ c))))
theorem uda5 : unside (W5 m ρ c (Proc.devRef .tc main_v17_0)) = (args m c).da := (congrArg unside (da5 m ρ c)).trans (unside_side _)
theorem udb5 : unside (W5 m ρ c (Proc.devRef .tc main_v17_1)) = (args m c).db := (congrArg unside (db5 m ρ c)).trans (unside_side _)
theorem uda6 : unside (W6 m ρ c (Proc.devRef .tc main_v17_0)) = (args m c).da := (congrArg unside (W6_of m ρ c main_v17_0 (by decide +kernel))).trans (uda5 m ρ c)
theorem udb6 : unside (W6 m ρ c (Proc.devRef .tc main_v17_1)) = (args m c).db := (congrArg unside (W6_of m ρ c main_v17_1 (by decide +kernel))).trans (udb5 m ρ c)

theorem gradWGate6 : W6 m ρ c (Proc.devRef .tc main_v18_0) = stack (tn (args m c).da (args m c).h) :=
  (W6_arr m ρ c 3).trans ((region4_3 (V5 m ρ) c).trans (congrArg stack (congrArg₂ tn (uda5 m ρ c) (h5 m ρ c))))
theorem gradWUp6 : W6 m ρ c (Proc.devRef .tc main_v18_1) = stack (tn (args m c).db (args m c).h) :=
  (W6_arr m ρ c 4).trans ((region4_4 (V5 m ρ) c).trans (congrArg stack (congrArg₂ tn (udb5 m ρ c) (h5 m ρ c))))
theorem gradH7 : W7 m ρ c (Proc.devRef .tc main_v19) = (args m c).gradH :=
  (W7_arr m ρ c 4).trans ((region5_4 (V6 m ρ) c).trans
    (congrArg₂ added (congrArg₂ nn (uda6 m ρ c) (wGate6 m ρ c)) (congrArg₂ nn (udb6 m ρ c) (wUp6 m ρ c))))

/-! ### After the calls -/

theorem out7 : W7 m ρ c (Proc.devRef .tc main_v15_1) = (args m c).out := (W7_of m ρ c main_v15_1 (by decide +kernel)).trans ((W6_of m ρ c main_v15_1 (by decide +kernel)).trans ((W5_of m ρ c main_v15_1 (by decide +kernel)).trans ((W4_of m ρ c main_v15_1 (by decide +kernel)).trans (out3 m ρ c))))
theorem gradWDown7 : W7 m ρ c (Proc.devRef .tc main_v16) = stack (args m c).gradWDown := (W7_of m ρ c main_v16 (by decide +kernel)).trans ((W6_of m ρ c main_v16 (by decide +kernel)).trans ((W5_of m ρ c main_v16 (by decide +kernel)).trans (gradWDown4 m ρ c)))
theorem gradWGate7 : W7 m ρ c (Proc.devRef .tc main_v18_0) = stack (tn (args m c).da (args m c).h) := (W7_of m ρ c main_v18_0 (by decide +kernel)).trans (gradWGate6 m ρ c)
theorem gradWUp7 : W7 m ρ c (Proc.devRef .tc main_v18_1) = stack (tn (args m c).db (args m c).h) := (W7_of m ρ c main_v18_1 (by decide +kernel)).trans (gradWUp6 m ρ c)

theorem upper_apply (z : S2304x2048.Idx → EReal) : extractStridedSlice S2048x2048 ![0, 0] z slices_S2304x2048_S2048x2048_0_0 = upper z := eq2 fun i j =>
  congrArg z (funext fun b => Fin.ext (by fin_cases b <;> exact Nat.zero_add _))
theorem lower_apply (z : S2304x2048.Idx → EReal) : extractStridedSlice S256x2048 ![2048, 0] z slices_S2304x2048_S256x2048_2048_0 = lower z := eq2 fun i j =>
  congrArg z (funext fun b => Fin.ext (by
    fin_cases b
    · exact Nat.add_comm _ _
    · exact Nat.zero_add _))

theorem out_lat : W8 m ρ c (Proc.devRef .tc main_v28) = (lat m c).out := by
  refine Eq.trans ?_ ((congrArg upper (out7 m ρ c)).trans (upper_out))
  refine Eq.trans ?_ (upper_apply _)
  after_results_simp <;> rfl
theorem out_ctx : W8 m ρ c (Proc.devRef .tc main_v29) = (ctx m c).out := by
  refine Eq.trans ?_ ((congrArg lower (out7 m ρ c)).trans (lower_out rfl rfl rfl))
  refine Eq.trans ?_ (lower_apply _)
  after_results_simp <;> rfl
theorem h_lat : W8 m ρ c (Proc.devRef .tc main_v30) = (lat m c).gradH := by
  refine Eq.trans ?_ ((congrArg upper (gradH7 m ρ c)).trans (upper_gradH))
  refine Eq.trans ?_ (upper_apply _)
  after_results_simp <;> rfl
theorem h_ctx : W8 m ρ c (Proc.devRef .tc main_v31) = (ctx m c).gradH := by
  refine Eq.trans ?_ ((congrArg lower (gradH7 m ρ c)).trans (lower_gradH rfl rfl rfl))
  refine Eq.trans ?_ (lower_apply _)
  after_results_simp <;> rfl
theorem gradWGate8 : W8 m ρ c (Proc.devRef .tc main_v22) = (args m c).gradWGate := by
  refine Eq.trans ?_ ((congrArg (fun z => transpose S2048x5632 [1, 0] z transposes_S5632x2048_S2048x5632_1_0)
    (split_stack (tn (args m c).da (args m c).h) shapeCasts_S8x704x2048_S5632x2048)).trans ((transpose_tr _ _).trans (tr_tn _ _)))
  rw [← gradWGate7 m ρ c]
  after_results_simp <;> rfl
theorem gradWUp8 : W8 m ρ c (Proc.devRef .tc main_v25) = (args m c).gradWUp := by
  refine Eq.trans ?_ ((congrArg (fun z => transpose S2048x5632 [1, 0] z transposes_S5632x2048_S2048x5632_1_0)
    (split_stack (tn (args m c).db (args m c).h) shapeCasts_S8x704x2048_S5632x2048)).trans ((transpose_tr _ _).trans (tr_tn _ _)))
  rw [← gradWUp7 m ρ c]
  after_results_simp <;> rfl
theorem gradWDown8 : W8 m ρ c (Proc.devRef .tc main_v27) = (args m c).gradWDown := by
  refine Eq.trans ?_ (split_stack (args m c).gradWDown shapeCasts_S8x704x2048_S5632x2048)
  rw [← gradWDown7 m ρ c]
  after_results_simp <;> rfl

end Cert.Swiglu1

end
-- ==== Proof.Ffn1.Run.lean ====
/- The run of the whole program with every array it leaves: at the end each buffer that outlives the calls holds what the
   host operations and the calls, in their order, leave there. -/
module

public import proofs.«01_k».proof.Proof.Gen.Ffn1Ideal.Frame

@[expose] public section

set_option maxRecDepth 16384

noncomputable section

namespace Cert.Swiglu1

open Idealize.ShloMosaic Idealize.ShloMosaic.TcCoe Idealize.ShloMosaic.Tactic Cert.Ffn1Ideal Cert.Ffn1Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the calls, at the end; and every counter back at zero. -/
theorem run : θ_run defs (onTc (τ := τ) (main (F := F))) ⟨m, fun _ => 0, ρ⟩ (fun r =>
    (∀ (c : Dev nD) (b : Ref sig .tc), ¬(Proc.devRef .tc b : DevRef τ sig).isScoped → r.2.mem ((c.tc : Thread nD τ).loc b) = W8 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c b hb => h c _ (mem_uc b hb), funext fun g => hz g (.inr (no_unscoped g.2))⟩)

end Cert.Swiglu1

end
-- ==== Proof.Ffn1.Claim.lean ====
/- The claim for the first feed-forward block: the six calls leave the reference's two values and its five gradients. -/
module

public import proofs.«01_k».proof.Defs
public import proofs.«01_k».proof.Proof.Gen.Ffn1.Frame
public import proofs.«01_k».proof.Proof.Gen.Ffn1ReferenceIdeal.Run
public import proofs.«01_k».proof.Proof.Ffn1.Reference
public import proofs.«01_k».proof.Proof.Ffn1.Finite
public import proofs.«01_k».proof.Proof.Ffn1.Chain
public import proofs.«01_k».proof.Proof.Ffn1.Run

@[expose] public section

noncomputable section

namespace Cert.Swiglu1

open Idealize.ShloMosaic Idealize.SL.Sem Cert.Swiglu

/-- The reference's frame: its run keeps the arguments, and it declares no semaphore. -/
theorem frame_reference : Cert.quiescent_Ffn1ReferenceIdeal := fun m g _ =>
  (θ_run Cert.Ffn1ReferenceIdeal.defs _ _).mono (fun r h => ⟨fun c => (h c).2.2.2.2.2.2.2, sem_eq_zero_of_no_sems (by decide) r.2⟩)
    (Cert.Ffn1ReferenceIdeal.Value.run (F := Ideal) m g)

/-- The memory of the reference, and an argument on device `c`. -/
abbrev Mem := (ℓ : Loc Cert.Ffn1ReferenceIdeal.nD Cert.Ffn1ReferenceIdeal.τ Cert.Ffn1ReferenceIdeal.sig) → Buf (Elt Ideal) ℓ

abbrev rarg (m' : Mem) (c : Dev Cert.Ffn1ReferenceIdeal.nD) (b : Ref Cert.Ffn1ReferenceIdeal.sig .tc) :=
  m' ((c.tc : Thread Cert.Ffn1ReferenceIdeal.nD Cert.Ffn1ReferenceIdeal.τ).loc b)

/-- The reference's arguments on device `c`: the latent tokens', and the context's. -/
abbrev rlat (m' : Mem) (c : Dev Cert.Ffn1ReferenceIdeal.nD) : Args 2048 where
  x := rarg m' c Cert.Ffn1ReferenceIdeal.main_arg0
  gate i := rarg m' c Cert.Ffn1ReferenceIdeal.main_arg2 (ix1 (i 1))
  h := rarg m' c Cert.Ffn1ReferenceIdeal.main_arg4
  wGate := rarg m' c Cert.Ffn1ReferenceIdeal.main_arg6
  wUp := rarg m' c Cert.Ffn1ReferenceIdeal.main_arg7
  wDown := rarg m' c Cert.Ffn1ReferenceIdeal.main_arg8
  ct := rarg m' c Cert.Ffn1ReferenceIdeal.main_arg9

abbrev rctx (m' : Mem) (c : Dev Cert.Ffn1ReferenceIdeal.nD) : Args 256 where
  x := rarg m' c Cert.Ffn1ReferenceIdeal.main_arg1
  gate i := rarg m' c Cert.Ffn1ReferenceIdeal.main_arg3 (ix1 (i 1))
  h := rarg m' c Cert.Ffn1ReferenceIdeal.main_arg5
  wGate := rarg m' c Cert.Ffn1ReferenceIdeal.main_arg6
  wUp := rarg m' c Cert.Ffn1ReferenceIdeal.main_arg7
  wDown := rarg m' c Cert.Ffn1ReferenceIdeal.main_arg8
  ct := rarg m' c Cert.Ffn1ReferenceIdeal.main_arg10

theorem algebraic : Cert.algebraic_Ffn1Ideal_Ffn1ReferenceIdeal_pre_finite_ffn1 := by
  intro m g m' g' hpre hargs
  have hl : ∀ c, lat m c = rlat m' c := fun c => by
    obtain ⟨h0, h1, h2, h3, h4, h5, h6, h7, h8, h9, h10⟩ := hargs c
    unfold lat
    dsimp only [rlat, rarg]
    rw [h0, h2, h4, h6, h7, h8, h9]
  have hc : ∀ c, ctx m c = rctx m' c := fun c => by
    obtain ⟨h0, h1, h2, h3, h4, h5, h6, h7, h8, h9, h10⟩ := hargs c
    unfold ctx
    dsimp only [rctx, rarg]
    rw [h1, h3, h5, h6, h7, h8, h10]
  have hr : ∀ c, (rlat m' c).IsReal ∧ (rctx m' c).IsReal := fun c => hl c ▸ hc c ▸ isReal (lat m c) (ctx m c) rfl rfl _ _ (hpre c)
  have hA : ∀ c, args m c = joined (rlat m' c) (rctx m' c) := fun c => congrArg₂ joined (hl c) (hc c)
  refine ⟨fun c => (lat m c).out, fun c => (ctx m c).out, fun c => (lat m c).gradH, fun c => (ctx m c).gradH, fun c => (args m c).gradWGate,
    fun c => (args m c).gradWUp, fun c => (args m c).gradWDown, (θ_run Cert.Ffn1Ideal.defs _ _).mono (fun r h c => ?_) (run m g),
    (θ_run Cert.Ffn1ReferenceIdeal.defs _ _).mono (fun r h c => ?_) (Cert.Ffn1ReferenceIdeal.Value.run (F := Ideal) m' g')⟩
  · have hk := fun (b : Ref Cert.Ffn1Ideal.sig .tc) hb => h.1 c b hb
    refine ⟨(hk _ (by decide)).trans (out_lat m g c), (hk _ (by decide)).trans (out_ctx m g c), (hk _ (by decide)).trans (h_lat m g c),
      (hk _ (by decide)).trans (h_ctx m g c), (hk _ (by decide)).trans (gradWGate8 m g c), (hk _ (by decide)).trans (gradWUp8 m g c),
      (hk _ (by decide)).trans (gradWDown8 m g c), ?_, ?_, ?_, ?_, ?_, ?_, ?_, ?_, ?_, ?_, ?_⟩ <;>
      exact (hk _ (by decide)).trans (Cert.Ffn1Ideal.Gen.W8_args m g c _ (by decide))
  · obtain ⟨h0, h1, h2, h3, h4, h5, h6, h7⟩ := h c
    exact ⟨h0.trans ((l_out_ref (rlat m' c) _ rfl).trans (congrArg Args.out (hl c).symm)),
      h1.trans ((c_out_ref (rctx m' c) _ rfl).trans (congrArg Args.out (hc c).symm)),
      h2.trans ((l_h_ref (rlat m' c) (hr c).1).trans (congrArg Args.gradH (hl c).symm)),
      h3.trans ((c_h_ref (rctx m' c) (hr c).2).trans (congrArg Args.gradH (hc c).symm)),
      h4.trans ((wGate_ref (l := rlat m' c) (c := rctx m' c) rfl rfl rfl (hr c).1 (hr c).2).trans (congrArg Args.gradWGate (hA c).symm)),
      h5.trans ((wUp_ref (l := rlat m' c) (c := rctx m' c) rfl rfl rfl).trans (congrArg Args.gradWUp (hA c).symm)),
      h6.trans ((wDown_ref (l := rlat m' c) (c := rctx m' c) rfl rfl rfl).trans (congrArg Args.gradWDown (hA c).symm)),
      h7⟩

end Cert.Swiglu1

end
-- ==== Proof.Projection.Planes.lean ====
/- A matrix of `n * 1024` columns in `n` planes of 1024 columns each, and products in planes: by a weight's planes from one of them on,
   with a cotangent's planes, and summed over the planes. -/
module

public import proofs.«01_k».proof.Proof.Ffn1.Rows

@[expose] public section

set_option maxRecDepth 16384

noncomputable section

namespace Cert.Projection

open Idealize.ShloMosaic Cert.Mat Cert.Swiglu Cert.Swiglu1

variable {n a b d : Nat}

/-- Planes of 1024 columns. -/
abbrev Planes (n a : Nat) := (⟨3, ![n, a, 1024]⟩ : Shape).Idx → EReal

/-- The matrix's column `j` of plane `p`. -/
def col (e : n * 1024 = b) (p : Fin n) (j : Fin 1024) : Fin b := ⟨p.val * 1024 + j.val, by omega⟩

/-- A matrix in planes. -/
def planes (e : n * 1024 = b) (x : Mat a b) : Planes n a := fun i => x (ix2 (i 1) (col e (i 0) (i 2)))

/-- The columns from `o` on. -/
def cols (o : Nat) (h : o + b ≤ d) (x : Mat a d) : Mat a b := fun i => x (ix2 (i 0) ⟨o + (i 1).val, by have h' : (i 1).val < b := (i 1).isLt; omega⟩)

/-- A matrix widened by columns of zeros. -/
def wide (x : Mat a b) : Mat a d := fun i => if h : (i 1).val < b then x (ix2 (i 0) ⟨(i 1).val, h⟩) else 0

/-- The products by the planes from `o` on. -/
def byPlanes (o : Nat) (h : o + n ≤ d) (x : Mat a b) (z : Planes d b) : Planes n a := fun i =>
  ∑ k : Fin b, x (ix2 (i 1) k) * z (ix3 ⟨o + (i 0).val, by have h' : (i 0).val < n := (i 0).isLt; omega⟩ k (i 2))

theorem byPlanes_planes {q : Nat} (o : Nat) (h : o + n ≤ d) (e : d * 1024 = q) (e' : n * 1024 = b) {k : Nat} (h' : o * 1024 + b ≤ q) (x : Mat a k) (w : Mat k q) :
    byPlanes o h x (planes e w) = planes e' (cols (o * 1024) h' (nn x w)) := eq3 fun p i j =>
  Finset.sum_congr rfl fun r _ => congrArg (fun s => x (ix2 i r) * w (ix2 r s)) (Fin.ext (by
    show (o + p.val) * 1024 + j.val = o * 1024 + (p.val * 1024 + j.val)
    omega))

/-- The products of a matrix's transpose with the planes. -/
def withPlanes (x : Mat d b) (z : Planes n d) : Planes n b := fun i => ∑ k : Fin d, x (ix2 k (i 1)) * z (ix3 (i 0) k (i 2))

theorem withPlanes_planes {q : Nat} (e : n * 1024 = q) (x : Mat d b) (z : Mat d q) : withPlanes x (planes e z) = planes e (tn x z) := rfl

/-- Blocks that agree give the same products. -/
theorem byPlanes_of {a' b' : Nat} {o : Nat} {h : o + n ≤ d} {x : Mat a b} {z : Planes d b} {x' : Mat a' b} {w' : Mat b b'} {r : Fin a'} {s : Fin b'}
    {i : (⟨3, ![n, a, 1024]⟩ : Shape).Idx} (hx : ∀ k, x' (ix2 r k) = x (ix2 (i 1) k))
    (hw : ∀ k, w' (ix2 k s) = z (ix3 ⟨o + (i 0).val, by have h' : (i 0).val < n := (i 0).isLt; omega⟩ k (i 2))) : nn x' w' (ix2 r s) = byPlanes o h x z i :=
  Finset.sum_congr rfl fun k _ => times (hx k) (hw k)

theorem withPlanes_of {a' b' : Nat} {x : Mat d b} {z : Planes n d} {x' : Mat d a'} {z' : Mat d b'} {r : Fin a'} {s : Fin b'}
    {i : (⟨3, ![n, b, 1024]⟩ : Shape).Idx} (hx : ∀ k, x' (ix2 k r) = x (ix2 k (i 1)))
    (hz : ∀ k, z' (ix2 k s) = z (ix3 (i 0) k (i 2))) : tn x' z' (ix2 r s) = withPlanes x z i :=
  Finset.sum_congr rfl fun k _ => times (hx k) (hz k)

/-- One plane's product with another's transpose, and the planes' products added up. -/
def onePlane (z : Planes 8 a) (w : Planes 8 b) (i : Fin a) (j : Fin b) (p : Fin 8) : EReal := ∑ k : Fin 1024, z (ix3 p i k) * w (ix3 p j k)
def overPlanes (z : Planes 8 a) (w : Planes 8 b) : Mat a b := fun i => ∑ p : Fin 8, onePlane z w (i 0) (i 1) p

theorem onePlane_of {z : Planes 8 a} {w : Planes 8 b} {i : Fin a} {j : Fin b} {f g : Fin 1024 → EReal} (p : Fin 8)
    (hf : ∀ k, f k = z (ix3 p i k)) (hg : ∀ k, g k = w (ix3 p j k)) : ∑ k, f k * g k = onePlane z w i j p :=
  Finset.sum_congr rfl fun k _ => times (hf k) (hg k)

theorem overPlanes_congr {a' b' : Nat} {z : Planes 8 a} {w : Planes 8 b} {z' : Planes 8 a'} {w' : Planes 8 b'}
    {i : (⟨2, ![a, b]⟩ : Shape).Idx} {i' : (⟨2, ![a', b']⟩ : Shape).Idx}
    (hz : ∀ p k, z (ix3 p (i 0) k) = z' (ix3 p (i' 0) k)) (hw : ∀ p k, w (ix3 p (i 1) k) = w' (ix3 p (i' 1) k)) : overPlanes z w i = overPlanes z' w' i' :=
  Finset.sum_congr rfl fun p _ => Finset.sum_congr rfl fun k _ => times (hz p k) (hw p k)

/-- A plane and a column of it are a column of the matrix. -/
def colEquiv : Fin 8 × Fin 1024 ≃ Fin 8192 where
  toFun q := col rfl q.1 q.2
  invFun k := (⟨k.val / 1024, by omega⟩, ⟨k.val % 1024, by omega⟩)
  left_inv q := Prod.ext (Fin.ext (by show (q.1.val * 1024 + q.2.val) / 1024 = q.1.val; omega)) (Fin.ext (by show (q.1.val * 1024 + q.2.val) % 1024 = q.2.val; omega))
  right_inv k := Fin.ext (by show k.val / 1024 * 1024 + k.val % 1024 = k.val; omega)

theorem overPlanes_planes (z : Mat a 8192) (w : Mat b 8192) : overPlanes (planes (n := 8) rfl z) (planes (n := 8) rfl w) = nt z w := eq2 fun i j => by
  show ∑ p : Fin 8, ∑ k : Fin 1024, z (ix2 i (col rfl p k)) * w (ix2 j (col rfl p k)) = ∑ k : Fin 8192, z (ix2 i k) * w (ix2 j k)
  rw [← Equiv.sum_comp colEquiv fun k => z (ix2 i k) * w (ix2 j k), Fintype.sum_prod_type]
  rfl

/-! ### Laying out and back -/

theorem planes_of (e : n * 1024 = b) (x : Mat a b) (hs : (⟨2, ![a, b]⟩ : Shape).ShapeCasts ⟨3, ![a, n, 1024]⟩)
    (ht : (⟨3, ![a, n, 1024]⟩ : Shape).Transposes [1, 0, 2] ⟨3, ![n, a, 1024]⟩) :
    transpose ⟨3, ![n, a, 1024]⟩ [1, 0, 2] (shapeCast ⟨3, ![a, n, 1024]⟩ x hs) ht = planes e x := eq3 fun p i j => by
  refine (transpose_apply _ _ _ _ (ix3 i p j) fun q => by fin_cases q <;> rfl).trans ?_
  refine shapeCast_apply _ _ _ (ix2 i (col e p j)) ?_
  rw [Shape.rowMajor_val_two, Shape.rowMajor_val_three]
  show i.val * b + (p.val * 1024 + j.val) = (i.val * n + p.val) * 1024 + j.val
  subst e
  ring

theorem planes_back (e : n * 1024 = b) (x : Mat a b) (hs : (⟨3, ![a, n, 1024]⟩ : Shape).ShapeCasts ⟨2, ![a, b]⟩)
    (ht : (⟨3, ![n, a, 1024]⟩ : Shape).Transposes [1, 0, 2] ⟨3, ![a, n, 1024]⟩) :
    shapeCast ⟨2, ![a, b]⟩ (transpose ⟨3, ![a, n, 1024]⟩ [1, 0, 2] (planes e x) ht) hs = x := eq2 fun i j => by
  have hj : j.val < b := j.isLt
  have hn : j.val / 1024 < n := by omega
  have hm : j.val % 1024 < 1024 := Nat.mod_lt _ (by decide)
  have hd : j.val / 1024 * 1024 + j.val % 1024 = j.val := by omega
  refine (shapeCast_apply _ _ _ (ix3 i ⟨j.val / 1024, hn⟩ ⟨j.val % 1024, hm⟩) ?_).trans ?_
  · rw [Shape.rowMajor_val_two, Shape.rowMajor_val_three]
    show (i.val * n + j.val / 1024) * 1024 + j.val % 1024 = i.val * b + j.val
    rw [Nat.add_mul, Nat.mul_assoc, e, Nat.add_assoc, hd]
  · refine (transpose_apply _ _ _ _ (ix3 ⟨j.val / 1024, hn⟩ i ⟨j.val % 1024, hm⟩) fun q => by fin_cases q <;> rfl).trans ?_
    exact congrArg (fun s => x (ix2 i s)) (Fin.ext hd)

/-! ### The tokens' two kinds -/

theorem wide_in (x : Mat a b) {i : Fin a} {j : Fin d} (h : j.val < b) : (wide x : Mat a d) (ix2 i j) = x (ix2 i ⟨j.val, h⟩) := dif_pos h
theorem wide_out (x : Mat a b) {i : Fin a} {j : Fin d} (h : ¬j.val < b) : (wide x : Mat a d) (ix2 i j) = 0 := dif_neg h

/-- A product with the widened cotangent is one with the weight's first columns. -/
theorem nt_wide (x : Mat a 2048) (w : Mat b 8192) : nt (wide x : Mat a 8192) w = nt x (cols 0 (by decide) w) := eq2 fun i j => by
  refine (Fin.sum_univ_add (a := 2048) (b := 6144) fun k : Fin 8192 => (wide x : Mat a 8192) (ix2 i k) * w (ix2 j k)).trans ?_
  refine Eq.trans (plus (Finset.sum_congr rfl fun k _ => times (y' := w (ix2 j ⟨0 + k.val, by omega⟩)) (wide_in x (j := Fin.castAdd 6144 k) k.isLt) ?_)
    (Finset.sum_eq_zero fun k _ => ?_)) (add_zero _)
  · exact congrArg (fun s => w (ix2 j s)) (Fin.ext (Nat.zero_add _).symm)
  · refine (times (wide_out x (j := Fin.natAdd 2048 k) ?_) rfl).trans (zero_mul _)
    show ¬2048 + k.val < 2048
    omega

/-- A product of a transpose with the widened cotangent is the product, widened. -/
theorem tn_wide (x : Mat d a) (y : Mat d b) {q : Nat} : tn x (wide y : Mat d q) = wide (tn x y) := eq2 fun i j => by
  by_cases h : j.val < b
  · rw [wide_in _ h]
    exact Finset.sum_congr rfl fun k _ => times rfl (wide_in y h)
  · rw [wide_out _ h]
    exact Finset.sum_eq_zero fun k _ => (times rfl (wide_out y h)).trans (mul_zero _)

theorem upper_cols (o : Nat) (h : o + b ≤ d) (x : Mat 2304 d) : upper (cols o h x) = cols o h (upper x) := rfl
theorem lower_cols (o : Nat) (h : o + b ≤ d) (x : Mat 2304 d) : lower (cols o h x) = cols o h (lower x) := rfl
theorem upper_nn (x : Mat 2304 a) (w : Mat a b) : upper (nn x w) = nn (upper x) w := rfl
theorem lower_nn (x : Mat 2304 a) (w : Mat a b) : lower (nn x w) = nn (lower x) w := rfl
theorem upper_nt (x : Mat 2304 a) (w : Mat b a) : upper (nt x w) = nt (upper x) w := rfl
theorem lower_nt (x : Mat 2304 a) (w : Mat b a) : lower (nt x w) = nt (lower x) w := rfl

end Cert.Projection

end
-- ==== Proof.Projection.Calls.lean ====
/- The four calls: what each computes from the blocks it reads, and what its array holds afterwards. -/
module

public import proofs.«01_k».proof.Proof.Gen.InProjIdeal.Frame
public import proofs.«01_k».proof.Proof.Projection.Planes
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Projection

open Idealize.ShloMosaic Idealize.ShloMosaic.TcCoe Idealize.SL.Sem Cert.InProjIdeal Cert.InProjIdeal.Gen Cert.Mat Cert.Swiglu

/-! ### The bodies -/

theorem store0 (x : Vec Ideal S384x2048 .bf16) (w : Vec Ideal S1x2048x1024 .bf16) :
    k0_pay1 x w = (fun i => nn x (flat w) (ix2 (i 1) (i 2)) : S1x384x1024.Idx → EReal) :=
  eq3 fun p i j => by unfold k0_pay1; pointwise; rfl

theorem store1 (x : Vec Ideal S512x2048 .bf16) (w : Vec Ideal S1x2048x1024 .bf16) :
    k1_pay1 x w = (fun i => nn x (flat w) (ix2 (i 1) (i 2)) : S1x512x1024.Idx → EReal) :=
  eq3 fun p i j => by unfold k1_pay1; pointwise; rfl

theorem store2 (x : Vec Ideal S2304x512 .bf16) (z : Vec Ideal S1x2304x1024 .bf16) :
    k2_pay1 x z = (fun i => tn x (flat z) (ix2 (i 1) (i 2)) : S1x512x1024.Idx → EReal) :=
  eq3 fun p i j => by unfold k2_pay1; pointwise; rfl

theorem store3 (z : Vec Ideal S8x384x1024 .bf16) (w : Vec Ideal S8x256x1024 .bf16) : out3_2 z w = (overPlanes z w : S384x256.Idx → EReal) :=
  eq2 fun r s => by
    unfold out3_2
    frame_out
    unfold k3_pay1 k3_pay2 k3_pay3
    pointwise
    refine Eq.trans ?_ (Fin.sum_univ_eight _).symm
    refine plus (plus (plus (plus (plus (plus (plus (onePlane_of 0 ?_ ?_) (onePlane_of 1 ?_ ?_)) (onePlane_of 2 ?_ ?_)) (onePlane_of 3 ?_ ?_))
      (onePlane_of 4 ?_ ?_)) (onePlane_of 5 ?_ ?_)) (onePlane_of 6 ?_ ?_)) (onePlane_of 7 ?_ ?_)
    all_goals exact fun k => rfl

/-! ### Where a point's blocks lie -/

theorem idx0_0 : ∀ t : Fin cfg0.N, win0_0.index t = ![t.val % 6, 0] :=
  (by decide +kernel : ∀ t : Fin grid0.N, win0_0.index t = ![t.val % 6, 0])
theorem idx0_1 : ∀ t : Fin cfg0.N, win0_1.index t = ![t.val / 6, 0, 0] :=
  (by decide +kernel : ∀ t : Fin grid0.N, win0_1.index t = ![t.val / 6, 0, 0])
theorem idx0_2 : ∀ t : Fin cfg0.N, win0_2.index t = ![t.val / 6, t.val % 6, 0] :=
  (by decide +kernel : ∀ t : Fin grid0.N, win0_2.index t = ![t.val / 6, t.val % 6, 0])
theorem idx1_0 : ∀ t : Fin cfg1.N, win1_0.index t = ![t.val % 4, 0] :=
  (by decide +kernel : ∀ t : Fin grid1.N, win1_0.index t = ![t.val % 4, 0])
theorem idx1_1 : ∀ t : Fin cfg1.N, win1_1.index t = ![t.val / 4 + 2, 0, 0] :=
  (by decide +kernel : ∀ t : Fin grid1.N, win1_1.index t = ![t.val / 4 + 2, 0, 0])
theorem idx1_2 : ∀ t : Fin cfg1.N, win1_2.index t = ![t.val / 4, t.val % 4, 0] :=
  (by decide +kernel : ∀ t : Fin grid1.N, win1_2.index t = ![t.val / 4, t.val % 4, 0])
theorem idx2_0 : ∀ t : Fin cfg2.N, win2_0.index t = ![0, t.val % 4] :=
  (by decide +kernel : ∀ t : Fin grid2.N, win2_0.index t = ![0, t.val % 4])
theorem idx2_1 : ∀ t : Fin cfg2.N, win2_1.index t = ![t.val / 4, 0, 0] :=
  (by decide +kernel : ∀ t : Fin grid2.N, win2_1.index t = ![t.val / 4, 0, 0])
theorem idx2_2 : ∀ t : Fin cfg2.N, win2_2.index t = ![t.val / 4, t.val % 4, 0] :=
  (by decide +kernel : ∀ t : Fin grid2.N, win2_2.index t = ![t.val / 4, t.val % 4, 0])
theorem idx3_0 : ∀ t : Fin cfg3.N, win3_0.index t = ![0, t.val / 8, 0] :=
  (by decide +kernel : ∀ t : Fin grid3.N, win3_0.index t = ![0, t.val / 8, 0])
theorem idx3_1 : ∀ t : Fin cfg3.N, win3_1.index t = ![0, t.val % 8, 0] :=
  (by decide +kernel : ∀ t : Fin grid3.N, win3_1.index t = ![0, t.val % 8, 0])
theorem idx3_2 : ∀ t : Fin cfg3.N, win3_2.index t = ![t.val / 8, t.val % 8] :=
  (by decide +kernel : ∀ t : Fin grid3.N, win3_2.index t = ![t.val / 8, t.val % 8])
theorem lt_0 (t : Fin cfg0.N) : t.val < 12 := lt_of_lt_of_eq t.isLt N_0
theorem lt_1 (t : Fin cfg1.N) : t.val < 24 := lt_of_lt_of_eq t.isLt N_1
theorem lt_2 (t : Fin cfg2.N) : t.val < 32 := lt_of_lt_of_eq t.isLt N_2
theorem lt_3 (t : Fin cfg3.N) : t.val < 48 := lt_of_lt_of_eq t.isLt N_3

/-! ### The arrays -/

variable (V : (c : Dev nD) → (b : Ref sig .tc) → Buf (Elt Ideal) ((c : Thread nD τ).loc b)) (c : Dev nD)

/-- All the tokens by the first two planes. -/
theorem region0 : (dat0 V c).arrAt 2 cfg0.N = byPlanes (n := 2) 0 (by decide) (V c main_v7 : Mat 2304 2048) (V c main_v9 : Planes 8 2048) := by
  refine (dat0 V c).arrAt_eq_of_covers 2 _ (by decide +kernel) fun t hf y => ?_
  have ht := lt_0 t
  blk_simp
  rw [after0_2]; frame_out
  rw [store0]
  have h0 : (y 0).val < 1 := (y 0).isLt
  refine byPlanes_of (fun k => ?_) (fun k => ?_)
  · blk_simp [iblk0]
    refine congrArg (V c main_v7) ?_
    blk_ext [idx0_0, idx0_2]
  · unfold flat
    blk_simp [iblk0]
    refine congrArg (V c main_v9) ?_
    blk_ext [idx0_1, idx0_2]

/-- The latent tokens by the other six. -/
theorem region1 : (dat1 V c).arrAt 2 cfg1.N = byPlanes (n := 6) 2 (by decide) (V c main_arg0 : Mat 2048 2048) (V c main_v9 : Planes 8 2048) := by
  refine (dat1 V c).arrAt_eq_of_covers 2 _ (by decide +kernel) fun t hf y => ?_
  have ht := lt_1 t
  blk_simp
  rw [after1_2]; frame_out
  rw [store1]
  have h0 : (y 0).val < 1 := (y 0).isLt
  refine byPlanes_of (fun k => ?_) (fun k => ?_)
  · blk_simp [iblk1]
    refine congrArg (V c main_arg0) ?_
    blk_ext [idx1_0, idx1_2]
  · unfold flat
    blk_simp [iblk1]
    refine congrArg (V c main_v9) ?_
    blk_ext [idx1_1, idx1_2]

/-- The weight's gradient. -/
theorem region2 : (dat2 V c).arrAt 2 cfg2.N = withPlanes (V c main_v7 : Mat 2304 2048) (V c main_v6 : Planes 8 2304) := by
  refine (dat2 V c).arrAt_eq_of_covers 2 _ (by decide +kernel) fun t hf y => ?_
  have ht := lt_2 t
  blk_simp
  rw [after2_2]; frame_out
  rw [store2]
  have h0 : (y 0).val < 1 := (y 0).isLt
  refine withPlanes_of (fun k => ?_) (fun k => ?_)
  · blk_simp [iblk2]
    refine congrArg (V c main_v7) ?_
    blk_ext [idx2_0, idx2_2]
  · unfold flat
    blk_simp [iblk2]
    refine congrArg (V c main_v6) ?_
    blk_ext [idx2_1, idx2_2]

/-- The tokens' gradient. -/
theorem region3 : (dat3 V c).arrAt 2 cfg3.N = overPlanes (V c main_v6 : Planes 8 2304) (V c main_v9 : Planes 8 2048) := by
  refine (dat3 V c).arrAt_eq_of_covers 2 _ (by decide +kernel) fun t hf y => ?_
  have ht := lt_3 t
  blk_simp
  rw [after3_2]
  rw [store3]
  refine overPlanes_congr (fun p k => ?_) (fun p k => ?_)
  · blk_simp [iblk3]
    refine congrArg (V c main_v6) ?_
    blk_ext [idx3_0, idx3_2]
  · blk_simp [iblk3]
    refine congrArg (V c main_v9) ?_
    blk_ext [idx3_1, idx3_2]

end Cert.Projection

end
-- ==== Proof.Projection.Chain.lean ====
/- The calls one after another: what each array holds at the end, as a function of the arguments. -/
module

public import proofs.«01_k».proof.Proof.Projection.Calls

@[expose] public section

set_option maxRecDepth 16384

noncomputable section

namespace Cert.Projection

open Idealize.ShloMosaic Idealize.ShloMosaic.TcCoe Idealize.SL.Sem Cert.InProjIdeal Cert.InProjIdeal.Gen Cert.Mat Cert.Swiglu Cert.Swiglu1

/-- The arguments: the latent tokens, the context's, the weight, and the gradients of the two products. -/
structure Operands where
  x : Mat 2048 2048
  y : Mat 256 2048
  w : Mat 2048 8192
  dx : Mat 2048 8192
  dy : Mat 256 2048

namespace Operands
variable (a : Operands)
/-- The latent tokens' product in two parts, and the context's. -/
def first : Mat 2048 2048 := cols 0 (by decide) (nn a.x a.w)
def rest : Mat 2048 6144 := cols 2048 (by decide) (nn a.x a.w)
def context : Mat 256 2048 := cols 0 (by decide) (nn a.y a.w)
/-- The gradients of the tokens and of the weight, whose columns past the context's get nothing from it. -/
def gradX : Mat 2048 2048 := nt a.dx a.w
def gradY : Mat 256 2048 := nt a.dy (cols 0 (by decide) a.w)
def gradW : Mat 2048 8192 := added (tn a.x a.dx) (wide (tn a.y a.dy))
end Operands

/-! ### What the host prepares, and takes back -/

theorem tokens (x : S2048x2048.Idx → EReal) (y : S256x2048.Idx → EReal) :
    concatenate S2304x2048 0 [⟨S2048x2048, x⟩, ⟨S256x2048, y⟩] concatenates_S2048x2048_S256x2048_S2304x2048_d0 = rows x y := eq2 fun i j => by
  unfold rows
  by_cases h : ((ix2 i j : (⟨2, ![2304, 2048]⟩ : Shape).Idx) 0).val < 2048
  · rw [dif_pos h]
    exact concatenate_pair_apply_left (t := S2304x2048) (s₁ := S2048x2048) (s₂ := S256x2048) 0 _ _ _ _ rfl (ix2 ⟨i.val, h⟩ j) fun b => by
      fin_cases b <;> rfl
  · rw [dif_neg h]
    exact concatenate_pair_apply_right (t := S2304x2048) (s₁ := S2048x2048) (s₂ := S256x2048) 0 _ _ _ _ rfl rfl
      (ix2 ⟨i.val - 2048, by have := i.isLt; omega⟩ j)
      (fun b hb => by
        fin_cases b
        · exact absurd rfl hb
        · rfl)
      (by have h' : ¬i.val < 2048 := h; show i.val - 2048 + 2048 = i.val; omega)

theorem planes_rows (u : Mat 2048 8192) (v : Mat 256 8192) :
    concatenate S8x2304x1024 1 [⟨S8x2048x1024, planes (n := 8) rfl u⟩, ⟨S8x256x1024, planes (n := 8) rfl v⟩]
      concatenates_S8x2048x1024_S8x256x1024_S8x2304x1024_d1 = planes (n := 8) rfl (rows u v) := eq3 fun p i j => by
  show _ = rows u v (ix2 i (col rfl p j))
  unfold rows
  by_cases h : ((ix2 i (col rfl p j) : (⟨2, ![2304, 8192]⟩ : Shape).Idx) 0).val < 2048
  · rw [dif_pos h]
    exact concatenate_pair_apply_left (t := S8x2304x1024) (s₁ := S8x2048x1024) (s₂ := S8x256x1024) 1 _ _ _ _ rfl (ix3 p ⟨i.val, h⟩ j) fun b => by
      fin_cases b <;> rfl
  · rw [dif_neg h]
    exact concatenate_pair_apply_right (t := S8x2304x1024) (s₁ := S8x2048x1024) (s₂ := S8x256x1024) 1 _ _ _ _ rfl rfl
      (ix3 p ⟨i.val - 2048, by have := i.isLt; omega⟩ j)
      (fun b hb => by
        fin_cases b
        · rfl
        · exact absurd rfl hb
        · rfl)
      (by have h' : ¬i.val < 2048 := h; show i.val - 2048 + 2048 = i.val; omega)

theorem planes_wide (y : Mat 256 2048) :
    concatenate S8x256x1024 0 [⟨S2x256x1024, planes (n := 2) rfl y⟩,
      ⟨S6x256x1024, broadcastInDim S6x256x1024 ![] bcast_S_S6x256x1024 (constant (F := Ideal) S_ .bf16 0x0000#16 : S_.Idx → EReal)⟩]
      concatenates_S2x256x1024_S6x256x1024_S8x256x1024_d0 = planes (n := 8) rfl (wide y) := eq3 fun p i j => by
  show _ = (wide y : Mat 256 8192) (ix2 i (col rfl p j))
  have hj : j.val < 1024 := j.isLt
  by_cases h : p.val < 2
  · have hc : (col (n := 8) (b := 8192) rfl p j).val < 2048 := by show p.val * 1024 + j.val < 2048; omega
    rw [wide_in y hc]
    exact concatenate_pair_apply_left (t := S8x256x1024) (s₁ := S2x256x1024) (s₂ := S6x256x1024) 0 _ _ _ _ rfl (ix3 ⟨p.val, h⟩ i j) fun b => by
      fin_cases b <;> rfl
  · have hc : ¬(col (n := 8) (b := 8192) rfl p j).val < 2048 := by show ¬p.val * 1024 + j.val < 2048; omega
    rw [wide_out y hc]
    refine (concatenate_pair_apply_right (t := S8x256x1024) (s₁ := S2x256x1024) (s₂ := S6x256x1024) 0 _ _ _ _ rfl rfl
      (ix3 ⟨p.val - 2, by have := p.isLt; omega⟩ i j)
      (fun b hb => by
        fin_cases b
        · exact absurd rfl hb
        · rfl
        · rfl)
      (by show p.val - 2 + 2 = p.val; omega)).trans ?_
    show Ideal.ofBits .bf16 0x0000#16 = 0
    simp [Ideal.ofBits, Ideal.ieee]

theorem upper_planes (g : Mat 2304 2048) : extractStridedSlice S2x2048x1024 ![0, 0, 0] (planes (n := 2) rfl g) slices_S2x2304x1024_S2x2048x1024_0_0_0
    = planes (n := 2) rfl (upper g) := eq3 fun p i j =>
  congrArg (planes (n := 2) rfl g) (funext fun b => Fin.ext (by fin_cases b <;> exact Nat.zero_add _) :
    _ = (ix3 p (up i) j : (⟨3, ![2, 2304, 1024]⟩ : Shape).Idx))
theorem lower_planes (g : Mat 2304 2048) : extractStridedSlice S2x256x1024 ![0, 2048, 0] (planes (n := 2) rfl g) slices_S2x2304x1024_S2x256x1024_0_2048_0
    = planes (n := 2) rfl (lower g) := eq3 fun p i j =>
  congrArg (planes (n := 2) rfl g) (funext fun b => Fin.ext (by
    fin_cases b
    · exact Nat.zero_add _
    · exact Nat.add_comm _ _
    · exact Nat.zero_add _) : _ = (ix3 p (low i) j : (⟨3, ![2, 2304, 1024]⟩ : Shape).Idx))
theorem upper_rows_of (z : S2304x2048.Idx → EReal) : extractStridedSlice S2048x2048 ![0, 0] z slices_S2304x2048_S2048x2048_0_0 = upper z := eq2 fun i j =>
  congrArg z (funext fun b => Fin.ext (by fin_cases b <;> exact Nat.zero_add _))
theorem lower_rows_of (z : S2304x2048.Idx → EReal) : extractStridedSlice S256x2048 ![2048, 0] z slices_S2304x2048_S256x2048_2048_0 = lower z := eq2 fun i j =>
  congrArg z (funext fun b => Fin.ext (by
    fin_cases b
    · exact Nat.add_comm _ _
    · exact Nat.zero_add _))

/-! ### Before the calls -/

variable (m : (ℓ : Loc nD τ sig) → Buf (Elt Ideal) ℓ) (ρ : Dev nD → PrngReg) (c : Dev nD)

/-- A device's arguments. -/
abbrev arg (b : Ref sig .tc) := m ((c.tc : Thread nD τ).loc b)
def args : Operands := ⟨arg m c main_arg0, arg m c main_arg1, arg m c main_arg2, arg m c main_arg3, arg m c main_arg4⟩

/-- All the tokens, and the gradients of all their products. -/
def all : Mat 2304 2048 := rows (args m c).x (args m c).y
def cts : Mat 2304 8192 := rows (args m c).dx (wide (args m c).dy)

theorem v7_1 : W1 m ρ c (Proc.devRef .tc main_v7) = all m c := by
  refine Eq.trans ?_ (tokens (arg m c main_arg0) (arg m c main_arg1))
  after_results_simp <;> rfl

theorem v9_1 : W1 m ρ c (Proc.devRef .tc main_v9) = planes (n := 8) rfl (args m c).w := by
  refine Eq.trans ?_ (planes_of rfl (args m c).w shapeCasts_S2048x8192_S2048x8x1024 transposes_S2048x8x1024_S8x2048x1024_1_0_2)
  after_results_simp <;> rfl

theorem v6_1 : W1 m ρ c (Proc.devRef .tc main_v6) = planes (n := 8) rfl (cts m c) := by
  refine Eq.trans ?_ (planes_rows (args m c).dx (wide (args m c).dy))
  rw [← planes_wide, ← planes_of (n := 2) rfl (args m c).dy shapeCasts_S256x2048_S256x2x1024 transposes_S256x2x1024_S2x256x1024_1_0_2,
    ← planes_of (n := 8) rfl (args m c).dx shapeCasts_S2048x8192_S2048x8x1024 transposes_S2048x8x1024_S8x2048x1024_1_0_2]
  after_results_simp <;> rfl

/-! ### After each call -/

theorem v10_2 : W2 m ρ c (Proc.devRef .tc main_v10) = planes (n := 2) rfl (cols 0 (by decide) (nn (all m c) (args m c).w) : Mat 2304 2048) :=
  (W2_arr m ρ c 2).trans ((region0 (V1 m ρ) c).trans ((congrArg₂ (byPlanes (n := 2) 0 (by decide)) (v7_1 m ρ c) (v9_1 m ρ c)).trans
    (byPlanes_planes 0 (by decide) rfl rfl (by decide) _ _)))

theorem v9_2 : W2 m ρ c (Proc.devRef .tc main_v9) = planes (n := 8) rfl (args m c).w := (W2_of m ρ c main_v9 (by decide +kernel)).trans (v9_1 m ρ c)
theorem v11_3 : W3 m ρ c (Proc.devRef .tc main_v11) = planes (n := 6) rfl (args m c).rest :=
  (W3_arr m ρ c 2).trans ((region1 (V2 m ρ) c).trans ((congrArg₂ (byPlanes (n := 6) 2 (by decide)) (W2_args m ρ c main_arg0 (by decide)) (v9_2 m ρ c)).trans
    (byPlanes_planes 2 (by decide) rfl rfl (by decide) _ _)))

theorem v7_3 : W3 m ρ c (Proc.devRef .tc main_v7) = all m c :=
  (W3_of m ρ c main_v7 (by decide +kernel)).trans ((W2_of m ρ c main_v7 (by decide +kernel)).trans (v7_1 m ρ c))
theorem v6_3 : W3 m ρ c (Proc.devRef .tc main_v6) = planes (n := 8) rfl (cts m c) :=
  (W3_of m ρ c main_v6 (by decide +kernel)).trans ((W2_of m ρ c main_v6 (by decide +kernel)).trans (v6_1 m ρ c))
theorem v12_4 : W4 m ρ c (Proc.devRef .tc main_v12) = planes (n := 8) rfl (args m c).gradW :=
  (W4_arr m ρ c 2).trans ((region2 (V3 m ρ) c).trans ((congrArg₂ withPlanes (v7_3 m ρ c) (v6_3 m ρ c)).trans
    (congrArg (planes (n := 8) rfl) ((tn_parts (all m c) (cts m c)).trans (congrArg₂ added
      (congrArg₂ tn (upper_rows _ _) (upper_rows _ _)) ((congrArg₂ tn (lower_rows _ _) (lower_rows _ _)).trans (tn_wide _ _)))))))

theorem v6_4 : W4 m ρ c (Proc.devRef .tc main_v6) = planes (n := 8) rfl (cts m c) := (W4_of m ρ c main_v6 (by decide +kernel)).trans (v6_3 m ρ c)
theorem v9_4 : W4 m ρ c (Proc.devRef .tc main_v9) = planes (n := 8) rfl (args m c).w :=
  (W4_of m ρ c main_v9 (by decide +kernel)).trans ((W3_of m ρ c main_v9 (by decide +kernel)).trans (v9_2 m ρ c))
theorem v13_5 : W5 m ρ c (Proc.devRef .tc main_v13) = nt (cts m c) (args m c).w :=
  (W5_arr m ρ c 2).trans ((region3 (V4 m ρ) c).trans ((congrArg₂ overPlanes (v6_4 m ρ c) (v9_4 m ρ c)).trans (overPlanes_planes _ _)))

theorem v10_5 : W5 m ρ c (Proc.devRef .tc main_v10) = planes (n := 2) rfl (cols 0 (by decide) (nn (all m c) (args m c).w) : Mat 2304 2048) :=
  (W5_of m ρ c main_v10 (by decide +kernel)).trans ((W4_of m ρ c main_v10 (by decide +kernel)).trans ((W3_of m ρ c main_v10 (by decide +kernel)).trans (v10_2 m ρ c)))
theorem v11_5 : W5 m ρ c (Proc.devRef .tc main_v11) = planes (n := 6) rfl (args m c).rest :=
  (W5_of m ρ c main_v11 (by decide +kernel)).trans ((W4_of m ρ c main_v11 (by decide +kernel)).trans (v11_3 m ρ c))
theorem v12_5 : W5 m ρ c (Proc.devRef .tc main_v12) = planes (n := 8) rfl (args m c).gradW := (W5_of m ρ c main_v12 (by decide +kernel)).trans (v12_4 m ρ c)

/-! ### The results -/

theorem first6 : W6 m ρ c (Proc.devRef .tc main_v16) = (args m c).first := by
  refine Eq.trans ?_ ((planes_back rfl (upper (cols 0 (by decide) (nn (all m c) (args m c).w))) shapeCasts_S2048x2x1024_S2048x2048
    transposes_S2x2048x1024_S2048x2x1024_1_0_2).trans (congrArg (fun u => cols 0 (by decide) (nn u (args m c).w)) (upper_rows _ _)))
  rw [← upper_planes, ← v10_5 m ρ c]
  after_results_simp <;> rfl

theorem context6 : W6 m ρ c (Proc.devRef .tc main_v19) = (args m c).context := by
  have e : lower (cols 0 (by decide) (nn (all m c) (args m c).w) : Mat 2304 2048) = (args m c).context := by
    show cols 0 (by decide) (nn (lower (all m c)) (args m c).w) = _
    rw [show lower (all m c) = (args m c).y from lower_rows _ _]
    rfl
  refine Eq.trans ?_ ((planes_back rfl (lower (cols 0 (by decide) (nn (all m c) (args m c).w))) shapeCasts_S256x2x1024_S256x2048
    transposes_S2x256x1024_S256x2x1024_1_0_2).trans e)
  rw [← lower_planes, ← v10_5 m ρ c]
  after_results_simp <;> rfl

theorem rest6 : W6 m ρ c (Proc.devRef .tc main_v21) = (args m c).rest := by
  refine Eq.trans ?_ (planes_back rfl (args m c).rest shapeCasts_S2048x6x1024_S2048x6144 transposes_S6x2048x1024_S2048x6x1024_1_0_2)
  rw [← v11_5 m ρ c]
  after_results_simp <;> rfl

theorem gradX6 : W6 m ρ c (Proc.devRef .tc main_v22) = (args m c).gradX := by
  refine Eq.trans ?_ ((upper_rows_of (nt (cts m c) (args m c).w)).trans (congrArg (fun u => nt u (args m c).w) (upper_rows _ _)))
  rw [← v13_5 m ρ c]
  after_results_simp <;> rfl

theorem gradY6 : W6 m ρ c (Proc.devRef .tc main_v23) = (args m c).gradY := by
  refine Eq.trans ?_ ((lower_rows_of (nt (cts m c) (args m c).w)).trans ((congrArg (fun u => nt u (args m c).w) (lower_rows _ _)).trans (nt_wide _ _)))
  rw [← v13_5 m ρ c]
  after_results_simp <;> rfl

theorem gradW6 : W6 m ρ c (Proc.devRef .tc main_v26) = (args m c).gradW := by
  refine Eq.trans ?_ (planes_back rfl (args m c).gradW shapeCasts_S2048x8x1024_S2048x8192 transposes_S8x2048x1024_S2048x8x1024_1_0_2)
  rw [← v12_5 m ρ c]
  after_results_simp <;> rfl

end Cert.Projection

end
-- ==== Proof.Projection.Reference.lean ====
/- The reference's values and gradients: the products of the operands, read element by element. -/
module

public import proofs.«01_k».proof.Proof.Gen.InProjReferenceIdeal.Read
public import proofs.«01_k».proof.Proof.Projection.Chain
public import Idealize.ShloMosaic.Lib.KernelVsHost

@[expose] public section

set_option maxRecDepth 16384

noncomputable section

namespace Cert.Projection

open Idealize.ShloMosaic Idealize.ShloMosaic.TcCoe Cert.InProjReferenceIdeal Cert.InProjReferenceIdeal.Read Cert.Mat Cert.Swiglu

variable (a : Operands)

theorem product_ref : val_main_v5 (F := Ideal) a.x a.w = nn a.x a.w := eq2 fun i j => by
  rw [val_main_v5_apply]
  show _ = ∑ k : Fin 2048, a.x (ix2 i k) * a.w (ix2 k j)
  refine Finset.sum_congr rfl fun k _ => times ?_ ?_
  · exact congrArg a.x (funext fun b => by fin_cases b <;> rfl)
  · exact congrArg a.w (funext fun b => by fin_cases b <;> rfl)

theorem weight_ref : val_main_v6 (F := Ideal) a.w = cols 0 (by decide) a.w := eq2 fun i j => by
  rw [val_main_v6_apply]
  exact congrArg a.w (funext fun b => Fin.ext (by fin_cases b <;> first | rfl | exact (Nat.zero_add _).symm))

theorem first_ref : val_main_v8 (F := Ideal) a.x a.w = a.first := eq2 fun i j => by
  rw [val_main_v8_apply, product_ref]
  exact congrArg (nn a.x a.w) (funext fun b => Fin.ext (by fin_cases b <;> first | rfl | exact (Nat.zero_add _).symm))

theorem rest_ref : val_main_v9 (F := Ideal) a.x a.w = a.rest := eq2 fun i j => by
  rw [val_main_v9_apply, product_ref]
  exact congrArg (nn a.x a.w) (funext fun b => Fin.ext (by fin_cases b <;> first | rfl | exact (Nat.add_comm _ _)))

theorem context_ref : val_main_v7 (F := Ideal) a.y a.w = a.context := eq2 fun i j => by
  rw [val_main_v7_apply, weight_ref]
  show _ = ∑ k : Fin 2048, a.y (ix2 i k) * (cols 0 (by decide) a.w : Mat 2048 2048) (ix2 k j)
  refine Finset.sum_congr rfl fun k _ => times ?_ ?_
  · exact congrArg a.y (funext fun b => by fin_cases b <;> rfl)
  · exact congrArg (cols 0 (by decide) a.w : Mat 2048 2048) (funext fun b => by fin_cases b <;> rfl)

theorem gradX_ref : val_main_v17 (F := Ideal) a.w a.dx = a.gradX := eq2 fun i j => by
  rw [val_main_v17_apply]
  show _ = ∑ k : Fin 8192, a.dx (ix2 i k) * a.w (ix2 j k)
  refine Finset.sum_congr rfl fun k _ => times ?_ ?_
  · exact congrArg a.dx (funext fun b => by fin_cases b <;> rfl)
  · exact congrArg a.w (funext fun b => by fin_cases b <;> rfl)

theorem gradY_ref : val_main_v12 (F := Ideal) a.w a.dy = a.gradY := eq2 fun i j => by
  rw [val_main_v12_apply, weight_ref]
  show _ = ∑ k : Fin 2048, a.dy (ix2 i k) * (cols 0 (by decide) a.w : Mat 2048 2048) (ix2 j k)
  refine Finset.sum_congr rfl fun k _ => times ?_ ?_
  · exact congrArg a.dy (funext fun b => by fin_cases b <;> rfl)
  · exact congrArg (cols 0 (by decide) a.w : Mat 2048 2048) (funext fun b => by fin_cases b <;> rfl)

/-- The context's part of the weight's gradient, and the latent tokens'. -/
theorem gradW_context_ref : val_main_v11 (F := Ideal) a.y a.dy = tn a.y a.dy := eq2 fun i j => by
  rw [val_main_v11_apply, val_main_v10_apply]
  show _ = ∑ k : Fin 256, a.y (ix2 k i) * a.dy (ix2 k j)
  refine Finset.sum_congr rfl fun k _ => times_swap ?_ ?_
  · exact congrArg a.y (funext fun b => by fin_cases b <;> rfl)
  · exact congrArg a.dy (funext fun b => by fin_cases b <;> rfl)

theorem gradW_latent_ref : val_main_v15 (F := Ideal) a.x a.dx = tn a.x a.dx := eq2 fun i j => by
  rw [val_main_v15_apply, val_main_v14_apply]
  show _ = ∑ k : Fin 2048, a.x (ix2 k i) * a.dx (ix2 k j)
  refine Finset.sum_congr rfl fun k _ => times_swap ?_ ?_
  · exact congrArg a.x (funext fun b => by fin_cases b <;> rfl)
  · exact congrArg a.dx (funext fun b => by fin_cases b <;> rfl)

/-- The padding widens it by zeros. -/
theorem padded_ref : val_main_v13 (F := Ideal) a.y a.dy = wide (tn a.y a.dy) := eq2 fun i j => by
  unfold val_main_v13
  rw [gradW_context_ref]
  by_cases h : j.val < 2048
  · rw [wide_in _ h]
    exact pad_apply_of_inside (t := S2048x8192) _ _ _ _ _ _ _ (ix2 i j) (ix2 i ⟨j.val, h⟩) fun b => by
      fin_cases b
      · show i.val = 0 + i.val * 1; omega
      · show j.val = 0 + j.val * 1; omega
  · rw [wide_out _ h]
    refine (pad_apply_of_not_inside (t := S2048x8192) _ _ _ _ _ _ _ (ix2 i j) 1 fun hb => h ?_).trans ?_
    · have h3 : (j.val - 0) / 1 < 2048 := hb.2.2
      omega
    · show Ideal.ofBits .f32 0x00000000#32 = 0
      simp [Ideal.ofBits, Ideal.ieee]

theorem gradW_ref : val_main_v16 (F := Ideal) a.x a.y a.dx a.dy = a.gradW := by
  funext i
  rw [val_main_v16_apply, padded_ref, gradW_latent_ref]
  exact add_comm _ _

end Cert.Projection

end
-- ==== Proof.Projection.Run.lean ====
/- The run of the whole program with every array it leaves: at the end each buffer that outlives the calls holds what the
   host operations and the calls, in their order, leave there. -/
module

public import proofs.«01_k».proof.Proof.Gen.InProjIdeal.Frame

@[expose] public section

set_option maxRecDepth 16384

noncomputable section

namespace Cert.Projection

open Idealize.ShloMosaic Idealize.ShloMosaic.TcCoe Idealize.ShloMosaic.Tactic Cert.InProjIdeal Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the calls, at the end; and every counter back at zero. -/
theorem run : θ_run defs (onTc (τ := τ) (main (F := F))) ⟨m, fun _ => 0, ρ⟩ (fun r =>
    (∀ (c : Dev nD) (b : Ref sig .tc), ¬(Proc.devRef .tc b : DevRef τ sig).isScoped → r.2.mem ((c.tc : Thread nD τ).loc b) = W6 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c _ (mem_uc b hb), funext fun g => hz g (.inr (no_unscoped g.2))⟩)

end Cert.Projection

end
-- ==== Proof.Projection.Claim.lean ====
/- The claim for the input projection: the four calls leave the reference's values and its gradients. -/
module

public import proofs.«01_k».proof.Defs
public import proofs.«01_k».proof.Proof.Gen.InProj.Frame
public import proofs.«01_k».proof.Proof.Gen.InProjReferenceIdeal.Run
public import proofs.«01_k».proof.Proof.Projection.Reference
public import proofs.«01_k».proof.Proof.Projection.Chain
public import proofs.«01_k».proof.Proof.Projection.Run

@[expose] public section

noncomputable section

namespace Cert.Projection

open Idealize.ShloMosaic Idealize.SL.Sem

/-- The reference's frame: its run keeps the arguments, and it declares no semaphore. -/
theorem frame_reference : Cert.quiescent_InProjReferenceIdeal := fun m g _ =>
  (θ_run Cert.InProjReferenceIdeal.defs _ _).mono (fun r h => ⟨fun c => (h c).2.2.2.2.2.2, sem_eq_zero_of_no_sems (by decide) r.2⟩)
    (Cert.InProjReferenceIdeal.Value.run (F := Ideal) m g)

/-- The memory of the reference, and an argument on device `c`. -/
abbrev Mem := (ℓ : Loc Cert.InProjReferenceIdeal.nD Cert.InProjReferenceIdeal.τ Cert.InProjReferenceIdeal.sig) → Buf (Elt Ideal) ℓ

abbrev rarg (m' : Mem) (c : Dev Cert.InProjReferenceIdeal.nD) (b : Ref Cert.InProjReferenceIdeal.sig .tc) :=
  m' ((c.tc : Thread Cert.InProjReferenceIdeal.nD Cert.InProjReferenceIdeal.τ).loc b)

/-- The reference's arguments on device `c`. -/
abbrev rargs (m' : Mem) (c : Dev Cert.InProjReferenceIdeal.nD) : Operands :=
  ⟨rarg m' c Cert.InProjReferenceIdeal.main_arg0, rarg m' c Cert.InProjReferenceIdeal.main_arg1, rarg m' c Cert.InProjReferenceIdeal.main_arg2,
    rarg m' c Cert.InProjReferenceIdeal.main_arg3, rarg m' c Cert.InProjReferenceIdeal.main_arg4⟩

theorem algebraic : Cert.algebraic_InProjIdeal_InProjReferenceIdeal := by
  intro m g m' g' _ hargs
  have ha : ∀ c, args m c = rargs m' c := fun c => by
    obtain ⟨h0, h1, h2, h3, h4⟩ := hargs c
    unfold args
    dsimp only [rargs, rarg]
    rw [h0, h1, h2, h3, h4]
  refine ⟨fun c => (args m c).first, fun c => (args m c).context, fun c => (args m c).rest, fun c => (args m c).gradX, fun c => (args m c).gradY,
    fun c => (args m c).gradW, (θ_run Cert.InProjIdeal.defs _ _).mono (fun r h c => ?_) (run m g),
    (θ_run Cert.InProjReferenceIdeal.defs _ _).mono (fun r h c => ?_) (Cert.InProjReferenceIdeal.Value.run (F := Ideal) m' g')⟩
  · have hk := fun (b : Ref Cert.InProjIdeal.sig .tc) hb => h.1 c b hb
    refine ⟨(hk _ (by decide)).trans (first6 m g c), (hk _ (by decide)).trans (context6 m g c), (hk _ (by decide)).trans (rest6 m g c),
      (hk _ (by decide)).trans (gradX6 m g c), (hk _ (by decide)).trans (gradY6 m g c), (hk _ (by decide)).trans (gradW6 m g c), ?_, ?_, ?_, ?_, ?_⟩ <;>
      exact (hk _ (by decide)).trans (Cert.InProjIdeal.Gen.W6_args m g c _ (by decide))
  · obtain ⟨h0, h1, h2, h3, h4, h5, h6⟩ := h c
    exact ⟨h0.trans ((first_ref (rargs m' c)).trans (congrArg Operands.first (ha c).symm)),
      h1.trans ((context_ref (rargs m' c)).trans (congrArg Operands.context (ha c).symm)),
      h2.trans ((rest_ref (rargs m' c)).trans (congrArg Operands.rest (ha c).symm)),
      h3.trans ((gradX_ref (rargs m' c)).trans (congrArg Operands.gradX (ha c).symm)),
      h4.trans ((gradY_ref (rargs m' c)).trans (congrArg Operands.gradY (ha c).symm)),
      h5.trans ((gradW_ref (rargs m' c)).trans (congrArg Operands.gradW (ha c).symm)), h6⟩

end Cert.Projection

end
-- ==== Proof.Glu.Calls.lean ====
/- The two calls of the gated linear unit: what each computes from the blocks it reads, and what its arrays hold afterwards. -/
module

public import proofs.«01_k».proof.Proof.Gen.GluIdeal.Frame
public import proofs.«01_k».proof.Proof.Projection.Planes
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Glu

open Idealize.ShloMosaic Idealize.ShloMosaic.TcCoe Idealize.SL.Sem Cert.GluIdeal Cert.GluIdeal.Gen Cert.Mat Cert.Swiglu

/-! ### The mathematics -/

variable {a b : Nat}

/-- `gelu` with the hyperbolic tangent, in the kernel's order of the factors. -/
def gelu (x : EReal) : EReal :=
  Ideal.ofBits .f32 0x3F000000#32 * x
    * (1 + Ideal.tanh (Ideal.ofBits .f32 0x3F4C422A#32 * (x + Ideal.ofBits .f32 0x3D372713#32 * x * x * x)))

/-- The scan's input times its factor, with the two readouts. -/
def readout (d u y z : EReal) : EReal := d * u + y + z

/-- A row under every row of a product. -/
def shifted (x : Mat a b) (r : Mat 1 b) : Mat a b := fun i => x i + r (ix2 0 (i 1))

/-- The gated value. -/
def unit (s z : EReal) : EReal := gelu s * sg z

/-! ### The bodies -/

theorem pay0 (u : Vec Ideal S1x512x1024 .f32) (y z : Vec Ideal S512x1024 .f32) (d : Vec Ideal S1x1024 .f32) :
    k0_pay1 u y z d = (fun i => readout (d (ix2 0 (i 1))) (flat u i) (y i) (z i) : S512x1024.Idx → EReal) :=
  eq2 fun i j => by unfold k0_pay1; pointwise; rfl

theorem gelu0 (u : Vec Ideal S1x512x1024 .f32) (y z : Vec Ideal S512x1024 .f32) (d : Vec Ideal S1x1024 .f32) :
    k0_pay2 u y z d = (fun i => gelu (readout (d (ix2 0 (i 1))) (flat u i) (y i) (z i)) : S512x1024.Idx → EReal) :=
  eq2 fun i j => by unfold k0_pay2; rw [pay0]; pointwise; rfl

theorem pay1 (x : Vec Ideal S512x1024 .bf16) (w : Vec Ideal S1024x512 .bf16) (r : Vec Ideal S1x512 .f32) :
    k1_pay1 x w r = (shifted (nn x w) r : S512x512.Idx → EReal) :=
  eq2 fun i j => by unfold k1_pay1; pointwise; rfl

theorem unit1 (x : Vec Ideal S512x1024 .bf16) (w : Vec Ideal S1024x512 .bf16) (r : Vec Ideal S1x512 .f32) (s : Vec Ideal S512x512 .f32) :
    k1_pay2 x w r s = (fun i => unit (s i) (shifted (nn x w) r i) : S512x512.Idx → EReal) :=
  eq2 fun i j => by unfold k1_pay2; rw [pay1]; pointwise; rfl

/-! ### Where a point's blocks lie -/

theorem idx0_0 : ∀ t : Fin cfg0.N, win0_0.index t = ![1, t.val, 0] :=
  (by decide +kernel : ∀ t : Fin grid0.N, win0_0.index t = ![1, t.val, 0])
theorem idx0_1 : ∀ t : Fin cfg0.N, win0_1.index t = ![t.val, 0] :=
  (by decide +kernel : ∀ t : Fin grid0.N, win0_1.index t = ![t.val, 0])
theorem idx0_2 : ∀ t : Fin cfg0.N, win0_2.index t = ![t.val, 0] :=
  (by decide +kernel : ∀ t : Fin grid0.N, win0_2.index t = ![t.val, 0])
theorem idx0_3 : ∀ t : Fin cfg0.N, win0_3.index t = ![0, 0] :=
  (by decide +kernel : ∀ t : Fin grid0.N, win0_3.index t = ![0, 0])
theorem idx0_4 : ∀ t : Fin cfg0.N, win0_4.index t = ![t.val, 0] :=
  (by decide +kernel : ∀ t : Fin grid0.N, win0_4.index t = ![t.val, 0])
theorem idx0_5 : ∀ t : Fin cfg0.N, win0_5.index t = ![t.val, 0] :=
  (by decide +kernel : ∀ t : Fin grid0.N, win0_5.index t = ![t.val, 0])
theorem idx1_0 : ∀ t : Fin cfg1.N, win1_0.index t = ![t.val / 2, 0] :=
  (by decide +kernel : ∀ t : Fin grid1.N, win1_0.index t = ![t.val / 2, 0])
theorem idx1_1 : ∀ t : Fin cfg1.N, win1_1.index t = ![0, t.val % 2] :=
  (by decide +kernel : ∀ t : Fin grid1.N, win1_1.index t = ![0, t.val % 2])
theorem idx1_2 : ∀ t : Fin cfg1.N, win1_2.index t = ![t.val / 2, t.val % 2] :=
  (by decide +kernel : ∀ t : Fin grid1.N, win1_2.index t = ![t.val / 2, t.val % 2])
theorem idx1_3 : ∀ t : Fin cfg1.N, win1_3.index t = ![0, t.val % 2] :=
  (by decide +kernel : ∀ t : Fin grid1.N, win1_3.index t = ![0, t.val % 2])
theorem idx1_5 : ∀ t : Fin cfg1.N, win1_5.index t = ![t.val / 2, t.val % 2] :=
  (by decide +kernel : ∀ t : Fin grid1.N, win1_5.index t = ![t.val / 2, t.val % 2])
theorem lt_0 (t : Fin cfg0.N) : t.val < 4 := lt_of_lt_of_eq t.isLt N_0
theorem lt_1 (t : Fin cfg1.N) : t.val < 8 := lt_of_lt_of_eq t.isLt N_1

/-! ### The arrays -/

/-- The state-space branch's value, its input in the second plane. -/
def value (p : Projection.Planes 2 2048) (y z : Mat 2048 1024) (d : Mat 1 1024) : Mat 2048 1024 := fun i =>
  readout (d (ix2 0 (i 1))) (p (ix3 1 (i 0) (i 1))) (y i) (z i)

variable (V : (c : Dev nD) → (b : Ref sig .tc) → Buf (Elt Ideal) ((c : Thread nD τ).loc b)) (c : Dev nD)

theorem readout_congr {d d' u u' y y' z z' : EReal} (h₁ : d = d') (h₂ : u = u') (h₃ : y = y') (h₄ : z = z') :
    readout d u y z = readout d' u' y' z' := by rw [h₁, h₂, h₃, h₄]

/-- The state-space branch's value. -/
theorem region0_4 : (dat0 V c).arrAt 4 cfg0.N
    = value (V c main_v1 : Projection.Planes 2 2048) (V c main_arg1 : Mat 2048 1024) (V c main_arg2 : Mat 2048 1024) (V c main_v2 : Mat 1 1024) := by
  refine (dat0 V c).arrAt_eq_of_covers 4 _ (by decide +kernel) fun t hf y => ?_
  have ht := lt_0 t
  blk_simp
  rw [after0_4]; frame_out
  rw [pay0]
  refine readout_congr ?_ ?_ ?_ ?_
  · blk_simp [iblk0]
    refine congrArg (V c main_v2) ?_
    blk_ext [idx0_3, idx0_4]
  · unfold flat
    blk_simp [iblk0]
    refine congrArg (V c main_v1) ?_
    blk_ext [idx0_0, idx0_4]
  · blk_simp [iblk0]
    refine congrArg (V c main_arg1) ?_
    blk_ext [idx0_1, idx0_4]
  · blk_simp [iblk0]
    refine congrArg (V c main_arg2) ?_
    blk_ext [idx0_2, idx0_4]

/-- Its `gelu`. -/
theorem region0_5 : (dat0 V c).arrAt 5 cfg0.N = fun i => gelu
    (value (V c main_v1 : Projection.Planes 2 2048) (V c main_arg1 : Mat 2048 1024) (V c main_arg2 : Mat 2048 1024) (V c main_v2 : Mat 1 1024) i) := by
  refine (dat0 V c).arrAt_eq_of_covers 5 _ (by decide +kernel) fun t hf y => ?_
  have ht := lt_0 t
  blk_simp
  rw [after0_5]; frame_out
  rw [gelu0]
  refine congrArg gelu (readout_congr ?_ ?_ ?_ ?_)
  · blk_simp [iblk0]
    refine congrArg (V c main_v2) ?_
    blk_ext [idx0_3, idx0_5]
  · unfold flat
    blk_simp [iblk0]
    refine congrArg (V c main_v1) ?_
    blk_ext [idx0_0, idx0_5]
  · blk_simp [iblk0]
    refine congrArg (V c main_arg1) ?_
    blk_ext [idx0_1, idx0_5]
  · blk_simp [iblk0]
    refine congrArg (V c main_arg2) ?_
    blk_ext [idx0_2, idx0_5]

/-- The gated value, from the first call's two arrays. -/
theorem region1_5 : (dat1 V c).arrAt 5 cfg1.N = fun i => unit ((V c main_v4_0 : Mat 2048 1024) i)
    (shifted (nn (V c main_v4_1 : Mat 2048 1024) (V c main_arg4 : Mat 1024 1024)) (V c main_v3 : Mat 1 1024) i) := by
  refine (dat1 V c).arrAt_eq_of_covers 5 _ (by decide +kernel) fun t hf y => ?_
  have ht := lt_1 t
  blk_simp
  rw [after1_5]; frame_out
  rw [unit1]
  refine congrArg₂ unit ?_ (plus (nn_congr (fun k => ?_) (fun k => ?_)) ?_)
  · blk_simp [iblk1]
    refine congrArg (V c main_v4_0) ?_
    blk_ext [idx1_2, idx1_5]
  · blk_simp [iblk1]
    refine congrArg (V c main_v4_1) ?_
    blk_ext [idx1_0, idx1_5]
  · blk_simp [iblk1]
    refine congrArg (V c main_arg4) ?_
    blk_ext [idx1_1, idx1_5]
  · blk_simp [iblk1]
    refine congrArg (V c main_v3) ?_
    blk_ext [idx1_3, idx1_5]

end Cert.Glu

end
-- ==== Proof.Glu.Chain.lean ====
/- The two calls one after the other: what the result holds at the end, as a function of the arguments. -/
module

public import proofs.«01_k».proof.Proof.Glu.Calls

@[expose] public section

set_option maxRecDepth 16384

noncomputable section

namespace Cert.Glu

open Idealize.ShloMosaic Idealize.ShloMosaic.TcCoe Idealize.SL.Sem Cert.GluIdeal Cert.GluIdeal.Gen Cert.Mat Cert.Swiglu

/-- A vector as a row. -/
def row (v : S1024.Idx → EReal) : Mat 1 1024 := fun i => v (ix1 (i 1))

theorem row_of (v : S1024.Idx → EReal) : broadcastInDim S1x1024 ![1] bcast_S1024_S1x1024_1 v = row v := eq2 fun i j =>
  congrArg v (funext fun b => by fin_cases b; rfl)

/-- The arguments: the latent tokens' projected columns, of which the second half is the scan's input, the two readouts, the input's
    factor, and the unit's weight and offset. -/
structure Operands where
  kvu : Mat 2048 2048
  y : Mat 2048 1024
  z : Mat 2048 1024
  d : S1024.Idx → EReal
  w : Mat 1024 1024
  b : S1024.Idx → EReal

namespace Operands
variable (a : Operands)
/-- The state-space branch's value. -/
def ssm : Mat 2048 1024 := value (Projection.planes (n := 2) rfl a.kvu) a.y a.z (row a.d)
/-- The value through the unit. -/
def out : Mat 2048 1024 := fun i => unit (a.ssm i) (shifted (nn (fun k => gelu (a.ssm k)) a.w) (row a.b) i)
end Operands

variable (m : (ℓ : Loc nD τ sig) → Buf (Elt Ideal) ℓ) (ρ : Dev nD → PrngReg) (c : Dev nD)

/-- A device's arguments. -/
abbrev arg (b : Ref sig .tc) := m ((c.tc : Thread nD τ).loc b)
def args : Operands := ⟨arg m c main_arg0, arg m c main_arg1, arg m c main_arg2, arg m c main_arg3, arg m c main_arg4, arg m c main_arg5⟩

/-! ### Before the calls -/

theorem v1_1 : W1 m ρ c (Proc.devRef .tc main_v1) = Projection.planes (n := 2) rfl (args m c).kvu := by
  refine Eq.trans ?_ (Projection.planes_of rfl (args m c).kvu shapeCasts_S2048x2048_S2048x2x1024 transposes_S2048x2x1024_S2x2048x1024_1_0_2)
  after_results_simp <;> rfl

theorem v2_1 : W1 m ρ c (Proc.devRef .tc main_v2) = row (args m c).d := by
  refine Eq.trans ?_ (row_of (args m c).d)
  after_results_simp <;> rfl

theorem v3_1 : W1 m ρ c (Proc.devRef .tc main_v3) = row (args m c).b := by
  refine Eq.trans ?_ (row_of (args m c).b)
  after_results_simp <;> rfl

/-! ### After each call -/

theorem value1 : value (W1 m ρ c (Proc.devRef .tc main_v1)) (W1 m ρ c (Proc.devRef .tc main_arg1)) (W1 m ρ c (Proc.devRef .tc main_arg2))
    (W1 m ρ c (Proc.devRef .tc main_v2)) = (args m c).ssm := by
  rw [v1_1, v2_1, W1_args m ρ c main_arg1 (by decide), W1_args m ρ c main_arg2 (by decide)]
  rfl

theorem v40_2 : W2 m ρ c (Proc.devRef .tc main_v4_0) = (args m c).ssm :=
  (W2_arr m ρ c 4).trans ((region0_4 (V1 m ρ) c).trans (value1 m ρ c))

theorem v41_2 : W2 m ρ c (Proc.devRef .tc main_v4_1) = (fun i => gelu ((args m c).ssm i) : S2048x1024.Idx → EReal) :=
  (W2_arr m ρ c 5).trans ((region0_5 (V1 m ρ) c).trans (congrArg (fun (s : Mat 2048 1024) i => gelu (s i)) (value1 m ρ c)))

theorem v3_2 : W2 m ρ c (Proc.devRef .tc main_v3) = row (args m c).b := (W2_of m ρ c main_v3 (by decide +kernel)).trans (v3_1 m ρ c)

theorem v51_3 : W3 m ρ c (Proc.devRef .tc main_v5_1) = (args m c).out := by
  refine (W3_arr m ρ c 5).trans ((region1_5 (V2 m ρ) c).trans ?_)
  show (fun i => unit ((W2 m ρ c (Proc.devRef .tc main_v4_0) : Mat 2048 1024) i)
    (shifted (nn (W2 m ρ c (Proc.devRef .tc main_v4_1) : Mat 2048 1024) (W2 m ρ c (Proc.devRef .tc main_arg4) : Mat 1024 1024))
      (W2 m ρ c (Proc.devRef .tc main_v3) : Mat 1 1024) i)) = _
  rw [v40_2, v41_2, v3_2, W2_args m ρ c main_arg4 (by decide)]
  rfl

/-! ### The result -/

theorem out4 : W4 m ρ c (Proc.devRef .tc main_v6) = (args m c).out := by
  rw [← v51_3 m ρ c]
  after_results_simp <;> rfl

end Cert.Glu

end
-- ==== Proof.Glu.Reference.lean ====
/- The reference's value: the same function of the arguments, read element by element. -/
module

public import proofs.«01_k».proof.Proof.Gen.GluReferenceIdeal.Read
public import proofs.«01_k».proof.Proof.Glu.Chain

@[expose] public section

set_option maxRecDepth 16384

noncomputable section

namespace Cert.Glu

open Idealize.ShloMosaic Idealize.ShloMosaic.TcCoe Cert.GluReferenceIdeal Cert.GluReferenceIdeal.Read Cert.Mat Cert.Swiglu

variable (a : Operands)

/-- `gelu` in the reference's order of the factors. -/
theorem gelu_ref (x : EReal) : x * (Ideal.ofBits .f32 0x3F000000#32
    * (Ideal.ofBits .f32 0x3F800000#32 + Ideal.tanh (Ideal.ofBits .f32 0x3F4C422A#32 * (x + Ideal.ofBits .f32 0x3D372713#32 * (x * x * x)))))
      = gelu x := by
  rw [one_word]
  unfold gelu
  simp only [mul_assoc, mul_left_comm x]

theorem ssm_ref : val_main_v6 (F := Ideal) a.kvu a.y a.z a.d = a.ssm := eq2 fun i j => by
  rw [val_main_v6_apply, val_main_v5_apply, val_main_v4_apply, val_main_v3_apply, val_main_v2_apply, val_main_v1_apply]
  refine readout_congr ?_ ?_ rfl rfl
  · exact congrArg a.d (funext fun b => by fin_cases b; rfl)
  · exact congrArg a.kvu (funext fun b => Fin.ext (by fin_cases b <;> first | rfl | exact (Nat.add_comm _ _)))

theorem hidden_ref : val_main_v19 (F := Ideal) a.kvu a.y a.z a.d = (fun i => gelu (a.ssm i) : Mat 2048 1024) := funext fun i => by
  rw [val_main_v19_apply, val_main_v18_apply, val_main_v17_apply, val_main_cst_2_apply, val_main_v16_apply, val_main_v15_apply, val_main_cst_1_apply,
    val_main_v14_apply, val_main_v13_apply, val_main_v12_apply, val_main_cst_0_apply, val_main_v11_apply, val_main_v10_apply, val_main_v9_apply,
    val_main_cst_apply, val_main_v8_apply, val_main_v7_apply, ssm_ref]
  exact gelu_ref (a.ssm i)

theorem product_ref : val_main_v20 (F := Ideal) a.kvu a.y a.z a.d a.w = nn (fun i => gelu (a.ssm i)) a.w := eq2 fun i j => by
  rw [val_main_v20_apply, hidden_ref]
  show _ = ∑ k : Fin 1024, gelu (a.ssm (ix2 i k)) * a.w (ix2 k j)
  refine Finset.sum_congr rfl fun k _ => times ?_ ?_
  · exact congrArg (fun q => gelu (a.ssm q)) (funext fun b => by fin_cases b <;> rfl)
  · exact congrArg a.w (funext fun b => by fin_cases b <;> rfl)

theorem shifted_ref : val_main_v23 (F := Ideal) a.kvu a.y a.z a.d a.w a.b = shifted (nn (fun i => gelu (a.ssm i)) a.w) (row a.b) := eq2 fun i j => by
  rw [val_main_v23_apply, product_ref, val_main_v22_apply, val_main_v21_apply]
  exact plus rfl (congrArg a.b (funext fun b => by fin_cases b; rfl))

theorem out_ref : val_main_v30 (F := Ideal) a.kvu a.y a.z a.d a.w a.b = a.out := funext fun i => by
  rw [val_main_v30_apply, hidden_ref, val_main_v29_apply, val_main_v28_apply, val_main_cst_4_apply, val_main_v27_apply, val_main_v26_apply,
    val_main_cst_3_apply, val_main_v25_apply, val_main_v24_apply, shifted_ref]
  refine congrArg (fun s => gelu (a.ssm i) * s) ?_
  rw [← sg_eq, ← one_word]
  rfl

end Cert.Glu

end
-- ==== Proof.Glu.Run.lean ====
/- The run of the whole program with every array it leaves: at the end each buffer that outlives the calls holds what the
   host operations and the calls, in their order, leave there. -/
module

public import proofs.«01_k».proof.Proof.Gen.GluIdeal.Frame

@[expose] public section

set_option maxRecDepth 16384

noncomputable section

namespace Cert.Glu

open Idealize.ShloMosaic Idealize.ShloMosaic.TcCoe Idealize.ShloMosaic.Tactic Cert.GluIdeal Cert.GluIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the calls, at the end; and every counter back at zero. -/
theorem run : θ_run defs (onTc (τ := τ) (main (F := F))) ⟨m, fun _ => 0, ρ⟩ (fun r =>
    (∀ (c : Dev nD) (b : Ref sig .tc), ¬(Proc.devRef .tc b : DevRef τ sig).isScoped → r.2.mem ((c.tc : Thread nD τ).loc b) = W4 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c _ (mem_uc b hb), funext fun g => hz g (.inr (no_unscoped g.2))⟩)

end Cert.Glu

end
-- ==== Proof.Glu.Claim.lean ====
/- The claim for the gated linear unit: the two calls leave the reference's value. -/
module

public import proofs.«01_k».proof.Defs
public import proofs.«01_k».proof.Proof.Gen.Glu.Frame
public import proofs.«01_k».proof.Proof.Gen.GluReferenceIdeal.Run
public import proofs.«01_k».proof.Proof.Glu.Reference
public import proofs.«01_k».proof.Proof.Glu.Chain
public import proofs.«01_k».proof.Proof.Glu.Run

@[expose] public section

noncomputable section

namespace Cert.Glu

open Idealize.ShloMosaic Idealize.SL.Sem

/-- The reference's frame: its run keeps the arguments, and it declares no semaphore. -/
theorem frame_reference : Cert.quiescent_GluReferenceIdeal := fun m g _ =>
  (θ_run Cert.GluReferenceIdeal.defs _ _).mono (fun r h => ⟨fun c => (h c).2, sem_eq_zero_of_no_sems (by decide) r.2⟩)
    (Cert.GluReferenceIdeal.Value.run (F := Ideal) m g)

/-- The memory of the reference, and an argument on device `c`. -/
abbrev Mem := (ℓ : Loc Cert.GluReferenceIdeal.nD Cert.GluReferenceIdeal.τ Cert.GluReferenceIdeal.sig) → Buf (Elt Ideal) ℓ

abbrev rarg (m' : Mem) (c : Dev Cert.GluReferenceIdeal.nD) (b : Ref Cert.GluReferenceIdeal.sig .tc) :=
  m' ((c.tc : Thread Cert.GluReferenceIdeal.nD Cert.GluReferenceIdeal.τ).loc b)

/-- The reference's arguments on device `c`. -/
abbrev rargs (m' : Mem) (c : Dev Cert.GluReferenceIdeal.nD) : Operands :=
  ⟨rarg m' c Cert.GluReferenceIdeal.main_arg0, rarg m' c Cert.GluReferenceIdeal.main_arg1, rarg m' c Cert.GluReferenceIdeal.main_arg2,
    rarg m' c Cert.GluReferenceIdeal.main_arg3, rarg m' c Cert.GluReferenceIdeal.main_arg4, rarg m' c Cert.GluReferenceIdeal.main_arg5⟩

theorem algebraic : Cert.algebraic_GluIdeal_GluReferenceIdeal := by
  intro m g m' g' _ hargs
  have ha : ∀ c, args m c = rargs m' c := fun c => by
    obtain ⟨h0, h1, h2, h3, h4, h5⟩ := hargs c
    unfold args
    dsimp only [rargs, rarg]
    rw [h0, h1, h2, h3, h4, h5]
  refine ⟨fun c => (args m c).out, (θ_run Cert.GluIdeal.defs _ _).mono (fun r h c => ?_) (run m g),
    (θ_run Cert.GluReferenceIdeal.defs _ _).mono (fun r h c => ?_) (Cert.GluReferenceIdeal.Value.run (F := Ideal) m' g')⟩
  · have hk := fun (b : Ref Cert.GluIdeal.sig .tc) hb => h.1 c b hb
    refine ⟨(hk _ (by decide)).trans (out4 m g c), ?_, ?_, ?_, ?_, ?_, ?_⟩ <;>
      exact (hk _ (by decide)).trans (Cert.GluIdeal.Gen.W4_args m g c _ (by decide))
  · obtain ⟨h0, h1⟩ := h c
    exact ⟨h0.trans ((Cert.GluReferenceIdeal.Read.val_main_v30_eq m' c).trans ((out_ref (rargs m' c)).trans (congrArg Operands.out (ha c).symm))), h1⟩

end Cert.Glu

end
-- ==== Proof.Output.Call.lean ====
/- The call of the output product: what it computes from the blocks it reads, and what its two arrays hold afterwards. -/
module

public import proofs.«01_k».proof.Proof.Gen.OutProjIdeal.Value
public import proofs.«01_k».proof.Proof.Matrix
public import Idealize.ShloMosaic.Lib.Pointwise
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Output

open Idealize.ShloMosaic Idealize.ShloMosaic.TcCoe Idealize.SL.Sem Cert.OutProjIdeal Cert.OutProjIdeal.Gen Cert.Mat

abbrev Mat (a b : Nat) := (⟨2, ![a, b]⟩ : Shape).Idx → EReal

/-- A token, and its gate times what is added to it. -/
def gated (x g f : EReal) : EReal := x + g * f
theorem gated_congr {x x' g g' f f' : EReal} (h₁ : x = x') (h₂ : g = g') (h₃ : f = f') : gated x g f = gated x' g' f' := by rw [h₁, h₂, h₃]

/-- The table's row that holds the mixer's gate. -/
def gateRow (z : Mat 24 2048) : S2048.Idx → EReal := fun j => z (ix2 5 (j 0))

/-! ### The body -/

theorem pay (x : Vec Ideal S512x2048 .bf16) (w : Vec Ideal S2048x512 .bf16) : k0_pay1 x w = (nn x w : S512x512.Idx → EReal) :=
  eq2 fun i j => by unfold k0_pay1; pointwise; rfl

theorem tokens (x : Vec Ideal S512x2048 .bf16) (w : Vec Ideal S2048x512 .bf16) (t : Vec Ideal S512x512 .f32) (g : Vec Ideal S1x512 .f32) :
    k0_pay2 x w t g = (fun i => gated (t i) (g (ix2 0 (i 1))) (nn x w i) : S512x512.Idx → EReal) :=
  eq2 fun i j => by unfold k0_pay2; rw [pay]; pointwise; rfl

/-! ### Where a point's blocks lie -/

theorem idx_0 : ∀ t : Fin cfg0.N, win0_0.index t = ![t.val / 4, 0] :=
  (by decide +kernel : ∀ t : Fin grid0.N, win0_0.index t = ![t.val / 4, 0])
theorem idx_1 : ∀ t : Fin cfg0.N, win0_1.index t = ![0, t.val % 4] :=
  (by decide +kernel : ∀ t : Fin grid0.N, win0_1.index t = ![0, t.val % 4])
theorem idx_2 : ∀ t : Fin cfg0.N, win0_2.index t = ![t.val / 4, t.val % 4] :=
  (by decide +kernel : ∀ t : Fin grid0.N, win0_2.index t = ![t.val / 4, t.val % 4])
theorem idx_3 : ∀ t : Fin cfg0.N, win0_3.index t = ![0, t.val % 4] :=
  (by decide +kernel : ∀ t : Fin grid0.N, win0_3.index t = ![0, t.val % 4])
theorem idx_4 : ∀ t : Fin cfg0.N, win0_4.index t = ![t.val / 4, t.val % 4] :=
  (by decide +kernel : ∀ t : Fin grid0.N, win0_4.index t = ![t.val / 4, t.val % 4])
theorem idx_5 : ∀ t : Fin cfg0.N, win0_5.index t = ![t.val / 4, t.val % 4] :=
  (by decide +kernel : ∀ t : Fin grid0.N, win0_5.index t = ![t.val / 4, t.val % 4])
theorem lt_N (t : Fin cfg0.N) : t.val < 16 := lt_of_lt_of_eq t.isLt (by decide +kernel)

/-! ### The arrays -/

variable (m : (ℓ : Loc nD τ sig) → Buf (Elt Ideal) ℓ) (c : Dev nD)

/-- The product. -/
theorem array4 : (dats m 0 c).arrAt 4 cfg0.N = nn (V m c main_arg0 : Mat 2048 2048) (V m c main_arg1 : Mat 2048 2048) := by
  refine (dats m 0 c).arrAt_eq_of_covers 4 _ (by decide +kernel) fun t hf y => ?_
  have ht := lt_N t
  blk_simp
  rw [after0_4]; frame_out
  rw [pay]
  refine nn_congr (fun k => ?_) (fun k => ?_)
  · blk_simp [iblk]
    refine congrArg (V m c main_arg0) ?_
    blk_ext [idx_0, idx_4]
  · blk_simp [iblk]
    refine congrArg (V m c main_arg1) ?_
    blk_ext [idx_1, idx_4]

/-- The tokens with the product added through the gate. -/
theorem array5 : (dats m 0 c).arrAt 5 cfg0.N = (fun i => gated ((V m c main_arg2 : Mat 2048 2048) i) (gateRow (V m c main_v3) (ix1 (i 1)))
    (nn (V m c main_arg0 : Mat 2048 2048) (V m c main_arg1 : Mat 2048 2048) i) : S2048x2048.Idx → EReal) := by
  refine (dats m 0 c).arrAt_eq_of_covers 5 _ (by decide +kernel) fun t hf y => ?_
  have ht := lt_N t
  blk_simp
  rw [after0_5]; frame_out
  rw [tokens]
  refine gated_congr ?_ ?_ (nn_congr (fun k => ?_) (fun k => ?_))
  · blk_simp [iblk]
    refine congrArg (V m c main_arg2) ?_
    blk_ext [idx_2, idx_5]
  · unfold gateRow
    blk_simp [iblk]
    refine congrArg (V m c main_v3) ?_
    blk_ext [idx_3, idx_5]
    · rfl
    · refine congrArg (fun k => t.val % 4 * 512 + k) ?_
      show 0 + 1 * (y 1).val = (y 1).val
      omega
  · blk_simp [iblk]
    refine congrArg (V m c main_arg0) ?_
    blk_ext [idx_0, idx_5]
  · blk_simp [iblk]
    refine congrArg (V m c main_arg1) ?_
    blk_ext [idx_1, idx_5]

/-! ### The results, as functions of the arguments -/

/-- The arguments: the merged branches, the weight, the tokens and the gate. -/
structure Operands where
  y : Mat 2048 2048
  w : Mat 2048 2048
  x : Mat 2048 2048
  g : S2048.Idx → EReal

namespace Operands
variable (a : Operands)
def mix : Mat 2048 2048 := nn a.y a.w
def out : Mat 2048 2048 := fun i => gated (a.x i) (a.g (ix1 (i 1))) (a.mix i)
end Operands

/-- A device's arguments. -/
abbrev arg (b : Ref sig .tc) := m ((c.tc : Thread nD τ).loc b)
def args : Operands := ⟨arg m c main_arg0, arg m c main_arg1, arg m c main_arg2, arg m c main_arg3⟩

theorem table_gate (z : Vec Ideal S5x2048 .f32) (z' : Vec Ideal S18x2048 .f32) (g : Vec Ideal S2048 .f32) :
    gateRow (concatenate S24x2048 0 [⟨S5x2048, z⟩, ⟨S1x2048, broadcastInDim S1x2048 ![1] bcast_S2048_S1x2048_1 g⟩, ⟨S18x2048, z'⟩]
      concatenates_S5x2048_S1x2048_S18x2048_S24x2048_d0) = g := funext fun j => by
  refine (concatenate_apply_piece (t := S24x2048) 0 _ _ _ 1 (by simp) S1x2048 _ rfl rfl 5 rfl (ix2 0 (j 0)) (fun b hb => ?_) rfl).trans ?_
  · fin_cases b
    · exact absurd rfl hb
    · rfl
  · exact congrArg g (funext fun b => by fin_cases b; rfl)

theorem table : ∃ (z : Vec Ideal S5x2048 .f32) (z' : Vec Ideal S18x2048 .f32), V m c main_v3
    = concatenate S24x2048 0 [⟨S5x2048, z⟩, ⟨S1x2048, broadcastInDim S1x2048 ![1] bcast_S2048_S1x2048_1 (arg m c main_arg3)⟩, ⟨S18x2048, z'⟩]
      concatenates_S5x2048_S1x2048_S18x2048_S24x2048_d0 := by
  refine ⟨broadcastInDim S5x2048 ![] bcast_S_S5x2048 (constant (F := Ideal) S_ .f32 0x00000000#32 : S_.Idx → EReal),
    broadcastInDim S18x2048 ![] bcast_S_S18x2048 (constant (F := Ideal) S_ .f32 0x00000000#32 : S_.Idx → EReal), ?_⟩
  after_results_simp <;> rfl

theorem gate : gateRow (V m c main_v3) = (args m c).g := by
  obtain ⟨z, z', h⟩ := table m c
  rw [h]; exact table_gate _ _ _

theorem mix_holds : (dats m 0 c).arrAt 4 cfg0.N = (args m c).mix := by
  rw [array4, V_main_arg0, V_main_arg1]
  rfl

theorem out_holds : (dats m 0 c).arrAt 5 cfg0.N = (args m c).out := by
  rw [array5, V_main_arg0, V_main_arg1, V_main_arg2, gate]
  rfl

end Cert.Output

end
-- ==== Proof.Output.Claim.lean ====
/- The claim for the output product: the call leaves the reference's two values. -/
module

public import proofs.«01_k».proof.Defs
public import proofs.«01_k».proof.Proof.Gen.OutProj.Frame
public import proofs.«01_k».proof.Proof.Gen.OutProjReferenceIdeal.Run
public import proofs.«01_k».proof.Proof.Gen.OutProjReferenceIdeal.Read
public import proofs.«01_k».proof.Proof.Output.Call

@[expose] public section

set_option maxRecDepth 16384

noncomputable section

namespace Cert.Output

open Idealize.ShloMosaic Idealize.ShloMosaic.TcCoe Idealize.SL.Sem Cert.Mat Cert.OutProjReferenceIdeal.Read

/-! ### The reference, element by element -/

section
variable (a : Operands)

theorem mix_ref : val_main_v2 (F := Ideal) a.y a.w = a.mix := eq2 fun i j => by
  rw [val_main_v2_apply]
  show _ = ∑ k : Fin 2048, a.y (ix2 i k) * a.w (ix2 k j)
  refine Finset.sum_congr rfl fun k _ => times ?_ ?_
  · exact congrArg a.y (funext fun b => by fin_cases b <;> rfl)
  · exact congrArg a.w (funext fun b => by fin_cases b <;> rfl)

theorem out_ref : val_main_v6 (F := Ideal) a.y a.w a.x a.g = a.out := eq2 fun i j => by
  rw [val_main_v6_apply, val_main_v5_apply, mix_ref, val_main_v4_apply, val_main_v3_apply]
  exact gated_congr rfl (congrArg a.g (funext fun b => by fin_cases b; rfl)) rfl
end

/-! ### The claim -/

/-- The reference's frame: its run keeps the arguments, and it declares no semaphore. -/
theorem frame_reference : Cert.quiescent_OutProjReferenceIdeal := fun m g _ =>
  (θ_run Cert.OutProjReferenceIdeal.defs _ _).mono (fun r h => ⟨fun c => (h c).2.2, sem_eq_zero_of_no_sems (by decide) r.2⟩)
    (Cert.OutProjReferenceIdeal.Value.run (F := Ideal) m g)

/-- The memory of the reference, and an argument on device `c`. -/
abbrev Mem := (ℓ : Loc Cert.OutProjReferenceIdeal.nD Cert.OutProjReferenceIdeal.τ Cert.OutProjReferenceIdeal.sig) → Buf (Elt Ideal) ℓ

abbrev rarg (m' : Mem) (c : Dev Cert.OutProjReferenceIdeal.nD) (b : Ref Cert.OutProjReferenceIdeal.sig .tc) :=
  m' ((c.tc : Thread Cert.OutProjReferenceIdeal.nD Cert.OutProjReferenceIdeal.τ).loc b)

/-- The reference's arguments on device `c`. -/
abbrev rargs (m' : Mem) (c : Dev Cert.OutProjReferenceIdeal.nD) : Operands :=
  ⟨rarg m' c Cert.OutProjReferenceIdeal.main_arg0, rarg m' c Cert.OutProjReferenceIdeal.main_arg1, rarg m' c Cert.OutProjReferenceIdeal.main_arg2,
    rarg m' c Cert.OutProjReferenceIdeal.main_arg3⟩

theorem algebraic : Cert.algebraic_OutProjIdeal_OutProjReferenceIdeal := by
  intro m g m' g' _ hargs
  have ha : ∀ c, args m c = rargs m' c := fun c => by
    obtain ⟨h0, h1, h2, h3⟩ := hargs c
    unfold args
    dsimp only [rargs, rarg]
    rw [h0, h1, h2, h3]
  refine ⟨fun c => (args m c).mix, fun c => (args m c).out, (θ_run Cert.OutProjIdeal.defs _ _).mono (fun r h c => ?_) (Cert.OutProjIdeal.Value.run_blocks m g),
    (θ_run Cert.OutProjReferenceIdeal.defs _ _).mono (fun r h c => ?_) (Cert.OutProjReferenceIdeal.Value.run (F := Ideal) m' g')⟩
  · obtain ⟨h0, h1, h2⟩ := h c
    exact ⟨h0.trans (mix_holds m c), h1.trans (out_holds m c), h2⟩
  · obtain ⟨h0, h1, h2⟩ := h c
    exact ⟨h0.trans ((mix_ref (rargs m' c)).trans (congrArg Operands.mix (ha c).symm)),
      h1.trans ((out_ref (rargs m' c)).trans (congrArg Operands.out (ha c).symm)), h2⟩

end Cert.Output

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores_KernelIdeal
public import proofs.«01_k».proof.Proof.Gen.Pre_finite_scores_ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Gen.Merge.Frame
public import proofs.«01_k».proof.Proof.Gen.MergeIdeal.Frame
public import proofs.«01_k».proof.Proof.Gen.MergeReferenceIdeal.Run
public import proofs.«01_k».proof.Proof.Gen.MergeReferenceIdeal.Read
public import proofs.«01_k».proof.Proof.Merge.Claim
public import proofs.«01_k».proof.Proof.Ffn2.Claim
public import proofs.«01_k».proof.Proof.Ffn1.Claim
public import proofs.«01_k».proof.Proof.Projection.Claim
public import proofs.«01_k».proof.Proof.Glu.Claim
public import proofs.«01_k».proof.Proof.Output.Claim
public import proofs.«01_k».proof.Proof.Gen.Pre_finite_ffn2
public import proofs.«01_k».proof.Proof.Gen.Ffn2.Frame
public import proofs.«01_k».proof.Proof.Gen.Ffn2Ideal.Frame
public import proofs.«01_k».proof.Proof.Gen.Ffn2ReferenceIdeal.Run
public import proofs.«01_k».proof.Proof.Gen.Ffn2ReferenceIdeal.Read
public import proofs.«01_k».proof.Proof.Gen.Pre_finite_ffn1
public import proofs.«01_k».proof.Proof.Gen.Ffn1.Frame
public import proofs.«01_k».proof.Proof.Gen.Ffn1Ideal.Frame
public import proofs.«01_k».proof.Proof.Gen.Ffn1ReferenceIdeal.Run
public import proofs.«01_k».proof.Proof.Gen.Ffn1ReferenceIdeal.Read
public import proofs.«01_k».proof.Proof.Gen.InProj.Frame
public import proofs.«01_k».proof.Proof.Gen.InProjIdeal.Frame
public import proofs.«01_k».proof.Proof.Gen.InProjReferenceIdeal.Run
public import proofs.«01_k».proof.Proof.Gen.InProjReferenceIdeal.Read
public import proofs.«01_k».proof.Proof.Gen.Glu.Frame
public import proofs.«01_k».proof.Proof.Gen.GluIdeal.Frame
public import proofs.«01_k».proof.Proof.Gen.GluReferenceIdeal.Run
public import proofs.«01_k».proof.Proof.Gen.GluReferenceIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.Gen.OutProjReferenceIdeal.Read
public import Idealize.ShloMosaic.Adequacy
public import Idealize.ShloMosaic.Init

@[expose] public section

noncomputable section

namespace Cert.Proof

open Idealize.ShloMosaic Idealize.SL.Sem

/-- The reference's frame: its run keeps the arguments, and it declares no semaphore. -/
theorem frame_ri : Cert.quiescent_ReferenceIdeal := fun m g _ =>
  (θ_run Cert.ReferenceIdeal.defs _ _).mono (fun r h => ⟨fun c => ⟨(h c).2.2.2.1, (h c).2.2.2.2.1, (h c).2.2.2.2.2.1, (h c).2.2.2.2.2.2⟩,
    sem_eq_zero_of_no_sems (by decide) r.2⟩) (Cert.ReferenceIdeal.Value.run (F := Ideal) m g)

theorem preserves : Cert.preserves_Kernel_KernelIdeal :=
  IdealRules.named_const.statement Cert.KernelIdeal.κ "scale_log2e" .f32 0x3E0293EE#32 (((11863283 / 134217728) * (Real.log 2)⁻¹ : ℝ) : EReal) rfl

/-- An argument of the reference, on its one device. -/
abbrev whole (m' : (ℓ : Loc Cert.ReferenceIdeal.nD Cert.ReferenceIdeal.τ Cert.ReferenceIdeal.sig) → Buf (Elt Ideal) ℓ) (b : Ref Cert.ReferenceIdeal.sig .tc) :=
  m' (((0 : Dev Cert.ReferenceIdeal.nD).tc : Thread Cert.ReferenceIdeal.nD Cert.ReferenceIdeal.τ).loc b)

/-- The three gradients. -/
theorem algebraic : Cert.algebraic_KernelIdeal_ReferenceIdeal_pre_finite_scores_KernelIdeal := by
  intro m g m' g' hpre hargs
  have hseq : ∀ c, Cert.Array.arr m c = Cert.Reference.seqAt (whole m' Cert.ReferenceIdeal.main_arg0) (whole m' Cert.ReferenceIdeal.main_arg1) (whole m' Cert.ReferenceIdeal.main_arg2)
      (whole m' Cert.ReferenceIdeal.main_arg3) c := fun c => by
    obtain ⟨h0, h1, h2, h3⟩ := hargs c
    refine Eq.trans ?_ (Cert.Equation.seq_block _ _ _ _ c)
    dsimp only [whole]
    rw [← h0, ← h1, ← h2, ← h3]
  have hreal : ∀ c, (Cert.Array.arr m c).IsReal := fun c => Cert.Equation.finite _ _ _ _ (hpre c)
  refine ⟨Cert.ReferenceIdeal.Read.val_main_v78 (whole m' Cert.ReferenceIdeal.main_arg0) (whole m' Cert.ReferenceIdeal.main_arg1)
      (whole m' Cert.ReferenceIdeal.main_arg2) (whole m' Cert.ReferenceIdeal.main_arg3),
    Cert.ReferenceIdeal.Read.val_main_v76 (whole m' Cert.ReferenceIdeal.main_arg0) (whole m' Cert.ReferenceIdeal.main_arg1)
      (whole m' Cert.ReferenceIdeal.main_arg2) (whole m' Cert.ReferenceIdeal.main_arg3),
    Cert.ReferenceIdeal.Read.val_main_v74 (whole m' Cert.ReferenceIdeal.main_arg0) (whole m' Cert.ReferenceIdeal.main_arg1)
      (whole m' Cert.ReferenceIdeal.main_arg3), (θ_run Cert.KernelIdeal.defs _ _).mono (fun r h c => ?_) (Cert.KernelIdeal.Value.run_blocks (F := Ideal) m g),
    (θ_run Cert.ReferenceIdeal.defs _ _).mono (fun r h => ?_) (Cert.ReferenceIdeal.Value.run (F := Ideal) m' g')⟩
  case refine_2 =>
    obtain ⟨h0, h1, h2, h3⟩ := h 0
    exact ⟨h0.trans (Cert.ReferenceIdeal.Read.val_main_v78_eq m' 0), h1.trans (Cert.ReferenceIdeal.Read.val_main_v76_eq m' 0),
      h2.trans (Cert.ReferenceIdeal.Read.val_main_v74_eq m' 0), h3⟩
  obtain ⟨h0, h1, h2, h3⟩ := h c
  have hr : (Cert.Reference.seqAt (whole m' Cert.ReferenceIdeal.main_arg0) (whole m' Cert.ReferenceIdeal.main_arg1) (whole m' Cert.ReferenceIdeal.main_arg2)
      (whole m' Cert.ReferenceIdeal.main_arg3) c).IsReal := hseq c ▸ hreal c
  refine ⟨(h0.trans (Cert.Array.final4 m c (hreal c))).trans ?_, (h1.trans (Cert.Array.final5 m c (hreal c))).trans ?_,
    (h2.trans (Cert.Array.final6 m c (hreal c))).trans ?_, h3⟩
  · rw [hseq c]; exact Cert.Equation.resQ_block _ _ _ _ c hr
  · rw [hseq c]; exact Cert.Equation.resK_block _ _ _ _ c hr
  · rw [hseq c]; exact Cert.Equation.resV_block _ _ _ _ c hr

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.Ffn2.Gen.facts, Cert.Ffn2Ideal.Gen.facts, Cert.Ffn2ReferenceIdeal.Gen.facts,
    Cert.Ffn1.Gen.facts, Cert.Ffn1Ideal.Gen.facts, Cert.Ffn1ReferenceIdeal.Gen.facts,
    Cert.InProj.Gen.facts, Cert.InProjIdeal.Gen.facts, Cert.InProjReferenceIdeal.Gen.facts,
    Cert.Glu.Gen.facts, Cert.GluIdeal.Gen.facts, Cert.GluReferenceIdeal.Gen.facts, Cert.OutProj.Gen.facts, Cert.OutProjIdeal.Gen.facts,
    Cert.OutProjReferenceIdeal.Gen.facts, Cert.Pre_finite_scores_KernelIdeal.Gen.facts,
    Cert.Pre_finite_scores_ReferenceIdeal.Gen.facts, Cert.Pre_finite_ffn2.Gen.facts, Cert.Pre_finite_ffn1.Gen.facts,
    fun m g _ => Cert.Kernel.Gen.frame m g, fun m g _ => Cert.KernelIdeal.Gen.frame m g, fun m g _ => Cert.KernelIdeal.Gen.frame m g,
    frame_ri, fun m g _ => frame_ri m g trivial,
    fun m g _ => Cert.Merge.Gen.frame m g, fun m g _ => Cert.MergeIdeal.Gen.frame m g, Cert.Gated.frame_reference,
    fun m g _ => Cert.Ffn2.Gen.frame m g, fun m g _ => Cert.Ffn2Ideal.Gen.frame m g, fun m g _ => Cert.Ffn2Ideal.Gen.frame m g,
    Cert.Swiglu2.frame_reference, fun m g _ => Cert.Swiglu2.frame_reference m g trivial,
    fun m g _ => Cert.Ffn1.Gen.frame m g, fun m g _ => Cert.Ffn1Ideal.Gen.frame m g, fun m g _ => Cert.Ffn1Ideal.Gen.frame m g,
    Cert.Swiglu1.frame_reference, fun m g _ => Cert.Swiglu1.frame_reference m g trivial,
    fun m g _ => Cert.InProj.Gen.frame m g, fun m g _ => Cert.InProjIdeal.Gen.frame m g, Cert.Projection.frame_reference,
    fun m g _ => Cert.Glu.Gen.frame m g, fun m g _ => Cert.GluIdeal.Gen.frame m g, Cert.Glu.frame_reference,
    fun m g _ => Cert.OutProj.Gen.frame m g, fun m g _ => Cert.OutProjIdeal.Gen.frame m g, Cert.Output.frame_reference,
    preserves, algebraic, trivial, Cert.Gated.algebraic, trivial, Cert.Swiglu2.algebraic, trivial, Cert.Swiglu1.algebraic,
    trivial, Cert.Projection.algebraic, trivial, Cert.Glu.algebraic, trivial, Cert.Output.algebraic⟩

end Cert.Proof

end
